-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_NsaIn (m : (ℓ : Loc Cert.NsaIn.nD Cert.NsaIn.τ Cert.NsaIn.sig) → Buf (Elt Bits) ℓ) : Prop :=
  True

def Pre_NsaInIdeal (m : (ℓ : Loc Cert.NsaInIdeal.nD Cert.NsaInIdeal.τ Cert.NsaInIdeal.sig) → Buf (Elt Ideal) ℓ) : Prop :=
  True

def Pre_NsaInRefIdeal (m : (ℓ : Loc Cert.NsaInRefIdeal.nD Cert.NsaInRefIdeal.τ Cert.NsaInRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_win [hPre_finite_win : Cert.Pre_finite_win.Facts] (m : (ℓ : Loc Cert.WinIdeal.nD Cert.WinIdeal.τ Cert.WinIdeal.sig) → Buf (Elt Ideal) ℓ) : Prop :=
  ∀ c : Dev Cert.WinIdeal.nD,
    (Cert.Pre_finite_win.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_win [hPre_finite_win : Cert.Pre_finite_win.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_win.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_cmp [hPre_finite_cmp : Cert.Pre_finite_cmp.Facts] (m : (ℓ : Loc Cert.CmpIdeal.nD Cert.CmpIdeal.τ Cert.CmpIdeal.sig) → Buf (Elt Ideal) ℓ) : Prop :=
  ∀ c : Dev Cert.CmpIdeal.nD,
    (Cert.Pre_finite_cmp.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_cmp [hPre_finite_cmp : Cert.Pre_finite_cmp.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_cmp.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6))) = (fun _ => 1#1)

def Pre_Kmean (m : (ℓ : Loc Cert.Kmean.nD Cert.Kmean.τ Cert.Kmean.sig) → Buf (Elt Bits) ℓ) : Prop :=
  True

def Pre_KmeanIdeal (m : (ℓ : Loc Cert.KmeanIdeal.nD Cert.KmeanIdeal.τ Cert.KmeanIdeal.sig) → Buf (Elt Ideal) ℓ) : Prop :=
  True

def Pre_KmeanRefIdeal (m : (ℓ : Loc Cert.KmeanRefIdeal.nD Cert.KmeanRefIdeal.τ Cert.KmeanRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1))
      ∧ r.2.sem = fun _ => 0)

def quiescent_NsaIn [hNsaIn : Cert.NsaIn.Facts] : Prop :=
  ∀ (m : (ℓ : Loc Cert.NsaIn.nD Cert.NsaIn.τ Cert.NsaIn.sig) → Buf (Elt Bits) ℓ) (g : Dev Cert.NsaIn.nD → PrngReg), Pre_NsaIn m →
    θ_run (Cert.NsaIn.defs (F := Bits)) (onTc (τ := Cert.NsaIn.τ) (Cert.NsaIn.main (F := Bits))) ⟨m, fun _ => 0, g⟩ (fun r => (∀ c : Dev Cert.NsaIn.nD,
      r.2.mem ((c.tc : Thread Cert.NsaIn.nD Cert.NsaIn.τ).loc Cert.NsaIn.main_arg0) = m ((c.tc : Thread Cert.NsaIn.nD Cert.NsaIn.τ).loc Cert.NsaIn.main_arg0)
      ∧ r.2.mem ((c.tc : Thread Cert.NsaIn.nD Cert.NsaIn.τ).loc Cert.NsaIn.main_arg1) = m ((c.tc : Thread Cert.NsaIn.nD Cert.NsaIn.τ).loc Cert.NsaIn.main_arg1))
      ∧ r.2.sem = fun _ => 0)

def quiescent_NsaInIdeal [hNsaInIdeal : Cert.NsaInIdeal.Facts] : Prop :=
  ∀ (m : (ℓ : Loc Cert.NsaInIdeal.nD Cert.NsaInIdeal.τ Cert.NsaInIdeal.sig) → Buf (Elt Ideal) ℓ) (g : Dev Cert.NsaInIdeal.nD → PrngReg), Pre_NsaInIdeal m →
    θ_run (Cert.NsaInIdeal.defs (F := Ideal)) (onTc (τ := Cert.NsaInIdeal.τ) (Cert.NsaInIdeal.main (F := Ideal))) ⟨m, fun _ => 0, g⟩ (fun r => (∀ c : Dev Cert.NsaInIdeal.nD,
      r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
      ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1))
      ∧ r.2.sem = fun _ => 0)

def quiescent_NsaInRefIdeal [hNsaInRefIdeal : Cert.NsaInRefIdeal.Facts] : Prop :=
  ∀ (m : (ℓ : Loc Cert.NsaInRefIdeal.nD Cert.NsaInRefIdeal.τ Cert.NsaInRefIdeal.sig) → Buf (Elt Ideal) ℓ) (g : Dev Cert.NsaInRefIdeal.nD → PrngReg), Pre_NsaInRefIdeal m →
    θ_run (Cert.NsaInRefIdeal.defs (F := Ideal)) (onTc (τ := Cert.NsaInRefIdeal.τ) (Cert.NsaInRefIdeal.main (F := Ideal))) ⟨m, fun _ => 0, g⟩ (fun r => (∀ c : Dev Cert.NsaInRefIdeal.nD,
      r.2.mem ((c.tc : Thread Cert.NsaInRefIdeal.nD Cert.NsaInRefIdeal.τ).loc Cert.NsaInRefIdeal.main_arg0) = m ((c.tc : Thread Cert.NsaInRefIdeal.nD Cert.NsaInRefIdeal.τ).loc Cert.NsaInRefIdeal.main_arg0)
      ∧ r.2.mem ((c.tc : Thread Cert.NsaInRefIdeal.nD Cert.NsaInRefIdeal.τ).loc Cert.NsaInRefIdeal.main_arg1) = m ((c.tc : Thread Cert.NsaInRefIdeal.nD Cert.NsaInRefIdeal.τ).loc Cert.NsaInRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinIdeal_pre_finite_win [hWinIdeal : Cert.WinIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_win m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_WinRefIdeal_pre_finite_win [hWinRefIdeal : Cert.WinRefIdeal.Facts] [hPre_finite_win : Cert.Pre_finite_win.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_win m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpIdeal_pre_finite_cmp [hCmpIdeal : Cert.CmpIdeal.Facts] [hPre_finite_cmp : Cert.Pre_finite_cmp.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_cmp m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def quiescent_CmpRefIdeal_pre_finite_cmp [hCmpRefIdeal : Cert.CmpRefIdeal.Facts] [hPre_finite_cmp : Cert.Pre_finite_cmp.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_cmp m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def quiescent_Kmean [hKmean : Cert.Kmean.Facts] : Prop :=
  ∀ (m : (ℓ : Loc Cert.Kmean.nD Cert.Kmean.τ Cert.Kmean.sig) → Buf (Elt Bits) ℓ) (g : Dev Cert.Kmean.nD → PrngReg), Pre_Kmean m →
    θ_run (Cert.Kmean.defs (F := Bits)) (onTc (τ := Cert.Kmean.τ) (Cert.Kmean.main (F := Bits))) ⟨m, fun _ => 0, g⟩ (fun r => (∀ c : Dev Cert.Kmean.nD,
      r.2.mem ((c.tc : Thread Cert.Kmean.nD Cert.Kmean.τ).loc Cert.Kmean.main_arg0) = m ((c.tc : Thread Cert.Kmean.nD Cert.Kmean.τ).loc Cert.Kmean.main_arg0))
      ∧ r.2.sem = fun _ => 0)

def quiescent_KmeanIdeal [hKmeanIdeal : Cert.KmeanIdeal.Facts] : Prop :=
  ∀ (m : (ℓ : Loc Cert.KmeanIdeal.nD Cert.KmeanIdeal.τ Cert.KmeanIdeal.sig) → Buf (Elt Ideal) ℓ) (g : Dev Cert.KmeanIdeal.nD → PrngReg), Pre_KmeanIdeal m →
    θ_run (Cert.KmeanIdeal.defs (F := Ideal)) (onTc (τ := Cert.KmeanIdeal.τ) (Cert.KmeanIdeal.main (F := Ideal))) ⟨m, fun _ => 0, g⟩ (fun r => (∀ c : Dev Cert.KmeanIdeal.nD,
      r.2.mem ((c.tc : Thread Cert.KmeanIdeal.nD Cert.KmeanIdeal.τ).loc Cert.KmeanIdeal.main_arg0) = m ((c.tc : Thread Cert.KmeanIdeal.nD Cert.KmeanIdeal.τ).loc Cert.KmeanIdeal.main_arg0))
      ∧ r.2.sem = fun _ => 0)

def quiescent_KmeanRefIdeal [hKmeanRefIdeal : Cert.KmeanRefIdeal.Facts] : Prop :=
  ∀ (m : (ℓ : Loc Cert.KmeanRefIdeal.nD Cert.KmeanRefIdeal.τ Cert.KmeanRefIdeal.sig) → Buf (Elt Ideal) ℓ) (g : Dev Cert.KmeanRefIdeal.nD → PrngReg), Pre_KmeanRefIdeal m →
    θ_run (Cert.KmeanRefIdeal.defs (F := Ideal)) (onTc (τ := Cert.KmeanRefIdeal.τ) (Cert.KmeanRefIdeal.main (F := Ideal))) ⟨m, fun _ => 0, g⟩ (fun r => (∀ c : Dev Cert.KmeanRefIdeal.nD,
      r.2.mem ((c.tc : Thread Cert.KmeanRefIdeal.nD Cert.KmeanRefIdeal.τ).loc Cert.KmeanRefIdeal.main_arg0) = m ((c.tc : Thread Cert.KmeanRefIdeal.nD Cert.KmeanRefIdeal.τ).loc Cert.KmeanRefIdeal.main_arg0))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)) →
    ∃ (v0 : (c : Dev Cert.ResIdeal.nD) → Buf (Elt Ideal) ((c.tc : Thread Cert.ResIdeal.nD Cert.ResIdeal.τ).loc Cert.ResIdeal.main_v3_0)) (v1 : (c : Dev Cert.ResIdeal.nD) → Buf (Elt Ideal) ((c.tc : Thread Cert.ResIdeal.nD Cert.ResIdeal.τ).loc Cert.ResIdeal.main_v3_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v3_0) = v0 c
          ∧ r.2.mem ((c.tc : Thread Cert.ResIdeal.nD Cert.ResIdeal.τ).loc Cert.ResIdeal.main_v3_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v30) = v0 c
          ∧ r.2.mem ((c.tc : Thread Cert.ResRefIdeal.nD Cert.ResRefIdeal.τ).loc Cert.ResRefIdeal.main_v31) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v30) = v0 c
          ∧ r.2.mem ((c.tc : Thread Cert.MixRefIdeal.nD Cert.MixRefIdeal.τ).loc Cert.MixRefIdeal.main_v31) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v3) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1))

def preserves_NsaIn_NsaInIdeal : Prop :=
  True

def algebraic_NsaInIdeal_NsaInRefIdeal [hNsaInIdeal : Cert.NsaInIdeal.Facts] [hNsaInRefIdeal : Cert.NsaInRefIdeal.Facts] : Prop :=
  ∀ (m : (ℓ : Loc Cert.NsaInIdeal.nD Cert.NsaInIdeal.τ Cert.NsaInIdeal.sig) → Buf (Elt Ideal) ℓ) (g : Dev Cert.NsaInIdeal.nD → PrngReg)
    (m' : (ℓ : Loc Cert.NsaInRefIdeal.nD Cert.NsaInRefIdeal.τ Cert.NsaInRefIdeal.sig) → Buf (Elt Ideal) ℓ) (g' : Dev Cert.NsaInRefIdeal.nD → PrngReg), Pre_NsaInIdeal m →
    (∀ c : Dev Cert.NsaInIdeal.nD,
      m' ((c.tc : Thread Cert.NsaInRefIdeal.nD Cert.NsaInRefIdeal.τ).loc Cert.NsaInRefIdeal.main_arg0) = m ((c.tc : Thread Cert.NsaInIdeal.nD Cert.NsaInIdeal.τ).loc Cert.NsaInIdeal.main_arg0)
      ∧ m' ((c.tc : Thread Cert.NsaInRefIdeal.nD Cert.NsaInRefIdeal.τ).loc Cert.NsaInRefIdeal.main_arg1) = m ((c.tc : Thread Cert.NsaInIdeal.nD Cert.NsaInIdeal.τ).loc Cert.NsaInIdeal.main_arg1)) →
    ∃ (v0 : (c : Dev Cert.NsaInIdeal.nD) → Buf (Elt Ideal) ((c.tc : Thread Cert.NsaInIdeal.nD Cert.NsaInIdeal.τ).loc Cert.NsaInIdeal.main_v0)),
      θ_run (Cert.NsaInIdeal.defs (F := Ideal)) (onTc (τ := Cert.NsaInIdeal.τ) (Cert.NsaInIdeal.main (F := Ideal))) ⟨m, fun _ => 0, g⟩ (fun r => ∀ c : Dev Cert.NsaInIdeal.nD,
          r.2.mem ((c.tc : Thread Cert.NsaInIdeal.nD Cert.NsaInIdeal.τ).loc Cert.NsaInIdeal.main_v0) = v0 c
          ∧ r.2.mem ((c.tc : Thread Cert.NsaInIdeal.nD Cert.NsaInIdeal.τ).loc Cert.NsaInIdeal.main_arg0) = m ((c.tc : Thread Cert.NsaInIdeal.nD Cert.NsaInIdeal.τ).loc Cert.NsaInIdeal.main_arg0)
          ∧ r.2.mem ((c.tc : Thread Cert.NsaInIdeal.nD Cert.NsaInIdeal.τ).loc Cert.NsaInIdeal.main_arg1) = m ((c.tc : Thread Cert.NsaInIdeal.nD Cert.NsaInIdeal.τ).loc Cert.NsaInIdeal.main_arg1))
      ∧ θ_run (Cert.NsaInRefIdeal.defs (F := Ideal)) (onTc (τ := Cert.NsaInRefIdeal.τ) (Cert.NsaInRefIdeal.main (F := Ideal))) ⟨m', fun _ => 0, g'⟩ (fun r => ∀ c : Dev Cert.NsaInRefIdeal.nD,
          r.2.mem ((c.tc : Thread Cert.NsaInRefIdeal.nD Cert.NsaInRefIdeal.τ).loc Cert.NsaInRefIdeal.main_v4) = v0 c
          ∧ r.2.mem ((c.tc : Thread Cert.NsaInRefIdeal.nD Cert.NsaInRefIdeal.τ).loc Cert.NsaInRefIdeal.main_arg0) = m' ((c.tc : Thread Cert.NsaInRefIdeal.nD Cert.NsaInRefIdeal.τ).loc Cert.NsaInRefIdeal.main_arg0)
          ∧ r.2.mem ((c.tc : Thread Cert.NsaInRefIdeal.nD Cert.NsaInRefIdeal.τ).loc Cert.NsaInRefIdeal.main_arg1) = m' ((c.tc : Thread Cert.NsaInRefIdeal.nD Cert.NsaInRefIdeal.τ).loc Cert.NsaInRefIdeal.main_arg1))

def preserves_Win_WinIdeal : Prop :=
  IdealRules.named_const.Statement Cert.WinIdeal.κ "scale_log2e" .f32 0x3E0293EE#32 (((Real.sqrt 128)⁻¹ * (Real.log 2)⁻¹ : ℝ) : EReal)
  ∧ IdealRules.named_const.Statement Cert.WinIdeal.κ "mask" .f32 0xF149F2CA#32 ⊥

def algebraic_WinIdeal_WinRefIdeal_pre_finite_win [hWinIdeal : Cert.WinIdeal.Facts] [hWinRefIdeal : Cert.WinRefIdeal.Facts] [hPre_finite_win : Cert.Pre_finite_win.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_win m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v71) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Cmp_CmpIdeal : Prop :=
  True

def algebraic_CmpIdeal_CmpRefIdeal_pre_finite_cmp [hCmpIdeal : Cert.CmpIdeal.Facts] [hCmpRefIdeal : Cert.CmpRefIdeal.Facts] [hPre_finite_cmp : Cert.Pre_finite_cmp.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_cmp m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v24)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v24) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v32) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def preserves_Kmean_KmeanIdeal : Prop :=
  True

def algebraic_KmeanIdeal_KmeanRefIdeal [hKmeanIdeal : Cert.KmeanIdeal.Facts] [hKmeanRefIdeal : Cert.KmeanRefIdeal.Facts] : Prop :=
  ∀ (m : (ℓ : Loc Cert.KmeanIdeal.nD Cert.KmeanIdeal.τ Cert.KmeanIdeal.sig) → Buf (Elt Ideal) ℓ) (g : Dev Cert.KmeanIdeal.nD → PrngReg)
    (m' : (ℓ : Loc Cert.KmeanRefIdeal.nD Cert.KmeanRefIdeal.τ Cert.KmeanRefIdeal.sig) → Buf (Elt Ideal) ℓ) (g' : Dev Cert.KmeanRefIdeal.nD → PrngReg), Pre_KmeanIdeal m →
    (∀ c : Dev Cert.KmeanIdeal.nD,
      m' ((c.tc : Thread Cert.KmeanRefIdeal.nD Cert.KmeanRefIdeal.τ).loc Cert.KmeanRefIdeal.main_arg0) = m ((c.tc : Thread Cert.KmeanIdeal.nD Cert.KmeanIdeal.τ).loc Cert.KmeanIdeal.main_arg0)) →
    ∃ (v0 : (c : Dev Cert.KmeanIdeal.nD) → Buf (Elt Ideal) ((c.tc : Thread Cert.KmeanIdeal.nD Cert.KmeanIdeal.τ).loc Cert.KmeanIdeal.main_v0)),
      θ_run (Cert.KmeanIdeal.defs (F := Ideal)) (onTc (τ := Cert.KmeanIdeal.τ) (Cert.KmeanIdeal.main (F := Ideal))) ⟨m, fun _ => 0, g⟩ (fun r => ∀ c : Dev Cert.KmeanIdeal.nD,
          r.2.mem ((c.tc : Thread Cert.KmeanIdeal.nD Cert.KmeanIdeal.τ).loc Cert.KmeanIdeal.main_v0) = v0 c
          ∧ r.2.mem ((c.tc : Thread Cert.KmeanIdeal.nD Cert.KmeanIdeal.τ).loc Cert.KmeanIdeal.main_arg0) = m ((c.tc : Thread Cert.KmeanIdeal.nD Cert.KmeanIdeal.τ).loc Cert.KmeanIdeal.main_arg0))
      ∧ θ_run (Cert.KmeanRefIdeal.defs (F := Ideal)) (onTc (τ := Cert.KmeanRefIdeal.τ) (Cert.KmeanRefIdeal.main (F := Ideal))) ⟨m', fun _ => 0, g'⟩ (fun r => ∀ c : Dev Cert.KmeanRefIdeal.nD,
          r.2.mem ((c.tc : Thread Cert.KmeanRefIdeal.nD Cert.KmeanRefIdeal.τ).loc Cert.KmeanRefIdeal.main_v8) = v0 c
          ∧ r.2.mem ((c.tc : Thread Cert.KmeanRefIdeal.nD Cert.KmeanRefIdeal.τ).loc Cert.KmeanRefIdeal.main_arg0) = m' ((c.tc : Thread Cert.KmeanRefIdeal.nD Cert.KmeanRefIdeal.τ).loc Cert.KmeanRefIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hRes : Cert.Res.Facts) (hResIdeal : Cert.ResIdeal.Facts) (hResRefIdeal : Cert.ResRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hHgrnIn : Cert.HgrnIn.Facts) (hHgrnInIdeal : Cert.HgrnInIdeal.Facts) (hHgrnInRefIdeal : Cert.HgrnInRefIdeal.Facts) (hNsaIn : Cert.NsaIn.Facts) (hNsaInIdeal : Cert.NsaInIdeal.Facts) (hNsaInRefIdeal : Cert.NsaInRefIdeal.Facts) (hWin : Cert.Win.Facts) (hWinIdeal : Cert.WinIdeal.Facts) (hWinRefIdeal : Cert.WinRefIdeal.Facts) (hGate : Cert.Gate.Facts) (hGateIdeal : Cert.GateIdeal.Facts) (hGateRefIdeal : Cert.GateRefIdeal.Facts) (hCmp : Cert.Cmp.Facts) (hCmpIdeal : Cert.CmpIdeal.Facts) (hCmpRefIdeal : Cert.CmpRefIdeal.Facts) (hKmean : Cert.Kmean.Facts) (hKmeanIdeal : Cert.KmeanIdeal.Facts) (hKmeanRefIdeal : Cert.KmeanRefIdeal.Facts) (hPre_finite : Cert.Pre_finite.Facts) (hPre_finite_win : Cert.Pre_finite_win.Facts) (hPre_finite_cmp : Cert.Pre_finite_cmp.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Res (hRes := hRes)
    ∧ quiescent_ResIdeal (hResIdeal := hResIdeal)
    ∧ quiescent_ResRefIdeal (hResRefIdeal := hResRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_NsaIn (hNsaIn := hNsaIn)
    ∧ quiescent_NsaInIdeal (hNsaInIdeal := hNsaInIdeal)
    ∧ quiescent_NsaInRefIdeal (hNsaInRefIdeal := hNsaInRefIdeal)
    ∧ quiescent_Win (hWin := hWin)
    ∧ quiescent_WinIdeal (hWinIdeal := hWinIdeal)
    ∧ quiescent_WinIdeal_pre_finite_win (hWinIdeal := hWinIdeal) (hPre_finite_win := hPre_finite_win)
    ∧ quiescent_WinRefIdeal (hWinRefIdeal := hWinRefIdeal)
    ∧ quiescent_WinRefIdeal_pre_finite_win (hWinRefIdeal := hWinRefIdeal) (hPre_finite_win := hPre_finite_win)
    ∧ quiescent_Gate (hGate := hGate)
    ∧ quiescent_GateIdeal (hGateIdeal := hGateIdeal)
    ∧ quiescent_GateRefIdeal (hGateRefIdeal := hGateRefIdeal)
    ∧ quiescent_Cmp (hCmp := hCmp)
    ∧ quiescent_CmpIdeal (hCmpIdeal := hCmpIdeal)
    ∧ quiescent_CmpIdeal_pre_finite_cmp (hCmpIdeal := hCmpIdeal) (hPre_finite_cmp := hPre_finite_cmp)
    ∧ quiescent_CmpRefIdeal (hCmpRefIdeal := hCmpRefIdeal)
    ∧ quiescent_CmpRefIdeal_pre_finite_cmp (hCmpRefIdeal := hCmpRefIdeal) (hPre_finite_cmp := hPre_finite_cmp)
    ∧ quiescent_Kmean (hKmean := hKmean)
    ∧ quiescent_KmeanIdeal (hKmeanIdeal := hKmeanIdeal)
    ∧ quiescent_KmeanRefIdeal (hKmeanRefIdeal := hKmeanRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Res_ResIdeal
    ∧ algebraic_ResIdeal_ResRefIdeal (hResIdeal := hResIdeal) (hResRefIdeal := hResRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_NsaIn_NsaInIdeal
    ∧ algebraic_NsaInIdeal_NsaInRefIdeal (hNsaInIdeal := hNsaInIdeal) (hNsaInRefIdeal := hNsaInRefIdeal)
    ∧ preserves_Win_WinIdeal
    ∧ algebraic_WinIdeal_WinRefIdeal_pre_finite_win (hWinIdeal := hWinIdeal) (hWinRefIdeal := hWinRefIdeal) (hPre_finite_win := hPre_finite_win)
    ∧ preserves_Gate_GateIdeal
    ∧ algebraic_GateIdeal_GateRefIdeal (hGateIdeal := hGateIdeal) (hGateRefIdeal := hGateRefIdeal)
    ∧ preserves_Cmp_CmpIdeal
    ∧ algebraic_CmpIdeal_CmpRefIdeal_pre_finite_cmp (hCmpIdeal := hCmpIdeal) (hCmpRefIdeal := hCmpRefIdeal) (hPre_finite_cmp := hPre_finite_cmp)
    ∧ preserves_Kmean_KmeanIdeal
    ∧ algebraic_KmeanIdeal_KmeanRefIdeal (hKmeanIdeal := hKmeanIdeal) (hKmeanRefIdeal := hKmeanRefIdeal)
-- ==== Pre_finite.lean ====
abbrev S16384x6144 : Shape := ⟨2, ![16384, 6144]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)
  reducesTo_S16384x6144_S_d0_1 : S16384x6144.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v4 : IVec S_ 1) (main_v8 : IVec S_ 1) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : FVec F S128 .f32 := Host.absf main_arg4
  let main_cst_6 : FVec F S_ .f32 := constant S_ .f32 0x7F800000#32
  let main_v18 : FVec F S128 .f32 := broadcastInDim S128 ![] bcast_S_S128 main_cst_6
  let main_v19 : IVec S128 1 := cmpf .olt main_v17 main_v18
  let main_c_7 : IVec S_ 1 := constantI S_ 1 1#1
  let main_v20 : IVec S_ 1 := (fun x v => Host.reduce IntOp.andi x v reducesTo_S128_S_d0 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S16384x6144 .bf16) (main_arg1 : FVec F S128 .f32) (main_arg2 : FVec F S128 .f32) (main_arg3 : FVec F S128 .f32) (main_arg4 : FVec F S128 .f32) (main_arg5 : FVec F S256 .f32) : IVec S_ 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  let main_c : IVec S_ 1 := constantI S_ 1 1#1
  let main_v4 : IVec S_ 1 := (fun x v => Host.reduce IntOp.andi x v reducesTo_S16384x6144_S_d0_1 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_v4 main_v8 main_v12 main_v15 main_c_5
-- ==== Pre_finite_cmp.lean ====
abbrev S16384x2560 : Shape := ⟨2, ![16384, 2560]⟩
abbrev S32x128 : Shape := ⟨2, ![32, 128]⟩
abbrev S4096x128 : Shape := ⟨2, ![4096, 128]⟩
abbrev S128x128 : Shape := ⟨2, ![128, 128]⟩
abbrev S_ : Shape := ⟨0, ![]⟩

class Facts : Prop where
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg5 : FVec F S4096x128 .f32) (main_v14 : IVec S_ 1) (main_v15 : FVec F S32x128 .f32) (main_v16 : FVec F S32x128 .f32) : IVec S_ 1 :=
  let main_v17 : IVec S32x128 1 := cmpf .olt main_v15 main_v16
  let main_c_5 : IVec S_ 1 := constantI S_ 1 1#1
  let main_v18 : IVec S_ 1 := (fun x v => Host.reduce IntOp.andi x v reducesTo_S32x128_S_d0_1 h_S_) main_v17 main_c_5
  let main_v19 : IVec S_ 1 := andi main_v14 main_v18
  let main_v20 : FVec F S4096x128 .f32 := Host.absf main_arg5
  let main_cst_6 : FVec F S_ .f32 := constant S_ .f32 0x7F800000#32
  let main_v21 : FVec F S4096x128 .f32 := broadcastInDim S4096x128 ![] bcast_S_S4096x128 main_cst_6
  let main_v22 : IVec S4096x128 1 := cmpf .olt main_v20 main_v21
  let main_c_7 : IVec S_ 1 := constantI S_ 1 1#1
  let main_v23 : IVec S_ 1 := (fun x v => Host.reduce IntOp.andi x v reducesTo_S4096x128_S_d0_1 h_S_) main_v22 main_c_7
  let main_v24 : IVec S_ 1 := andi main_v19 main_v23
  main_v24

def fn {F : FTy → Type} [FloatOps F] (main_arg0 : FVec F S16384x2560 .bf16) (main_arg1 : FVec F S32x128 .f32) (main_arg2 : FVec F S4096x128 .f32) (main_arg3 : FVec F S128x128 .f32) (main_arg4 : FVec F S32x128 .f32) (main_arg5 : FVec F S4096x128 .f32) (main_arg6 : FVec F S128x128 .f32) : IVec S_ 1 :=
  let main_v0 : FVec F S16384x2560 .f32 := (extf .f32 · bitsLt_bf16_f32) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_c : IVec S_ 1 := constantI S_ 1 1#1
  let main_v4 : IVec S_ 1 := (fun x v => Host.reduce IntOp.andi x v reducesTo_S16384x2560_S_d0_1 h_S_) main_v3 main_c
  let main_v5 : FVec F S32x128 .f32 := Host.absf main_arg1
  let main_cst_0 : FVec F S_ .f32 := constant S_ .f32 0x7F800000#32
  let main_v6 : FVec F S32x128 .f32 := broadcastInDim S32x128 ![] bcast_S_S32x128 main_cst_0
  let main_v7 : IVec S32x128 1 := cmpf .olt main_v5 main_v6
  let main_c_1 : IVec S_ 1 := constantI S_ 1 1#1
  let main_v8 : IVec S_ 1 := (fun x v => Host.reduce IntOp.andi x v reducesTo_S32x128_S_d0_1 h_S_) main_v7 main_c_1
  let main_v9 : IVec S_ 1 := andi main_v4 main_v8
  let main_v10 : FVec F S4096x128 .f32 := Host.absf main_arg2
  let main_cst_2 : FVec F S_ .f32 := constant S_ .f32 0x7F800000#32
  let main_v11 : FVec F S4096x128 .f32 := broadcastInDim S4096x128 ![] bcast_S_S4096x128 main_cst_2
  let main_v12 : IVec S4096x128 1 := cmpf .olt main_v10 main_v11
  let main_c_3 : IVec S_ 1 := constantI S_ 1 1#1
  let main_v13 : IVec S_ 1 := (fun x v => Host.reduce IntOp.andi x v reducesTo_S4096x128_S_d0_1 h_S_) main_v12 main_c_3
  let main_v14 : IVec S_ 1 := andi main_v9 main_v13
  let main_v15 : FVec F S32x128 .f32 := Host.absf main_arg4
  let main_cst_4 : FVec F S_ .f32 := constant S_ .f32 0x7F800000#32
  let main_v16 : FVec F S32x128 .f32 := broadcastInDim S32x128 ![] bcast_S_S32x128 main_cst_4
  fn_part1 (F := F) main_arg5 main_v14 main_v15 main_v16
-- ==== Pre_finite_win.lean ====
abbrev S16384x2560 : Shape := ⟨2, ![16384, 2560]⟩
abbrev S16384x1024 : Shape := ⟨2, ![16384, 1024]⟩
abbrev S16384x256 : Shape := ⟨2, ![16384, 256]⟩
abbrev S_ : Shape := ⟨0, ![]⟩

class Facts : Prop where
  bitsLt_bf16_f32 : FTy.bits .bf16 < FTy.bits .f32
  bcast_S_S16384x2560 : S_.BroadcastsInDim S16384x2560 (![] : Fin 0 → Fin S16384x2560.rank)
  reducesTo_S16384x2560_S_d0_1 : S16384x2560.ReducesTo [0, 1] S_
  h_S_ : 0 < S_.numel

variable [Facts]

def fn {F : FTy → Type} [FloatOps F] (main_arg0 : FVec F S16384x2560 .bf16) (main_arg1 : FVec F S16384x1024 .bf16) (main_arg2 : FVec F S16384x1024 .bf16) (main_arg3 : FVec F S16384x256 .f32) : IVec S_ 1 :=
  let main_v0 : FVec F S16384x2560 .f32 := (extf .f32 · bitsLt_bf16_f32) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_c : IVec S_ 1 := constantI S_ 1 1#1
  let main_v4 : IVec S_ 1 := (fun x v => Host.reduce IntOp.andi x v reducesTo_S16384x2560_S_d0_1 h_S_) main_v3 main_c
  main_v4
-- ==== Kernel.lean ====
abbrev S16384x6144 : Shape := ⟨2, ![16384, 6144]⟩
abbrev S128 : Shape := ⟨1, ![128]⟩
abbrev S256 : Shape := ⟨1, ![256]⟩
abbrev S1x128 : Shape := ⟨2, ![1, 128]⟩
abbrev S1x256 : Shape := ⟨2, ![1, 256]⟩
abbrev S16384x1024 : Shape := ⟨2, ![16384, 1024]⟩
abbrev S1024x256 : Shape := ⟨2, ![1024, 256]⟩
abbrev S16384x256 : Shape := ⟨2, ![16384, 256]⟩
abbrev S2x1024x128 : Shape := ⟨3, ![2, 1024, 128]⟩
abbrev S2x2048x512 : Shape := ⟨3, ![2, 2048, 512]⟩
abbrev S2048x128 : Shape := ⟨2, ![2048, 128]⟩
abbrev S2048x256 : Shape := ⟨2, ![2048, 256]⟩
abbrev S1024x128 : Shape := ⟨2, ![1024, 128]⟩
abbrev S1x1024x128 : Shape := ⟨3, ![1, 1024, 128]⟩
abbrev S2048x1 : Shape := ⟨2, ![2048, 1]⟩
abbrev S512x128 : Shape := ⟨2, ![512, 128]⟩
abbrev S1024x512 : Shape := ⟨2, ![1024, 512]⟩
abbrev S1x1024x512 : Shape := ⟨3, ![1, 1024, 512]⟩
abbrev S512x256 : Shape := ⟨2, ![512, 256]⟩
abbrev S1x2048x512 : Shape := ⟨3, ![1, 2048, 512]⟩
abbrev S2048x512 : Shape := ⟨2, ![2048, 512]⟩
abbrev S2048 : Shape := ⟨1, ![2048]⟩
abbrev S1x512 : Shape := ⟨2, ![1, 512]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x256, .f32⟩
  | .hbm, ⟨11, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1024x256, .bf16⟩
  | .local _ .vmem, ⟨10, _⟩ => ⟨S1024x256, .bf16⟩
  | .local _ .vmem, ⟨11, _⟩ => ⟨S2x1024x128, .bf16⟩
  | .local _ .vmem, ⟨12, _⟩ => ⟨S2x2048x512, .f32⟩
  | .local _ .vmem, ⟨13, _⟩ => ⟨S2048x128, .f32⟩
  | .local _ .vmem, ⟨14, _⟩ => ⟨S2048x128, .f32⟩
  | .local _ .vmem, ⟨15, _⟩ => ⟨S2048x256, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 16], ![false, false]⟩

def k0_mult1 : BitVec 32 :=
  let c0_i32_32 : BitVec 32 := 0#32
  c0_i32_32
@[reducible] def k0_t1_loop (i : grid0.Coords) : Scf.Loop 32 :=
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_59 : BitVec 32 := 1#32
  ⟨c0_i32_57, v112, c1_i32_59⟩
def k0_mult2 (i : grid0.Coords) (k0_t1 : Fin (k0_t1_loop i).trips) : BitVec 32 :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c1_i32_182 : BitVec 32 := 1#32
  let v306 : BitVec 32 := Scalar.addi v305 c1_i32_182
  let c512_i32_183 : BitVec 32 := 512#32
  let v307 : BitVec 32 := Scalar.muli v306 c512_i32_183
  v307
def k0_off1 (i : grid0.Coords) (k0_t1 : Fin (k0_t1_loop i).trips) (c0_i32_180 : BitVec 32) (c1_i32_182 : BitVec 32) : Fin 2 → Nat :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let v304 : BitVec 32 := Scalar.addi v303 c0_i32_180
  let v305 : BitVec 32 := Scalar.muli c2_i32_181 v304
  let v306 : BitVec 32 := Scalar.addi v305 c1_i32_182
  let c512_i32_183 : BitVec 32 := 512#32
  let v307 : BitVec 32 := Scalar.muli v306 c512_i32_183
  let v308 : BitVec 32 := v307
  let v311 : Index := Scalar.indexCast v308
  let c0_187 : Index := 0#32
  ![v311.toNat, 0]
def k0_off2 (i : grid0.Coords) (k0_t1 : Fin (k0_t1_loop i).trips) (c0_i32_180 : BitVec 32) (c1_i32_182 : BitVec 32) : Fin 2 → Nat :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let v304 : BitVec 32 := Scalar.addi v303 c0_i32_180
  let v305 : BitVec 32 := Scalar.muli c2_i32_181 v304
  let v306 : BitVec 32 := Scalar.addi v305 c1_i32_182
  let c512_i32_183 : BitVec 32 := 512#32
  let v307 : BitVec 32 := Scalar.muli v306 c512_i32_183
  let v308 : BitVec 32 := v307
  let v319 : Index := Scalar.indexCast v308
  let c128_195 : Index := 128#32
  ![v319.toNat, 128]
def k0_mult3 (i : grid0.Coords) (k0_t1 : Fin (k0_t1_loop i).trips) : BitVec 32 :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c512_i32_200 : BitVec 32 := 512#32
  let v325 : BitVec 32 := Scalar.muli v305 c512_i32_200
  v325
def k0_off3 (i : grid0.Coords) (k0_t1 : Fin (k0_t1_loop i).trips) (c0_i32_180 : BitVec 32) : Fin 2 → Nat :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let v304 : BitVec 32 := Scalar.addi v303 c0_i32_180
  let v305 : BitVec 32 := Scalar.muli c2_i32_181 v304
  let c512_i32_200 : BitVec 32 := 512#32
  let v325 : BitVec 32 := Scalar.muli v305 c512_i32_200
  let v326 : BitVec 32 := v325
  let v327 : Index := Scalar.indexCast v326
  let c0_201 : Index := 0#32
  ![v327.toNat, 0]
def k0_mult4 (i : grid0.Coords) (k0_t1 : Fin (k0_t1_loop i).trips) : BitVec 32 :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c2_i32_223 : BitVec 32 := 2#32
  let v364 : BitVec 32 := Scalar.addi v305 c2_i32_223
  let c512_i32_224 : BitVec 32 := 512#32
  let v365 : BitVec 32 := Scalar.muli v364 c512_i32_224
  v365
def k0_mult5 (i : grid0.Coords) (k0_t1 : Fin (k0_t1_loop i).trips) : BitVec 32 :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c1_i32_241 : BitVec 32 := 1#32
  let v383 : BitVec 32 := Scalar.addi v305 c1_i32_241
  let c512_i32_242 : BitVec 32 := 512#32
  let v384 : BitVec 32 := Scalar.muli v383 c512_i32_242
  v384
def k0_off4 (i : grid0.Coords) (k0_t1 : Fin (k0_t1_loop i).trips) (c0_i32_180 : BitVec 32) : Fin 2 → Nat :=
  let c2_i32_181 : BitVec 32 := 2#32
  let c2_i32_179 : BitVec 32 := 2#32
  let c0_i32_57 : BitVec 32 := 0#32
  let c1_i32_59 : BitVec 32 := 1#32
  let arg16 : BitVec 32 := Scf.iv c0_i32_57 c1_i32_59 k0_t1
  let v303 : BitVec 32 := Scalar.muli c2_i32_179 arg16
  let v304 : BitVec 32 := Scalar.addi v303 c0_i32_180
  let v305 : BitVec 32 := Scalar.muli c2_i32_181 v304
  let c1_i32_241 : BitVec 32 := 1#32
  let v383 : BitVec 32 := Scalar.addi v305 c1_i32_241
  let c512_i32_242 : BitVec 32 := 512#32
  let v384 : BitVec 32 := Scalar.muli v383 c512_i32_242
  let v385 : BitVec 32 := v384
  let v386 : Index := Scalar.indexCast v385
  let c0_243 : Index := 0#32
  ![v386.toNat, 0]
def k0_mult6 (i : grid0.Coords) (k0_t1 : Fin (k0_t1_loop i).trips) : BitVec 32 :=
  let c2_i32_267 : BitVec 32 := 2#32
  let c2_i32_265 : BitVec 32 := 2#32
  let c0_i32_57 : BitVec 32 := 0#32
  let c1_i32_59 : BitVec 32 := 1#32
  let arg16 : BitVec 32 := Scf.iv c0_i32_57 c1_i32_59 k0_t1
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c1_i32_268 : BitVec 32 := 1#32
  let v426 : BitVec 32 := Scalar.addi v425 c1_i32_268
  let c512_i32_269 : BitVec 32 := 512#32
  let v427 : BitVec 32 := Scalar.muli v426 c512_i32_269
  v427
def k0_mult7 (i : grid0.Coords) (k0_t1 : Fin (k0_t1_loop i).trips) : BitVec 32 :=
  let c2_i32_267 : BitVec 32 := 2#32
  let c2_i32_265 : BitVec 32 := 2#32
  let c0_i32_57 : BitVec 32 := 0#32
  let c1_i32_59 : BitVec 32 := 1#32
  let arg16 : BitVec 32 := Scf.iv c0_i32_57 c1_i32_59 k0_t1
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c512_i32_286 : BitVec 32 := 512#32
  let v445 : BitVec 32 := Scalar.muli v425 c512_i32_286
  v445
def k0_mult8 (i : grid0.Coords) (k0_t1 : Fin (k0_t1_loop i).trips) : BitVec 32 :=
  let c2_i32_267 : BitVec 32 := 2#32
  let c2_i32_265 : BitVec 32 := 2#32
  let c0_i32_57 : BitVec 32 := 0#32
  let c1_i32_59 : BitVec 32 := 1#32
  let arg16 : BitVec 32 := Scf.iv c0_i32_57 c1_i32_59 k0_t1
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c2_i32_309 : BitVec 32 := 2#32
  let v484 : BitVec 32 := Scalar.addi v425 c2_i32_309
  let c512_i32_310 : BitVec 32 := 512#32
  let v485 : BitVec 32 := Scalar.muli v484 c512_i32_310
  v485
def k0_mult9 (i : grid0.Coords) (k0_t1 : Fin (k0_t1_loop i).trips) : BitVec 32 :=
  let c2_i32_267 : BitVec 32 := 2#32
  let c2_i32_265 : BitVec 32 := 2#32
  let c0_i32_57 : BitVec 32 := 0#32
  let c1_i32_59 : BitVec 32 := 1#32
  let arg16 : BitVec 32 := Scf.iv c0_i32_57 c1_i32_59 k0_t1
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c1_i32_327 : BitVec 32 := 1#32
  let v503 : BitVec 32 := Scalar.addi v425 c1_i32_327
  let c512_i32_328 : BitVec 32 := 512#32
  let v504 : BitVec 32 := Scalar.muli v503 c512_i32_328
  v504
@[reducible] def k0_t2_loop (i : grid0.Coords) : Scf.Loop 32 :=
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let v109 : BitVec 32 := Scalar.addi c0_i32_57 v108
  let c1_i32_60 : BitVec 32 := 1#32
  ⟨v112, v109, c1_i32_60⟩
def k0_mult10 (i : grid0.Coords) (k0_t2 : Fin (k0_t2_loop i).trips) : BitVec 32 :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c1_i32_182 : BitVec 32 := 1#32
  let v306 : BitVec 32 := Scalar.addi v305 c1_i32_182
  let c512_i32_183 : BitVec 32 := 512#32
  let v307 : BitVec 32 := Scalar.muli v306 c512_i32_183
  v307
def k0_off5 (i : grid0.Coords) (k0_t2 : Fin (k0_t2_loop i).trips) (c0_i32_180 : BitVec 32) (c1_i32_182 : BitVec 32) : Fin 2 → Nat :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let v304 : BitVec 32 := Scalar.addi v303 c0_i32_180
  let v305 : BitVec 32 := Scalar.muli c2_i32_181 v304
  let v306 : BitVec 32 := Scalar.addi v305 c1_i32_182
  let c512_i32_183 : BitVec 32 := 512#32
  let v307 : BitVec 32 := Scalar.muli v306 c512_i32_183
  let v308 : BitVec 32 := v307
  let v311 : Index := Scalar.indexCast v308
  let c0_187 : Index := 0#32
  ![v311.toNat, 0]
def k0_off6 (i : grid0.Coords) (k0_t2 : Fin (k0_t2_loop i).trips) (c0_i32_180 : BitVec 32) (c1_i32_182 : BitVec 32) : Fin 2 → Nat :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let v304 : BitVec 32 := Scalar.addi v303 c0_i32_180
  let v305 : BitVec 32 := Scalar.muli c2_i32_181 v304
  let v306 : BitVec 32 := Scalar.addi v305 c1_i32_182
  let c512_i32_183 : BitVec 32 := 512#32
  let v307 : BitVec 32 := Scalar.muli v306 c512_i32_183
  let v308 : BitVec 32 := v307
  let v319 : Index := Scalar.indexCast v308
  let c128_195 : Index := 128#32
  ![v319.toNat, 128]
def k0_mult11 (i : grid0.Coords) (k0_t2 : Fin (k0_t2_loop i).trips) : BitVec 32 :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c512_i32_200 : BitVec 32 := 512#32
  let v325 : BitVec 32 := Scalar.muli v305 c512_i32_200
  v325
def k0_off7 (i : grid0.Coords) (k0_t2 : Fin (k0_t2_loop i).trips) (c0_i32_180 : BitVec 32) : Fin 2 → Nat :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let v304 : BitVec 32 := Scalar.addi v303 c0_i32_180
  let v305 : BitVec 32 := Scalar.muli c2_i32_181 v304
  let c512_i32_200 : BitVec 32 := 512#32
  let v325 : BitVec 32 := Scalar.muli v305 c512_i32_200
  let v326 : BitVec 32 := v325
  let v327 : Index := Scalar.indexCast v326
  let c0_201 : Index := 0#32
  ![v327.toNat, 0]
def k0_mult12 (i : grid0.Coords) (k0_t2 : Fin (k0_t2_loop i).trips) : BitVec 32 :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c2_i32_223 : BitVec 32 := 2#32
  let v364 : BitVec 32 := Scalar.addi v305 c2_i32_223
  let c512_i32_224 : BitVec 32 := 512#32
  let v365 : BitVec 32 := Scalar.muli v364 c512_i32_224
  v365
def k0_mult13 (i : grid0.Coords) (k0_t2 : Fin (k0_t2_loop i).trips) : BitVec 32 :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let c0_i32_180 : BitVec 32 := 0#32
  let v304 : BitVec 32 := Scalar.addi v303 c0_i32_180
  let v305 : BitVec 32 := Scalar.muli c2_i32_181 v304
  let c1_i32_241 : BitVec 32 := 1#32
  let v383 : BitVec 32 := Scalar.addi v305 c1_i32_241
  let c512_i32_242 : BitVec 32 := 512#32
  let v384 : BitVec 32 := Scalar.muli v383 c512_i32_242
  v384
def k0_off8 (i : grid0.Coords) (k0_t2 : Fin (k0_t2_loop i).trips) (c0_i32_180 : BitVec 32) : Fin 2 → Nat :=
  let c2_i32_181 : BitVec 32 := 2#32
  let c2_i32_179 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v303 : BitVec 32 := Scalar.muli c2_i32_179 arg16
  let v304 : BitVec 32 := Scalar.addi v303 c0_i32_180
  let v305 : BitVec 32 := Scalar.muli c2_i32_181 v304
  let c1_i32_241 : BitVec 32 := 1#32
  let v383 : BitVec 32 := Scalar.addi v305 c1_i32_241
  let c512_i32_242 : BitVec 32 := 512#32
  let v384 : BitVec 32 := Scalar.muli v383 c512_i32_242
  let v385 : BitVec 32 := v384
  let v386 : Index := Scalar.indexCast v385
  let c0_243 : Index := 0#32
  ![v386.toNat, 0]
def k0_mult14 (i : grid0.Coords) (k0_t2 : Fin (k0_t2_loop i).trips) : BitVec 32 :=
  let c2_i32_267 : BitVec 32 := 2#32
  let c2_i32_265 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c1_i32_268 : BitVec 32 := 1#32
  let v426 : BitVec 32 := Scalar.addi v425 c1_i32_268
  let c512_i32_269 : BitVec 32 := 512#32
  let v427 : BitVec 32 := Scalar.muli v426 c512_i32_269
  v427
def k0_mult15 (i : grid0.Coords) (k0_t2 : Fin (k0_t2_loop i).trips) : BitVec 32 :=
  let c2_i32_267 : BitVec 32 := 2#32
  let c2_i32_265 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c512_i32_286 : BitVec 32 := 512#32
  let v445 : BitVec 32 := Scalar.muli v425 c512_i32_286
  v445
def k0_mult16 (i : grid0.Coords) (k0_t2 : Fin (k0_t2_loop i).trips) : BitVec 32 :=
  let c2_i32_267 : BitVec 32 := 2#32
  let c2_i32_265 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c2_i32_309 : BitVec 32 := 2#32
  let v484 : BitVec 32 := Scalar.addi v425 c2_i32_309
  let c512_i32_310 : BitVec 32 := 512#32
  let v485 : BitVec 32 := Scalar.muli v484 c512_i32_310
  v485
def k0_mult17 (i : grid0.Coords) (k0_t2 : Fin (k0_t2_loop i).trips) : BitVec 32 :=
  let c2_i32_267 : BitVec 32 := 2#32
  let c2_i32_265 : BitVec 32 := 2#32
  let c0_i32_57 : BitVec 32 := 0#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c0_i32_50 : BitVec 32 := 0#32
  let v92 : BitVec 1 := Scalar.cmpi .sgt v90 c0_i32_50
  let v93 : BitVec 32 := Scalar.extui v92
  let c0_i32_51 : BitVec 32 := 0#32
  let v94 : BitVec 1 := Scalar.cmpi .slt v90 c0_i32_51
  let v95 : BitVec 32 := Scalar.extui v94
  let v96 : BitVec 32 := Scalar.subi v93 v95
  let c2_i32_49 : BitVec 32 := 2#32
  let c0_i32_52 : BitVec 32 := 0#32
  let v97 : BitVec 1 := Scalar.cmpi .sgt c2_i32_49 c0_i32_52
  let v98 : BitVec 32 := Scalar.extui v97
  let c0_i32_53 : BitVec 32 := 0#32
  let v99 : BitVec 1 := Scalar.cmpi .slt c2_i32_49 c0_i32_53
  let v100 : BitVec 32 := Scalar.extui v99
  let v101 : BitVec 32 := Scalar.subi v98 v100
  let v102 : BitVec 1 := Scalar.cmpi .ne v96 v101
  let v103 : BitVec 32 := Scalar.remsi v90 c2_i32_49
  let c0_i32_54 : BitVec 32 := 0#32
  let v104 : BitVec 1 := Scalar.cmpi .ne v103 c0_i32_54
  let v105 : BitVec 1 := Scalar.andi v102 v104
  let v91 : BitVec 32 := Scalar.divsi v90 c2_i32_49
  let c1_i32_55 : BitVec 32 := 1#32
  let v106 : BitVec 32 := Scalar.subi v91 c1_i32_55
  let v107 : BitVec 32 := Scalar.select v105 v106 v91
  let v108 : BitVec 32 := Scalar.subi v107 c0_i32_57
  let c1_i32_58 : BitVec 32 := 1#32
  let v110 : BitVec 32 := Scalar.divsi v108 c1_i32_58
  let v111 : BitVec 32 := Scalar.muli v110 c1_i32_58
  let v112 : BitVec 32 := Scalar.addi c0_i32_57 v111
  let c1_i32_60 : BitVec 32 := 1#32
  let arg16 : BitVec 32 := Scf.iv v112 c1_i32_60 k0_t2
  let v423 : BitVec 32 := Scalar.muli c2_i32_265 arg16
  let c1_i32_266 : BitVec 32 := 1#32
  let v424 : BitVec 32 := Scalar.addi v423 c1_i32_266
  let v425 : BitVec 32 := Scalar.muli c2_i32_267 v424
  let c1_i32_327 : BitVec 32 := 1#32
  let v503 : BitVec 32 := Scalar.addi v425 c1_i32_327
  let c512_i32_328 : BitVec 32 := 512#32
  let v504 : BitVec 32 := Scalar.muli v503 c512_i32_328
  v504
@[reducible] def k0_t3_loop (i : grid0.Coords) : Scf.Loop 32 :=
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_69 : BitVec 32 := 1#32
  ⟨v123, v128, c1_i32_69⟩
def k0_mult18 (i : grid0.Coords) (k0_t3 : Fin (k0_t3_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c1_i32_180 : BitVec 32 := 1#32
  let v304 : BitVec 32 := Scalar.addi v303 c1_i32_180
  let c512_i32_181 : BitVec 32 := 512#32
  let v305 : BitVec 32 := Scalar.muli v304 c512_i32_181
  v305
def k0_off9 (i : grid0.Coords) (k0_t3 : Fin (k0_t3_loop i).trips) (c1_i32_180 : BitVec 32) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let v304 : BitVec 32 := Scalar.addi v303 c1_i32_180
  let c512_i32_181 : BitVec 32 := 512#32
  let v305 : BitVec 32 := Scalar.muli v304 c512_i32_181
  let v306 : BitVec 32 := v305
  let v309 : Index := Scalar.indexCast v306
  let c0_185 : Index := 0#32
  ![v309.toNat, 0]
def k0_off10 (i : grid0.Coords) (k0_t3 : Fin (k0_t3_loop i).trips) (c1_i32_180 : BitVec 32) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let v304 : BitVec 32 := Scalar.addi v303 c1_i32_180
  let c512_i32_181 : BitVec 32 := 512#32
  let v305 : BitVec 32 := Scalar.muli v304 c512_i32_181
  let v306 : BitVec 32 := v305
  let v317 : Index := Scalar.indexCast v306
  let c128_193 : Index := 128#32
  ![v317.toNat, 128]
def k0_mult19 (i : grid0.Coords) (k0_t3 : Fin (k0_t3_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c512_i32_198 : BitVec 32 := 512#32
  let v323 : BitVec 32 := Scalar.muli v303 c512_i32_198
  v323
def k0_off11 (i : grid0.Coords) (k0_t3 : Fin (k0_t3_loop i).trips) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c512_i32_198 : BitVec 32 := 512#32
  let v323 : BitVec 32 := Scalar.muli v303 c512_i32_198
  let v324 : BitVec 32 := v323
  let v325 : Index := Scalar.indexCast v324
  let c0_199 : Index := 0#32
  ![v325.toNat, 0]
def k0_mult20 (i : grid0.Coords) (k0_t3 : Fin (k0_t3_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c2_i32_221 : BitVec 32 := 2#32
  let v362 : BitVec 32 := Scalar.addi v303 c2_i32_221
  let c512_i32_222 : BitVec 32 := 512#32
  let v363 : BitVec 32 := Scalar.muli v362 c512_i32_222
  v363
def k0_mult21 (i : grid0.Coords) (k0_t3 : Fin (k0_t3_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c1_i32_239 : BitVec 32 := 1#32
  let v381 : BitVec 32 := Scalar.addi v303 c1_i32_239
  let c512_i32_240 : BitVec 32 := 512#32
  let v382 : BitVec 32 := Scalar.muli v381 c512_i32_240
  v382
def k0_off12 (i : grid0.Coords) (k0_t3 : Fin (k0_t3_loop i).trips) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let c1_i32_69 : BitVec 32 := 1#32
  let arg16 : BitVec 32 := Scf.iv v123 c1_i32_69 k0_t3
  let v303 : BitVec 32 := Scalar.muli c2_i32_179 arg16
  let c1_i32_239 : BitVec 32 := 1#32
  let v381 : BitVec 32 := Scalar.addi v303 c1_i32_239
  let c512_i32_240 : BitVec 32 := 512#32
  let v382 : BitVec 32 := Scalar.muli v381 c512_i32_240
  let v383 : BitVec 32 := v382
  let v384 : Index := Scalar.indexCast v383
  let c0_241 : Index := 0#32
  ![v384.toNat, 0]
@[reducible] def k0_t4_loop (i : grid0.Coords) : Scf.Loop 32 :=
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let v125 : BitVec 32 := Scalar.addi v123 v124
  let c1_i32_70 : BitVec 32 := 1#32
  ⟨v128, v125, c1_i32_70⟩
def k0_mult22 (i : grid0.Coords) (k0_t4 : Fin (k0_t4_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c1_i32_180 : BitVec 32 := 1#32
  let v304 : BitVec 32 := Scalar.addi v303 c1_i32_180
  let c512_i32_181 : BitVec 32 := 512#32
  let v305 : BitVec 32 := Scalar.muli v304 c512_i32_181
  v305
def k0_off13 (i : grid0.Coords) (k0_t4 : Fin (k0_t4_loop i).trips) (c1_i32_180 : BitVec 32) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let v304 : BitVec 32 := Scalar.addi v303 c1_i32_180
  let c512_i32_181 : BitVec 32 := 512#32
  let v305 : BitVec 32 := Scalar.muli v304 c512_i32_181
  let v306 : BitVec 32 := v305
  let v309 : Index := Scalar.indexCast v306
  let c0_185 : Index := 0#32
  ![v309.toNat, 0]
def k0_off14 (i : grid0.Coords) (k0_t4 : Fin (k0_t4_loop i).trips) (c1_i32_180 : BitVec 32) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let v304 : BitVec 32 := Scalar.addi v303 c1_i32_180
  let c512_i32_181 : BitVec 32 := 512#32
  let v305 : BitVec 32 := Scalar.muli v304 c512_i32_181
  let v306 : BitVec 32 := v305
  let v317 : Index := Scalar.indexCast v306
  let c128_193 : Index := 128#32
  ![v317.toNat, 128]
def k0_mult23 (i : grid0.Coords) (k0_t4 : Fin (k0_t4_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c512_i32_198 : BitVec 32 := 512#32
  let v323 : BitVec 32 := Scalar.muli v303 c512_i32_198
  v323
def k0_off15 (i : grid0.Coords) (k0_t4 : Fin (k0_t4_loop i).trips) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c512_i32_198 : BitVec 32 := 512#32
  let v323 : BitVec 32 := Scalar.muli v303 c512_i32_198
  let v324 : BitVec 32 := v323
  let v325 : Index := Scalar.indexCast v324
  let c0_199 : Index := 0#32
  ![v325.toNat, 0]
def k0_mult24 (i : grid0.Coords) (k0_t4 : Fin (k0_t4_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c2_i32_221 : BitVec 32 := 2#32
  let v362 : BitVec 32 := Scalar.addi v303 c2_i32_221
  let c512_i32_222 : BitVec 32 := 512#32
  let v363 : BitVec 32 := Scalar.muli v362 c512_i32_222
  v363
def k0_mult25 (i : grid0.Coords) (k0_t4 : Fin (k0_t4_loop i).trips) : BitVec 32 :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c1_i32_239 : BitVec 32 := 1#32
  let v381 : BitVec 32 := Scalar.addi v303 c1_i32_239
  let c512_i32_240 : BitVec 32 := 512#32
  let v382 : BitVec 32 := Scalar.muli v381 c512_i32_240
  v382
def k0_off16 (i : grid0.Coords) (k0_t4 : Fin (k0_t4_loop i).trips) : Fin 2 → Nat :=
  let c2_i32_179 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_48 : BitVec 32 := 1#32
  let v90 : BitVec 32 := Scalar.subi v72 c1_i32_48
  let c2_i32_61 : BitVec 32 := 2#32
  let c0_i32_62 : BitVec 32 := 0#32
  let v113 : BitVec 1 := Scalar.cmpi .eq c2_i32_61 c0_i32_62
  let c1_i32_63 : BitVec 32 := 1#32
  let v114 : BitVec 32 := Scalar.select v113 c1_i32_63 c2_i32_61
  let v115 : BitVec 32 := Scalar.remsi v90 v114
  let c0_i32_65 : BitVec 32 := 0#32
  let v117 : BitVec 1 := Scalar.cmpi .slt v115 c0_i32_65
  let c0_i32_66 : BitVec 32 := 0#32
  let v118 : BitVec 1 := Scalar.cmpi .slt v114 c0_i32_66
  let v119 : BitVec 1 := Scalar.xori v117 v118
  let c0_i32_64 : BitVec 32 := 0#32
  let v116 : BitVec 1 := Scalar.cmpi .ne v115 c0_i32_64
  let v120 : BitVec 1 := Scalar.andi v119 v116
  let v121 : BitVec 32 := Scalar.addi v115 v114
  let v122 : BitVec 32 := Scalar.select v120 v121 v115
  let v123 : BitVec 32 := Scalar.subi v90 v122
  let v124 : BitVec 32 := Scalar.subi v90 v123
  let c1_i32_68 : BitVec 32 := 1#32
  let v126 : BitVec 32 := Scalar.divsi v124 c1_i32_68
  let v127 : BitVec 32 := Scalar.muli v126 c1_i32_68
  let v128 : BitVec 32 := Scalar.addi v123 v127
  let c1_i32_70 : BitVec 32 := 1#32
  let arg16 : BitVec 32 := Scf.iv v128 c1_i32_70 k0_t4
  let v303 : BitVec 32 := Scalar.muli c2_i32_179 arg16
  let c1_i32_239 : BitVec 32 := 1#32
  let v381 : BitVec 32 := Scalar.addi v303 c1_i32_239
  let c512_i32_240 : BitVec 32 := 512#32
  let v382 : BitVec 32 := Scalar.muli v381 c512_i32_240
  let v383 : BitVec 32 := v382
  let v384 : Index := Scalar.indexCast v383
  let c0_241 : Index := 0#32
  ![v384.toNat, 0]
def k0_mult26 (i : grid0.Coords) : BitVec 32 :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c1_i32_73 : BitVec 32 := 1#32
  let v131 : BitVec 32 := Scalar.addi v130 c1_i32_73
  let c512_i32_74 : BitVec 32 := 512#32
  let v132 : BitVec 32 := Scalar.muli v131 c512_i32_74
  v132
def k0_off17 (i : grid0.Coords) : Fin 2 → Nat :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c1_i32_73 : BitVec 32 := 1#32
  let v131 : BitVec 32 := Scalar.addi v130 c1_i32_73
  let c512_i32_74 : BitVec 32 := 512#32
  let v132 : BitVec 32 := Scalar.muli v131 c512_i32_74
  let v133 : BitVec 32 := v132
  let v136 : Index := Scalar.indexCast v133
  let c0_78 : Index := 0#32
  ![v136.toNat, 0]
def k0_off18 (i : grid0.Coords) : Fin 2 → Nat :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c1_i32_73 : BitVec 32 := 1#32
  let v131 : BitVec 32 := Scalar.addi v130 c1_i32_73
  let c512_i32_74 : BitVec 32 := 512#32
  let v132 : BitVec 32 := Scalar.muli v131 c512_i32_74
  let v133 : BitVec 32 := v132
  let v144 : Index := Scalar.indexCast v133
  let c128_86 : Index := 128#32
  ![v144.toNat, 128]
def k0_mult27 (i : grid0.Coords) : BitVec 32 :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c512_i32_91 : BitVec 32 := 512#32
  let v150 : BitVec 32 := Scalar.muli v130 c512_i32_91
  v150
def k0_off19 (i : grid0.Coords) : Fin 2 → Nat :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c512_i32_91 : BitVec 32 := 512#32
  let v150 : BitVec 32 := Scalar.muli v130 c512_i32_91
  let v151 : BitVec 32 := v150
  let v165 : Index := Scalar.indexCast v151
  let c0_99 : Index := 0#32
  ![v165.toNat, 0]
def k0_mult28 (i : grid0.Coords) : BitVec 32 :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c1_i32_121 : BitVec 32 := 1#32
  let v202 : BitVec 32 := Scalar.addi v130 c1_i32_121
  let c512_i32_122 : BitVec 32 := 512#32
  let v203 : BitVec 32 := Scalar.muli v202 c512_i32_122
  v203
def k0_off20 (i : grid0.Coords) : Fin 2 → Nat :=
  let c2_i32_72 : BitVec 32 := 2#32
  let arg1 : BitVec 32 := BitVec.ofNat 32 (i 1).val
  let c1024_i32_17 : BitVec 32 := 1024#32
  let v34 : BitVec 32 := Scalar.muli arg1 c1024_i32_17
  let c1024_i32_18 : BitVec 32 := 1024#32
  let v35 : BitVec 32 := Scalar.addi v34 c1024_i32_18
  let c512_i32 : BitVec 32 := 512#32
  let v36 : BitVec 32 := Scalar.addi v35 c512_i32
  let c1_i32 : BitVec 32 := 1#32
  let v37 : BitVec 32 := Scalar.subi v36 c1_i32
  let c0_i32 : BitVec 32 := 0#32
  let v39 : BitVec 1 := Scalar.cmpi .sgt v37 c0_i32
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c512_i32_19 : BitVec 32 := 512#32
  let c0_i32_21 : BitVec 32 := 0#32
  let v44 : BitVec 1 := Scalar.cmpi .sgt c512_i32_19 c0_i32_21
  let v45 : BitVec 32 := Scalar.extui v44
  let c0_i32_22 : BitVec 32 := 0#32
  let v46 : BitVec 1 := Scalar.cmpi .slt c512_i32_19 c0_i32_22
  let v47 : BitVec 32 := Scalar.extui v46
  let v48 : BitVec 32 := Scalar.subi v45 v47
  let v49 : BitVec 1 := Scalar.cmpi .ne v43 v48
  let v50 : BitVec 32 := Scalar.remsi v37 c512_i32_19
  let c0_i32_23 : BitVec 32 := 0#32
  let v51 : BitVec 1 := Scalar.cmpi .ne v50 c0_i32_23
  let v52 : BitVec 1 := Scalar.andi v49 v51
  let v38 : BitVec 32 := Scalar.divsi v37 c512_i32_19
  let c1_i32_24 : BitVec 32 := 1#32
  let v53 : BitVec 32 := Scalar.subi v38 c1_i32_24
  let v54 : BitVec 32 := Scalar.select v52 v53 v38
  let c1_i32_25 : BitVec 32 := 1#32
  let v55 : BitVec 32 := Scalar.addi v54 c1_i32_25
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c2_i32 : BitVec 32 := 2#32
  let c0_i32_28 : BitVec 32 := 0#32
  let v62 : BitVec 1 := Scalar.cmpi .sgt c2_i32 c0_i32_28
  let v63 : BitVec 32 := Scalar.extui v62
  let c0_i32_29 : BitVec 32 := 0#32
  let v64 : BitVec 1 := Scalar.cmpi .slt c2_i32 c0_i32_29
  let v65 : BitVec 32 := Scalar.extui v64
  let v66 : BitVec 32 := Scalar.subi v63 v65
  let v67 : BitVec 1 := Scalar.cmpi .ne v61 v66
  let v68 : BitVec 32 := Scalar.remsi v55 c2_i32
  let c0_i32_30 : BitVec 32 := 0#32
  let v69 : BitVec 1 := Scalar.cmpi .ne v68 c0_i32_30
  let v70 : BitVec 1 := Scalar.andi v67 v69
  let v56 : BitVec 32 := Scalar.divsi v55 c2_i32
  let c1_i32_31 : BitVec 32 := 1#32
  let v71 : BitVec 32 := Scalar.subi v56 c1_i32_31
  let v72 : BitVec 32 := Scalar.select v70 v71 v56
  let c1_i32_71 : BitVec 32 := 1#32
  let v129 : BitVec 32 := Scalar.subi v72 c1_i32_71
  let v130 : BitVec 32 := Scalar.muli c2_i32_72 v129
  let c1_i32_121 : BitVec 32 := 1#32
  let v202 : BitVec 32 := Scalar.addi v130 c1_i32_121
  let c512_i32_122 : BitVec 32 := 512#32
  let v203 : BitVec 32 := Scalar.muli v202 c512_i32_122
  let v204 : BitVec 32 := v203
  let v218 : Index := Scalar.indexCast v204
  let c0_130 : Index := 0#32
  ![v218.toNat, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S16384x6144 : Shape := ⟨2, ![16384, 6144]⟩
abbrev S128 : Shape := ⟨1, ![128]⟩
abbrev S256 : Shape := ⟨1, ![256]⟩
abbrev S16384x1024 : Shape := ⟨2, ![16384, 1024]⟩
abbrev S_ : Shape := ⟨0, ![]⟩
abbrev S16384x4x2x128 : Shape := ⟨4, ![16384, 4, 2, 128]⟩
abbrev S4x2x16384x128 : Shape := ⟨4, ![4, 2, 16384, 128]⟩
abbrev S16384x4x256 : Shape := ⟨3, ![16384, 4, 256]⟩
abbrev S4x16384x256 : Shape := ⟨3, ![4, 16384, 256]⟩
abbrev S16384 : Shape := ⟨1, ![16384]⟩
abbrev S4x2x16384x16384 : Shape := ⟨4, ![4, 2, 16384, 16384]⟩
abbrev S1x16384 : Shape := ⟨2, ![1, 16384]⟩
abbrev S16384x1 : Shape := ⟨2, ![16384, 1]⟩
abbrev S16384x16384 : Shape := ⟨2, ![16384, 16384]⟩
abbrev S4x2x16384 : Shape := ⟨3, ![4, 2, 16384]⟩
abbrev S4x2x16384x1 : Shape := ⟨4, ![4, 2, 16384, 1]⟩
abbrev S1x1x16384x16384 : Shape := ⟨4, ![1, 1, 16384, 16384]⟩
abbrev S4x1x16384x16384 : Shape := ⟨4, ![4, 1, 16384, 16384]⟩
abbrev S4x16384x16384 : Shape := ⟨3, ![4, 16384, 16384]⟩
abbrev S16384x4 : Shape := ⟨2, ![16384, 4]⟩
abbrev S16384x4x1 : Shape := ⟨3, ![16384, 4, 1]⟩
abbrev S1x1x256 : Shape := ⟨3, ![1, 1, 256]⟩

abbrev nBuf : Space → Nat
  | .hbm => 91
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S16384x6144, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x4x2x128, .f32⟩
  | .hbm, ⟨22, _⟩ => ⟨S4x2x16384x128, .f32⟩
  | .hbm, ⟨23, _⟩ => ⟨S16384x4x2x128, .f32⟩
  | .hbm, ⟨24, _⟩ => ⟨S4x2x16384x128, .f32⟩
  | .hbm, ⟨25, _⟩ => ⟨S16384x4x256, .f32⟩
  | .hbm, ⟨26, _⟩ => ⟨S4x16384x256, .f32⟩
  | .hbm, ⟨27, _⟩ => ⟨S16384, .i32⟩
  | .hbm, ⟨28, _⟩ => ⟨S4x2x16384x16384, .f32⟩
  | .hbm, ⟨29, _⟩ => ⟨S_, .f32⟩
  | .hbm, ⟨30, _⟩ => ⟨S_, .f32⟩
  | .hbm, ⟨31, _⟩ => ⟨S4x2x16384x16384, .f32⟩
  | .hbm, ⟨32, _⟩ => ⟨S4x2x16384x16384, .f32⟩
  | .hbm, ⟨33, _⟩ => ⟨S1x16384, .i32⟩
  | .hbm, ⟨34, _⟩ => ⟨S16384x1, .i32⟩
  | .hbm, ⟨35, _⟩ => ⟨S16384x16384, .i32⟩
  | .hbm, ⟨36, _⟩ => ⟨S16384x16384, .i32⟩
  | .hbm, ⟨37, _⟩ => ⟨S16384x16384, .i1⟩
  | .hbm, ⟨38, _⟩ => ⟨S_, .f32⟩
  | .hbm, ⟨39, _⟩ => ⟨S_, .f32⟩
  | .hbm, ⟨40, _⟩ => ⟨S4x2x16384x16384, .i1⟩
  | .hbm, ⟨41, _⟩ => ⟨S4x2x16384x16384, .f32⟩
  | .hbm, ⟨42, _⟩ => ⟨S4x2x16384x16384, .f32⟩
  | .hbm, ⟨43, _⟩ => ⟨S_, .f32⟩
  | .hbm, ⟨44, _⟩ => ⟨S4x2x16384, .f32⟩
  | .hbm, ⟨45, _⟩ => ⟨S_, .f32⟩
  | .hbm, ⟨46, _⟩ => ⟨S4x2x16384, .f32⟩
  | .hbm, ⟨47, _⟩ => ⟨S4x2x16384, .f32⟩
  | .hbm, ⟨48, _⟩ => ⟨S4x2x16384x1, .f32⟩
  | .hbm, ⟨49, _⟩ => ⟨S4x2x16384x16384, .f32⟩
  | .hbm, ⟨50, _⟩ => ⟨S4x2x16384x16384, .f32⟩
  | .hbm, ⟨51, _⟩ => ⟨S4x2x16384x16384, .f32⟩
  | .hbm, ⟨52, _⟩ => ⟨S_, .f32⟩
  | .hbm, ⟨53, _⟩ => ⟨S4x2x16384, .f32⟩
  | .hbm, ⟨54, _⟩ => ⟨S4x2x16384x1, .f32⟩
  | .hbm, ⟨55, _⟩ => ⟨S4x2x16384x16384, .f32⟩
  | .hbm, ⟨56, _⟩ => ⟨S4x2x16384x16384, .f32⟩
  | .hbm, ⟨57, _⟩ => ⟨S16384x16384, .f32⟩
  | .hbm, ⟨58, _⟩ => ⟨S1x1x16384x16384, .f32⟩
  | .hbm, ⟨59, _⟩ => ⟨S4x2x16384x16384, .f32⟩
  | .hbm, ⟨60, _⟩ => ⟨S4x2x16384x16384, .f32⟩
  | .hbm, ⟨61, _⟩ => ⟨S4x1x16384x16384, .f32⟩
  | .hbm, ⟨62, _⟩ => ⟨S4x16384x16384, .f32⟩
  | .hbm, ⟨63, _⟩ => ⟨S4x1x16384x16384, .f32⟩
  | .hbm, ⟨64, _⟩ => ⟨S4x16384x16384, .f32⟩
  | .hbm, ⟨65, _⟩ => ⟨S4x16384x16384, .f32⟩
  | .hbm, ⟨66, _⟩ => ⟨S4x16384x16384, .f32⟩
  | .hbm, ⟨67, _⟩ => ⟨S4x16384x16384, .f32⟩
  | .hbm, ⟨68, _⟩ => ⟨S4x16384x256, .f32⟩
  | .hbm, ⟨69, _⟩ => ⟨S16384x4x256, .f32⟩
  | .hbm, ⟨70, _⟩ => ⟨S16384x4x256, .f32⟩
  | .hbm, ⟨71, _⟩ => ⟨S_, .f32⟩
  | .hbm, ⟨72, _⟩ => ⟨S16384x4, .f32⟩
  | .hbm, ⟨73, _⟩ => ⟨S16384x4x1, .f32⟩
  | .hbm, ⟨74, _⟩ => ⟨S_, .f32⟩
  | .hbm, ⟨75, _⟩ => ⟨S16384x4x1, .f32⟩
  | .hbm, ⟨76, _⟩ => ⟨S16384x4x1, .f32⟩
  | .hbm, ⟨77, _⟩ => ⟨S_, .f32⟩
  | .hbm, ⟨78, _⟩ => ⟨S16384x4x1, .f32⟩
  | .hbm, ⟨79, _⟩ => ⟨S16384x4x1, .f32⟩
  | .hbm, ⟨80, _⟩ => ⟨S16384x4x1, .f32⟩
  | .hbm, ⟨81, _⟩ => ⟨S16384x4x256, .f32⟩
  | .hbm, ⟨82, _⟩ => ⟨S16384x4x256, .f32⟩
  | .hbm, ⟨83, _⟩ => ⟨S1x1x256, .f32⟩
  | .hbm, ⟨84, _⟩ => ⟨S16384x4x256, .f32⟩
  | .hbm, ⟨85, _⟩ => ⟨S16384x4x256, .f32⟩
  | .hbm, ⟨86, _⟩ => ⟨S_, .f32⟩
  | .hbm, ⟨87, _⟩ => ⟨S16384x4x256, .f32⟩
  | .hbm, ⟨88, _⟩ => ⟨S16384x4x256, .f32⟩
  | .hbm, ⟨89, _⟩ => ⟨S16384x1024, .f32⟩
  | .hbm, ⟨90, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Ffn.lean ====
abbrev S16384x2048 : Shape := ⟨2, ![16384, 2048]⟩
abbrev S2x2048x11264 : Shape := ⟨3, ![2, 2048, 11264]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S16384x2048 : Shape := ⟨2, ![16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x2048, .f32⟩
  | .hbm, ⟨3, _⟩ => ⟨S1x2048x11264, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Res.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2x5632x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResRefIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S_ : Shape := ⟨0, ![]⟩
abbrev S1x5632x2048 : Shape := ⟨3, ![1, 5632, 2048]⟩
abbrev S5632x2048 : Shape := ⟨2, ![5632, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x5632, .f32⟩
  | .hbm, ⟨9, _⟩ => ⟨S1x5632x2048, .f32⟩
  | .hbm, ⟨10, _⟩ => ⟨S5632x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proj.lean ====
abbrev S16384x2048 : Shape := ⟨2, ![16384, 2048]⟩
abbrev S1x2048x6144 : Shape := ⟨3, ![1, 2048, 6144]⟩
abbrev S16384x6144 : Shape := ⟨2, ![16384, 6144]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x2048 : Shape := ⟨2, ![16384, 2048]⟩
abbrev S1x2048x6144 : Shape := ⟨3, ![1, 2048, 6144]⟩
abbrev S2048x6144 : Shape := ⟨2, ![2048, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6144, .f32⟩
  | .hbm, ⟨2, _⟩ => ⟨S16384x2048, .f32⟩
  | .hbm, ⟨3, _⟩ => ⟨S2048x6144, .f32⟩
  | .hbm, ⟨4, _⟩ => ⟨S16384x6144, .f32⟩
  | .hbm, ⟨5, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mix.lean ====
abbrev S16384x1024 : Shape := ⟨2, ![16384, 1024]⟩
abbrev S1x2048x2048 : Shape := ⟨3, ![1, 2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S1x2048x2048, .bf16⟩
  | .hbm, ⟨7, _⟩ => ⟨S1x2048, .f32⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S16384x1024 : Shape := ⟨2, ![16384, 1024]⟩
abbrev S1x2048x2048 : Shape := ⟨3, ![1, 2048, 2048]⟩
abbrev S16384x2048 : Shape := ⟨2, ![16384, 2048]⟩
abbrev S2048 : Shape := ⟨1, ![2048]⟩
abbrev S_ : Shape := ⟨0, ![]⟩
abbrev S2048x2048 : Shape := ⟨2, ![2048, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .bf16⟩
  | .hbm, ⟨10, _⟩ => ⟨S16384x2048, .f32⟩
  | .hbm, ⟨11, _⟩ => ⟨S2048x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== HgrnIn.lean ====
abbrev S16384x2048 : Shape := ⟨2, ![16384, 2048]⟩
abbrev S1x2048x6680 : Shape := ⟨3, ![1, 2048, 6680]⟩
abbrev S16384x4096 : Shape := ⟨2, ![16384, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnInRefIdeal.lean ====
abbrev S16384x2048 : Shape := ⟨2, ![16384, 2048]⟩
abbrev S1x2048x6680 : Shape := ⟨3, ![1, 2048, 6680]⟩
abbrev S2048x6680 : Shape := ⟨2, ![2048, 6680]⟩
abbrev S16384x6680 : Shape := ⟨2, ![16384, 6680]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S16384x2048, .f32⟩
  | .hbm, ⟨3, _⟩ => ⟨S2048x6680, .f32⟩
  | .hbm, ⟨4, _⟩ => ⟨S16384x6680, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NsaIn.lean ====
abbrev S16384x2048 : Shape := ⟨2, ![16384, 2048]⟩
abbrev S1x2048x6680 : Shape := ⟨3, ![1, 2048, 6680]⟩
abbrev S16384x2560 : Shape := ⟨2, ![16384, 2560]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S16384x2560, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaInRefIdeal.lean ====
abbrev S16384x2048 : Shape := ⟨2, ![16384, 2048]⟩
abbrev S1x2048x6680 : Shape := ⟨3, ![1, 2048, 6680]⟩
abbrev S2048x6680 : Shape := ⟨2, ![2048, 6680]⟩
abbrev S16384x6680 : Shape := ⟨2, ![16384, 6680]⟩
abbrev S16384x2560 : Shape := ⟨2, ![16384, 2560]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S16384x2048, .f32⟩
  | .hbm, ⟨3, _⟩ => ⟨S2048x6680, .f32⟩
  | .hbm, ⟨4, _⟩ => ⟨S16384x6680, .f32⟩
  | .hbm, ⟨5, _⟩ => ⟨S16384x2560, .f32⟩
  | .hbm, ⟨6, _⟩ => ⟨S16384x2560, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Win.lean ====
abbrev S16384x2560 : Shape := ⟨2, ![16384, 2560]⟩
abbrev S16384x1024 : Shape := ⟨2, ![16384, 1024]⟩
abbrev S16384x256 : Shape := ⟨2, ![16384, 256]⟩
abbrev S512x512 : Shape := ⟨2, ![512, 512]⟩
abbrev S512x128 : Shape := ⟨2, ![512, 128]⟩
abbrev S2048x128 : Shape := ⟨2, ![2048, 128]⟩
abbrev S2048x1 : Shape := ⟨2, ![2048, 1]⟩
abbrev S1x512 : Shape := ⟨2, ![1, 512]⟩
abbrev S2048x512 : Shape := ⟨2, ![2048, 512]⟩
abbrev S2048 : Shape := ⟨1, ![2048]⟩
abbrev S512x1 : Shape := ⟨2, ![512, 1]⟩

abbrev nBuf : Space → Nat
  | .hbm => 5
  | .vmem => 19
  | .smem => 0
  | _ => 0

abbrev bufTy : (tb : Table) → Fin (tcTables nBuf tb) → BufTy
  | .hbm, ⟨0, _⟩ => ⟨S16384x2560, .bf16⟩
  | .hbm, ⟨1, _⟩ => ⟨S16384x1024, .bf16⟩
  | .hbm, ⟨2, _⟩ => ⟨S16384x1024, .bf16⟩
  | .hbm, ⟨3, _⟩ => ⟨S16384x256, .f32⟩
  | .hbm, ⟨4, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S2048x128, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c16_i32 : BitVec 32 := 16#32
  let v2 : BitVec 32 := Scalar.addi c16_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c18_i32 : BitVec 32 := 18#32
  let v2 : BitVec 32 := Scalar.addi c18_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WinIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== WinRefIdeal.lean ====
abbrev S16384x2560 : Shape := ⟨2, ![16384, 2560]⟩
abbrev S16384x1024 : Shape := ⟨2, ![16384, 1024]⟩
abbrev S16384x256 : Shape := ⟨2, ![16384, 256]⟩
abbrev S16384x2x4x128 : Shape := ⟨4, ![16384, 2, 4, 128]⟩
abbrev S2x4x16384x128 : Shape := ⟨4, ![2, 4, 16384, 128]⟩
abbrev S16384x2x128 : Shape := ⟨3, ![16384, 2, 128]⟩
abbrev S2x16384x128 : Shape := ⟨3, ![2, 16384, 128]⟩
abbrev S16384x2x12 : Shape := ⟨3, ![16384, 2, 12]⟩
abbrev S_ : Shape := ⟨0, ![]⟩
abbrev S16384x2x4x3 : Shape := ⟨4, ![16384, 2, 4, 3]⟩
abbrev S16384 : Shape := ⟨1, ![16384]⟩
abbrev S2x4x16384x16384 : Shape := ⟨4, ![2, 4, 16384, 16384]⟩
abbrev S1x16384 : Shape := ⟨2, ![1, 16384]⟩
abbrev S16384x1 : Shape := ⟨2, ![16384, 1]⟩
abbrev S16384x16384 : Shape := ⟨2, ![16384, 16384]⟩
abbrev S2x4x16384 : Shape := ⟨3, ![2, 4, 16384]⟩
abbrev S2x4x16384x1 : Shape := ⟨4, ![2, 4, 16384, 1]⟩
abbrev S1x1x16384x16384 : Shape := ⟨4, ![1, 1, 16384, 16384]⟩
abbrev S16384x2x4x1 : Shape := ⟨4, ![16384, 2, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S16384x1024, .bf16⟩
  | .hbm, ⟨2, _⟩ => ⟨S16384x1024, .bf16⟩
  | .hbm, ⟨3, _⟩ => ⟨S16384x256, .f32⟩
  | .hbm, ⟨4, _⟩ => ⟨S16384x2560, .f32⟩
  | .hbm, ⟨5, _⟩ => ⟨S16384x1024, .f32⟩
  | .hbm, ⟨6, _⟩ => ⟨S16384x2x4x128, .f32⟩
  | .hbm, ⟨7, _⟩ => ⟨S2x4x16384x128, .f32⟩
  | .hbm, ⟨8, _⟩ => ⟨S16384x256, .f32⟩
  | .hbm, ⟨9, _⟩ => ⟨S16384x2x128, .f32⟩
  | .hbm, ⟨10, _⟩ => ⟨S2x16384x128, .f32⟩
  | .hbm, ⟨11, _⟩ => ⟨S16384x256, .f32⟩
  | .hbm, ⟨12, _⟩ => ⟨S16384x2x128, .f32⟩
  | .hbm, ⟨13, _⟩ => ⟨S2x16384x128, .f32⟩
  | .hbm, ⟨14, _⟩ => ⟨S16384x2x128, .f32⟩
  | .hbm, ⟨15, _⟩ => ⟨S16384x2x12, .f32⟩
  | .hbm, ⟨16, _⟩ => ⟨S16384x2x12, .f32⟩
  | .hbm, ⟨17, _⟩ => ⟨S16384x2x12, .f32⟩
  | .hbm, ⟨18, _⟩ => ⟨S_, .f32⟩
  | .hbm, ⟨19, _⟩ => ⟨S16384x2x12, .f32⟩
  | .hbm, ⟨20, _⟩ => ⟨S16384x2x12, .f32⟩
  | .hbm, ⟨21, _⟩ => ⟨S_, .f32⟩
  | .hbm, ⟨22, _⟩ => ⟨S16384x2x12, .f32⟩
  | .hbm, ⟨23, _⟩ => ⟨S16384x2x12, .f32⟩
  | .hbm, ⟨24, _⟩ => ⟨S16384x2x4x3, .f32⟩
  | .hbm, ⟨25, _⟩ => ⟨S16384, .i32⟩
  | .hbm, ⟨26, _⟩ => ⟨S2x4x16384x16384, .f32⟩
  | .hbm, ⟨27, _⟩ => ⟨S_, .f32⟩
  | .hbm, ⟨28, _⟩ => ⟨S_, .f32⟩
  | .hbm, ⟨29, _⟩ => ⟨S2x4x16384x16384, .f32⟩
  | .hbm, ⟨30, _⟩ => ⟨S2x4x16384x16384, .f32⟩
  | .hbm, ⟨31, _⟩ => ⟨S1x16384, .i32⟩
  | .hbm, ⟨32, _⟩ => ⟨S16384x1, .i32⟩
  | .hbm, ⟨33, _⟩ => ⟨S16384x16384, .i32⟩
  | .hbm, ⟨34, _⟩ => ⟨S16384x16384, .i32⟩
  | .hbm, ⟨35, _⟩ => ⟨S16384x16384, .i1⟩
  | .hbm, ⟨36, _⟩ => ⟨S1x16384, .i32⟩
  | .hbm, ⟨37, _⟩ => ⟨S16384x1, .i32⟩
  | .hbm, ⟨38, _⟩ => ⟨S_, .i32⟩
  | .hbm, ⟨39, _⟩ => ⟨S16384x1, .i32⟩
  | .hbm, ⟨40, _⟩ => ⟨S16384x1, .i32⟩
  | .hbm, ⟨41, _⟩ => ⟨S16384x16384, .i32⟩
  | .hbm, ⟨42, _⟩ => ⟨S16384x16384, .i32⟩
  | .hbm, ⟨43, _⟩ => ⟨S16384x16384, .i1⟩
  | .hbm, ⟨44, _⟩ => ⟨S16384x16384, .i1⟩
  | .hbm, ⟨45, _⟩ => ⟨S_, .f32⟩
  | .hbm, ⟨46, _⟩ => ⟨S_, .f32⟩
  | .hbm, ⟨47, _⟩ => ⟨S2x4x16384x16384, .i1⟩
  | .hbm, ⟨48, _⟩ => ⟨S2x4x16384x16384, .f32⟩
  | .hbm, ⟨49, _⟩ => ⟨S2x4x16384x16384, .f32⟩
  | .hbm, ⟨50, _⟩ => ⟨S_, .f32⟩
  | .hbm, ⟨51, _⟩ => ⟨S2x4x16384, .f32⟩
  | .hbm, ⟨52, _⟩ => ⟨S_, .f32⟩
  | .hbm, ⟨53, _⟩ => ⟨S2x4x16384, .f32⟩
  | .hbm, ⟨54, _⟩ => ⟨S2x4x16384, .f32⟩
  | .hbm, ⟨55, _⟩ => ⟨S2x4x16384x1, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S_, .f32⟩
  | .hbm, ⟨60, _⟩ => ⟨S2x4x16384, .f32⟩
  | .hbm, ⟨61, _⟩ => ⟨S2x4x16384x1, .f32⟩
  | .hbm, ⟨62, _⟩ => ⟨S2x4x16384x16384, .f32⟩
  | .hbm, ⟨63, _⟩ => ⟨S2x4x16384x16384, .f32⟩
  | .hbm, ⟨64, _⟩ => ⟨S16384x16384, .f32⟩
  | .hbm, ⟨65, _⟩ => ⟨S1x1x16384x16384, .f32⟩
  | .hbm, ⟨66, _⟩ => ⟨S2x4x16384x16384, .f32⟩
  | .hbm, ⟨67, _⟩ => ⟨S2x4x16384x16384, .f32⟩
  | .hbm, ⟨68, _⟩ => ⟨S2x4x16384x128, .f32⟩
  | .hbm, ⟨69, _⟩ => ⟨S16384x2x4x128, .f32⟩
  | .hbm, ⟨70, _⟩ => ⟨S16384x1024, .f32⟩
  | .hbm, ⟨71, _⟩ => ⟨S16384x2x4x128, .f32⟩
  | .hbm, ⟨72, _⟩ => ⟨S16384x1024, .f32⟩
  | .hbm, ⟨73, _⟩ => ⟨S16384x2x4x128, .f32⟩
  | .hbm, ⟨74, _⟩ => ⟨S16384x2x4x1, .f32⟩
  | .hbm, ⟨75, _⟩ => ⟨S16384x2x4x128, .f32⟩
  | .hbm, ⟨76, _⟩ => ⟨S16384x2x4x128, .f32⟩
  | .hbm, ⟨77, _⟩ => ⟨S16384x2x4x1, .f32⟩
  | .hbm, ⟨78, _⟩ => ⟨S16384x2x4x128, .f32⟩
  | .hbm, ⟨79, _⟩ => ⟨S16384x2x4x128, .f32⟩
  | .hbm, ⟨80, _⟩ => ⟨S16384x2x4x128, .f32⟩
  | .hbm, ⟨81, _⟩ => ⟨S16384x2x4x1, .f32⟩
  | .hbm, ⟨82, _⟩ => ⟨S16384x2x4x128, .f32⟩
  | .hbm, ⟨83, _⟩ => ⟨S16384x2x4x128, .f32⟩
  | .hbm, ⟨84, _⟩ => ⟨S16384x2x4x128, .f32⟩
  | .hbm, ⟨85, _⟩ => ⟨S16384x1024, .f32⟩
  | .hbm, ⟨86, _⟩ => ⟨S16384x1024, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩

abbrev nD : Nat := 1
abbrev τ : Topo := Topo.v7x

variable {F : FTy → Type} [FloatOps F]
-- ==== Gate.lean ====
abbrev S16384x2048 : Shape := ⟨2, ![16384, 2048]⟩
abbrev S1x2048x6680 : Shape := ⟨3, ![1, 2048, 6680]⟩
abbrev S1x2048x24 : Shape := ⟨3, ![1, 2048, 24]⟩
abbrev S2048x24 : Shape := ⟨2, ![2048, 24]⟩
abbrev S2048x2x12 : Shape := ⟨3, ![2048, 2, 12]⟩
abbrev S_ : Shape := ⟨0, ![]⟩
abbrev S2048x2x128 : Shape := ⟨3, ![2048, 2, 128]⟩
abbrev S2048x256 : Shape := ⟨2, ![2048, 256]⟩
abbrev S1x2048x256 : Shape := ⟨3, ![1, 2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 11
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S1x2048x24, .f32⟩
  | .hbm, ⟨3, _⟩ => ⟨S2048x24, .f32⟩
  | .hbm, ⟨4, _⟩ => ⟨S2048x2x12, .f32⟩
  | .hbm, ⟨5, _⟩ => ⟨S_, .i32⟩
  | .hbm, ⟨6, _⟩ => ⟨S_, .f32⟩
  | .hbm, ⟨7, _⟩ => ⟨S2048x2x128, .f32⟩
  | .hbm, ⟨8, _⟩ => ⟨S2048x256, .f32⟩
  | .hbm, ⟨9, _⟩ => ⟨S1x2048x256, .f32⟩
  | .hbm, ⟨10, _⟩ => ⟨S16384x256, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16384x2048 : Shape := ⟨2, ![16384, 2048]⟩
abbrev S1x2048x6680 : Shape := ⟨3, ![1, 2048, 6680]⟩
abbrev S2048x6680 : Shape := ⟨2, ![2048, 6680]⟩
abbrev S16384x6680 : Shape := ⟨2, ![16384, 6680]⟩
abbrev S16384x24 : Shape := ⟨2, ![16384, 24]⟩
abbrev S16384x2x12 : Shape := ⟨3, ![16384, 2, 12]⟩
abbrev S_ : Shape := ⟨0, ![]⟩
abbrev S16384x2x128 : Shape := ⟨3, ![16384, 2, 128]⟩
abbrev S16384x256 : Shape := ⟨2, ![16384, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x6680, .f32⟩
  | .hbm, ⟨2, _⟩ => ⟨S16384x2048, .f32⟩
  | .hbm, ⟨3, _⟩ => ⟨S2048x6680, .f32⟩
  | .hbm, ⟨4, _⟩ => ⟨S16384x6680, .f32⟩
  | .hbm, ⟨5, _⟩ => ⟨S16384x24, .f32⟩
  | .hbm, ⟨6, _⟩ => ⟨S16384x2x12, .f32⟩
  | .hbm, ⟨7, _⟩ => ⟨S_, .i32⟩
  | .hbm, ⟨8, _⟩ => ⟨S_, .f32⟩
  | .hbm, ⟨9, _⟩ => ⟨S16384x2x128, .f32⟩
  | .hbm, ⟨10, _⟩ => ⟨S16384x256, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Cmp.lean ====
abbrev S16384x2560 : Shape := ⟨2, ![16384, 2560]⟩
abbrev S32x128 : Shape := ⟨2, ![32, 128]⟩
abbrev S4096x128 : Shape := ⟨2, ![4096, 128]⟩
abbrev S128x128 : Shape := ⟨2, ![128, 128]⟩
abbrev S16384x256 : Shape := ⟨2, ![16384, 256]⟩
abbrev S16384x2x128 : Shape := ⟨3, ![16384, 2, 128]⟩
abbrev S2x16384x128 : Shape := ⟨3, ![2, 16384, 128]⟩
abbrev S2x1024x2048 : Shape := ⟨3, ![2, 1024, 2048]⟩
abbrev S1x2x1024x2048 : Shape := ⟨4, ![1, 2, 1024, 2048]⟩
abbrev S2x2x1024x2048 : Shape := ⟨4, ![2, 2, 1024, 2048]⟩
abbrev S1x32x128 : Shape := ⟨3, ![1, 32, 128]⟩
abbrev S2x32x128 : Shape := ⟨3, ![2, 32, 128]⟩
abbrev S2x1x4096 : Shape := ⟨3, ![2, 1, 4096]⟩
abbrev S1x4096x128 : Shape := ⟨3, ![1, 4096, 128]⟩
abbrev S2x4096x128 : Shape := ⟨3, ![2, 4096, 128]⟩
abbrev S1x128x128 : Shape := ⟨3, ![1, 128, 128]⟩
abbrev S2x128x128 : Shape := ⟨3, ![2, 128, 128]⟩
abbrev S2x2x1024x128 : Shape := ⟨4, ![2, 2, 1024, 128]⟩
abbrev S1x1x1024x2048 : Shape := ⟨4, ![1, 1, 1024, 2048]⟩
abbrev S1x1x4096 : Shape := ⟨3, ![1, 1, 4096]⟩
abbrev S1x1x1024x128 : Shape := ⟨4, ![1, 1, 1024, 128]⟩
abbrev S1024x2048 : Shape := ⟨2, ![1024, 2048]⟩
abbrev S1x2048x128 : Shape := ⟨3, ![1, 2048, 128]⟩
abbrev S2048x128 : Shape := ⟨2, ![2048, 128]⟩
abbrev S1024x128 : Shape := ⟨2, ![1024, 128]⟩
abbrev S1x4096 : Shape := ⟨2, ![1, 4096]⟩
abbrev S8x4096 : Shape := ⟨2, ![8, 4096]⟩
abbrev S8x128 : Shape := ⟨2, ![8, 128]⟩
abbrev S1x128 : Shape := ⟨2, ![1, 128]⟩

abbrev nBuf : Space → Nat
  | .hbm => 32
  | .vmem => 10
  | .smem => 0
  | _ => 0

abbrev bufTy : (tb : Table) → Fin (tcTables nBuf tb) → BufTy
  | .hbm, ⟨0, _⟩ => ⟨S16384x2560, .bf16⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S16384x256, .bf16⟩
  | .hbm, ⟨8, _⟩ => ⟨S16384x2x128, .bf16⟩
  | .hbm, ⟨9, _⟩ => ⟨S2x16384x128, .bf16⟩
  | .hbm, ⟨10, _⟩ => ⟨S2x1024x2048, .bf16⟩
  | .hbm, ⟨11, _⟩ => ⟨S16384x256, .bf16⟩
  | .hbm, ⟨12, _⟩ => ⟨S16384x2x128, .bf16⟩
  | .hbm, ⟨13, _⟩ => ⟨S2x16384x128, .bf16⟩
  | .hbm, ⟨14, _⟩ => ⟨S2x1024x2048, .bf16⟩
  | .hbm, ⟨15, _⟩ => ⟨S1x2x1024x2048, .bf16⟩
  | .hbm, ⟨16, _⟩ => ⟨S1x2x1024x2048, .bf16⟩
  | .hbm, ⟨17, _⟩ => ⟨S2x2x1024x2048, .bf16⟩
  | .hbm, ⟨18, _⟩ => ⟨S1x32x128, .f32⟩
  | .hbm, ⟨19, _⟩ => ⟨S1x32x128, .f32⟩
  | .hbm, ⟨20, _⟩ => ⟨S2x32x128, .f32⟩
  | .hbm, ⟨21, _⟩ => ⟨S2x1x4096, .f32⟩
  | .hbm, ⟨22, _⟩ => ⟨S2x1x4096, .bf16⟩
  | .hbm, ⟨23, _⟩ => ⟨S1x4096x128, .f32⟩
  | .hbm, ⟨24, _⟩ => ⟨S1x4096x128, .f32⟩
  | .hbm, ⟨25, _⟩ => ⟨S2x4096x128, .f32⟩
  | .hbm, ⟨26, _⟩ => ⟨S2x4096x128, .bf16⟩
  | .hbm, ⟨27, _⟩ => ⟨S1x128x128, .f32⟩
  | .hbm, ⟨28, _⟩ => ⟨S1x128x128, .f32⟩
  | .hbm, ⟨29, _⟩ => ⟨S2x128x128, .f32⟩
  | .hbm, ⟨30, _⟩ => ⟨S2x128x128, .bf16⟩
  | .hbm, ⟨31, _⟩ => ⟨S2x2x1024x128, .bf16⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x1x4096, .bf16⟩
  | .local _ .vmem, ⟨3, _⟩ => ⟨S1x1x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x1024x128, .bf16⟩
  | .local _ .vmem, ⟨9, _⟩ => ⟨S1x1x1024x128, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CmpRefIdeal.lean ====
abbrev S16384x2560 : Shape := ⟨2, ![16384, 2560]⟩
abbrev S32x128 : Shape := ⟨2, ![32, 128]⟩
abbrev S4096x128 : Shape := ⟨2, ![4096, 128]⟩
abbrev S128x128 : Shape := ⟨2, ![128, 128]⟩
abbrev S16384x256 : Shape := ⟨2, ![16384, 256]⟩
abbrev S1024x16x2x128 : Shape := ⟨4, ![1024, 16, 2, 128]⟩
abbrev S1023x16x2x128 : Shape := ⟨4, ![1023, 16, 2, 128]⟩
abbrev S1x16x2x128 : Shape := ⟨4, ![1, 16, 2, 128]⟩
abbrev S1024x32x2x128 : Shape := ⟨4, ![1024, 32, 2, 128]⟩
abbrev S2x1024x32x128 : Shape := ⟨4, ![2, 1024, 32, 128]⟩
abbrev S1x1x32x128 : Shape := ⟨4, ![1, 1, 32, 128]⟩
abbrev S2x1024x4096 : Shape := ⟨3, ![2, 1024, 4096]⟩
abbrev S2x1024x128 : Shape := ⟨3, ![2, 1024, 128]⟩
abbrev S_ : Shape := ⟨0, ![]⟩
abbrev S1x2x1024x128 : Shape := ⟨4, ![1, 2, 1024, 128]⟩
abbrev S2x2x1024x128 : Shape := ⟨4, ![2, 2, 1024, 128]⟩

abbrev nBuf : Space → Nat
  | .hbm => 56
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S32x128, .f32⟩
  | .hbm, ⟨2, _⟩ => ⟨S4096x128, .f32⟩
  | .hbm, ⟨3, _⟩ => ⟨S128x128, .f32⟩
  | .hbm, ⟨4, _⟩ => ⟨S32x128, .f32⟩
  | .hbm, ⟨5, _⟩ => ⟨S4096x128, .f32⟩
  | .hbm, ⟨6, _⟩ => ⟨S128x128, .f32⟩
  | .hbm, ⟨7, _⟩ => ⟨S16384x2560, .f32⟩
  | .hbm, ⟨8, _⟩ => ⟨S16384x256, .f32⟩
  | .hbm, ⟨9, _⟩ => ⟨S1024x16x2x128, .f32⟩
  | .hbm, ⟨10, _⟩ => ⟨S1023x16x2x128, .f32⟩
  | .hbm, ⟨11, _⟩ => ⟨S1x16x2x128, .f32⟩
  | .hbm, ⟨12, _⟩ => ⟨S1024x16x2x128, .f32⟩
  | .hbm, ⟨13, _⟩ => ⟨S1024x32x2x128, .f32⟩
  | .hbm, ⟨14, _⟩ => ⟨S2x1024x32x128, .f32⟩
  | .hbm, ⟨15, _⟩ => ⟨S1x1x32x128, .f32⟩
  | .hbm, ⟨16, _⟩ => ⟨S2x1024x32x128, .f32⟩
  | .hbm, ⟨17, _⟩ => ⟨S2x1024x32x128, .f32⟩
  | .hbm, ⟨18, _⟩ => ⟨S2x1024x4096, .f32⟩
  | .hbm, ⟨19, _⟩ => ⟨S2x1024x128, .f32⟩
  | .hbm, ⟨20, _⟩ => ⟨S2x1024x128, .f32⟩
  | .hbm, ⟨21, _⟩ => ⟨S2x1024x128, .f32⟩
  | .hbm, ⟨22, _⟩ => ⟨S_, .f32⟩
  | .hbm, ⟨23, _⟩ => ⟨S2x1024x128, .f32⟩
  | .hbm, ⟨24, _⟩ => ⟨S2x1024x128, .f32⟩
  | .hbm, ⟨25, _⟩ => ⟨S_, .f32⟩
  | .hbm, ⟨26, _⟩ => ⟨S2x1024x128, .f32⟩
  | .hbm, ⟨27, _⟩ => ⟨S2x1024x128, .f32⟩
  | .hbm, ⟨28, _⟩ => ⟨S2x1024x128, .f32⟩
  | .hbm, ⟨29, _⟩ => ⟨S2x1024x128, .f32⟩
  | .hbm, ⟨30, _⟩ => ⟨S16384x256, .f32⟩
  | .hbm, ⟨31, _⟩ => ⟨S1024x16x2x128, .f32⟩
  | .hbm, ⟨32, _⟩ => ⟨S1023x16x2x128, .f32⟩
  | .hbm, ⟨33, _⟩ => ⟨S1x16x2x128, .f32⟩
  | .hbm, ⟨34, _⟩ => ⟨S1024x16x2x128, .f32⟩
  | .hbm, ⟨35, _⟩ => ⟨S1024x32x2x128, .f32⟩
  | .hbm, ⟨36, _⟩ => ⟨S2x1024x32x128, .f32⟩
  | .hbm, ⟨37, _⟩ => ⟨S1x1x32x128, .f32⟩
  | .hbm, ⟨38, _⟩ => ⟨S2x1024x32x128, .f32⟩
  | .hbm, ⟨39, _⟩ => ⟨S2x1024x32x128, .f32⟩
  | .hbm, ⟨40, _⟩ => ⟨S2x1024x4096, .f32⟩
  | .hbm, ⟨41, _⟩ => ⟨S2x1024x128, .f32⟩
  | .hbm, ⟨42, _⟩ => ⟨S2x1024x128, .f32⟩
  | .hbm, ⟨43, _⟩ => ⟨S2x1024x128, .f32⟩
  | .hbm, ⟨44, _⟩ => ⟨S_, .f32⟩
  | .hbm, ⟨45, _⟩ => ⟨S2x1024x128, .f32⟩
  | .hbm, ⟨46, _⟩ => ⟨S2x1024x128, .f32⟩
  | .hbm, ⟨47, _⟩ => ⟨S_, .f32⟩
  | .hbm, ⟨48, _⟩ => ⟨S2x1024x128, .f32⟩
  | .hbm, ⟨49, _⟩ => ⟨S2x1024x128, .f32⟩
  | .hbm, ⟨50, _⟩ => ⟨S2x1024x128, .f32⟩
  | .hbm, ⟨51, _⟩ => ⟨S2x1024x128, .f32⟩
  | .hbm, ⟨52, _⟩ => ⟨S1x2x1024x128, .f32⟩
  | .hbm, ⟨53, _⟩ => ⟨S1x2x1024x128, .f32⟩
  | .hbm, ⟨54, _⟩ => ⟨S2x2x1024x128, .f32⟩
  | .hbm, ⟨55, _⟩ => ⟨S2x2x1024x128, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kmean.lean ====
abbrev S16384x6144 : Shape := ⟨2, ![16384, 6144]⟩
abbrev S64x1024 : Shape := ⟨2, ![64, 1024]⟩
abbrev S2048x1024 : Shape := ⟨2, ![2048, 1024]⟩
abbrev S8x1024 : Shape := ⟨2, ![8, 1024]⟩
abbrev S8x256x1024 : Shape := ⟨3, ![8, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S16384x6144, .bf16⟩
  | .hbm, ⟨1, _⟩ => ⟨S64x1024, .f32⟩
  | .local _ .vmem, ⟨0, _⟩ => ⟨S2048x1024, .bf16⟩
  | .local _ .vmem, ⟨1, _⟩ => ⟨S2048x1024, .bf16⟩
  | .local _ .vmem, ⟨2, _⟩ => ⟨S8x1024, .f32⟩
  | .local _ .vmem, ⟨3, _⟩ => ⟨S8x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KmeanRefIdeal.lean ====
abbrev S16384x6144 : Shape := ⟨2, ![16384, 6144]⟩
abbrev S16384x1024 : Shape := ⟨2, ![16384, 1024]⟩
abbrev S64x256x8x128 : Shape := ⟨4, ![64, 256, 8, 128]⟩
abbrev S8x64x256x128 : Shape := ⟨4, ![8, 64, 256, 128]⟩
abbrev S_ : Shape := ⟨0, ![]⟩
abbrev S8x64x128 : Shape := ⟨3, ![8, 64, 128]⟩
abbrev S64x8x128 : Shape := ⟨3, ![64, 8, 128]⟩
abbrev S64x1024 : Shape := ⟨2, ![64, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S64x256x8x128, .bf16⟩
  | .hbm, ⟨3, _⟩ => ⟨S8x64x256x128, .bf16⟩
  | .hbm, ⟨4, _⟩ => ⟨S8x64x256x128, .f32⟩
  | .hbm, ⟨5, _⟩ => ⟨S_, .f32⟩
  | .hbm, ⟨6, _⟩ => ⟨S8x64x128, .f32⟩
  | .hbm, ⟨7, _⟩ => ⟨S_, .f32⟩
  | .hbm, ⟨8, _⟩ => ⟨S8x64x128, .f32⟩
  | .hbm, ⟨9, _⟩ => ⟨S8x64x128, .f32⟩
  | .hbm, ⟨10, _⟩ => ⟨S64x8x128, .f32⟩
  | .hbm, ⟨11, _⟩ => ⟨S64x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.IdealBody.lean ====
module

public import proofs.«01_k».proof.Proof.Gen.KernelIdeal.Loops
public import proofs.«01_k».proof.Proof.Gen.KernelIdeal.Frame

/-! The body of the attention kernel, run once at a symbolic grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option maxHeartbeats 4000000 in
/-- One grid point's body, run from any contents of the output block and of the five scratch
    buffers: the eight input blocks come back unchanged, the scratch buffers come back at some
    contents, and the output block ends with the pieces `L` written over what it held. The pieces
    are what the run finds, as functions of the scratch contents at entry. -/
@[irreducible] def bodyRun (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) :
    { L : BufTy.Contents (Elt F) arg11.view.ty → BufTy.Contents (Elt F) arg12.view.ty → BufTy.Contents (Elt F) arg13.view.ty → BufTy.Contents (Elt F) arg14.view.ty → BufTy.Contents (Elt F) arg15.view.ty → List (View.Piece (Elt F) S1024x256 .bf16) //
      ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp (MT nD τ sig Unit (Elt F) ℕ (UR sig nD τ) ℕ))
      ⊢ wp frame (wpE (defs₀ (F := F)) Variants.none (c : Thread nD τ) none) E (cc0__diff_kernel (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} (arg10.view.writes (Elt F) f10 (L f11 f12 f13 f14 f15))) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)))) } := by
  refine ⟨?_, fun E f10 f11 f12 f13 f14 f15 => ?run⟩
  case run =>
    simp only [cc0__diff_kernel_eq_skeleton]; unfold cc0__diff_kernel_skel
    simp only [k0_part21_eq_skeleton, k0_part22_eq_skeleton, k0_part23_eq_skeleton, k0_part24_eq_skeleton, k0_part25_eq_skeleton, k0_part26_eq_skeleton, k0_part27_eq_skeleton, k0_part28_eq_skeleton]
    iintro ⟨H2, H3, H4, H5, H6, H7, H8, H9, H10, H11, H12, H13, H14, H15⟩
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · sl_close
    isplitl [H11]; · iexists _; iexact H11
    isplitl [H12]; · iexists _; iexact H12
    isplitl [H13]; · iexists _; iexact H13
    isplitl [H14]; · iexists _; iexact H14
    iexists _; iexact H15

end Cert.KernelIdeal.Gen

end
-- ==== Proof.IdealLaunch.lean ====
module

public import proofs.«01_k».proof.Proof.IdealBody
public import proofs.«01_k».proof.Proof.Gen.KernelIdeal.Launch
public import proofs.«01_k».proof.Proof.Gen.KernelIdeal.Points
public import Idealize.ShloMosaic.Lib.Pipeline.FrameBody
public import Idealize.ShloMosaic.Lib.Claim

/-! The launch of the attention kernel over its grid of four heads and sixteen query tiles: the
    proof data with the output block left as a parameter, and the run that says nothing of the
    output (every argument unchanged, every counter zero). -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one grid point's body leaves in the output block, from the eight input blocks and from
    whatever the output block and the scratch buffers held. -/
def bodyOut (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (x2 : Vec F S1024x256 .bf16) (x3 : Vec F S16384x256 .bf16) (x4 : Vec F S16384x256 .bf16) (x5 : Vec F S1x128 .f32) (x6 : Vec F S1x128 .f32) (x7 : Vec F S1x128 .f32) (x8 : Vec F S1x128 .f32) (x9 : Vec F S1x256 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) : Vec F S1024x256 .bf16 :=
  arg10.view.read (Elt F) (arg10.view.writes (Elt F) f10
    ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9)).1 f11 f12 f13 f14 f15))

set_option maxHeartbeats 4000000 in
/-- The body's triple over memrefs held whole. -/
theorem body_owns (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (x2 : Vec F S1024x256 .bf16) (x3 : Vec F S16384x256 .bf16) (x4 : Vec F S16384x256 .bf16) (x5 : Vec F S1x128 .f32) (x6 : Vec F S1x128 .f32) (x7 : Vec F S1x128 .f32) (x8 : Vec F S1x128 .f32) (x9 : Vec F S1x256 .f32) (E : Set ℕ) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) : sProp 𝕄)
      ⊢ wp frame (wpE (defs₀ (F := F)) Variants.none (c : Thread nD τ) none) E (cc0__diff_kernel (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f10 f11 f12 f13 f14 f15, owns (c : Thread nD τ) arg10 fullShare (bodyOut c i arg2 harg2 arg3 harg3 arg4 harg4 arg5 harg5 arg6 harg6 arg7 harg7 arg8 harg8 arg9 harg9 arg10 harg10 arg11 harg11 arg12 harg12 arg13 harg13 arg14 harg14 arg15 harg15 x2 x3 x4 x5 x6 x7 x8 x9 f10 f11 f12 f13 f14 f15)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))) := by
  unfold owns bodyOut
  iintro ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩
  obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9
  iapply (wp_wand_r frame (wpE (defs₀ (F := F)) Variants.none (c : Thread nD τ) none) E)
  isplitl [H2 H3 H4 H5 H6 H7 H8 H9 H10 H11 H12 H13 H14 H15]
  · iapply ((bodyRun (F := F) c i arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg5.unread x5) (harg6.unread x6) (harg7.unread x7) (harg8.unread x8) (harg9.unread x9)).2 E f10 f11 f12 f13 f14 f15)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %_ ⟨H2, H3, H4, H5, H6, H7, H8, H9, H10, H11, H12, H13, H14, H15⟩
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists f10, f11, f12, f13, f14, f15; iexists _; isplitr; swap; · iexact H10
    ipureintro; rfl
  isplitl [H11]
  · icases H11 with ⟨%g11, H11⟩
    iexists _, _; isplitr; swap; · iexact H11
    ipureintro; rfl
  isplitl [H12]
  · icases H12 with ⟨%g12, H12⟩
    iexists _, _; isplitr; swap; · iexact H12
    ipureintro; rfl
  isplitl [H13]
  · icases H13 with ⟨%g13, H13⟩
    iexists _, _; isplitr; swap; · iexact H13
    ipureintro; rfl
  isplitl [H14]
  · icases H14 with ⟨%g14, H14⟩
    iexists _, _; isplitr; swap; · iexact H14
    ipureintro; rfl
  icases H15 with ⟨%g15, H15⟩
  iexists _, _; isplitr; swap; · iexact H15
  ipureintro; rfl

variable (m : (ℓ : Loc nD τ sig) → Buf (Elt F) ℓ) (ρ : Dev nD → PrngReg)

/-- The block an output function names at each grid point. -/
abbrev OutBlocks (F : FTy → Type) : Type := Dev nD → (t : Fin cfg0.N) → ((cfg0.win 8).xblock (cfg0.grid.coords t)).Idx → Elt F (cfg0.win 8).elt

/-- The proof data: each input window at its block, the output window at `O`'s. -/
def datsOf (O : OutBlocks F) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => O c t
  Φ _ := Pipeline.ΦA spec0 c
  q w := Pipeline.shareOf spec0 w
  owed _ := 0

variable (O : OutBlocks F)

theorem datsOf_A (c : Dev nD) (w : Fin cfg0.W) : (datsOf m O 0 c).A w = V m c (Pipeline.arrRef spec0 w) := by
  dsimp only [datsOf]

theorem datsOf_after0 (c : Dev nD) (t : Fin cfg0.N) : (datsOf m O 0 c).after 0 t = iblk m c 0 t := by dsimp only [datsOf]
theorem datsOf_before0 (c : Dev nD) (t : Fin cfg0.N) (d) : (datsOf m O 0 c).before 0 t d = iblk m c 0 t :=
  before0_0_of m (datsOf m O 0 c) (datsOf_A m O c 0) (datsOf_after0 m O c) t d
theorem datsOf_after1 (c : Dev nD) (t : Fin cfg0.N) : (datsOf m O 0 c).after 1 t = iblk m c 1 t := by dsimp only [datsOf]
theorem datsOf_before1 (c : Dev nD) (t : Fin cfg0.N) (d) : (datsOf m O 0 c).before 1 t d = iblk m c 1 t :=
  before0_1_of m (datsOf m O 0 c) (datsOf_A m O c 1) (datsOf_after1 m O c) t d
theorem datsOf_after2 (c : Dev nD) (t : Fin cfg0.N) : (datsOf m O 0 c).after 2 t = iblk m c 2 t := by dsimp only [datsOf]
theorem datsOf_before2 (c : Dev nD) (t : Fin cfg0.N) (d) : (datsOf m O 0 c).before 2 t d = iblk m c 2 t :=
  before0_2_of m (datsOf m O 0 c) (datsOf_A m O c 2) (datsOf_after2 m O c) t d
theorem datsOf_after3 (c : Dev nD) (t : Fin cfg0.N) : (datsOf m O 0 c).after 3 t = iblk m c 3 t := by dsimp only [datsOf]
theorem datsOf_before3 (c : Dev nD) (t : Fin cfg0.N) (d) : (datsOf m O 0 c).before 3 t d = iblk m c 3 t :=
  before0_3_of m (datsOf m O 0 c) (datsOf_A m O c 3) (datsOf_after3 m O c) t d
theorem datsOf_after4 (c : Dev nD) (t : Fin cfg0.N) : (datsOf m O 0 c).after 4 t = iblk m c 4 t := by dsimp only [datsOf]
theorem datsOf_before4 (c : Dev nD) (t : Fin cfg0.N) (d) : (datsOf m O 0 c).before 4 t d = iblk m c 4 t :=
  before0_4_of m (datsOf m O 0 c) (datsOf_A m O c 4) (datsOf_after4 m O c) t d
theorem datsOf_after5 (c : Dev nD) (t : Fin cfg0.N) : (datsOf m O 0 c).after 5 t = iblk m c 5 t := by dsimp only [datsOf]
theorem datsOf_before5 (c : Dev nD) (t : Fin cfg0.N) (d) : (datsOf m O 0 c).before 5 t d = iblk m c 5 t :=
  before0_5_of m (datsOf m O 0 c) (datsOf_A m O c 5) (datsOf_after5 m O c) t d
theorem datsOf_after6 (c : Dev nD) (t : Fin cfg0.N) : (datsOf m O 0 c).after 6 t = iblk m c 6 t := by dsimp only [datsOf]
theorem datsOf_before6 (c : Dev nD) (t : Fin cfg0.N) (d) : (datsOf m O 0 c).before 6 t d = iblk m c 6 t :=
  before0_6_of m (datsOf m O 0 c) (datsOf_A m O c 6) (datsOf_after6 m O c) t d
theorem datsOf_after7 (c : Dev nD) (t : Fin cfg0.N) : (datsOf m O 0 c).after 7 t = iblk m c 7 t := by dsimp only [datsOf]
theorem datsOf_before7 (c : Dev nD) (t : Fin cfg0.N) (d) : (datsOf m O 0 c).before 7 t d = iblk m c 7 t :=
  before0_7_of m (datsOf m O 0 c) (datsOf_A m O c 7) (datsOf_after7 m O c) t d
theorem datsOf_after8 (c : Dev nD) (t : Fin cfg0.N) : (datsOf m O 0 c).after 8 t = O c t := by dsimp only [datsOf]

/-- The invariant between grid points: the five scratch buffers at some contents and the generator register. -/
theorem phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- The block a grid point's body leaves, from the blocks its input windows hold. -/
def outAt (c : Dev nD) (t : Fin cfg0.N) (f10 : BufTy.Contents (Elt F) (st0_8 t).view.ty)
    (f11 : BufTy.Contents (Elt F) (Memref.whole cc0_scratch0).view.ty) (f12 : BufTy.Contents (Elt F) (Memref.whole cc0_scratch1).view.ty) (f13 : BufTy.Contents (Elt F) (Memref.whole cc0_scratch2).view.ty) (f14 : BufTy.Contents (Elt F) (Memref.whole cc0_scratch3).view.ty) (f15 : BufTy.Contents (Elt F) (Memref.whole cc0_scratch4).view.ty) : Vec F S1024x256 .bf16 :=
  bodyOut (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (iblk m c 0 t) (iblk m c 1 t) (iblk m c 2 t) (iblk m c 3 t) (iblk m c 4 t) (iblk m c 5 t) (iblk m c 6 t) (iblk m c 7 t) f10 f11 f12 f13 f14 f15

/-- What the pipeline hands the body at point `t`. -/
def pointPre (c : Dev nD) (t : Fin cfg0.N) : sProp 𝕄 :=
  iprop((datsOf m O 0 c).Φ t.castSucc ∗ (datsOf m O 0 c).owesAt () t.castSucc
    ∗ (∃ d, owns (c : Thread nD τ) (st0_0 t) fullShare ((datsOf m O 0 c).before 0 t d)) ∗ (∃ d, owns (c : Thread nD τ) (st0_1 t) fullShare ((datsOf m O 0 c).before 1 t d)) ∗ (∃ d, owns (c : Thread nD τ) (st0_2 t) fullShare ((datsOf m O 0 c).before 2 t d)) ∗ (∃ d, owns (c : Thread nD τ) (st0_3 t) fullShare ((datsOf m O 0 c).before 3 t d)) ∗ (∃ d, owns (c : Thread nD τ) (st0_4 t) fullShare ((datsOf m O 0 c).before 4 t d)) ∗ (∃ d, owns (c : Thread nD τ) (st0_5 t) fullShare ((datsOf m O 0 c).before 5 t d)) ∗ (∃ d, owns (c : Thread nD τ) (st0_6 t) fullShare ((datsOf m O 0 c).before 6 t d)) ∗ (∃ d, owns (c : Thread nD τ) (st0_7 t) fullShare ((datsOf m O 0 c).before 7 t d))
    ∗ (∃ d, owns (c : Thread nD τ) (st0_8 t) fullShare d))

/-- What the body hands back at point `t`, the output block at something the body leaves. -/
def pointPost (c : Dev nD) (t : Fin cfg0.N) : sProp 𝕄 :=
  iprop((datsOf m O 0 c).Φ t.succ ∗ (datsOf m O 0 c).owesAt () t.succ
    ∗ owns (c : Thread nD τ) (st0_0 t) fullShare ((datsOf m O 0 c).after 0 t) ∗ owns (c : Thread nD τ) (st0_1 t) fullShare ((datsOf m O 0 c).after 1 t) ∗ owns (c : Thread nD τ) (st0_2 t) fullShare ((datsOf m O 0 c).after 2 t) ∗ owns (c : Thread nD τ) (st0_3 t) fullShare ((datsOf m O 0 c).after 3 t) ∗ owns (c : Thread nD τ) (st0_4 t) fullShare ((datsOf m O 0 c).after 4 t) ∗ owns (c : Thread nD τ) (st0_5 t) fullShare ((datsOf m O 0 c).after 5 t) ∗ owns (c : Thread nD τ) (st0_6 t) fullShare ((datsOf m O 0 c).after 6 t) ∗ owns (c : Thread nD τ) (st0_7 t) fullShare ((datsOf m O 0 c).after 7 t)
    ∗ (∃ f10 f11 f12 f13 f14 f15, owns (c : Thread nD τ) (st0_8 t) fullShare (outAt m c t f10 f11 f12 f13 f14 f15)))

set_option maxHeartbeats 1600000 in
theorem point_sound (c : Dev nD) (t : Fin cfg0.N) :
    pointPre m O c t ⊢ wp frame (wpE (defs₀ (F := F)) Variants.none c none) Set.univ (bodyAt0 t) (fun _ => pointPost m O c t) := by
  unfold pointPre pointPost bodyAt0
  simp only [datsOf_before0, datsOf_before1, datsOf_before2, datsOf_before3, datsOf_before4, datsOf_before5, datsOf_before6, datsOf_before7]
  rw [show (datsOf m O 0 c).Φ t.succ = (datsOf m O 0 c).Φ t.castSucc from rfl,
    show (datsOf m O 0 c).owesAt () t.succ = (datsOf m O 0 c).owesAt () t.castSucc from rfl,
    datsOf_after0, datsOf_after1, datsOf_after2, datsOf_after3, datsOf_after4, datsOf_after5, datsOf_after6, datsOf_after7]
  rw [show (datsOf m O 0 c).Φ t.castSucc = Pipeline.ΦA spec0 c from rfl, phi_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply (wp_wand_r frame (wpE (defs₀ (F := F)) Variants.none (c : Thread nD τ) none) Set.univ)
  isplitl [H0 H1 H2 H3 H4 H5 H6 H7 H8 HS0 HS1 HS2 HS3 HS4]
  · iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  iintro %_ ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the launch calls at point `t`. -/
theorem body_row (t : Fin cfg0.N) :
    defs₀ (F := F) .tc cfg0.body (cfg0.bodyArgs t (cfg0.slots t)) = bodyAt0 t := by
  unfold defs₀; rw [Defs.onTc_tc]

/-- Only the output window is left unnamed by the frame's run. -/
def outOnly : Fin 9 → Bool := fun w => w.val == 8

/-- The same triple with the output block at some contents. -/
theorem point_forget (c : Dev nD) (t : Fin cfg0.N) :
    pointPost m O c t ⊢ iprop((datsOf m O 0 c).Φ t.succ ∗ (datsOf m O 0 c).owesAt () t.succ
    ∗ owns (c : Thread nD τ) (st0_0 t) fullShare ((datsOf m O 0 c).after 0 t) ∗ owns (c : Thread nD τ) (st0_1 t) fullShare ((datsOf m O 0 c).after 1 t) ∗ owns (c : Thread nD τ) (st0_2 t) fullShare ((datsOf m O 0 c).after 2 t) ∗ owns (c : Thread nD τ) (st0_3 t) fullShare ((datsOf m O 0 c).after 3 t) ∗ owns (c : Thread nD τ) (st0_4 t) fullShare ((datsOf m O 0 c).after 4 t) ∗ owns (c : Thread nD τ) (st0_5 t) fullShare ((datsOf m O 0 c).after 5 t) ∗ owns (c : Thread nD τ) (st0_6 t) fullShare ((datsOf m O 0 c).after 6 t) ∗ owns (c : Thread nD τ) (st0_7 t) fullShare ((datsOf m O 0 c).after 7 t)
    ∗ (∃ d, owns (c : Thread nD τ) (st0_8 t) fullShare d)) := by
  unfold pointPost
  iintro ⟨HP, Ho, H0, H1, H2, H3, H4, H5, H6, H7, ⟨%f10, %f11, %f12, %f13, %f14, %f15, H8⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem obligation_forget (c : Dev nD) :
    BodyObligation (datsOf (F := F) m O 0 c) (defs₀ (F := F)) Variants.none () Set.univ outOnly := fun t => by
  rw [bigSep_W0, bigSep_W0, body_row]
  exact triple_restated (point_sound m O c t) rfl .rfl fun _ => point_forget m O c t

/-- The output function of the frame's run: no contents in particular. -/
def anyOut : OutBlocks F := fun _ t => Pipeline.Dat.unnamed (cfg := cfg0) 8 t

set_option backward.isDefEq.respectTransparency.types false in
/-- Launched from any memory, the program ends with every argument's array unchanged by the pipeline and every counter zero. -/
theorem run_forget : θ_run defs (onTc (τ := τ) (main (F := F))) (s₀ m ρ) (fun r => (Pipeline.RDat.FramePost (cfgs 0) (fun c => (datsOf m anyOut 0 c).toRForget outOnly) (V m)) r ∧ r.2.sem = fun _ => 0) :=
  Pipeline.θ_run_frame_forget_shared (Q' := _) cfgs (datsOf m anyOut) (0 : Fin 1) launch₀0 defs₀ Variants.none outOnly m ρ main
    (hbody := fun c => (obligation_forget m anyOut c).loose) (hq := fun _ _ _ => rfl)
    (howed := fun _ _ => rfl) (V := V m) (hmain := hmain m Variants.none) (hA := datsOf_A m anyOut) (hΦ := fun _ _ => rfl)

/-- The frame: the six arguments end as they began and the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun _ h => ⟨fun c =>
     ⟨(Pipeline.RDat.FramePost.arr_in h.1 c 2 rfl).trans ((datsOf_A m anyOut c 2).trans (V_main_arg0 m c)),
      ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run_forget m ρ)

end Cert.KernelIdeal.Gen

end
-- ==== Proof.Flash.lean ====
module

public import proofs.«01_k».proof.Proof.Gen.KernelIdeal.Skeleton

/-! The online softmax, one row at a time, over the reals.

A row has real scores `s k`, one per key `k`, and sees the keys `k ≤ b`. Reading the keys in tiles
of 512, the kernel keeps a running maximum, a running sum of the weights `2 ^ (s k - maximum)` and
the weighted sum of the value rows. `RowInv` says what the three hold after `n` keys: the two sums,
taken at whatever real number the maximum is. `row_step` is one tile. -/

@[expose] public section

set_option maxRecDepth 16384

noncomputable section

namespace Cert.Flash

open Idealize.ShloMosaic

/-- The sum of real numbers, taken in the extended reals. -/
theorem coe_sum_univ {ι : Type} [Fintype ι] (f : ι → ℝ) : (∑ i, (f i : EReal)) = ((∑ i, f i : ℝ) : EReal) := by
  classical
  refine Finset.induction_on (Finset.univ : Finset ι) (by simp) fun a t ha ih => ?_
  rw [Finset.sum_insert ha, Finset.sum_insert ha, ih, EReal.coe_add]

/-- The weight of key `k` of a row that sees the keys up to `b`, at the shift `x`. -/
def wt (s : ℕ → ℝ) (b : ℕ) (x : ℝ) (k : ℕ) : ℝ := if k ≤ b then Real.rpow 2 (s k - x) else 0

/-- Changing the shift from `x` to `y` multiplies every weight by `2 ^ (x - y)`. -/
theorem wt_shift (s : ℕ → ℝ) (b : ℕ) (x y : ℝ) (k : ℕ) : Real.rpow 2 (x - y) * wt s b x k = wt s b y k := by
  unfold wt
  split
  · show (2 : ℝ) ^ (x - y) * (2 : ℝ) ^ (s k - x) = (2 : ℝ) ^ (s k - y)
    rw [← Real.rpow_add (by norm_num)]
    congr 1; ring
  · exact mul_zero _

/-- What the running maximum `m`, the running sum `l` and the running weighted sum `a` of one row
    hold after `n` keys (the kernel keeps `m` and `l` in 128 equal columns). -/
def RowInv (s : ℕ → ℝ) (b : ℕ) (v : ℕ → ℕ → ℝ) (n : ℕ) (m l : Fin 128 → EReal) (a : Fin 256 → EReal) : Prop :=
  (n = 0 ∧ (∀ j, m j = ⊥) ∧ (∀ j, l j = 0) ∧ ∀ j, a j = 0) ∨
  ∃ x : ℝ, (∀ j, m j = (x : EReal)) ∧ (∀ j, l j = ((∑ k ∈ Finset.range n, wt s b x k : ℝ) : EReal)) ∧
    ∀ j, a j = ((∑ k ∈ Finset.range n, wt s b x k * v k j.val : ℝ) : EReal)

/-- The weight of a tile's key, as the kernel computes it from the tile's scores. -/
theorem exp2_tile (s : ℕ → ℝ) (b n : ℕ) (y : ℝ) (T : Fin 512 → EReal)
    (hT : ∀ c : Fin 512, T c = if n + c.val ≤ b then (s (n + c.val) : EReal) else ⊥) (c : Fin 512) :
    Ideal.exp2 (T c - (y : EReal)) = (wt s b y (n + c.val) : EReal) := by
  rw [hT, wt]
  split
  · rw [← EReal.coe_sub, Ideal.exp2_coe]
  · rw [EReal.bot_sub, Ideal.exp2_bot, EReal.coe_zero]

/-- The maximum of a tile whose first key, or some earlier one, is seen is a real number. -/
theorem max_real (s : ℕ → ℝ) (b n : ℕ) (T : Fin 512 → EReal)
    (hT : ∀ c : Fin 512, T c = if n + c.val ≤ b then (s (n + c.val) : EReal) else ⊥) (u : EReal)
    (hu : (n = 0 ∧ u = ⊥) ∨ ∃ x : ℝ, u = (x : EReal)) :
    ∃ y : ℝ, max u ((Finset.univ : Finset (Fin 512)).fold max ⊥ T) = (y : EReal) := by
  have htop : (Finset.univ : Finset (Fin 512)).fold max ⊥ T < ⊤ := by
    rw [Finset.fold_max_lt]
    refine ⟨bot_lt_top, fun c _ => ?_⟩
    rw [hT]
    split
    · exact EReal.coe_lt_top _
    · exact bot_lt_top
  have hmtop : max u ((Finset.univ : Finset (Fin 512)).fold max ⊥ T) ≠ ⊤ := by
    refine ne_of_lt (max_lt ?_ htop)
    rcases hu with ⟨_, h⟩ | ⟨x, h⟩
    · rw [h]; exact bot_lt_top
    · rw [h]; exact EReal.coe_lt_top _
  have hmbot : max u ((Finset.univ : Finset (Fin 512)).fold max ⊥ T) ≠ ⊥ := by
    refine ne_of_gt ?_
    rcases hu with ⟨h0, _⟩ | ⟨x, h⟩
    · refine lt_of_lt_of_le ?_ (le_max_right _ _)
      rw [Finset.lt_fold_max]
      refine Or.inr ⟨0, Finset.mem_univ _, ?_⟩
      rw [hT, if_pos (by subst h0; simp)]
      exact EReal.bot_lt_coe _
    · refine lt_of_lt_of_le ?_ (le_max_left _ _)
      rw [h]; exact EReal.bot_lt_coe _
  exact ⟨_, (EReal.coe_toReal hmtop hmbot).symm⟩

/-- A sum over the keys of the next tile, added to the sum over the keys before it. -/
theorem sum_tile (f : ℕ → ℝ) (n : ℕ) :
    (∑ k ∈ Finset.range n, f k) + ∑ c : Fin 512, f (n + c.val) = ∑ k ∈ Finset.range (n + 512), f k := by
  rw [Finset.sum_range_add, Fin.sum_univ_eq_sum_range (fun c => f (n + c)) 512]

/-- One tile of 512 keys: the new maximum, the rescaled sum plus the tile's weights, the rescaled
    weighted sum plus the tile's weighted values. -/
theorem row_step (s : ℕ → ℝ) (b : ℕ) (v : ℕ → ℕ → ℝ) (n : ℕ) (m l : Fin 128 → EReal) (a : Fin 256 → EReal)
    (h : RowInv s b v n m l a) (T : Fin 512 → EReal)
    (hT : ∀ c : Fin 512, T c = if n + c.val ≤ b then (s (n + c.val) : EReal) else ⊥)
    (V : Fin 512 → Fin 256 → EReal) (hV : ∀ c j, V c j = (v (n + c.val) j.val : EReal))
    (m' l' : Fin 128 → EReal) (a' : Fin 256 → EReal)
    (hm' : ∀ j, m' j = max (m j) ((Finset.univ : Finset (Fin 512)).fold max ⊥ T))
    (p : Fin 512 → EReal) (hp : ∀ c, ∃ j, p c = Ideal.exp2 (T c - m' j))
    (hl' : ∀ j, l' j = Ideal.exp2 (m j - m' j) * l j + ∑ c : Fin 512, p c)
    (ha' : ∀ j, ∃ j', a' j = Ideal.exp2 (m j' - m' j') * a j + ∑ c : Fin 512, p c * V c j) :
    RowInv s b v (n + 512) m' l' a' := by
  have hmax : ∃ y : ℝ, ∀ j, m' j = (y : EReal) := by
    rcases h with ⟨h0, hm, _, _⟩ | ⟨x, hm, _, _⟩
    · obtain ⟨y, hy⟩ := max_real s b n T hT ⊥ (.inl ⟨h0, rfl⟩)
      exact ⟨y, fun j => by rw [hm', hm, hy]⟩
    · obtain ⟨y, hy⟩ := max_real s b n T hT x (.inr ⟨x, rfl⟩)
      exact ⟨y, fun j => by rw [hm', hm, hy]⟩
  obtain ⟨y, hy⟩ := hmax
  have hp' : ∀ c, p c = (wt s b y (n + c.val) : EReal) := fun c => by
    obtain ⟨j, hj⟩ := hp c
    rw [hj, hy, exp2_tile s b n y T hT]
  refine .inr ⟨y, hy, fun j => ?_, fun j => ?_⟩
  · rw [hl', hy, Finset.sum_congr rfl fun c _ => hp' c, coe_sum_univ, ← sum_tile, EReal.coe_add]
    refine congrArg (· + _) ?_
    rcases h with ⟨h0, hm, hl, _⟩ | ⟨x, hm, hl, _⟩
    · rw [hm, hl, h0, mul_zero]; simp
    · rw [hm, hl, ← EReal.coe_sub, Ideal.exp2_coe, ← EReal.coe_mul, Finset.mul_sum,
        Finset.sum_congr rfl fun k _ => wt_shift s b x y k]
  · obtain ⟨j', hj'⟩ := ha' j
    rw [hj', hy, Finset.sum_congr rfl fun c _ => by rw [hp' c, hV c j, ← EReal.coe_mul], coe_sum_univ,
      ← sum_tile (fun k => wt s b y k * v k j.val), EReal.coe_add]
    refine congrArg (· + _) ?_
    rcases h with ⟨h0, hm, _, ha⟩ | ⟨x, hm, _, ha⟩
    · rw [hm, ha, h0, mul_zero]; simp
    · rw [hm, ha, ← EReal.coe_sub, Ideal.exp2_coe, ← EReal.coe_mul, Finset.mul_sum]
      refine congrArg _ (Finset.sum_congr rfl fun k _ => ?_)
      rw [← mul_assoc, wt_shift]

/-- After the last key it sees, a row's quotient no longer depends on the shift: it is the average of
    the values under the weights `2 ^ s k`. -/
theorem quotient (s : ℕ → ℝ) (b : ℕ) (v : ℕ → ℕ → ℝ) (n : ℕ) (m l : Fin 128 → EReal) (a : Fin 256 → EReal)
    (h : RowInv s b v n m l a) (hn : b < n) (j : Fin 256) (i : Fin 128) :
    Ideal.div (a j) (l i) = (((∑ k ∈ Finset.range n, wt s b 0 k * v k j.val) / ∑ k ∈ Finset.range n, wt s b 0 k : ℝ) : EReal) := by
  rcases h with ⟨h0, _⟩ | ⟨x, hm, hl, ha⟩
  · omega
  have hpos : 0 < ∑ k ∈ Finset.range n, wt s b x k := by
    refine Finset.sum_pos' (fun k _ => ?_) ⟨0, Finset.mem_range.2 (by omega), ?_⟩
    · unfold wt; split
      · exact (Real.rpow_pos_of_pos (by norm_num) _).le
      · exact le_rfl
    · unfold wt; rw [if_pos (Nat.zero_le _)]; exact Real.rpow_pos_of_pos (by norm_num) _
  rw [hl, ha, Ideal.div_coe hpos.ne', ← EReal.coe_mul]
  refine congrArg _ ?_
  have hx : (0 : ℝ) < Real.rpow 2 (x - 0) := Real.rpow_pos_of_pos (by norm_num) _
  have e1 : ∑ k ∈ Finset.range n, wt s b 0 k = Real.rpow 2 (x - 0) * ∑ k ∈ Finset.range n, wt s b x k := by
    rw [Finset.mul_sum]; exact Finset.sum_congr rfl fun k _ => (wt_shift s b x 0 k).symm
  have e2 : ∑ k ∈ Finset.range n, wt s b 0 k * v k j.val
      = Real.rpow 2 (x - 0) * ∑ k ∈ Finset.range n, wt s b x k * v k j.val := by
    rw [Finset.mul_sum]; exact Finset.sum_congr rfl fun k _ => by rw [← mul_assoc, wt_shift]
  rw [e1, e2, mul_div_mul_left _ _ hx.ne', mul_one_div]

end Cert.Flash
-- ==== Proof.Tile.lean ====
module

public import proofs.«01_k».proof.Proof.Flash
public import Idealize.ShloMosaic.Lib.ValueIdx
public import Idealize.ShloMosaic.Lib.ValueLayoutCasts
public import Idealize.ShloMosaic.Lib.MatmulPlain
public import Idealize.ShloMosaic.Lib.WritesUnit
public import Idealize.ShloMosaic.Lib.Pipeline.Value

/-! One tile of the kernel's vectors read row by row: the running maximum, sum and weighted sum the
kernel stores after a tile are what `Flash.row_step` says. -/

@[expose] public section

set_option maxRecDepth 16384

noncomputable section

namespace Cert.Flash

open Idealize.ShloMosaic Idealize.ShloMosaic.ValueIdx Cert.KernelIdeal Cert.KernelIdeal.Gen

/-- One column of row entries spread over `n` columns. -/
theorem broadcastTo_col {α : Type} {a n : ℕ} (hn : a ≠ 1) (v : (⟨2, ![a, 1]⟩ : Shape).Idx → α) (h : (⟨2, ![a, 1]⟩ : Shape).Broadcasts ⟨2, ![a, n]⟩)
    (R : Fin a) (j : Fin n) : broadcastTo ⟨2, ![a, n]⟩ v h (ix2 R j) = v (ix2 R (0 : Fin 1)) := by
  refine broadcastTo_apply v h (ix2 R j) (ix2 R (0 : Fin 1)) fun ax => ?_
  match ax with
  | ⟨0, _⟩ => show R.val = if a = 1 then 0 else R.val; rw [if_neg hn]
  | ⟨1, _⟩ => rfl

/-- Column `j` of 128 columns repeated. -/
def col (j : ℕ) : Fin 128 := ⟨j % 128, Nat.mod_lt _ (by norm_num)⟩

/-- Two copies of 128 columns side by side. -/
theorem cat2_apply {α : Type} {a : ℕ} (x : (⟨2, ![a, 128]⟩ : Shape).Idx → α)
    (h : Shape.Concatenates [(⟨2, ![a, 128]⟩ : Shape), ⟨2, ![a, 128]⟩] ⟨2, ![a, 256]⟩ 1) (R : Fin a) (j : Fin 256) :
    concatenate ⟨2, ![a, 256]⟩ 1 [⟨⟨2, ![a, 128]⟩, x⟩, ⟨⟨2, ![a, 128]⟩, x⟩] h (ix2 R j) = x (ix2 R (col j.val)) := by
  refine concatenate_replicate_apply (t := ⟨2, ![a, 256]⟩) (s₁ := ⟨2, ![a, 128]⟩) 1 2 x h rfl (ix2 R j) (ix2 R (col j.val)) rfl ?_
  intro c hc
  match c, hc with
  | ⟨0, _⟩, _ => rfl
  | ⟨1, _⟩, hc => exact absurd rfl hc

/-- Four copies of 128 columns side by side. -/
theorem cat4_apply {α : Type} {a : ℕ} (x : (⟨2, ![a, 128]⟩ : Shape).Idx → α)
    (h : Shape.Concatenates [(⟨2, ![a, 128]⟩ : Shape), ⟨2, ![a, 128]⟩, ⟨2, ![a, 128]⟩, ⟨2, ![a, 128]⟩] ⟨2, ![a, 512]⟩ 1) (R : Fin a) (j : Fin 512) :
    concatenate ⟨2, ![a, 512]⟩ 1 [⟨⟨2, ![a, 128]⟩, x⟩, ⟨⟨2, ![a, 128]⟩, x⟩, ⟨⟨2, ![a, 128]⟩, x⟩, ⟨⟨2, ![a, 128]⟩, x⟩] h (ix2 R j) = x (ix2 R (col j.val)) := by
  refine concatenate_replicate_apply (t := ⟨2, ![a, 512]⟩) (s₁ := ⟨2, ![a, 128]⟩) 1 4 x h rfl (ix2 R j) (ix2 R (col j.val)) rfl ?_
  intro c hc
  match c, hc with
  | ⟨0, _⟩, _ => rfl
  | ⟨1, _⟩, hc => exact absurd rfl hc

/-- The index a row reduction reads. -/
theorem lift_row {m n : ℕ} (h : (⟨2, ![m, n]⟩ : Shape).Reduces [1] (⟨1, ![m]⟩ : Shape)) (R : Fin m)
    (k : Fin ((⟨2, ![m, n]⟩ : Shape).size 1)) : h.lift (ix1 R) k = ix2 R (⟨k.val, k.isLt⟩ : Fin n) := by
  funext c; apply Fin.ext
  fin_cases c <;> rfl

/-- A row's maximum is the fold of `max` from −∞ over its columns. -/
theorem rowMax_apply (x : FVec Ideal S2048x512 .f32) (R : Fin 2048) :
    multiReduction .maximumf [1] S2048 x 0xFF800000#32 reduces_S2048x512_S2048 (.inl rfl) rfl (ix1 R)
      = (Finset.univ : Finset (Fin 512)).fold max (⊥ : EReal) (fun c => x (ix2 R c)) := by
  refine (Ideal.multiReduction_maximumf_single x _ reduces_S2048x512_S2048 (.inl rfl) rfl (ix1 R)).trans ?_
  have e : (FloatOps.ofBits .f32 0xFF800000#32 : Ideal .f32) = (⊥ : EReal) := by
    show Ideal.ofBits .f32 0xFF800000#32 = ⊥
    simp [Ideal.ofBits, Ideal.ieee]
  refine (congrArg (fun z : EReal => (Finset.univ : Finset (Fin 512)).fold max z (x ∘ reduces_S2048x512_S2048.lift (ix1 R))) e).trans ?_
  refine congrArg (fun f => (Finset.univ : Finset (Fin 512)).fold max (⊥ : EReal) f) (funext fun c => ?_)
  show x (reduces_S2048x512_S2048.lift (ix1 R) c) = _
  rw [lift_row]; rfl

/-- A row's sum. -/
theorem rowSum_apply (x : FVec Ideal S2048x512 .f32) (R : Fin 2048) :
    multiReduction .add [1] S2048 x 0x00000000#32 reduces_S2048x512_S2048 (.inl rfl) rfl (ix1 R)
      = ∑ c : Fin 512, (x (ix2 R c) : EReal) := by
  refine (Ideal.multiReduction_add_single x _ reduces_S2048x512_S2048 (.inl rfl) rfl (ix1 R)).trans ?_
  refine Finset.sum_congr rfl fun c _ => ?_
  rw [lift_row]; rfl

/-- A row's maximum, spread over the columns. -/
theorem pay74_apply (S : Vec Ideal S1x2048x512 .f32) (R : Fin 2048) (j : Fin 128) :
    k0_pay74 (F := Ideal) S (ix2 R j) = (Finset.univ : Finset (Fin 512)).fold max ⊥ (fun c => S (ix3 (0 : Fin 1) R c)) := by
  unfold k0_pay74
  rw [broadcastTo_col (by norm_num), shapeCast_a_a1_apply]
  refine (rowMax_apply _ R).trans ?_
  refine congrArg (fun f => (Finset.univ : Finset (Fin 512)).fold max (⊥ : EReal) f) (funext fun c => ?_)
  rw [shapeCast_1ab_ab_apply]

/-- The new maximum. -/
theorem pay75_apply (m u : Vec Ideal S2048x128 .f32) (y : S2048x128.Idx) :
    k0_pay75 (F := Ideal) m u y = max (m y : EReal) (u y) := rfl

/-- The factor old sums are scaled by. -/
theorem pay77_apply (m u : Vec Ideal S2048x128 .f32) (y : S2048x128.Idx) :
    k0_pay77 (F := Ideal) m u y = Ideal.exp2 ((m y : EReal) - k0_pay75 (F := Ideal) m u y) := rfl

/-- A tile's weights. -/
theorem pay78_apply (m u : Vec Ideal S2048x128 .f32) (S : Vec Ideal S1x2048x512 .f32) (R : Fin 2048) (c : Fin 512) :
    k0_pay78 (F := Ideal) m u S (ix2 R c)
      = Ideal.exp2 ((S (ix3 (0 : Fin 1) R c) : EReal) - k0_pay75 (F := Ideal) m u (ix2 R (col c.val))) := by
  unfold k0_pay78
  show Ideal.exp2 (shapeCast S2048x512 S _ (ix2 R c) - concatenate S2048x512 1 _ _ (ix2 R c)) = _
  rw [shapeCast_1ab_ab_apply, cat4_apply]

/-- The new sum of weights. -/
theorem pay79_apply (m u : Vec Ideal S2048x128 .f32) (S : Vec Ideal S1x2048x512 .f32) (l : Vec Ideal S2048x128 .f32)
    (R : Fin 2048) (j : Fin 128) :
    k0_pay79 (F := Ideal) m u S l (ix2 R j)
      = k0_pay77 (F := Ideal) m u (ix2 R j) * l (ix2 R j) + ∑ c : Fin 512, k0_pay78 (F := Ideal) m u S (ix2 R c) := by
  unfold k0_pay79
  rw [shapeCast_self]
  show k0_pay77 (F := Ideal) m u (ix2 R j) * l (ix2 R j) + broadcastTo S2048x128 _ _ (ix2 R j) = _
  rw [broadcastTo_col (by norm_num), shapeCast_a_a1_apply]
  exact congrArg (_ + ·) (rowSum_apply _ R)

/-- The new weighted sum of values. -/
theorem pay80_apply (V : Vec Ideal S512x256 .bf16) (m u : Vec Ideal S2048x128 .f32) (S : Vec Ideal S1x2048x512 .f32)
    (a : Vec Ideal S2048x256 .f32) (R : Fin 2048) (j : Fin 256) :
    k0_pay80 (F := Ideal) V m u S a (ix2 R j)
      = k0_pay77 (F := Ideal) m u (ix2 R (col j.val)) * a (ix2 R j)
        + ∑ c : Fin 512, (k0_pay78 (F := Ideal) m u S (ix2 R c) : EReal) * V (ix2 c j) := by
  unfold k0_pay80
  rw [shapeCast_self]
  refine congrArg₂ (fun x y : EReal => x * a (ix2 R j) + y) (cat2_apply _ _ R j) ?_
  refine (Ideal.matmul_plain_apply none (truncf .bf16 (k0_pay78 (F := Ideal) m u S) bitsLt_bf16_f32) V _ R j).trans ?_
  show Ideal.ofBits .f32 0x00000000#32 + _ = _
  rw [Ideal.ofBits_zero_f32, zero_add]
  rfl

/-- The stored maximum, sum and weighted sum after one tile. -/
abbrev stepM (m : Vec Ideal S2048x128 .f32) (S : Vec Ideal S1x2048x512 .f32) : Vec Ideal S2048x128 .f32 :=
  k0_pay76 (F := Ideal) m (k0_pay74 (F := Ideal) S)
abbrev stepL (m l : Vec Ideal S2048x128 .f32) (S : Vec Ideal S1x2048x512 .f32) : Vec Ideal S2048x128 .f32 :=
  k0_pay79 (F := Ideal) m (k0_pay74 (F := Ideal) S) S l
abbrev stepA (m : Vec Ideal S2048x128 .f32) (a : Vec Ideal S2048x256 .f32) (S : Vec Ideal S1x2048x512 .f32)
    (V : Vec Ideal S512x256 .bf16) : Vec Ideal S2048x256 .f32 :=
  k0_pay80 (F := Ideal) V m (k0_pay74 (F := Ideal) S) S a

/-- Every row's invariant. -/
def Inv (s : ℕ → ℕ → ℝ) (b : ℕ → ℕ) (v : ℕ → ℕ → ℝ) (n : ℕ) (m l : Vec Ideal S2048x128 .f32) (a : Vec Ideal S2048x256 .f32) : Prop :=
  ∀ R : Fin 2048, RowInv (s R.val) (b R.val) v n (fun j => m (ix2 R j)) (fun j => l (ix2 R j)) (fun j => a (ix2 R j))

/-- A tile of masked scores: the keys from `n`, those past a row's bound at −∞. -/
def Tile (s : ℕ → ℕ → ℝ) (b : ℕ → ℕ) (n : ℕ) (S : Vec Ideal S1x2048x512 .f32) : Prop :=
  ∀ (R : Fin 2048) (c : Fin 512), (S (ix3 (0 : Fin 1) R c) : EReal) = if n + c.val ≤ b R.val then (s R.val (n + c.val) : EReal) else ⊥

/-- A tile of value rows: the keys from `n`. -/
def VTile (v : ℕ → ℕ → ℝ) (n : ℕ) (V : Vec Ideal S512x256 .bf16) : Prop :=
  ∀ (c : Fin 512) (j : Fin 256), (V (ix2 c j) : EReal) = (v (n + c.val) j.val : EReal)

/-- One tile keeps the invariant. -/
theorem Inv.step {s : ℕ → ℕ → ℝ} {b : ℕ → ℕ} {v : ℕ → ℕ → ℝ} {n : ℕ} {m l : Vec Ideal S2048x128 .f32} {a : Vec Ideal S2048x256 .f32}
    (h : Inv s b v n m l a) {S : Vec Ideal S1x2048x512 .f32} (hS : Tile s b n S) {V : Vec Ideal S512x256 .bf16} (hV : VTile v n V) :
    Inv s b v (n + 512) (stepM m S) (stepL m l S) (stepA m a S V) := by
  intro R
  have hm : ∀ j, stepM m S (ix2 R j) = k0_pay75 (F := Ideal) m (k0_pay74 (F := Ideal) S) (ix2 R j) := fun j => by
    show k0_pay76 (F := Ideal) m (k0_pay74 (F := Ideal) S) (ix2 R j) = _
    unfold k0_pay76
    rw [shapeCast_self]
  refine row_step (s R.val) (b R.val) v n _ _ _ (h R) (fun c => S (ix3 (0 : Fin 1) R c)) (hS R) (fun c j => V (ix2 c j)) hV _ _ _
    (fun j => ?_) (fun c => k0_pay78 (F := Ideal) m (k0_pay74 (F := Ideal) S) S (ix2 R c)) (fun c => ⟨col c.val, ?_⟩) (fun j => ?_) (fun j => ⟨col j.val, ?_⟩)
  · show stepM m S (ix2 R j) = _
    rw [hm, pay75_apply, pay74_apply]
  · show _ = Ideal.exp2 (_ - stepM m S (ix2 R (col c.val)))
    rw [hm]; exact pay78_apply _ _ _ _ _
  · show stepL m l S (ix2 R j) = Ideal.exp2 (_ - stepM m S (ix2 R j)) * _ + _
    rw [hm]; exact pay79_apply _ _ _ _ _ _
  · show stepA m a S V (ix2 R j) = Ideal.exp2 (_ - stepM m S (ix2 R (col j.val))) * _ + _
    rw [hm]; exact pay80_apply _ _ _ _ _ _ _

/-- Half a tile of scores: 1024 queries against 512 keys, 128 coordinates each. -/
theorem pay110_apply (q : Vec Ideal S1x1024x128 .bf16) (k : Vec Ideal S512x128 .bf16) (u : Fin 1) (r : Fin 1024) (c : Fin 512) :
    k0_pay110 (F := Ideal) q k (ix3 u r c) = ∑ d : Fin 128, (q (ix3 (0 : Fin 1) r d) : EReal) * k (ix2 c d) := by
  unfold k0_pay110
  rw [shapeCast_ab_1ab_apply]
  refine (Ideal.matmul_transposedRhs_apply none (shapeCast S1024x128 q shapeCasts_S1x1024x128_S1024x128) k _ r c).trans ?_
  show Ideal.ofBits .f32 0x00000000#32 + _ = _
  rw [Ideal.ofBits_zero_f32, zero_add]
  refine Finset.sum_congr rfl fun d _ => ?_
  rw [shapeCast_1ab_ab_apply]

end Cert.Flash
-- ==== Proof.Slots.lean ====
module

public import proofs.«01_k».proof.Proof.Tile
public import proofs.«01_k».proof.Proof.Gen.KernelIdeal.Loops

/-! The scratch buffers read back: a buffer written whole, the two score slots written half by half,
and the state the key loop carries from trip to trip. -/

@[expose] public section

set_option maxRecDepth 16384

noncomputable section

namespace Cert.Flash

open Idealize.ShloMosaic Idealize.ShloMosaic.ValueIdx Cert.KernelIdeal Cert.KernelIdeal.Gen

section Views

variable {κ : Kind} {sp : Space} {s : Shape} {e : EltTy}

/-- A block read of a view is the view's reading at the block's offset plus the index. -/
theorem readAt_unit (v : View sig κ sp s e) {off off' size : Fin s.rank → ℕ} (heq : off = off')
    (inb : ∀ a, off a + size a ≤ s.size a) (f : BufTy.Contents (Elt Ideal) v.ty) (y : (Rect.unit off size inb).shape.Idx) (z : s.Idx)
    (hz : ∀ a, (z a).val = off' a + (y a).val) :
    v.readAt (Elt Ideal) (Rect.unit off size inb).toLoadRect f y = v.read (Elt Ideal) f z := by
  subst heq
  rw [View.readAt_apply]
  refine congrArg _ (funext fun a => Fin.ext ?_)
  show off a + 1 * (y a).val = (z a).val
  rw [hz, Nat.one_mul]

/-- A buffer of two axes last written whole reads back what was written. -/
theorem readAt_whole {a b : ℕ} (v : View sig κ sp ⟨2, ![a, b]⟩ e) (f : BufTy.Contents (Elt Ideal) v.ty)
    (inb inb' : ∀ x, (![0, 0] : Fin 2 → ℕ) x + (![a, b] : Fin 2 → ℕ) x ≤ (⟨2, ![a, b]⟩ : Shape).size x)
    (w : (⟨2, ![a, b]⟩ : Shape).Idx → Elt Ideal e) (L : List (View.Piece (Elt Ideal) ⟨2, ![a, b]⟩ e)) :
    v.readAt (Elt Ideal) (Rect.unit (s := ⟨2, ![a, b]⟩) ![0, 0] ![a, b] inb).toLoadRect
      (v.writes (Elt Ideal) f (⟨Rect.unit (s := ⟨2, ![a, b]⟩) ![0, 0] ![a, b] inb', w⟩ :: L)) = w := by
  funext y
  rw [readAt_unit v rfl inb _ y y (fun x => by fin_cases x <;> simp)]
  exact View.read_writes_cons_unit_of_mem v f inb' w L y y rfl (fun x => by fin_cases x <;> simp)

end Views

section Slots

variable {κ : Kind} {sp : Space} (v : View sig κ sp S2x2048x512 .f32) (f : BufTy.Contents (Elt Ideal) v.ty)

/-- Half a tile of scores: the rows from `1024 h`, the keys from `n`. -/
def Half (s : ℕ → ℕ → ℝ) (h n : ℕ) (P : Vec Ideal S1x1024x512 .f32) : Prop :=
  ∀ (r : Fin 1024) (c : Fin 512), (P (ix3 (0 : Fin 1) r c) : EReal) = (s (1024 * h + r.val) (n + c.val) : EReal)

/-- A tile of unmasked scores: every row's scores of the keys from `n`. -/
def Raw (s : ℕ → ℕ → ℝ) (n : ℕ) (S : Vec Ideal S1x2048x512 .f32) : Prop :=
  ∀ (R : Fin 2048) (c : Fin 512), (S (ix3 (0 : Fin 1) R c) : EReal) = (s R.val (n + c.val) : EReal)

/-- The tile of equal vectors. -/
theorem Raw.congr {s : ℕ → ℕ → ℝ} {n : ℕ} {S S' : Vec Ideal S1x2048x512 .f32} (h : S' = S) (hS : Raw s n S) : Raw s n S' := by
  subst h; exact hS

/-- A tile every row sees whole needs no mask. -/
theorem Raw.tile {s : ℕ → ℕ → ℝ} {n : ℕ} {S : Vec Ideal S1x2048x512 .f32} (h : Raw s n S) {b : ℕ → ℕ} (hb : ∀ R, n + 511 ≤ b R) :
    Tile s b n S := fun R c => by
  rw [h R c, if_pos (by have := hb R.val; have := c.isLt; omega)]

/-- A slot whose two halves were written last holds the tile. -/
theorem slot_raw {s : ℕ → ℕ → ℝ} {n : ℕ} {t : ℕ}
    (inb : ∀ x, (![t, 0, 0] : Fin 3 → ℕ) x + S1x2048x512.size x ≤ S2x2048x512.size x)
    (inb1 : ∀ x, (![t, 1024, 0] : Fin 3 → ℕ) x + S1x1024x512.size x ≤ S2x2048x512.size x)
    (inb0 : ∀ x, (![t, 0, 0] : Fin 3 → ℕ) x + S1x1024x512.size x ≤ S2x2048x512.size x)
    {hi lo : Vec Ideal S1x1024x512 .f32} (hlo : Half s 0 n lo) (hhi : Half s 1 n hi) (L : List (View.Piece (Elt Ideal) S2x2048x512 .f32)) :
    Raw s n (v.readAt (Elt Ideal) (Rect.unit (s := S2x2048x512) ![t, 0, 0] S1x2048x512.size inb).toLoadRect
      (v.writes (Elt Ideal) f (⟨Rect.unit (s := S2x2048x512) ![t, 1024, 0] S1x1024x512.size inb1, hi⟩ ::
        ⟨Rect.unit (s := S2x2048x512) ![t, 0, 0] S1x1024x512.size inb0, lo⟩ :: L))) := by
  intro R c
  have ht : t < 2 := by have := inb 0; simp at this; omega
  rw [readAt_unit v rfl inb _ (ix3 (0 : Fin 1) R c) (ix3 (⟨t, ht⟩ : Fin 2) R c) (fun x => by fin_cases x <;> simp)]
  by_cases hR : R.val < 1024
  · rw [View.read_writes_cons_unit_of_not_mem v f inb1 hi _ _ rfl 1 (.inl (by simpa using hR))]
    rw [View.read_writes_cons_unit_of_mem v f inb0 lo _ _ (ix3 (0 : Fin 1) (⟨R.val, hR⟩ : Fin 1024) c) rfl
      (fun x => by fin_cases x <;> simp)]
    rw [hlo]; simp
  · rw [View.read_writes_cons_unit_of_mem v f inb1 hi _ _ (ix3 (0 : Fin 1) (⟨R.val - 1024, by omega⟩ : Fin 1024) c) rfl
      (fun x => by
        fin_cases x
        · simp
        · show R.val = 1024 + (R.val - 1024)
          omega
        · simp)]
    rw [hhi]
    have : 1024 * 1 + (R.val - 1024) = R.val := by omega
    simp only [this]

/-- The other slot is left alone. -/
theorem slot_other {t t' : ℕ} (htt : t ≠ t')
    (inb : ∀ x, (![t, 0, 0] : Fin 3 → ℕ) x + S1x2048x512.size x ≤ S2x2048x512.size x)
    (inb1 : ∀ x, (![t', 1024, 0] : Fin 3 → ℕ) x + S1x1024x512.size x ≤ S2x2048x512.size x)
    (inb0 : ∀ x, (![t', 0, 0] : Fin 3 → ℕ) x + S1x1024x512.size x ≤ S2x2048x512.size x)
    {hi lo : Vec Ideal S1x1024x512 .f32} (L : List (View.Piece (Elt Ideal) S2x2048x512 .f32)) :
    v.readAt (Elt Ideal) (Rect.unit (s := S2x2048x512) ![t, 0, 0] S1x2048x512.size inb).toLoadRect
      (v.writes (Elt Ideal) f (⟨Rect.unit (s := S2x2048x512) ![t', 1024, 0] S1x1024x512.size inb1, hi⟩ ::
        ⟨Rect.unit (s := S2x2048x512) ![t', 0, 0] S1x1024x512.size inb0, lo⟩ :: L))
    = v.readAt (Elt Ideal) (Rect.unit (s := S2x2048x512) ![t, 0, 0] S1x2048x512.size inb).toLoadRect (v.writes (Elt Ideal) f L) := by
  funext y
  have ht : t < 2 := by have := inb 0; simp at this; omega
  have hy : (y 0).val = 0 := by have := (y 0).isLt; simp at this; omega
  have hz : ∀ x, ((ix3 (⟨t, ht⟩ : Fin 2) (⟨(y 1).val, (y 1).isLt⟩ : Fin 2048) (⟨(y 2).val, (y 2).isLt⟩ : Fin 512) : S2x2048x512.Idx) x).val
      = (![t, 0, 0] : Fin 3 → ℕ) x + (y x).val := fun x => by
    fin_cases x
    · show t = t + (y 0).val
      omega
    · show (y 1).val = 0 + (y 1).val
      omega
    · show (y 2).val = 0 + (y 2).val
      omega
  rw [readAt_unit v rfl inb _ y _ hz, readAt_unit v rfl inb _ y _ hz]
  rw [View.read_writes_cons_unit_of_not_mem v f inb1 hi _ _ rfl 0 (by
      rcases lt_or_gt_of_ne htt with h | h
      · exact .inl (by simpa using h)
      · exact .inr (by show t' + 1 ≤ t; omega)),
    View.read_writes_cons_unit_of_not_mem v f inb0 lo _ _ rfl 0 (by
      rcases lt_or_gt_of_ne htt with h | h
      · exact .inl (by simpa using h)
      · exact .inr (by show t' + 1 ≤ t; omega))]

end Slots

/-- A row's scores: row `R` is query `R % 1024` of half `R / 1024`, whose coordinates are the 128 key
    coordinates from `128 (R / 1024)`. -/
def score (Q : ℕ → ℕ → ℕ → ℝ) (K : ℕ → ℕ → ℝ) (R k : ℕ) : ℝ :=
  ∑ d : Fin 128, Q (R / 1024) (R % 1024) d.val * K k (128 * (R / 1024) + d.val)

/-- Half a tile of scores, from the queries of that half and the keys' coordinates of that half. -/
theorem half_score {Q : ℕ → ℕ → ℕ → ℝ} {K : ℕ → ℕ → ℝ} {h n : ℕ} {q : Vec Ideal S1x1024x128 .bf16} {k : Vec Ideal S512x128 .bf16}
    (hq : ∀ (r : Fin 1024) (d : Fin 128), (q (ix3 (0 : Fin 1) r d) : EReal) = (Q h r.val d.val : EReal))
    (hk : ∀ (c : Fin 512) (d : Fin 128), (k (ix2 c d) : EReal) = (K (n + c.val) (128 * h + d.val) : EReal)) :
    Half (score Q K) h n (k0_pay110 (F := Ideal) q k) := by
  intro r c
  rw [pay110_apply, Finset.sum_congr rfl fun d _ => by rw [hq r d, hk c d, ← EReal.coe_mul], coe_sum_univ]
  unfold score
  have h1 : (1024 * h + r.val) / 1024 = h := by have := r.isLt; omega
  have h2 : (1024 * h + r.val) % 1024 = r.val := by have := r.isLt; omega
  rw [h1, h2]

section Data

variable (arg3 arg4 : Memref sig .tc .vmem S16384x256 .bf16) (arg11 : Memref sig .tc .vmem S2x1024x128 .bf16)
  (X3 : BufTy.Contents (Elt Ideal) arg3.view.ty) (X4 : BufTy.Contents (Elt Ideal) arg4.view.ty) (X11 : BufTy.Contents (Elt Ideal) arg11.view.ty)
  (Q : ℕ → ℕ → ℕ → ℝ) (K V : ℕ → ℕ → ℝ)

/-- The keys, the values and the scaled queries the loop reads are the reals `K`, `V`, `Q`. -/
structure Data : Prop where
  k : ∀ (a : Fin 16384) (e : Fin 256), (arg3.view.read (Elt Ideal) X3 (ix2 a e) : EReal) = (K a.val e.val : EReal)
  v : ∀ (a : Fin 16384) (e : Fin 256), (arg4.view.read (Elt Ideal) X4 (ix2 a e) : EReal) = (V a.val e.val : EReal)
  q : ∀ (h : Fin 2) (r : Fin 1024) (d : Fin 128), (arg11.view.read (Elt Ideal) X11 (ix3 h r d) : EReal) = (Q h.val r.val d.val : EReal)

variable {arg3 arg4 arg11 X3 X4 X11 Q K V}

/-- Half a tile of scores read from the buffers. -/
theorem Data.half (D : Data arg3 arg4 arg11 X3 X4 X11 Q K V) {h n e : ℕ} (he : e = 128 * h)
    (inbq : ∀ x, (![h, 0, 0] : Fin 3 → ℕ) x + S1x1024x128.size x ≤ S2x1024x128.size x)
    {off : Fin 2 → ℕ} (hoff : off = ![n, e]) (inbk : ∀ x, off x + S512x128.size x ≤ S16384x256.size x) :
    Half (score Q K) h n (k0_pay110 (F := Ideal)
      (arg11.view.readAt (Elt Ideal) (Rect.unit (s := S2x1024x128) ![h, 0, 0] S1x1024x128.size inbq).toLoadRect X11)
      (arg3.view.readAt (Elt Ideal) (Rect.unit (s := S16384x256) off S512x128.size inbk).toLoadRect X3)) := by
  have hh : h < 2 := by have := inbq 0; simp at this; omega
  have hn : n + 512 ≤ 16384 := by have := inbk 0; rw [hoff] at this; simpa using this
  refine half_score (fun r d => ?_) (fun c d => ?_)
  · rw [readAt_unit arg11.view rfl inbq X11 (ix3 (0 : Fin 1) r d) (ix3 (⟨h, hh⟩ : Fin 2) r d) (fun x => by fin_cases x <;> simp)]
    exact D.q _ _ _
  · rw [readAt_unit arg3.view hoff inbk X3 (ix2 c d) (ix2 (⟨n + c.val, by omega⟩ : Fin 16384) (⟨e + d.val, by omega⟩ : Fin 256))
      (fun x => by fin_cases x <;> simp)]
    rw [D.k]; simp only [he]

/-- A tile of values read from the buffer. -/
theorem Data.vtile (D : Data arg3 arg4 arg11 X3 X4 X11 Q K V) {n : ℕ}
    {off : Fin 2 → ℕ} (hoff : off = ![n, 0]) (inb : ∀ x, off x + S512x256.size x ≤ S16384x256.size x) :
    VTile V n (arg4.view.readAt (Elt Ideal) (Rect.unit (s := S16384x256) off S512x256.size inb).toLoadRect X4) := by
  have hn : n + 512 ≤ 16384 := by have := inb 0; rw [hoff] at this; simpa using this
  intro c j
  rw [readAt_unit arg4.view hoff inb X4 (ix2 c j) (ix2 (⟨n + c.val, by omega⟩ : Fin 16384) j) (fun x => by fin_cases x <;> simp)]
  exact D.v _ _

end Data

/-- The invariant of equal vectors. -/
theorem Inv.congr {s : ℕ → ℕ → ℝ} {b : ℕ → ℕ} {v : ℕ → ℕ → ℝ} {n : ℕ} {m m' l l' : Vec Ideal S2048x128 .f32} {a a' : Vec Ideal S2048x256 .f32}
    (hm : m' = m) (hl : l' = l) (ha : a' = a) (h : Inv s b v n m l a) : Inv s b v n m' l' a' := by
  subst hm hl ha; exact h

section State

variable (arg12 : Memref sig .tc .vmem S2x2048x512 .f32) (arg13 arg14 : Memref sig .tc .vmem S2048x128 .f32)
  (arg15 : Memref sig .tc .vmem S2048x256 .f32)

/-- The state the key loop carries: slot 0 holds the scores of the keys from `n`, and the three sums
    have taken in the keys before `n`. -/
structure LoopState (s : ℕ → ℕ → ℝ) (b : ℕ → ℕ) (v : ℕ → ℕ → ℝ) (n : ℕ)
    (f12 : BufTy.Contents (Elt Ideal) arg12.view.ty) (f13 : BufTy.Contents (Elt Ideal) arg13.view.ty)
    (f14 : BufTy.Contents (Elt Ideal) arg14.view.ty) (f15 : BufTy.Contents (Elt Ideal) arg15.view.ty) : Prop where
  raw : Raw s n (arg12.view.readAt (Elt Ideal) (Rect.unit (s := S2x2048x512) ![0, 0, 0] S1x2048x512.size inb_S2x2048x512_S1x2048x512_0_0_0).toLoadRect f12)
  inv : Inv s b v n
    (arg13.view.readAt (Elt Ideal) (Rect.unit (s := S2048x128) ![0, 0] S2048x128.size inb_S2048x128_S2048x128_0_0).toLoadRect f13)
    (arg14.view.readAt (Elt Ideal) (Rect.unit (s := S2048x128) ![0, 0] S2048x128.size inb_S2048x128_S2048x128_0_0).toLoadRect f14)
    (arg15.view.readAt (Elt Ideal) (Rect.unit (s := S2048x256) ![0, 0] S2048x256.size inb_S2048x256_S2048x256_0_0).toLoadRect f15)

end State

end Cert.Flash
-- ==== Proof.Trip1.lean ====
module

public import proofs.«01_k».proof.Proof.Slots

/-! One trip of the loop over groups of two key pairs: four tiles of 512 keys. -/

@[expose] public section

set_option maxRecDepth 16384

noncomputable section

namespace Cert.Flash

open Idealize.ShloMosaic Idealize.ShloMosaic.TcCoe Idealize.ShloMosaic.ValueIdx Cert.KernelIdeal Cert.KernelIdeal.Gen

theorem off1_eq : ∀ (i : grid0.Coords) (k : Fin (k0_t1_loop i).trips), ∀ g w : Fin 2,
    k0_off1 i k (BitVec.ofNat 32 g.val) (BitVec.ofNat 32 (1 + w.val)) = ![2048 * k.val + 1024 * g.val + 512 + 512 * w.val, 0] := by decide +kernel
theorem off2_eq : ∀ (i : grid0.Coords) (k : Fin (k0_t1_loop i).trips), ∀ g w : Fin 2,
    k0_off2 i k (BitVec.ofNat 32 g.val) (BitVec.ofNat 32 (1 + w.val)) = ![2048 * k.val + 1024 * g.val + 512 + 512 * w.val, 128] := by decide +kernel
theorem off3_eq : ∀ (i : grid0.Coords) (k : Fin (k0_t1_loop i).trips), ∀ g : Fin 2,
    k0_off3 i k (BitVec.ofNat 32 g.val) = ![2048 * k.val + 1024 * g.val, 0] := by decide +kernel
theorem off4_eq : ∀ (i : grid0.Coords) (k : Fin (k0_t1_loop i).trips), ∀ g : Fin 2,
    k0_off4 i k (BitVec.ofNat 32 g.val) = ![2048 * k.val + 1024 * g.val + 512, 0] := by decide +kernel
/-- The loop runs once per two query tiles before the current one. -/
theorem trips1_eq : ∀ i : grid0.Coords, (k0_t1_loop i).trips = (i 1).val / 2 := by decide +kernel

set_option maxHeartbeats 8000000 in
/-- One trip takes in the four tiles from `2048 k` and leaves the next tile's scores in slot 0. -/
theorem trip1_state (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (X_arg3 : BufTy.Contents (Elt Ideal) arg3.view.ty) (X_arg4 : BufTy.Contents (Elt Ideal) arg4.view.ty) (X_arg11 : BufTy.Contents (Elt Ideal) arg11.view.ty) (k : Fin (k0_t1_loop i).trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R)
    (h : LoopState arg12 arg13 arg14 arg15 (score Q K) b V (2048 * k.val) f12 f13 f14 f15) :
    LoopState arg12 arg13 arg14 arg15 (score Q K) b V (2048 * k.val + 2048)
      (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 k).1 f12 f13 f14 f15))
      (arg13.view.writes (Elt Ideal) f13 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 k).2.1 f12 f13 f14 f15))
      (arg14.view.writes (Elt Ideal) f14 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 k).2.2.1 f12 f13 f14 f15))
      (arg15.view.writes (Elt Ideal) f15 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 k).2.2.2.1 f12 f13 f14 f15)) := by
  have hk : 2048 * k.val + 2048 ≤ 1024 * (i 1).val := by
    have h1 := k.isLt
    have h2 := trips1_eq i
    omega
  have h00 := D.half (h := 0) (n := 2048 * k.val + 512) (e := 0) rfl inb_S2x1024x128_S1x1024x128_0_0_0 (off1_eq i k 0 0) (k0_off1_inb i k 0 0)
  have h01 := D.half (h := 1) (n := 2048 * k.val + 512) (e := 128) rfl inb_S2x1024x128_S1x1024x128_1_0_0 (off2_eq i k 0 0) (k0_off2_inb i k 0 0)
  have h10 := D.half (h := 0) (n := 2048 * k.val + 1024) (e := 0) rfl inb_S2x1024x128_S1x1024x128_0_0_0 (off1_eq i k 0 1) (k0_off1_inb i k 0 1)
  have h11 := D.half (h := 1) (n := 2048 * k.val + 1024) (e := 128) rfl inb_S2x1024x128_S1x1024x128_1_0_0 (off2_eq i k 0 1) (k0_off2_inb i k 0 1)
  have h20 := D.half (h := 0) (n := 2048 * k.val + 1536) (e := 0) rfl inb_S2x1024x128_S1x1024x128_0_0_0 (off1_eq i k 1 0) (k0_off1_inb i k 1 0)
  have h21 := D.half (h := 1) (n := 2048 * k.val + 1536) (e := 128) rfl inb_S2x1024x128_S1x1024x128_1_0_0 (off2_eq i k 1 0) (k0_off2_inb i k 1 0)
  have h30 := D.half (h := 0) (n := 2048 * k.val + 2048) (e := 0) rfl inb_S2x1024x128_S1x1024x128_0_0_0 (off1_eq i k 1 1) (k0_off1_inb i k 1 1)
  have h31 := D.half (h := 1) (n := 2048 * k.val + 2048) (e := 128) rfl inb_S2x1024x128_S1x1024x128_1_0_0 (off2_eq i k 1 1) (k0_off2_inb i k 1 1)
  have v0 := D.vtile (off3_eq i k 0) (k0_off3_inb i k 0)
  have v1 := D.vtile (off4_eq i k 0) (k0_off4_inb i k 0)
  have v2 := D.vtile (off3_eq i k 1) (k0_off3_inb i k 1)
  have v3 := D.vtile (off4_eq i k 1) (k0_off4_inb i k 1)
  have t1 := fun L => Raw.congr (slot_other arg12.view arg12.view.junk (t := 1) (t' := 0) (by norm_num) inb_S2x2048x512_S1x2048x512_1_0_0 inb_S2x2048x512_S1x1024x512_0_1024_0 inb_S2x2048x512_S1x1024x512_0_0_0
    (hi := (k0_pay110 (F := Ideal)
      (arg11.view.readAt (Elt Ideal) (Rect.unit (s := S2x1024x128) ![1, 0, 0] S1x1024x128.size inb_S2x1024x128_S1x1024x128_1_0_0).toLoadRect X_arg11)
      (arg3.view.readAt (Elt Ideal) (Rect.unit (s := S16384x256) (k0_off2 i k 0#32 2#32) S512x128.size (k0_off2_inb i k 0 1)).toLoadRect X_arg3)))
    (lo := (k0_pay110 (F := Ideal)
      (arg11.view.readAt (Elt Ideal) (Rect.unit (s := S2x1024x128) ![0, 0, 0] S1x1024x128.size inb_S2x1024x128_S1x1024x128_0_0_0).toLoadRect X_arg11)
      (arg3.view.readAt (Elt Ideal) (Rect.unit (s := S16384x256) (k0_off1 i k 0#32 2#32) S512x128.size (k0_off1_inb i k 0 1)).toLoadRect X_arg3))) _) (slot_raw arg12.view arg12.view.junk inb_S2x2048x512_S1x2048x512_1_0_0 inb_S2x2048x512_S1x1024x512_1_1024_0 inb_S2x2048x512_S1x1024x512_1_0_0 h00 h01 L)
  have t2 := fun L => Raw.congr (slot_other arg12.view arg12.view.junk (t := 0) (t' := 1) (by norm_num) inb_S2x2048x512_S1x2048x512_0_0_0 inb_S2x2048x512_S1x1024x512_1_1024_0 inb_S2x2048x512_S1x1024x512_1_0_0
    (hi := (k0_pay110 (F := Ideal)
      (arg11.view.readAt (Elt Ideal) (Rect.unit (s := S2x1024x128) ![1, 0, 0] S1x1024x128.size inb_S2x1024x128_S1x1024x128_1_0_0).toLoadRect X_arg11)
      (arg3.view.readAt (Elt Ideal) (Rect.unit (s := S16384x256) (k0_off2 i k 1#32 1#32) S512x128.size (k0_off2_inb i k 1 0)).toLoadRect X_arg3)))
    (lo := (k0_pay110 (F := Ideal)
      (arg11.view.readAt (Elt Ideal) (Rect.unit (s := S2x1024x128) ![0, 0, 0] S1x1024x128.size inb_S2x1024x128_S1x1024x128_0_0_0).toLoadRect X_arg11)
      (arg3.view.readAt (Elt Ideal) (Rect.unit (s := S16384x256) (k0_off1 i k 1#32 1#32) S512x128.size (k0_off1_inb i k 1 0)).toLoadRect X_arg3))) _) (slot_raw arg12.view arg12.view.junk inb_S2x2048x512_S1x2048x512_0_0_0 inb_S2x2048x512_S1x1024x512_0_1024_0 inb_S2x2048x512_S1x1024x512_0_0_0 h10 h11 L)
  have t3 := fun L => Raw.congr (slot_other arg12.view arg12.view.junk (t := 1) (t' := 0) (by norm_num) inb_S2x2048x512_S1x2048x512_1_0_0 inb_S2x2048x512_S1x1024x512_0_1024_0 inb_S2x2048x512_S1x1024x512_0_0_0
    (hi := (k0_pay110 (F := Ideal)
      (arg11.view.readAt (Elt Ideal) (Rect.unit (s := S2x1024x128) ![1, 0, 0] S1x1024x128.size inb_S2x1024x128_S1x1024x128_1_0_0).toLoadRect X_arg11)
      (arg3.view.readAt (Elt Ideal) (Rect.unit (s := S16384x256) (k0_off2 i k 1#32 2#32) S512x128.size (k0_off2_inb i k 1 1)).toLoadRect X_arg3)))
    (lo := (k0_pay110 (F := Ideal)
      (arg11.view.readAt (Elt Ideal) (Rect.unit (s := S2x1024x128) ![0, 0, 0] S1x1024x128.size inb_S2x1024x128_S1x1024x128_0_0_0).toLoadRect X_arg11)
      (arg3.view.readAt (Elt Ideal) (Rect.unit (s := S16384x256) (k0_off1 i k 1#32 2#32) S512x128.size (k0_off1_inb i k 1 1)).toLoadRect X_arg3))) _) (slot_raw arg12.view arg12.view.junk inb_S2x2048x512_S1x2048x512_1_0_0 inb_S2x2048x512_S1x1024x512_1_1024_0 inb_S2x2048x512_S1x1024x512_1_0_0 h20 h21 L)
  unfold trip_k0_t1
  dsimp only
  refine ⟨slot_raw arg12.view f12 inb_S2x2048x512_S1x2048x512_0_0_0 inb_S2x2048x512_S1x1024x512_0_1024_0 inb_S2x2048x512_S1x1024x512_0_0_0 h30 h31 _, ?_⟩
  have s1 := h.inv.step (h.raw.tile fun R => by have := hb R; omega) v0
  have s1' := fun L13 L14 L15 => Inv.congr (readAt_whole arg13.view arg13.view.junk inb_S2048x128_S2048x128_0_0 inb_S2048x128_S2048x128_0_0 _ L13)
    (readAt_whole arg14.view arg14.view.junk inb_S2048x128_S2048x128_0_0 inb_S2048x128_S2048x128_0_0 _ L14)
    (readAt_whole arg15.view arg15.view.junk inb_S2048x256_S2048x256_0_0 inb_S2048x256_S2048x256_0_0 _ L15) s1
  have s2 := fun L13 L14 L15 L => (s1' L13 L14 L15).step ((t1 L).tile fun R => by have := hb R; omega) v1
  have s2' := fun L13 L14 L15 L M13 M14 M15 => Inv.congr (readAt_whole arg13.view arg13.view.junk inb_S2048x128_S2048x128_0_0 inb_S2048x128_S2048x128_0_0 _ M13)
    (readAt_whole arg14.view arg14.view.junk inb_S2048x128_S2048x128_0_0 inb_S2048x128_S2048x128_0_0 _ M14)
    (readAt_whole arg15.view arg15.view.junk inb_S2048x256_S2048x256_0_0 inb_S2048x256_S2048x256_0_0 _ M15) (s2 L13 L14 L15 L)
  have s3 := fun L13 L14 L15 L M13 M14 M15 M => (s2' L13 L14 L15 L M13 M14 M15).step ((t2 M).tile fun R => by have := hb R; omega) v2
  have s3' := fun L13 L14 L15 L M13 M14 M15 M N13 N14 N15 => Inv.congr (readAt_whole arg13.view arg13.view.junk inb_S2048x128_S2048x128_0_0 inb_S2048x128_S2048x128_0_0 _ N13)
    (readAt_whole arg14.view arg14.view.junk inb_S2048x128_S2048x128_0_0 inb_S2048x128_S2048x128_0_0 _ N14)
    (readAt_whole arg15.view arg15.view.junk inb_S2048x256_S2048x256_0_0 inb_S2048x256_S2048x256_0_0 _ N15) (s3 L13 L14 L15 L M13 M14 M15 M)
  have s4 := fun L13 L14 L15 L M13 M14 M15 M N13 N14 N15 N => (s3' L13 L14 L15 L M13 M14 M15 M N13 N14 N15).step ((t3 N).tile fun R => by have := hb R; omega) v3
  exact Inv.congr (readAt_whole arg13.view f13 inb_S2048x128_S2048x128_0_0 inb_S2048x128_S2048x128_0_0 _ _)
    (readAt_whole arg14.view f14 inb_S2048x128_S2048x128_0_0 inb_S2048x128_S2048x128_0_0 _ _)
    (readAt_whole arg15.view f15 inb_S2048x256_S2048x256_0_0 inb_S2048x256_S2048x256_0_0 _ _) (s4 [] [] [] _ _ _ _ _ _ _ _ _)

end Cert.Flash
-- ==== Proof.Trip3.lean ====
module

public import proofs.«01_k».proof.Proof.Slots

/-! One trip of the loop over single key pairs: two tiles of 512 keys. -/

@[expose] public section

set_option maxRecDepth 16384

noncomputable section

namespace Cert.Flash

open Idealize.ShloMosaic Idealize.ShloMosaic.TcCoe Idealize.ShloMosaic.ValueIdx Cert.KernelIdeal Cert.KernelIdeal.Gen

theorem off9_eq : ∀ (i : grid0.Coords) (k : Fin (k0_t3_loop i).trips), ∀ w : Fin 2,
    k0_off9 i k (BitVec.ofNat 32 (1 + w.val)) = ![2048 * ((i 1).val / 2) + 512 + 512 * w.val, 0] := by decide +kernel
theorem off10_eq : ∀ (i : grid0.Coords) (k : Fin (k0_t3_loop i).trips), ∀ w : Fin 2,
    k0_off10 i k (BitVec.ofNat 32 (1 + w.val)) = ![2048 * ((i 1).val / 2) + 512 + 512 * w.val, 128] := by decide +kernel
theorem off11_eq : ∀ (i : grid0.Coords) (k : Fin (k0_t3_loop i).trips), k0_off11 i k = ![2048 * ((i 1).val / 2), 0] := by decide +kernel
theorem off12_eq : ∀ (i : grid0.Coords) (k : Fin (k0_t3_loop i).trips), k0_off12 i k = ![2048 * ((i 1).val / 2) + 512, 0] := by decide +kernel
/-- The loop runs once at an odd query tile and not at all at an even one. -/
theorem trips3_eq : ∀ i : grid0.Coords, (k0_t3_loop i).trips = (i 1).val % 2 := by decide +kernel

set_option maxHeartbeats 4000000 in
/-- One trip takes in the two tiles from `2048 (i / 2)` and leaves the next tile's scores in slot 0. -/
theorem trip3_state (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v123 : BitVec 32) (X_arg3 : BufTy.Contents (Elt Ideal) arg3.view.ty) (X_arg4 : BufTy.Contents (Elt Ideal) arg4.view.ty) (X_arg11 : BufTy.Contents (Elt Ideal) arg11.view.ty) (k : Fin (k0_t3_loop i).trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R)
    (h : LoopState arg12 arg13 arg14 arg15 (score Q K) b V (2048 * ((i 1).val / 2)) f12 f13 f14 f15) :
    LoopState arg12 arg13 arg14 arg15 (score Q K) b V (2048 * ((i 1).val / 2) + 1024)
      (arg12.view.writes (Elt Ideal) f12 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 k).1 f12 f13 f14 f15))
      (arg13.view.writes (Elt Ideal) f13 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 k).2.1 f12 f13 f14 f15))
      (arg14.view.writes (Elt Ideal) f14 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 k).2.2.1 f12 f13 f14 f15))
      (arg15.view.writes (Elt Ideal) f15 ((trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 k).2.2.2.1 f12 f13 f14 f15)) := by
  have hi : (i 1).val % 2 = 1 := by
    have h1 := k.isLt
    have h2 := trips3_eq i
    omega
  have hA0 := D.half (h := 0) (n := 2048 * ((i 1).val / 2) + 512) (e := 0) rfl inb_S2x1024x128_S1x1024x128_0_0_0 (off9_eq i k 0) (k0_off9_inb i k 0)
  have hA1 := D.half (h := 1) (n := 2048 * ((i 1).val / 2) + 512) (e := 128) rfl inb_S2x1024x128_S1x1024x128_1_0_0 (off10_eq i k 0) (k0_off10_inb i k 0)
  have hB0 := D.half (h := 0) (n := 2048 * ((i 1).val / 2) + 1024) (e := 0) rfl inb_S2x1024x128_S1x1024x128_0_0_0 (off9_eq i k 1) (k0_off9_inb i k 1)
  have hB1 := D.half (h := 1) (n := 2048 * ((i 1).val / 2) + 1024) (e := 128) rfl inb_S2x1024x128_S1x1024x128_1_0_0 (off10_eq i k 1) (k0_off10_inb i k 1)
  have hVA := D.vtile (off11_eq i k) (k0_off11_inb i k)
  have hVB := D.vtile (off12_eq i k) (k0_off12_inb i k)
  unfold trip_k0_t3
  dsimp only
  have hT1 := (slot_raw arg12.view arg12.view.junk inb_S2x2048x512_S1x2048x512_1_0_0 inb_S2x2048x512_S1x1024x512_1_1024_0 inb_S2x2048x512_S1x1024x512_1_0_0 hA0 hA1 [])
  refine ⟨slot_raw arg12.view f12 inb_S2x2048x512_S1x2048x512_0_0_0 inb_S2x2048x512_S1x1024x512_0_1024_0 inb_S2x2048x512_S1x1024x512_0_0_0 hB0 hB1 _, ?_⟩
  have s1 := h.inv.step (h.raw.tile fun R => by have := hb R; omega) hVA
  have hT1' := Raw.congr (slot_other arg12.view arg12.view.junk (t := 1) (t' := 0) (by norm_num) inb_S2x2048x512_S1x2048x512_1_0_0 inb_S2x2048x512_S1x1024x512_0_1024_0 inb_S2x2048x512_S1x1024x512_0_0_0
    (hi := k0_pay110 (F := Ideal)
      (arg11.view.readAt (Elt Ideal) (Rect.unit (s := S2x1024x128) ![1, 0, 0] S1x1024x128.size inb_S2x1024x128_S1x1024x128_1_0_0).toLoadRect X_arg11)
      (arg3.view.readAt (Elt Ideal) (Rect.unit (s := S16384x256) (k0_off10 i k 2#32) S512x128.size (k0_off10_inb i k 1)).toLoadRect X_arg3))
    (lo := k0_pay110 (F := Ideal)
      (arg11.view.readAt (Elt Ideal) (Rect.unit (s := S2x1024x128) ![0, 0, 0] S1x1024x128.size inb_S2x1024x128_S1x1024x128_0_0_0).toLoadRect X_arg11)
      (arg3.view.readAt (Elt Ideal) (Rect.unit (s := S16384x256) (k0_off9 i k 2#32) S512x128.size (k0_off9_inb i k 1)).toLoadRect X_arg3)) _) hT1
  have s1' := Inv.congr (readAt_whole arg13.view arg13.view.junk inb_S2048x128_S2048x128_0_0 inb_S2048x128_S2048x128_0_0 _ [])
    (readAt_whole arg14.view arg14.view.junk inb_S2048x128_S2048x128_0_0 inb_S2048x128_S2048x128_0_0 _ [])
    (readAt_whole arg15.view arg15.view.junk inb_S2048x256_S2048x256_0_0 inb_S2048x256_S2048x256_0_0 _ []) s1
  have s2 := s1'.step (hT1'.tile fun R => by have := hb R; omega) hVB
  exact Inv.congr (readAt_whole arg13.view f13 inb_S2048x128_S2048x128_0_0 inb_S2048x128_S2048x128_0_0 _ _)
    (readAt_whole arg14.view f14 inb_S2048x128_S2048x128_0_0 inb_S2048x128_S2048x128_0_0 _ _)
    (readAt_whole arg15.view f15 inb_S2048x256_S2048x256_0_0 inb_S2048x256_S2048x256_0_0 _ _) s2

end Cert.Flash
-- ==== Proof.KeyLoops.lean ====
module

public import proofs.«01_k».proof.Proof.Trip1
public import proofs.«01_k».proof.Proof.Trip3

/-! The key loops: the state before the last key pair. -/

@[expose] public section

set_option maxRecDepth 16384

noncomputable section

namespace Cert.Flash

open Idealize.ShloMosaic Idealize.ShloMosaic.TcCoe Idealize.ShloMosaic.ValueIdx Cert.KernelIdeal Cert.KernelIdeal.Gen

/-- The two loops over what a rounded-down bound leaves are empty. -/
theorem trips2_eq : ∀ i : grid0.Coords, (k0_t2_loop i).trips = 0 := fun i => Nat.le_zero.1 (k0_t2_abs i).2.1
theorem trips4_eq : ∀ i : grid0.Coords, (k0_t4_loop i).trips = 0 := fun i => Nat.le_zero.1 (k0_t4_abs i).2.1

set_option maxHeartbeats 4000000 in
theorem loop_t1_at (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R) (h : LoopState arg12 arg13 arg14 arg15 (score Q K) b V (0) G12 G13 G14 G15) :
    ∀ j : ℕ, j ≤ (k0_t1_loop i).trips → LoopState arg12 arg13 arg14 arg15 (score Q K) b V (2048 * j) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 j).1) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 j).2.1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 j).2.2.1) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 j).2.2.2) := by
  intro j
  induction j with
  | zero => intro _; exact h
  | succ j ih =>
    intro hj
    have ih := ih (Nat.le_of_succ_le hj)
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 ⟨j, hj⟩
    rw [hs]
    simp only [View.writes_append]
    exact trip1_state 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 ⟨j, hj⟩ _ _ _ _ D hb ih

set_option maxHeartbeats 4000000 in
theorem loop_t1 (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R) (h : LoopState arg12 arg13 arg14 arg15 (score Q K) b V (0) G12 G13 G14 G15) :
    LoopState arg12 arg13 arg14 arg15 (score Q K) b V (2048 * ((i 1).val / 2)) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 (k0_t1_loop i).trips).1) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 (k0_t1_loop i).trips).2.1) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 (k0_t1_loop i).trips).2.2.1) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 (k0_t1_loop i).trips).2.2.2) := by
  have e : (k0_t1_loop i).trips = (i 1).val / 2 := trips1_eq i
  have := loop_t1_at 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 G12 G13 G14 G15 D hb h _ (le_refl _)
  rw [e] at this ⊢
  exact this

set_option maxHeartbeats 4000000 in
theorem loop_t1_append (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (B12 : List (View.Piece (Elt Ideal) S2x2048x512 .f32)) (B13 B14 : List (View.Piece (Elt Ideal) S2048x128 .f32)) (B15 : List (View.Piece (Elt Ideal) S2048x256 .f32))
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R) (h : LoopState arg12 arg13 arg14 arg15 (score Q K) b V (0) (arg12.view.writes (Elt Ideal) G12 B12) (arg13.view.writes (Elt Ideal) G13 B13) (arg14.view.writes (Elt Ideal) G14 B14) (arg15.view.writes (Elt Ideal) G15 B15)) :
    LoopState arg12 arg13 arg14 arg15 (score Q K) b V (2048 * ((i 1).val / 2)) (arg12.view.writes (Elt Ideal) G12 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 (arg12.view.writes (Elt Ideal) G12 B12) (arg13.view.writes (Elt Ideal) G13 B13) (arg14.view.writes (Elt Ideal) G14 B14) (arg15.view.writes (Elt Ideal) G15 B15) (k0_t1_loop i).trips).1 ++ B12)) (arg13.view.writes (Elt Ideal) G13 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 (arg12.view.writes (Elt Ideal) G12 B12) (arg13.view.writes (Elt Ideal) G13 B13) (arg14.view.writes (Elt Ideal) G14 B14) (arg15.view.writes (Elt Ideal) G15 B15) (k0_t1_loop i).trips).2.1 ++ B13)) (arg14.view.writes (Elt Ideal) G14 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 (arg12.view.writes (Elt Ideal) G12 B12) (arg13.view.writes (Elt Ideal) G13 B13) (arg14.view.writes (Elt Ideal) G14 B14) (arg15.view.writes (Elt Ideal) G15 B15) (k0_t1_loop i).trips).2.2.1 ++ B14)) (arg15.view.writes (Elt Ideal) G15 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 (arg12.view.writes (Elt Ideal) G12 B12) (arg13.view.writes (Elt Ideal) G13 B13) (arg14.view.writes (Elt Ideal) G14 B14) (arg15.view.writes (Elt Ideal) G15 B15) (k0_t1_loop i).trips).2.2.2 ++ B15)) := by
  rw [View.writes_append, View.writes_append, View.writes_append, View.writes_append]
  exact loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 X_arg3 X_arg4 X_arg11 _ _ _ _ D hb h

set_option maxHeartbeats 4000000 in
theorem loop_t2 (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v112 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ} {n : ℕ}
    (hb : ∀ R, 1024 * (i 1).val ≤ b R) (h : LoopState arg12 arg13 arg14 arg15 (score Q K) b V (n) G12 G13 G14 G15) :
    LoopState arg12 arg13 arg14 arg15 (score Q K) b V (n) (arg12.view.writes (Elt Ideal) G12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 G12 G13 G14 G15 (k0_t2_loop i).trips).1) (arg13.view.writes (Elt Ideal) G13 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 G12 G13 G14 G15 (k0_t2_loop i).trips).2.1) (arg14.view.writes (Elt Ideal) G14 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 G12 G13 G14 G15 (k0_t2_loop i).trips).2.2.1) (arg15.view.writes (Elt Ideal) G15 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 G12 G13 G14 G15 (k0_t2_loop i).trips).2.2.2) := by
  rw [trips2_eq i]
  exact h

set_option maxHeartbeats 4000000 in
theorem loop_t2_append (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v112 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (B12 : List (View.Piece (Elt Ideal) S2x2048x512 .f32)) (B13 B14 : List (View.Piece (Elt Ideal) S2048x128 .f32)) (B15 : List (View.Piece (Elt Ideal) S2048x256 .f32))
    {Q : ℕ → ℕ → ℕ → ℝ} {K V : ℕ → ℕ → ℝ} (D : Data arg3 arg4 arg11 X_arg3 X_arg4 X_arg11 Q K V) {b : ℕ → ℕ} {n : ℕ}
    (hb : ∀ R, 1024 * (i 1).val ≤ b R) (h : LoopState arg12 arg13 arg14 arg15 (score Q K) b V (n) (arg12.view.writes (Elt Ideal) G12 B12) (arg13.view.writes (Elt Ideal) G13 B13) (arg14.view.writes (Elt Ideal) G14 B14) (arg15.view.writes (Elt Ideal) G15 B15)) :
    LoopState arg12 arg13 arg14 arg15 (score Q K) b V (n) (arg12.view.writes (Elt Ideal) G12 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 (arg12.view.writes (Elt Ideal) G12 B12) (arg13.view.writes (Elt Ideal) G13 B13) (arg14.view.writes (Elt Ideal) G14 B14) (arg15.view.writes (Elt Ideal) G15 B15) (k0_t2_loop i).trips).1 ++ B12)) (arg13.view.writes (Elt Ideal) G13 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 (arg12.view.writes (Elt Ideal) G12 B12) (arg13.view.writes (Elt Ideal) G13 B13) (arg14.view.writes (Elt Ideal) G14 B14) (arg15.view.writes (Elt Ideal) G15 B15) (k0_t2_loop i).trips).2.1 ++ B13)) (arg14.view.writes (Elt Ideal) G14 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 (arg12.view.writes (Elt Ideal) G12 B12) (arg13.view.writes (Elt Ideal) G13 B13) (arg14.view.writes (Elt Ideal) G14 B14) (arg15.view.writes (Elt Ideal) G15 B15) (k0_t2_loop i).trips).2.2.1 ++ B14)) (arg15.view.writes (Elt Ideal) G15 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 (arg12.view.writes (Elt Ideal) G12 B12) (arg13.view.writes (Elt Ideal) G13 B13) (arg14.view.writes (Elt Ideal) G14 B14) (arg15.view.writes (Elt Ideal) G15 B15) (k0_t2_loop i).trips).2.2.2 ++ B15)) := by
  rw [View.writes_append, View.writes_append, View.writes_append, View.writes_append]
  exact loop_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v112 X_arg3 X_arg4 X_arg11 _ _ _ _ D hb h

set_option maxHeartbeats 4000000 in
theorem loop_t3 (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v123 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R) (h : LoopState arg12 arg13 arg14 arg15 (score Q K) b V (2048 * ((i 1).val / 2)) G12 G13 G14 G15) :
    LoopState arg12 arg13 arg14 arg15 (score Q K) b V (1024 * (i 1).val) (arg12.view.writes (Elt Ideal) G12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 G12 G13 G14 G15 (k0_t3_loop i).trips).1) (arg13.view.writes (Elt Ideal) G13 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 G12 G13 G14 G15 (k0_t3_loop i).trips).2.1) (arg14.view.writes (Elt Ideal) G14 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 G12 G13 G14 G15 (k0_t3_loop i).trips).2.2.1) (arg15.view.writes (Elt Ideal) G15 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 G12 G13 G14 G15 (k0_t3_loop i).trips).2.2.2) := by
  have e : (k0_t3_loop i).trips = (i 1).val % 2 := trips3_eq i
  rcases Nat.mod_two_eq_zero_or_one (i 1).val with h0 | h1
  · have e' : (k0_t3_loop i).trips = 0 := e.trans h0
    have hn : 2048 * ((i 1).val / 2) = 1024 * (i 1).val := by omega
    rw [e', ← hn]
    exact h
  · have e' : (k0_t3_loop i).trips = 0 + 1 := e.trans h1
    have hn : 2048 * ((i 1).val / 2) + 1024 = 1024 * (i 1).val := by omega
    have hs := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 G12 G13 G14 G15 ⟨0, by omega⟩
    rw [e', ← hn, hs]
    simp only [View.writes_append]
    exact trip3_state 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 ⟨0, by omega⟩ _ _ _ _ D hb h

set_option maxHeartbeats 4000000 in
theorem loop_t3_append (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v123 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (B12 : List (View.Piece (Elt Ideal) S2x2048x512 .f32)) (B13 B14 : List (View.Piece (Elt Ideal) S2048x128 .f32)) (B15 : List (View.Piece (Elt Ideal) S2048x256 .f32))
    {Q : ℕ → ℕ → ℕ → ℝ} {K V : ℕ → ℕ → ℝ} (D : Data arg3 arg4 arg11 X_arg3 X_arg4 X_arg11 Q K V) {b : ℕ → ℕ}
    (hb : ∀ R, 1024 * (i 1).val ≤ b R) (h : LoopState arg12 arg13 arg14 arg15 (score Q K) b V (2048 * ((i 1).val / 2)) (arg12.view.writes (Elt Ideal) G12 B12) (arg13.view.writes (Elt Ideal) G13 B13) (arg14.view.writes (Elt Ideal) G14 B14) (arg15.view.writes (Elt Ideal) G15 B15)) :
    LoopState arg12 arg13 arg14 arg15 (score Q K) b V (1024 * (i 1).val) (arg12.view.writes (Elt Ideal) G12 ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 (arg12.view.writes (Elt Ideal) G12 B12) (arg13.view.writes (Elt Ideal) G13 B13) (arg14.view.writes (Elt Ideal) G14 B14) (arg15.view.writes (Elt Ideal) G15 B15) (k0_t3_loop i).trips).1 ++ B12)) (arg13.view.writes (Elt Ideal) G13 ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 (arg12.view.writes (Elt Ideal) G12 B12) (arg13.view.writes (Elt Ideal) G13 B13) (arg14.view.writes (Elt Ideal) G14 B14) (arg15.view.writes (Elt Ideal) G15 B15) (k0_t3_loop i).trips).2.1 ++ B13)) (arg14.view.writes (Elt Ideal) G14 ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 (arg12.view.writes (Elt Ideal) G12 B12) (arg13.view.writes (Elt Ideal) G13 B13) (arg14.view.writes (Elt Ideal) G14 B14) (arg15.view.writes (Elt Ideal) G15 B15) (k0_t3_loop i).trips).2.2.1 ++ B14)) (arg15.view.writes (Elt Ideal) G15 ((pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 (arg12.view.writes (Elt Ideal) G12 B12) (arg13.view.writes (Elt Ideal) G13 B13) (arg14.view.writes (Elt Ideal) G14 B14) (arg15.view.writes (Elt Ideal) G15 B15) (k0_t3_loop i).trips).2.2.2 ++ B15)) := by
  rw [View.writes_append, View.writes_append, View.writes_append, View.writes_append]
  exact loop_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v123 X_arg3 X_arg4 X_arg11 _ _ _ _ D hb h

set_option maxHeartbeats 4000000 in
theorem loop_t4 (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v128 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    {Q : ℕ → ℕ → ℕ → ℝ} {K V : ℕ → ℕ → ℝ} (D : Data arg3 arg4 arg11 X_arg3 X_arg4 X_arg11 Q K V) {b : ℕ → ℕ} {n : ℕ}
    (hb : ∀ R, 1024 * (i 1).val ≤ b R) (h : LoopState arg12 arg13 arg14 arg15 (score Q K) b V (n) G12 G13 G14 G15) :
    LoopState arg12 arg13 arg14 arg15 (score Q K) b V (n) (arg12.view.writes (Elt Ideal) G12 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 G12 G13 G14 G15 (k0_t4_loop i).trips).1) (arg13.view.writes (Elt Ideal) G13 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 G12 G13 G14 G15 (k0_t4_loop i).trips).2.1) (arg14.view.writes (Elt Ideal) G14 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 G12 G13 G14 G15 (k0_t4_loop i).trips).2.2.1) (arg15.view.writes (Elt Ideal) G15 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 G12 G13 G14 G15 (k0_t4_loop i).trips).2.2.2) := by
  rw [trips4_eq i]
  exact h

set_option maxHeartbeats 4000000 in
theorem loop_t4_append (𝒱 : Variants) (c : Dev nD) (bd : Option 𝒱.V) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (v72 : BitVec 32) (v90 : BitVec 32) (v91 : BitVec 32) (v102 : BitVec 1) (v104 : BitVec 1) (v128 : BitVec 32) (X_arg3 : BufTy.Contents (Elt Ideal) arg3.view.ty) (X_arg4 : BufTy.Contents (Elt Ideal) arg4.view.ty) (X_arg11 : BufTy.Contents (Elt Ideal) arg11.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (B12 : List (View.Piece (Elt Ideal) S2x2048x512 .f32)) (B13 B14 : List (View.Piece (Elt Ideal) S2048x128 .f32)) (B15 : List (View.Piece (Elt Ideal) S2048x256 .f32))
    {Q : ℕ → ℕ → ℕ → ℝ} {K V : ℕ → ℕ → ℝ} (D : Data arg3 arg4 arg11 X_arg3 X_arg4 X_arg11 Q K V) {b : ℕ → ℕ} {n : ℕ}
    (hb : ∀ R, 1024 * (i 1).val ≤ b R) (h : LoopState arg12 arg13 arg14 arg15 (score Q K) b V (n) (arg12.view.writes (Elt Ideal) G12 B12) (arg13.view.writes (Elt Ideal) G13 B13) (arg14.view.writes (Elt Ideal) G14 B14) (arg15.view.writes (Elt Ideal) G15 B15)) :
    LoopState arg12 arg13 arg14 arg15 (score Q K) b V (n) (arg12.view.writes (Elt Ideal) G12 ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 (arg12.view.writes (Elt Ideal) G12 B12) (arg13.view.writes (Elt Ideal) G13 B13) (arg14.view.writes (Elt Ideal) G14 B14) (arg15.view.writes (Elt Ideal) G15 B15) (k0_t4_loop i).trips).1 ++ B12)) (arg13.view.writes (Elt Ideal) G13 ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 (arg12.view.writes (Elt Ideal) G12 B12) (arg13.view.writes (Elt Ideal) G13 B13) (arg14.view.writes (Elt Ideal) G14 B14) (arg15.view.writes (Elt Ideal) G15 B15) (k0_t4_loop i).trips).2.1 ++ B13)) (arg14.view.writes (Elt Ideal) G14 ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 (arg12.view.writes (Elt Ideal) G12 B12) (arg13.view.writes (Elt Ideal) G13 B13) (arg14.view.writes (Elt Ideal) G14 B14) (arg15.view.writes (Elt Ideal) G15 B15) (k0_t4_loop i).trips).2.2.1 ++ B14)) (arg15.view.writes (Elt Ideal) G15 ((pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 (arg12.view.writes (Elt Ideal) G12 B12) (arg13.view.writes (Elt Ideal) G13 B13) (arg14.view.writes (Elt Ideal) G14 B14) (arg15.view.writes (Elt Ideal) G15 B15) (k0_t4_loop i).trips).2.2.2 ++ B15)) := by
  rw [View.writes_append, View.writes_append, View.writes_append, View.writes_append]
  exact loop_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 v72 v90 v91 v102 v104 v128 X_arg3 X_arg4 X_arg11 _ _ _ _ D hb h

end Cert.Flash
-- ==== Proof.LastPair.lean ====
module

public import proofs.«01_k».proof.Proof.Slots
public import proofs.«01_k».proof.Proof.IdealBody
public import Idealize.ShloMosaic.Lib.WordCmp

/-! The last pair of key tiles, the one the causal mask cuts, and the block the kernel writes from the
three sums: the difference of the two quotients, normalised. -/

@[expose] public section

set_option maxRecDepth 16384

noncomputable section

namespace Cert.Flash

open Idealize.ShloMosaic Idealize.ShloMosaic.TcCoe Idealize.ShloMosaic.ValueIdx Cert.KernelIdeal Cert.KernelIdeal.Gen

/-! ## The mask -/

/-- A mask word comparison: key `n + c` against row position `1024 a + R % 1024`. -/
theorem mask_word {a n R c : ℕ} (ha : a < 16) (hn : n < 32768) (hR : R < 2048) (hc : c < 512) :
    IntOp.cmpi .sle (IntOp.addi (BitVec.ofNat 32 n) (BitVec.ofNat 32 c))
      (IntOp.addi (IntOp.muli (BitVec.ofNat 32 a) 1024#32) (IntOp.andi (BitVec.ofNat 32 R) 1023#32))
    = BitVec.ofBool (decide (n + c ≤ 1024 * a + R % 1024)) := by
  have e1 : IntOp.addi (BitVec.ofNat 32 n) (BitVec.ofNat 32 c) = BitVec.ofNat 32 (n + c) := by
    apply BitVec.eq_of_toNat_eq; simp [IntOp.addi]
  have e2 : IntOp.andi (BitVec.ofNat 32 R) 1023#32 = BitVec.ofNat 32 (R % 1024) := by
    apply BitVec.eq_of_toNat_eq
    simp only [IntOp.andi, BitVec.toNat_and, BitVec.toNat_ofNat]
    rw [Nat.mod_eq_of_lt (show R < 2 ^ 32 by omega), Nat.mod_eq_of_lt (show R % 1024 < 2 ^ 32 by omega)]
    exact Nat.and_two_pow_sub_one_eq_mod R 10
  have e3 : IntOp.addi (IntOp.muli (BitVec.ofNat 32 a) 1024#32) (BitVec.ofNat 32 (R % 1024)) = BitVec.ofNat 32 (1024 * a + R % 1024) := by
    apply BitVec.eq_of_toNat_eq
    simp only [IntOp.addi, IntOp.muli, BitVec.toNat_add, BitVec.toNat_mul, BitVec.toNat_ofNat]
    omega
  rw [e1, e2, e3]
  exact WordCmp.cmpi_sle_ofNat (by omega) (by omega)

/-- A column of row entries and a row of column entries spread over a tile. -/
theorem spread_col {α : Type} (x : S2048x1.Idx → α) (R : Fin 2048) (c : Fin 512) :
    broadcastTo S2048x512 x broadcasts_S2048x1_S2048x512 (ix2 R c) = x (ix2 R (0 : Fin 1)) := broadcastTo_col (by norm_num) x _ R c
theorem spread_row {α : Type} (x : S1x512.Idx → α) (R : Fin 2048) (c : Fin 512) :
    broadcastTo S2048x512 x broadcasts_S1x512_S2048x512 (ix2 R c) = x (ix2 (0 : Fin 1) c) := broadcastTo_1b_ab_apply x _ R c

/-- The kernel's vector of row positions. -/
abbrev rowPos (a : ℕ) : IVec S2048x1 32 :=
  k0_pay109 (Scalar.muli (BitVec.ofNat 32 a) 1024#32) (iota .tc S2048x1 32 [0] iota_S2048x1_d0_w32) 1023#32

/-- A masked tile read at an entry. -/
theorem masked_apply {a n : ℕ} (ha : a < 16) (hn : n < 32768) (S : Vec Ideal S1x2048x512 .f32) (kw : IVec S1x512 32)
    (hk : ∀ c : Fin 512, kw (ix2 (0 : Fin 1) c) = IntOp.addi (BitVec.ofNat 32 n) (BitVec.ofNat 32 c.val)) (R : Fin 2048) (c : Fin 512) :
    (shapeCast S1x2048x512 (select (cmpi .sle (broadcastTo S2048x512 kw broadcasts_S1x512_S2048x512)
        (broadcastTo S2048x512 (rowPos a) broadcasts_S2048x1_S2048x512)) (shapeCast S2048x512 S shapeCasts_S1x2048x512_S2048x512)
        (broadcast S2048x512 (Named.named (F := Ideal) κ "mask" (φ := .f32) 0xF149F2CA#32))) shapeCasts_S2048x512_S1x2048x512 (ix3 (0 : Fin 1) R c) : EReal)
      = if n + c.val ≤ 1024 * a + R.val % 1024 then (S (ix3 (0 : Fin 1) R c) : EReal) else ⊥ := by
  rw [shapeCast_ab_1ab_apply]
  show Scalar.select (IntOp.cmpi .sle (broadcastTo S2048x512 kw broadcasts_S1x512_S2048x512 (ix2 R c))
    (broadcastTo S2048x512 (rowPos a) broadcasts_S2048x1_S2048x512 (ix2 R c))) (shapeCast S2048x512 S shapeCasts_S1x2048x512_S2048x512 (ix2 R c)) (⊥ : EReal) = _
  rw [spread_col, spread_row, hk, shapeCast_1ab_ab_apply]
  have hr : rowPos a (ix2 R (0 : Fin 1)) = IntOp.addi (IntOp.muli (BitVec.ofNat 32 a) 1024#32) (IntOp.andi (BitVec.ofNat 32 R.val) 1023#32) := by
    show IntOp.addi _ (IntOp.andi (BitVec.ofNat 32 ((0 : ℕ) * 2048 + R.val)) 1023#32) = _
    rw [Nat.zero_mul, Nat.zero_add]; rfl
  rw [hr, mask_word ha hn R.isLt c.isLt, WordCmp.select_decide]

/-- The last row of keys each row sees. -/
def bound (a R : ℕ) : ℕ := 1024 * a + R % 1024

theorem Raw.mask0 {s : ℕ → ℕ → ℝ} {a n : ℕ} (ha : a < 16) (hn : n = 1024 * a) {S : Vec Ideal S1x2048x512 .f32} (h : Raw s n S)
    {w : BitVec 32} (hw : w = BitVec.ofNat 32 (2 * a)) :
    Tile s (bound a) n (k0_pay123 (F := Ideal) (rowPos a) w S) := by
  subst hw
  intro R c
  refine (masked_apply (n := n) ha (by omega) S _ (fun c => ?_) R c).trans ?_
  · show IntOp.addi (IntOp.muli (BitVec.ofNat 32 (2 * a)) 512#32) (BitVec.ofNat 32 ((0 : ℕ) * 512 + c.val)) = _
    rw [Nat.zero_mul, Nat.zero_add]
    congr 1
    apply BitVec.eq_of_toNat_eq
    simp only [IntOp.muli, BitVec.toNat_mul, BitVec.toNat_ofNat]
    omega
  · rw [h R c]; rfl

theorem Raw.mask1 {s : ℕ → ℕ → ℝ} {a n : ℕ} (ha : a < 16) (hn : n = 1024 * a + 512) {S : Vec Ideal S1x2048x512 .f32} (h : Raw s n S)
    {w : BitVec 32} (hw : w = BitVec.ofNat 32 (2 * a)) :
    Tile s (bound a) n (k0_pay131 (F := Ideal) (rowPos a) (iota .tc S1x512 32 [1] iota_S1x512_d1_w32) (k0_pay130 w) S) := by
  subst hw
  intro R c
  refine (masked_apply (n := n) ha (by omega) S _ (fun c => ?_) R c).trans ?_
  · show IntOp.addi (IntOp.muli (IntOp.addi (BitVec.ofNat 32 (2 * a)) 1#32) 512#32) (BitVec.ofNat 32 ((0 : ℕ) * 512 + c.val)) = _
    rw [Nat.zero_mul, Nat.zero_add]
    congr 1
    apply BitVec.eq_of_toNat_eq
    simp only [IntOp.muli, IntOp.addi, BitVec.toNat_mul, BitVec.toNat_add, BitVec.toNat_ofNat]
    omega
  · rw [h R c]; rfl

/-! ## Slots written whole -/

section Slots

variable {κ : Kind} {sp : Space} (v : View sig κ sp S2x2048x512 .f32) (f : BufTy.Contents (Elt Ideal) v.ty)

/-- The slot and block indices agree. -/
theorem slot_index {t : ℕ} (ht : t < 2) (y : S1x2048x512.Idx) (x : Fin 3) :
    ((ix3 (⟨t, ht⟩ : Fin 2) (⟨(y 1).val, (y 1).isLt⟩ : Fin 2048) (⟨(y 2).val, (y 2).isLt⟩ : Fin 512) : S2x2048x512.Idx) x).val
      = (![t, 0, 0] : Fin 3 → ℕ) x + (y x).val := by
  have hy : (y 0).val = 0 := by have := (y 0).isLt; simp at this; omega
  fin_cases x
  · show t = t + (y 0).val
    omega
  · show (y 1).val = 0 + (y 1).val
    omega
  · show (y 2).val = 0 + (y 2).val
    omega

/-- A slot last written whole reads back what was written. -/
theorem slot_whole {t : ℕ} (inb inb' : ∀ x, (![t, 0, 0] : Fin 3 → ℕ) x + S1x2048x512.size x ≤ S2x2048x512.size x)
    (w : Vec Ideal S1x2048x512 .f32) (L : List (View.Piece (Elt Ideal) S2x2048x512 .f32)) :
    v.readAt (Elt Ideal) (Rect.unit (s := S2x2048x512) ![t, 0, 0] S1x2048x512.size inb).toLoadRect
      (v.writes (Elt Ideal) f (⟨Rect.unit (s := S2x2048x512) ![t, 0, 0] S1x2048x512.size inb', w⟩ :: L)) = w := by
  funext y
  have ht : t < 2 := by have := inb 0; simp at this; omega
  rw [readAt_unit v rfl inb _ y _ (slot_index ht y)]
  exact View.read_writes_cons_unit_of_mem v f inb' w L _ y rfl (slot_index ht y)

/-- The other slot is left alone. -/
theorem slot_skip {t t' : ℕ} (htt : t ≠ t') (inb : ∀ x, (![t, 0, 0] : Fin 3 → ℕ) x + S1x2048x512.size x ≤ S2x2048x512.size x)
    (inb' : ∀ x, (![t', 0, 0] : Fin 3 → ℕ) x + S1x2048x512.size x ≤ S2x2048x512.size x)
    (w : Vec Ideal S1x2048x512 .f32) (L : List (View.Piece (Elt Ideal) S2x2048x512 .f32)) :
    v.readAt (Elt Ideal) (Rect.unit (s := S2x2048x512) ![t, 0, 0] S1x2048x512.size inb).toLoadRect
      (v.writes (Elt Ideal) f (⟨Rect.unit (s := S2x2048x512) ![t', 0, 0] S1x2048x512.size inb', w⟩ :: L))
    = v.readAt (Elt Ideal) (Rect.unit (s := S2x2048x512) ![t, 0, 0] S1x2048x512.size inb).toLoadRect (v.writes (Elt Ideal) f L) := by
  funext y
  have ht : t < 2 := by have := inb 0; simp at this; omega
  rw [readAt_unit v rfl inb _ y _ (slot_index ht y), readAt_unit v rfl inb _ y _ (slot_index ht y)]
  rw [View.read_writes_cons_unit_of_not_mem v f inb' w _ _ rfl 0 (by
      rcases lt_or_gt_of_ne htt with h | h
      · exact .inl (by simpa using h)
      · exact .inr (by show t' + 1 ≤ t; omega))]

end Slots

/-- A block of rows of a buffer of two axes last written whole. -/
theorem readAt_rows {κ : Kind} {sp : Space} {e : EltTy} {a b o n : ℕ} (v : View sig κ sp ⟨2, ![a, b]⟩ e) (f : BufTy.Contents (Elt Ideal) v.ty)
    (inb : ∀ x, (![o, 0] : Fin 2 → ℕ) x + (![n, b] : Fin 2 → ℕ) x ≤ (⟨2, ![a, b]⟩ : Shape).size x)
    (inb' : ∀ x, (![0, 0] : Fin 2 → ℕ) x + (![a, b] : Fin 2 → ℕ) x ≤ (⟨2, ![a, b]⟩ : Shape).size x)
    (w : (⟨2, ![a, b]⟩ : Shape).Idx → Elt Ideal e) (L : List (View.Piece (Elt Ideal) ⟨2, ![a, b]⟩ e)) (r : Fin n) (c : Fin b) (r' : Fin a) (hr : r'.val = o + r.val) :
    v.readAt (Elt Ideal) (Rect.unit (s := ⟨2, ![a, b]⟩) ![o, 0] ![n, b] inb).toLoadRect
      (v.writes (Elt Ideal) f (⟨Rect.unit (s := ⟨2, ![a, b]⟩) ![0, 0] ![a, b] inb', w⟩ :: L)) (ix2 r c) = w (ix2 r' c) := by
  rw [readAt_unit v rfl inb _ (ix2 r c) (ix2 r' c) (fun x => by
    fin_cases x
    · exact hr
    · show c.val = 0 + c.val
      omega)]
  exact View.read_writes_cons_unit_of_mem v f inb' w L (ix2 r' c) (ix2 r' c) rfl (fun x => by fin_cases x <;> simp)

/-! ## The block written -/

/-- A row normalised: times the reciprocal root of its mean square plus the small constant, times the
    weights, times the last constant. -/
def normed (d w : Fin 256 → EReal) (c : Fin 256) : EReal :=
  d c * Ideal.rsqrt (Ideal.div (∑ e : Fin 256, d e * d e) (Ideal.ofBits .f32 0x43800000#32) + Ideal.ofBits .f32 0x358637BD#32)
    * w c * Ideal.ofBits .f32 0x3F24FD5C#32

/-- A row's sum over 256 columns. -/
theorem rowSum256_apply (x : FVec Ideal S1024x256 .f32) (R : Fin 1024) :
    multiReduction .add [1] S1024 x 0x00000000#32 reduces_S1024x256_S1024 (.inl rfl) rfl (ix1 R)
      = ∑ c : Fin 256, (x (ix2 R c) : EReal) := by
  refine (Ideal.multiReduction_add_single x _ reduces_S1024x256_S1024 (.inl rfl) rfl (ix1 R)).trans ?_
  refine Finset.sum_congr rfl fun c _ => ?_
  rw [lift_row]; rfl

/-- The sum of 128 products. -/
theorem rowSum128_apply (x : FVec Ideal S1x128 .f32) (R : Fin 1) :
    multiReduction .add [1] S1 x 0x00000000#32 reduces_S1x128_S1 (.inl rfl) rfl (ix1 R)
      = ∑ c : Fin 128, (x (ix2 R c) : EReal) := by
  refine (Ideal.multiReduction_add_single x _ reduces_S1x128_S1 (.inl rfl) rfl (ix1 R)).trans ?_
  refine Finset.sum_congr rfl fun c _ => ?_
  rw [lift_row]; rfl

/-- The quotients. -/
theorem pay140_apply (a : Vec Ideal S1024x256 .f32) (l : Vec Ideal S1024x128 .f32) (r : Fin 1024) (c : Fin 256) :
    k0_pay140 (F := Ideal) a l (ix2 r c) = Ideal.div (a (ix2 r c)) (l (ix2 r (col c.val))) := by
  unfold k0_pay140
  exact congrArg (fun z : EReal => Ideal.div (a (ix2 r c)) z) (cat2_apply l _ r c)

/-- The weight of the second attention. -/
def lam (x1 x2 x3 x4 : Fin 128 → EReal) : EReal :=
  Ideal.exp (∑ d : Fin 128, x1 d * x2 d) - Ideal.exp (∑ d : Fin 128, x3 d * x4 d) + Ideal.ofBits .f32 0x3EB60549#32

theorem pay139_apply (x1 x2 x3 x4 : Vec Ideal S1x128 .f32) :
    k0_pay139 (F := Ideal) x1 x2 x3 x4 (ix2 (0 : Fin 1) (0 : Fin 1))
      = lam (fun d => x1 (ix2 (0 : Fin 1) d)) (fun d => x2 (ix2 (0 : Fin 1) d)) (fun d => x3 (ix2 (0 : Fin 1) d)) (fun d => x4 (ix2 (0 : Fin 1) d)) := by
  unfold k0_pay139
  simp only [shapeCast_self]
  have h : ∀ y : FVec Ideal S1x128 .f32, shapeCast S1x1 (multiReduction .add [1] S1 y 0x00000000#32 reduces_S1x128_S1 (.inl rfl) rfl) shapeCasts_S1_S1x1 (ix2 (0 : Fin 1) (0 : Fin 1))
      = ∑ c : Fin 128, (y (ix2 (0 : Fin 1) c) : EReal) := fun y => by
    rw [shapeCast_a_a1_apply]; exact rowSum128_apply y 0
  have h1 := h (mulf x1 x2)
  have h2 := h (mulf x3 x4)
  exact congrArg₂ (fun p q : EReal => Ideal.exp p - Ideal.exp q + Ideal.ofBits .f32 0x3EB60549#32) h1 h2

/-- The block written, at an entry. -/
theorem pay1_apply (lm : FVec Ideal S1x1 .f32) (o0 : FVec Ideal S1024x256 .f32) (a : Vec Ideal S1024x256 .f32) (l : Vec Ideal S1024x128 .f32)
    (w : Vec Ideal S1x256 .f32) (r : Fin 1024) (c : Fin 256) :
    (k0_pay1 (F := Ideal) lm o0 a l w (ix2 r c) : EReal)
      = normed (fun e => (o0 (ix2 r e) : EReal) - lm (ix2 (0 : Fin 1) (0 : Fin 1)) * Ideal.div (a (ix2 r e)) (l (ix2 r (col e.val))))
          (fun e => w (ix2 (0 : Fin 1) e)) c := by
  unfold k0_pay1
  have hd : ∀ e : Fin 256, (subf o0 (mulf (broadcastTo S1024x256 lm broadcasts_S1x1_S1024x256)
      (divf a (concatenate S1024x256 1 [⟨S1024x128, l⟩, ⟨S1024x128, l⟩] concatenates_S1024x128_S1024x128_S1024x256_d1))) (ix2 r e) : EReal)
      = (o0 (ix2 r e) : EReal) - lm (ix2 (0 : Fin 1) (0 : Fin 1)) * Ideal.div (a (ix2 r e)) (l (ix2 r (col e.val))) := fun e => by
    refine congrArg₂ (fun p q : EReal => (o0 (ix2 r e) : EReal) - p * Ideal.div (a (ix2 r e)) q) ?_ (cat2_apply l _ r e)
    refine broadcastTo_apply lm _ (ix2 r e) (ix2 (0 : Fin 1) (0 : Fin 1)) fun ax => ?_
    match ax with
    | ⟨0, _⟩ => rfl
    | ⟨1, _⟩ => rfl
  generalize subf o0 _ = d at hd
  unfold normed
  simp only [← hd]
  refine congrArg₂ (fun p q : EReal => d (ix2 r c) * p * q * Ideal.ofBits .f32 0x3F24FD5C#32) ?_ ?_
  · refine (broadcastTo_col (by norm_num) _ _ r c).trans ?_
    refine congrArg (fun p : EReal => Ideal.rsqrt (Ideal.div p (Ideal.ofBits .f32 0x43800000#32) + Ideal.ofBits .f32 0x358637BD#32)) ?_
    refine (shapeCast_a_a1_apply _ _ r 0).trans ?_
    exact rowSum256_apply _ r
  · refine (broadcastTo_1b_ab_apply _ _ r c).trans ?_
    rw [shapeCast_self]

end Cert.Flash
-- ==== Proof.BodyOut.lean ====
module

public import proofs.«01_k».proof.Proof.KeyLoops
public import proofs.«01_k».proof.Proof.LastPair

/-! What one grid point writes, from what its input blocks hold. -/

@[expose] public section

set_option maxRecDepth 16384

noncomputable section

namespace Cert.Flash

open Idealize.ShloMosaic Idealize.ShloMosaic.TcCoe Idealize.ShloMosaic.ValueIdx Cert.KernelIdeal Cert.KernelIdeal.Gen

theorem v130_eq : ∀ i : grid0.Coords, bodyRun.sl.v130 i = BitVec.ofNat 32 (2 * (i 1).val) := by decide +kernel

/-- The factor the queries are scaled by: the score's scale, in the base of the powers of two. -/
def qscale : ℝ := (Real.sqrt 128)⁻¹ * (Real.log 2)⁻¹

theorem pay104_apply (q : Vec Ideal S1024x128 .bf16) (u : Fin 1) (r : Fin 1024) (d : Fin 128) :
    (k0_pay104 (F := Ideal) q (ix3 u r d) : EReal) = (q (ix2 r d) : EReal) * (qscale : EReal) := by
  unfold k0_pay104
  rw [shapeCast_ab_1ab_apply]
  rfl

/-- The scaled queries' buffer: each half's coordinates, scaled. -/
theorem queries_read {arg2 : Memref sig .tc .vmem S1024x256 .bf16} {arg11 : Memref sig .tc .vmem S2x1024x128 .bf16}
    (X2 : BufTy.Contents (Elt Ideal) arg2.view.ty) {q : ℕ → ℕ → ℝ}
    (hq : ∀ (r : Fin 1024) (e : Fin 256), (arg2.view.read (Elt Ideal) X2 (ix2 r e) : EReal) = (q r.val e.val : EReal))
    (h : Fin 2) (r : Fin 1024) (d : Fin 128) :
    (arg11.view.read (Elt Ideal) (arg11.view.writes (Elt Ideal) arg11.view.junk (bodyRun.sl.H11_2 (F := Ideal) arg2 X2)) (ix3 h r d) : EReal)
      = (((q r.val (128 * h.val + d.val) * qscale : ℝ)) : EReal) := by
  unfold bodyRun.sl.H11_2
  fin_cases h
  · refine (View.read_writes_cons_unit_of_not_mem arg11.view _ _ _ _ _ rfl 0 (.inl (by show (0 : ℕ) < 1; omega))).trans ?_
    refine (View.read_writes_cons_unit_of_mem arg11.view _ _ _ _ _ (ix3 (0 : Fin 1) r d) rfl (fun x => by fin_cases x <;> simp)).trans ?_
    refine (pay104_apply _ 0 r d).trans ?_
    refine (congrArg (fun z : EReal => z * (qscale : EReal)) ((readAt_unit arg2.view (off' := ![0, 0]) rfl _ X2 (ix2 r d) (ix2 r (⟨d.val, by omega⟩ : Fin 256)) (fun x => by fin_cases x <;> simp)).trans (hq _ _))).trans ?_
    rw [← EReal.coe_mul]
    simp
  · refine (View.read_writes_cons_unit_of_mem arg11.view _ _ _ _ _ (ix3 (0 : Fin 1) r d) rfl (fun x => by fin_cases x <;> simp)).trans ?_
    refine (pay104_apply _ 0 r d).trans ?_
    refine (congrArg (fun z : EReal => z * (qscale : EReal)) ((readAt_unit arg2.view (off' := ![0, 128]) rfl _ X2 (ix2 r d) (ix2 r (⟨128 + d.val, by omega⟩ : Fin 256)) (fun x => by fin_cases x <;> simp)).trans (hq _ _))).trans ?_
    rw [← EReal.coe_mul]
    simp

/-- The running sums' first values. -/
theorem inv_start (s : ℕ → ℕ → ℝ) (b : ℕ → ℕ) (v : ℕ → ℕ → ℝ) :
    Inv s b v 0 (k0_pay106 (F := Ideal)) (k0_pay107 (F := Ideal)) (k0_pay108 (F := Ideal)) := by
  intro R
  refine .inl ⟨rfl, fun j => ?_, fun j => ?_, fun j => ?_⟩
  · show k0_pay106 (F := Ideal) (ix2 R j) = (⊥ : EReal)
    unfold k0_pay106
    rw [shapeCast_self]
    show Ideal.ofBits .f32 0xFF800000#32 = ⊥
    simp [Ideal.ofBits, Ideal.ieee]
  · show k0_pay107 (F := Ideal) (ix2 R j) = (0 : EReal)
    unfold k0_pay107
    rw [shapeCast_self]
    exact Ideal.ofBits_zero_f32
  · show k0_pay108 (F := Ideal) (ix2 R j) = (0 : EReal)
    unfold k0_pay108
    rw [shapeCast_self]
    exact Ideal.ofBits_zero_f32

/-- The softmax-weighted mean of the values that row `R` of the tile's 2048 rows takes over the keys before `n`. -/
def mean (s : ℕ → ℕ → ℝ) (b : ℕ → ℕ) (v : ℕ → ℕ → ℝ) (n R j : ℕ) : ℝ :=
  (∑ k ∈ Finset.range n, wt (s R) (b R) 0 k * v k j) / (∑ k ∈ Finset.range n, wt (s R) (b R) 0 k)

set_option maxHeartbeats 4000000 in
/-- The three sums after the last pair of key tiles. -/
theorem sums (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole)
    (X2 : BufTy.Contents (Elt Ideal) arg2.view.ty) (X3 : BufTy.Contents (Elt Ideal) arg3.view.ty) (X4 : BufTy.Contents (Elt Ideal) arg4.view.ty)
    (f12 : BufTy.Contents (Elt Ideal) arg12.view.ty) {Q : ℕ → ℕ → ℕ → ℝ} {K V : ℕ → ℕ → ℝ}
    (D : Data arg3 arg4 arg11 X3 X4 (arg11.view.writes (Elt Ideal) arg11.view.junk (bodyRun.sl.H11_2 (F := Ideal) arg2 X2)) Q K V) :
    ∃ m, Inv (score Q K) (bound (i 1).val) V (1024 * (i 1).val + 512 + 512) m
      (k0_pay137 (F := Ideal) (bodyRun.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12))
      (k0_pay138 (F := Ideal) (bodyRun.sl.r_4 (F := Ideal) i arg4 X4) (bodyRun.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12)
        (bodyRun.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12) (bodyRun.sl.v247 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12)) := by
  have ha : (i 1).val < 16 := (i 1).isLt
  have s0 : LoopState arg12 arg13 arg14 arg15 (score Q K) (bound (i 1).val) V 0 (arg12.view.writes (Elt Ideal) f12 [⟨Rect.unit (s := S2x2048x512) ![0, 1024, 0] S1x1024x512.size inb_S2x2048x512_S1x1024x512_0_1024_0, k0_pay111 (F := Ideal) (bodyRun.sl.v82 (F := Ideal) arg2 arg11 X2)
        (arg3.view.readAt (Elt Ideal) (Rect.unit (s := S16384x256) ![0, 128] S512x128.size inb_S16384x256_S512x128_0_128).toLoadRect X3)⟩,
      ⟨Rect.unit (s := S2x2048x512) ![0, 0, 0] S1x1024x512.size inb_S2x2048x512_S1x1024x512_0_0_0, k0_pay110 (F := Ideal) (bodyRun.sl.v74 (F := Ideal) arg2 arg11 X2)
        (arg3.view.readAt (Elt Ideal) (Rect.unit (s := S16384x256) ![0, 0] S512x128.size inb_S16384x256_S512x128_0_0).toLoadRect X3)⟩]) (arg13.view.writes (Elt Ideal) arg13.view.junk (bodyRun.sl.H13_1 (F := Ideal))) (arg14.view.writes (Elt Ideal) arg14.view.junk (bodyRun.sl.H14_1 (F := Ideal))) (arg15.view.writes (Elt Ideal) arg15.view.junk (bodyRun.sl.H15_1 (F := Ideal))) :=
    ⟨slot_raw arg12.view f12 _ _ _ (D.half (h := 0) (n := 0) (e := 0) rfl _ rfl _) (D.half (h := 1) (n := 0) (e := 128) rfl _ rfl _) [],
      Inv.congr (readAt_whole arg13.view _ _ _ _ _) (readAt_whole arg14.view _ _ _ _ _) (readAt_whole arg15.view _ _ _ _ _) (inv_start _ _ _)⟩
  have s1 := loop_t1_append Variants.none c none i arg2 harg2 arg3 harg3 arg4 harg4 arg5 harg5 arg6 harg6 arg7 harg7 arg8 harg8 arg9 harg9 arg10 harg10 arg11 harg11 arg12 harg12 arg13 harg13 arg14 harg14 arg15 harg15 (bodyRun.sl.v72 i) (bodyRun.sl.v90 i) (bodyRun.sl.v91 i) (bodyRun.sl.v102 i) (bodyRun.sl.v104 i) X3 X4 _ f12 arg13.view.junk arg14.view.junk arg15.view.junk _ _ _ _ D (b := bound (i 1).val) (fun R => Nat.le_add_right _ _) s0
  have s2 := loop_t2_append Variants.none c none i arg2 harg2 arg3 harg3 arg4 harg4 arg5 harg5 arg6 harg6 arg7 harg7 arg8 harg8 arg9 harg9 arg10 harg10 arg11 harg11 arg12 harg12 arg13 harg13 arg14 harg14 arg15 harg15 (bodyRun.sl.v72 i) (bodyRun.sl.v90 i) (bodyRun.sl.v91 i) (bodyRun.sl.v102 i) (bodyRun.sl.v104 i) (bodyRun.sl.v112 i) X3 X4 _ f12 arg13.view.junk arg14.view.junk arg15.view.junk _ _ _ _ D (b := bound (i 1).val) (fun R => Nat.le_add_right _ _) s1
  have s3 := loop_t3_append Variants.none c none i arg2 harg2 arg3 harg3 arg4 harg4 arg5 harg5 arg6 harg6 arg7 harg7 arg8 harg8 arg9 harg9 arg10 harg10 arg11 harg11 arg12 harg12 arg13 harg13 arg14 harg14 arg15 harg15 (bodyRun.sl.v72 i) (bodyRun.sl.v90 i) (bodyRun.sl.v91 i) (bodyRun.sl.v102 i) (bodyRun.sl.v104 i) (bodyRun.sl.v123 i) X3 X4 _ f12 arg13.view.junk arg14.view.junk arg15.view.junk _ _ _ _ D (b := bound (i 1).val) (fun R => Nat.le_add_right _ _) s2
  have st := loop_t4_append Variants.none c none i arg2 harg2 arg3 harg3 arg4 harg4 arg5 harg5 arg6 harg6 arg7 harg7 arg8 harg8 arg9 harg9 arg10 harg10 arg11 harg11 arg12 harg12 arg13 harg13 arg14 harg14 arg15 harg15 (bodyRun.sl.v72 i) (bodyRun.sl.v90 i) (bodyRun.sl.v91 i) (bodyRun.sl.v102 i) (bodyRun.sl.v104 i) (bodyRun.sl.v128 i) X3 X4 _ f12 arg13.view.junk arg14.view.junk arg15.view.junk _ _ _ _ D (b := bound (i 1).val) (fun R => Nat.le_add_right _ _) s3
  have t0 : Tile (score Q K) (bound (i 1).val) (1024 * (i 1).val) (bodyRun.sl.v168 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12) := by
    have e0 : bodyRun.sl.v168 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 = _ := slot_whole arg12.view _ _ _ _ _
    rw [e0]
    exact Raw.mask0 ha rfl (Raw.congr (slot_other arg12.view f12 (by decide) _ _ _ _) st.raw) (v130_eq i)
  have t1 : Tile (score Q K) (bound (i 1).val) (1024 * (i 1).val + 512) (bodyRun.sl.v221 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12) := by
    have e1 : bodyRun.sl.v221 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 = _ := slot_whole arg12.view _ _ _ _ _
    rw [e1]
    refine Raw.mask1 ha rfl (Raw.congr (slot_skip arg12.view _ (by decide) _ _ _ _) ?_) (v130_eq i)
    have lo : Half (score Q K) 0 (1024 * (i 1).val + 512) (k0_pay121 (F := Ideal) (bodyRun.sl.r_1 (F := Ideal) arg2 arg11 X2)
        (arg3.view.readAt (Elt Ideal) (Rect.unit (s := S16384x256) (k0_off17 i) S512x128.size (k0_off17_inb i)).toLoadRect X3)) :=
      D.half (h := 0) (e := 0) rfl inb_S2x1024x128_S1x1024x128_0_0_0 (k0_off17_eq i) (k0_off17_inb i)
    have hi : Half (score Q K) 1 (1024 * (i 1).val + 512) (k0_pay122 (F := Ideal) (bodyRun.sl.v142 (F := Ideal) arg2 arg11 X2)
        (arg3.view.readAt (Elt Ideal) (Rect.unit (s := S16384x256) (k0_off18 i) S512x128.size (k0_off18_inb i)).toLoadRect X3)) :=
      D.half (h := 1) (e := 128) rfl inb_S2x1024x128_S1x1024x128_1_0_0 (k0_off18_eq i) (k0_off18_inb i)
    exact slot_raw (t := 1) arg12.view _ _ inb_S2x2048x512_S1x1024x512_1_1024_0 inb_S2x2048x512_S1x1024x512_1_0_0 lo hi _
  have i1 := st.inv.step t0 (D.vtile (k0_off19_eq i) (k0_off19_inb i))
  have i2 : Inv (score Q K) (bound (i 1).val) V (1024 * (i 1).val + 512) (bodyRun.sl.v220 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12)
      (bodyRun.sl.v237 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12) (bodyRun.sl.v247 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12) :=
    Inv.congr (readAt_whole arg13.view _ _ _ _ _) (readAt_whole arg14.view _ _ _ _ _) (readAt_whole arg15.view _ _ _ _ _) i1
  exact ⟨_, i2.step t1 (D.vtile (k0_off20_eq i) (k0_off20_inb i))⟩

/-- A quotient of the last sums is the weighted mean. -/
theorem inv_mean {s : ℕ → ℕ → ℝ} {b : ℕ → ℕ} {v : ℕ → ℕ → ℝ} {n : ℕ} {m l : Vec Ideal S2048x128 .f32} {a : Vec Ideal S2048x256 .f32}
    (h : Inv s b v n m l a) (R : Fin 2048) (hn : b R.val < n) (j : Fin 256) :
    Ideal.div (a (ix2 R j)) (l (ix2 R (col j.val))) = ((mean s b v n R.val j.val : ℝ) : EReal) := quotient _ _ _ _ _ _ _ (h R) hn j (col j.val)

set_option maxHeartbeats 4000000 in
/-- The block one grid point writes, from the real queries, keys and values its blocks hold. -/
theorem block_read (c : Dev nD) (i : grid0.Coords) (arg2 : Memref sig .tc .vmem S1024x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x256 .f32) (harg9 : arg9.IsWhole) (arg10 : Memref sig .tc .vmem S1024x256 .bf16) (harg10 : arg10.IsWhole) (arg11 : Memref sig .tc .vmem S2x1024x128 .bf16) (harg11 : arg11.IsWhole) (arg12 : Memref sig .tc .vmem S2x2048x512 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty)
    (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty)
    {q K V : ℕ → ℕ → ℝ}
    (hq : ∀ (r : Fin 1024) (e : Fin 256), (arg2.view.read (Elt Ideal) X2 (ix2 r e) : EReal) = (q r.val e.val : EReal))
    (hk : ∀ (a : Fin 16384) (e : Fin 256), (arg3.view.read (Elt Ideal) X3 (ix2 a e) : EReal) = (K a.val e.val : EReal))
    (hv : ∀ (a : Fin 16384) (e : Fin 256), (arg4.view.read (Elt Ideal) X4 (ix2 a e) : EReal) = (V a.val e.val : EReal))
    (r : Fin 1024) (e : Fin 256) :
    (arg10.view.read (Elt Ideal) (arg10.view.writes (Elt Ideal) f10 ((bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9).1 f11 f12 f13 f14 f15)) (ix2 r e) : EReal)
      = normed (fun e => (mean (score (fun h r d => q r (128 * h + d) * qscale) K) (bound (i 1).val) V (1024 * (i 1).val + 1024) r.val e.val : EReal)
          - lam (fun d => arg5.view.read (Elt Ideal) X5 (ix2 (0 : Fin 1) d)) (fun d => arg6.view.read (Elt Ideal) X6 (ix2 (0 : Fin 1) d))
              (fun d => arg7.view.read (Elt Ideal) X7 (ix2 (0 : Fin 1) d)) (fun d => arg8.view.read (Elt Ideal) X8 (ix2 (0 : Fin 1) d))
            * (mean (score (fun h r d => q r (128 * h + d) * qscale) K) (bound (i 1).val) V (1024 * (i 1).val + 1024) (1024 + r.val) e.val : EReal))
          (fun e => arg9.view.read (Elt Ideal) X9 (ix2 (0 : Fin 1) e)) e := by
  have D : Data arg3 arg4 arg11 X3 X4 (arg11.view.writes (Elt Ideal) arg11.view.junk (bodyRun.sl.H11_2 (F := Ideal) arg2 X2))
      (fun h r d => q r (128 * h + d) * qscale) K V := ⟨hk, hv, queries_read X2 hq⟩
  obtain ⟨m, inv⟩ := sums c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 D
  unfold bodyRun
  dsimp only
  refine (View.read_writes_cons_unit_of_mem arg10.view f10 _ _ _ _ (ix2 r e) rfl (fun x => by fin_cases x <;> simp)).trans ?_
  refine (pay1_apply _ _ _ _ _ r e).trans ?_
  have hb0 : bound (i 1).val r.val < 1024 * (i 1).val + 512 + 512 := by unfold bound; omega
  have hb1 : bound (i 1).val (1024 + r.val) < 1024 * (i 1).val + 512 + 512 := by unfold bound; omega
  have h0 : ∀ e : Fin 256, (bodyRun.sl.r_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 (ix2 r e) : EReal)
      = (mean (score (fun h r d => q r (128 * h + d) * qscale) K) (bound (i 1).val) V (1024 * (i 1).val + 1024) r.val e.val : EReal) := fun e => by
    refine (pay140_apply _ _ r e).trans ?_
    refine Eq.trans (congrArg₂ Ideal.div ?_ ?_) (inv_mean inv ⟨r.val, by omega⟩ hb0 e)
    · exact readAt_rows arg15.view _ _ _ _ _ r e _ (by simp)
    · exact readAt_rows arg14.view _ _ _ _ _ r (col e.val) _ (by simp)
  have h1 : ∀ e : Fin 256, Ideal.div (bodyRun.sl.v278 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 (ix2 r e)) (bodyRun.sl.v279 (F := Ideal) c i arg2 harg2 arg3 harg3 arg4 harg4 arg5 harg5 arg6 harg6 arg7 harg7 arg8 harg8 arg9 harg9 arg10 harg10 arg11 harg11 arg12 harg12 arg13 harg13 arg14 harg14 arg15 harg15 X2 X3 X4 f12 (ix2 r (col e.val)))
      = (mean (score (fun h r d => q r (128 * h + d) * qscale) K) (bound (i 1).val) V (1024 * (i 1).val + 1024) (1024 + r.val) e.val : EReal) := fun e => by
    refine Eq.trans (congrArg₂ Ideal.div ?_ ?_) (inv_mean inv ⟨1024 + r.val, by omega⟩ hb1 e)
    · exact readAt_rows arg15.view _ _ _ _ _ r e _ (by simp)
    · exact readAt_rows arg14.view _ _ _ _ _ r (col e.val) _ (by simp)
  have h2 : (bodyRun.sl.r_8 (F := Ideal) arg5 arg6 arg7 arg8 X5 X6 X7 X8 (ix2 (0 : Fin 1) (0 : Fin 1)) : EReal)
      = lam (fun d => arg5.view.read (Elt Ideal) X5 (ix2 (0 : Fin 1) d)) (fun d => arg6.view.read (Elt Ideal) X6 (ix2 (0 : Fin 1) d))
              (fun d => arg7.view.read (Elt Ideal) X7 (ix2 (0 : Fin 1) d)) (fun d => arg8.view.read (Elt Ideal) X8 (ix2 (0 : Fin 1) d)) := by
    refine (pay139_apply _ _ _ _).trans ?_
    congr 1
    · exact funext fun d => readAt_unit arg5.view (off' := ![0, 0]) rfl _ X5 (ix2 (0 : Fin 1) d) (ix2 (0 : Fin 1) d) (fun x => by fin_cases x <;> simp)
    · exact funext fun d => readAt_unit arg6.view (off' := ![0, 0]) rfl _ X6 (ix2 (0 : Fin 1) d) (ix2 (0 : Fin 1) d) (fun x => by fin_cases x <;> simp)
    · exact funext fun d => readAt_unit arg7.view (off' := ![0, 0]) rfl _ X7 (ix2 (0 : Fin 1) d) (ix2 (0 : Fin 1) d) (fun x => by fin_cases x <;> simp)
    · exact funext fun d => readAt_unit arg8.view (off' := ![0, 0]) rfl _ X8 (ix2 (0 : Fin 1) d) (ix2 (0 : Fin 1) d) (fun x => by fin_cases x <;> simp)
  refine congrArg₂ (fun p w => normed p w e) (funext fun e => ?_) (funext fun e => ?_)
  · exact congr (congrArg (fun (x y : EReal) => x - y) (h0 e)) (congr (congrArg (fun (x y : EReal) => x * y) h2) (h1 e))
  · exact readAt_unit arg9.view (off' := ![0, 0]) rfl _ X9 (ix2 (0 : Fin 1) e) (ix2 (0 : Fin 1) e) (fun x => by fin_cases x <;> simp)

end Cert.Flash
-- ==== Proof.Spec.lean ====
module

public import proofs.«01_k».proof.Proof.BodyOut

/-! The differential attention as one function of the argument arrays, a row and a head at a time.

A row `p` of head `h` has two softmaxes, `μ = 0` and `μ = 1`, over the keys `k ≤ p`; each gives a
weighted average of the value rows. The result row is the first average less `lam` times the second,
scaled to mean square one and by the sub-layer's weights. -/

@[expose] public section

set_option maxRecDepth 16384

noncomputable section

namespace Cert.Flash

open Idealize.ShloMosaic Idealize.ShloMosaic.TcCoe Idealize.ShloMosaic.ValueIdx Cert.KernelIdeal

/-- Query row `p` against key row `k` of head `h`, in its half `μ`. -/
def qk (Z : ℕ → ℕ → ℝ) (h μ p k : ℕ) : ℝ :=
  ∑ d : Fin 128, Z p (3072 + 256 * h + 128 * μ + d.val) * Z k (4096 + 256 * h + 128 * μ + d.val)

/-- The weight row `p` gives key `k`, before it is divided by the row's sum. -/
def weight (Z : ℕ → ℕ → ℝ) (h μ p k : ℕ) : ℝ := if k ≤ p then Real.rpow 2 (qk Z h μ p k * qscale) else 0

/-- The weighted average of the value rows. -/
def avg (Z : ℕ → ℕ → ℝ) (h μ p e : ℕ) : ℝ :=
  (∑ k ∈ Finset.range 16384, weight Z h μ p k * Z k (5120 + 256 * h + e)) / (∑ k ∈ Finset.range 16384, weight Z h μ p k)

/-- A sum over the keys of a query tile and those before it is the sum over all the keys. -/
theorem sum_keys {f : ℕ → ℝ} {n : ℕ} (hn : n ≤ 16384) (h : ∀ k, n ≤ k → f k = 0) :
    ∑ k ∈ Finset.range n, f k = ∑ k ∈ Finset.range 16384, f k :=
  Finset.sum_subset (by simpa using hn) fun k _ hk => h k (by simpa using hk)

theorem mean_eq_avg (Z : ℕ → ℕ → ℝ) {h μ a r : ℕ} (ha : a < 16) (hr : r < 1024) (e R : ℕ) (hR : R = 1024 * μ + r) :
    mean (score (fun g s d => Z (1024 * a + s) (3072 + 256 * h + (128 * g + d)) * qscale) (fun k c => Z k (4096 + 256 * h + c)))
        (bound a) (fun k c => Z k (5120 + 256 * h + c)) (1024 * a + 1024) R e
      = avg Z h μ (1024 * a + r) e := by
  subst hR
  have e1 : (1024 * μ + r) / 1024 = μ := by omega
  have e2 : (1024 * μ + r) % 1024 = r := by omega
  have hw : ∀ k, wt (score (fun g s d => Z (1024 * a + s) (3072 + 256 * h + (128 * g + d)) * qscale) (fun k c => Z k (4096 + 256 * h + c))
      (1024 * μ + r)) (bound a (1024 * μ + r)) 0 k = weight Z h μ (1024 * a + r) k := by
    intro k
    unfold wt weight bound score qk
    rw [e1, e2, sub_zero, Finset.sum_mul]
    refine if_congr Iff.rfl (congrArg _ (Finset.sum_congr rfl fun d _ => ?_)) rfl
    dsimp only
    rw [show 3072 + 256 * h + (128 * μ + d.val) = 3072 + 256 * h + 128 * μ + d.val by omega,
      show 4096 + 256 * h + (128 * μ + d.val) = 4096 + 256 * h + 128 * μ + d.val by omega]
    ring
  have h0 : ∀ k, 1024 * a + 1024 ≤ k → weight Z h μ (1024 * a + r) k = 0 := fun k hk => if_neg (by omega)
  unfold mean avg
  simp only [hw]
  rw [sum_keys (by omega) h0, sum_keys (by omega) fun k hk => by rw [h0 k hk, zero_mul]]

/-- The activations as real numbers. -/
def realOf (z : S16384x6144.Idx → EReal) (p c : ℕ) : ℝ :=
  if h : p < 16384 ∧ c < 6144 then (z (ix2 ⟨p, h.1⟩ ⟨c, h.2⟩)).toReal else 0

theorem realOf_eq {z : S16384x6144.Idx → EReal} (hz : ∀ i, z i ≠ ⊥ ∧ z i ≠ ⊤) (p c : ℕ) (i : S16384x6144.Idx)
    (h0 : (i 0).val = p) (h1 : (i 1).val = c) : z i = (realOf z p c : EReal) := by
  have l0 : p < 16384 := h0 ▸ (show (i 0).val < 16384 from (i 0).isLt)
  have l1 : c < 6144 := h1 ▸ (show (i 1).val < 6144 from (i 1).isLt)
  have e : i = ix2 ⟨p, l0⟩ ⟨c, l1⟩ := by
    funext a; match a with | ⟨0, _⟩ => exact Fin.ext h0 | ⟨1, _⟩ => exact Fin.ext h1
  unfold realOf
  rw [dif_pos ⟨l0, l1⟩, ← e, EReal.coe_toReal (hz i).2 (hz i).1]

/-- The scalar the second average is multiplied by, from the four vectors as they are given. -/
def lamOf (x1 x2 x3 x4 : S128.Idx → EReal) : EReal :=
  lam (fun d => x1 (ix1 d)) (fun d => x2 (ix1 d)) (fun d => x3 (ix1 d)) (fun d => x4 (ix1 d))

/-- Row `p` of head `h`, before its scale. -/
def diff (z : S16384x6144.Idx → EReal) (l : EReal) (h p : ℕ) (e : Fin 256) : EReal :=
  (avg (realOf z) h 0 p e.val : EReal) - l * (avg (realOf z) h 1 p e.val : EReal)

/-- The result array. -/
def attn (z : S16384x6144.Idx → EReal) (x1 x2 x3 x4 : S128.Idx → EReal) (w : S256.Idx → EReal) (i : S16384x1024.Idx) : EReal :=
  normed (diff z (lamOf x1 x2 x3 x4) ((i 1).val / 256) (i 0).val) (fun e => w (ix1 e)) ⟨(i 1).val % 256, Nat.mod_lt _ (by omega)⟩

end Cert.Flash

end
-- ==== Proof.IdealValue.lean ====
module

public import proofs.«01_k».proof.Proof.IdealLaunch
public import proofs.«01_k».proof.Proof.Spec
public import Idealize.ShloMosaic.Lib.Pipeline.ValueKit

/-! The attention kernel over its whole grid: the result array is `attn` of the argument arrays. -/

@[expose] public section

set_option maxRecDepth 16384

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! ## The blocks, at coordinates -/

theorem at0 : ∀ t : Fin cfg0.N, win0_0.index t = ![(grid0.coords t 1).val, 12 + (grid0.coords t 0).val] :=
  (by decide +kernel : ∀ t : Fin grid0.N, _)
theorem at1 : ∀ t : Fin cfg0.N, win0_1.index t = ![0, 16 + (grid0.coords t 0).val] := (by decide +kernel : ∀ t : Fin grid0.N, _)
theorem at2 : ∀ t : Fin cfg0.N, win0_2.index t = ![0, 20 + (grid0.coords t 0).val] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![(grid0.coords t 1).val, (grid0.coords t 0).val] :=
  (by decide +kernel : ∀ t : Fin grid0.N, _)
theorem tile_lt : ∀ t : Fin cfg0.N, (grid0.coords t 1).val < 16 := (by decide +kernel : ∀ t : Fin grid0.N, _)

/-! ## The five vectors, as one-row arrays -/

theorem vec0 (c : Dev nD) (d : Fin 128) : V m c main_v0 (ValueIdx.ix2 (0 : Fin 1) d) = m ((c : Thread nD τ).loc main_arg1) (ValueIdx.ix1 d) := by
  have h : V m c main_v0 = shapeCast S1x128 (m ((c : Thread nD τ).loc main_arg1)) shapeCasts_S128_S1x128 := by
    unfold V hostOps0; after_results; rfl
  rw [h]; exact ValueIdx.shapeCast_a_1a_apply _ _ _ _
theorem vec1 (c : Dev nD) (d : Fin 128) : V m c main_v1 (ValueIdx.ix2 (0 : Fin 1) d) = m ((c : Thread nD τ).loc main_arg2) (ValueIdx.ix1 d) := by
  have h : V m c main_v1 = shapeCast S1x128 (m ((c : Thread nD τ).loc main_arg2)) shapeCasts_S128_S1x128 := by
    unfold V hostOps0; after_results; rfl
  rw [h]; exact ValueIdx.shapeCast_a_1a_apply _ _ _ _
theorem vec2 (c : Dev nD) (d : Fin 128) : V m c main_v2 (ValueIdx.ix2 (0 : Fin 1) d) = m ((c : Thread nD τ).loc main_arg3) (ValueIdx.ix1 d) := by
  have h : V m c main_v2 = shapeCast S1x128 (m ((c : Thread nD τ).loc main_arg3)) shapeCasts_S128_S1x128 := by
    unfold V hostOps0; after_results; rfl
  rw [h]; exact ValueIdx.shapeCast_a_1a_apply _ _ _ _
theorem vec3 (c : Dev nD) (d : Fin 128) : V m c main_v3 (ValueIdx.ix2 (0 : Fin 1) d) = m ((c : Thread nD τ).loc main_arg4) (ValueIdx.ix1 d) := by
  have h : V m c main_v3 = shapeCast S1x128 (m ((c : Thread nD τ).loc main_arg4)) shapeCasts_S128_S1x128 := by
    unfold V hostOps0; after_results; rfl
  rw [h]; exact ValueIdx.shapeCast_a_1a_apply _ _ _ _
theorem vec4 (c : Dev nD) (d : Fin 256) : V m c main_v4 (ValueIdx.ix2 (0 : Fin 1) d) = m ((c : Thread nD τ).loc main_arg5) (ValueIdx.ix1 d) := by
  have h : V m c main_v4 = shapeCast S1x256 (m ((c : Thread nD τ).loc main_arg5)) shapeCasts_S256_S1x256 := by
    unfold V hostOps0; after_results; rfl
  rw [h]; exact ValueIdx.shapeCast_a_1a_apply _ _ _ _

/-- The result array of core `c`. -/
def result (c : Dev nD) : S16384x1024.Idx → EReal :=
  attn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The activations of core `c`. -/
def activations (c : Dev nD) : S16384x6144.Idx → EReal := m ((c : Thread nD τ).loc main_arg0)

/-- The activations are real numbers. -/
def RealZ : Prop := ∀ (c : Dev nD) (i : S16384x6144.Idx), activations m c i ≠ ⊥ ∧ activations m c i ≠ ⊤

variable (hz : RealZ m)

/-- The result array's block at each grid point. -/
def blocks : OutBlocks Ideal := fun c t => ((cfg0.win 8).blk t).view.read (Elt Ideal) (result m c)

theorem blk0 (hz : RealZ m) (c : Dev nD) (t : Fin cfg0.N) (r : Fin 1024) (e : Fin 256) :
    (iblk m c 0 t (ValueIdx.ix2 r e) : EReal) = (realOf (activations m c) (1024 * (grid0.coords t 1).val + r.val) (3072 + 256 * (grid0.coords t 0).val + e.val) : EReal) := by
  have h : iblk m c 0 t (ValueIdx.ix2 r e) = V m c main_arg0 (((cfg0.win 0).blk t).view.emb (ValueIdx.ix2 r e)) := rfl
  rw [h, V_main_arg0]
  refine realOf_eq (hz c) _ _ _ ?_ ?_
  · blk_simp [at0]; simp; omega
  · blk_simp [at0]; simp; omega

theorem blk1 (hz : RealZ m) (c : Dev nD) (t : Fin cfg0.N) (a : Fin 16384) (e : Fin 256) :
    (iblk m c 1 t (ValueIdx.ix2 a e) : EReal) = (realOf (activations m c) a.val (4096 + 256 * (grid0.coords t 0).val + e.val) : EReal) := by
  have h : iblk m c 1 t (ValueIdx.ix2 a e) = V m c main_arg0 (((cfg0.win 1).blk t).view.emb (ValueIdx.ix2 a e)) := rfl
  rw [h, V_main_arg0]
  refine realOf_eq (hz c) _ _ _ ?_ ?_
  · blk_simp [at1]
  · blk_simp [at1]; simp; omega

theorem blk2 (hz : RealZ m) (c : Dev nD) (t : Fin cfg0.N) (a : Fin 16384) (e : Fin 256) :
    (iblk m c 2 t (ValueIdx.ix2 a e) : EReal) = (realOf (activations m c) a.val (5120 + 256 * (grid0.coords t 0).val + e.val) : EReal) := by
  have h : iblk m c 2 t (ValueIdx.ix2 a e) = V m c main_arg0 (((cfg0.win 2).blk t).view.emb (ValueIdx.ix2 a e)) := rfl
  rw [h, V_main_arg0]
  refine realOf_eq (hz c) _ _ _ ?_ ?_
  · blk_simp [at2]
  · blk_simp [at2]; simp; omega

theorem blk3 (c : Dev nD) (t : Fin cfg0.N) (d : Fin 128) :
    (iblk m c 3 t (ValueIdx.ix2 (0 : Fin 1) d) : EReal) = m ((c : Thread nD τ).loc main_arg1) (ValueIdx.ix1 d) := by
  have h : iblk m c 3 t (ValueIdx.ix2 (0 : Fin 1) d) = V m c main_v0 (((cfg0.win 3).blk t).view.emb (ValueIdx.ix2 (0 : Fin 1) d)) := rfl
  have e : ((cfg0.win 3).blk t).view.emb (ValueIdx.ix2 (0 : Fin 1) d) = ValueIdx.ix2 (0 : Fin 1) d := by
    funext a; apply Fin.ext; match a with | ⟨0, _⟩ => (blk_simp [at3]) | ⟨1, _⟩ => (blk_simp [at3])
  rw [h, e]; exact vec0 m c d
theorem blk4 (c : Dev nD) (t : Fin cfg0.N) (d : Fin 128) :
    (iblk m c 4 t (ValueIdx.ix2 (0 : Fin 1) d) : EReal) = m ((c : Thread nD τ).loc main_arg2) (ValueIdx.ix1 d) := by
  have h : iblk m c 4 t (ValueIdx.ix2 (0 : Fin 1) d) = V m c main_v1 (((cfg0.win 4).blk t).view.emb (ValueIdx.ix2 (0 : Fin 1) d)) := rfl
  have e : ((cfg0.win 4).blk t).view.emb (ValueIdx.ix2 (0 : Fin 1) d) = ValueIdx.ix2 (0 : Fin 1) d := by
    funext a; apply Fin.ext; match a with | ⟨0, _⟩ => (blk_simp [at4]) | ⟨1, _⟩ => (blk_simp [at4])
  rw [h, e]; exact vec1 m c d
theorem blk5 (c : Dev nD) (t : Fin cfg0.N) (d : Fin 128) :
    (iblk m c 5 t (ValueIdx.ix2 (0 : Fin 1) d) : EReal) = m ((c : Thread nD τ).loc main_arg3) (ValueIdx.ix1 d) := by
  have h : iblk m c 5 t (ValueIdx.ix2 (0 : Fin 1) d) = V m c main_v2 (((cfg0.win 5).blk t).view.emb (ValueIdx.ix2 (0 : Fin 1) d)) := rfl
  have e : ((cfg0.win 5).blk t).view.emb (ValueIdx.ix2 (0 : Fin 1) d) = ValueIdx.ix2 (0 : Fin 1) d := by
    funext a; apply Fin.ext; match a with | ⟨0, _⟩ => (blk_simp [at5]) | ⟨1, _⟩ => (blk_simp [at5])
  rw [h, e]; exact vec2 m c d
theorem blk6 (c : Dev nD) (t : Fin cfg0.N) (d : Fin 128) :
    (iblk m c 6 t (ValueIdx.ix2 (0 : Fin 1) d) : EReal) = m ((c : Thread nD τ).loc main_arg4) (ValueIdx.ix1 d) := by
  have h : iblk m c 6 t (ValueIdx.ix2 (0 : Fin 1) d) = V m c main_v3 (((cfg0.win 6).blk t).view.emb (ValueIdx.ix2 (0 : Fin 1) d)) := rfl
  have e : ((cfg0.win 6).blk t).view.emb (ValueIdx.ix2 (0 : Fin 1) d) = ValueIdx.ix2 (0 : Fin 1) d := by
    funext a; apply Fin.ext; match a with | ⟨0, _⟩ => (blk_simp [at6]) | ⟨1, _⟩ => (blk_simp [at6])
  rw [h, e]; exact vec3 m c d
theorem blk7 (c : Dev nD) (t : Fin cfg0.N) (d : Fin 256) :
    (iblk m c 7 t (ValueIdx.ix2 (0 : Fin 1) d) : EReal) = m ((c : Thread nD τ).loc main_arg5) (ValueIdx.ix1 d) := by
  have h : iblk m c 7 t (ValueIdx.ix2 (0 : Fin 1) d) = V m c main_v4 (((cfg0.win 7).blk t).view.emb (ValueIdx.ix2 (0 : Fin 1) d)) := rfl
  have e : ((cfg0.win 7).blk t).view.emb (ValueIdx.ix2 (0 : Fin 1) d) = ValueIdx.ix2 (0 : Fin 1) d := by
    funext a; apply Fin.ext; match a with | ⟨0, _⟩ => (blk_simp [at7]) | ⟨1, _⟩ => (blk_simp [at7])
  rw [h, e]; exact vec4 m c d

theorem normed_congr {d d' w w' : Fin 256 → EReal} {c c' : Fin 256} (hd : ∀ e, d e = d' e) (hw : ∀ e, w e = w' e) (hc : c = c') :
    normed d w c = normed d' w' c' := by
  obtain rfl := funext hd; obtain rfl := funext hw; subst hc; rfl

/-- What the body leaves at a grid point is the point's block of the result array. -/
theorem out_block (hz : RealZ m) (c : Dev nD) (t : Fin cfg0.N) (f10 f11 f12 f13 f14 f15) :
    outAt m c t f10 f11 f12 f13 f14 f15 = blocks m c t := by
  funext y
  obtain ⟨r, e, rfl⟩ : ∃ (r : Fin 1024) (e : Fin 256), y = ValueIdx.ix2 r e :=
    ⟨y 0, y 1, by funext a; match a with | ⟨0, _⟩ => rfl | ⟨1, _⟩ => rfl⟩
  unfold outAt bodyOut
  refine (block_read (q := fun s k => realOf (activations m c) (1024 * (grid0.coords t 1).val + s) (3072 + 256 * (grid0.coords t 0).val + k))
    (K := fun a k => realOf (activations m c) a (4096 + 256 * (grid0.coords t 0).val + k))
    (V := fun a k => realOf (activations m c) a (5120 + 256 * (grid0.coords t 0).val + k))
    _ _ _ _ _ _ _ _ _ _ _ _ _ _ _ _ _ _ _ _ _ _ _ _ _ _ _ _ _ _ _ _ _ _ _ _ _ _ _ _ _ _ _ _
    (fun r e => ?_) (fun a e => ?_) (fun a e => ?_) r e).trans ?_
  · rw [Memref.IsWhole.read_unread]; exact blk0 m hz c t r e
  · rw [Memref.IsWhole.read_unread]; exact blk1 m hz c t a e
  · rw [Memref.IsWhole.read_unread]; exact blk2 m hz c t a e
  have hp : (((cfg0.win 8).blk t).view.emb (ValueIdx.ix2 r e) 0).val = 1024 * (grid0.coords t 1).val + r.val := by
    blk_simp [at8]; show (grid0.coords t 1).val * 1024 + r.val = _; omega
  have hc : (((cfg0.win 8).blk t).view.emb (ValueIdx.ix2 r e) 1).val = 256 * (grid0.coords t 0).val + e.val := by
    blk_simp [at8]; show (grid0.coords t 0).val * 256 + e.val = _; omega
  show _ = result m c (((cfg0.win 8).blk t).view.emb (ValueIdx.ix2 r e))
  unfold result attn
  have he := e.isLt
  have hh : (((cfg0.win 8).blk t).view.emb (ValueIdx.ix2 r e) 1).val / 256 = (grid0.coords t 0).val := by rw [hc]; omega
  refine normed_congr (fun k => ?_) (fun k => ?_) (Fin.ext (by show e.val = _ % 256; rw [hc]; omega))
  · rw [hp, hh]
    unfold diff
    rw [mean_eq_avg (realOf (activations m c)) (μ := 0) (tile_lt t) r.isLt k.val r.val (by omega),
      mean_eq_avg (realOf (activations m c)) (μ := 1) (tile_lt t) r.isLt k.val (1024 + r.val) (by omega)]
    refine congrArg (fun l : EReal => (avg (realOf (activations m c)) (grid0.coords t 0).val 0 (1024 * (grid0.coords t 1).val + r.val) k.val : EReal)
      - l * (avg (realOf (activations m c)) (grid0.coords t 0).val 1 (1024 * (grid0.coords t 1).val + r.val) k.val : EReal)) ?_
    unfold lamOf
    congr 1 <;> funext d
    · rw [Memref.IsWhole.read_unread]; exact blk3 m c t d
    · rw [Memref.IsWhole.read_unread]; exact blk4 m c t d
    · rw [Memref.IsWhole.read_unread]; exact blk5 m c t d
    · rw [Memref.IsWhole.read_unread]; exact blk6 m c t d
  · rw [Memref.IsWhole.read_unread]; exact blk7 m c t k

/-- The triple of the grid point, the output block named. -/
theorem point_block (hz : RealZ m) (c : Dev nD) (t : Fin cfg0.N) :
    pointPost m (blocks m) c t ⊢ (iprop((datsOf m (blocks m) 0 c).Φ t.succ ∗ (datsOf m (blocks m) 0 c).owesAt () t.succ
    ∗ owns (c : Thread nD τ) (st0_0 t) fullShare ((datsOf m (blocks m) 0 c).after 0 t) ∗ owns (c : Thread nD τ) (st0_1 t) fullShare ((datsOf m (blocks m) 0 c).after 1 t)
    ∗ owns (c : Thread nD τ) (st0_2 t) fullShare ((datsOf m (blocks m) 0 c).after 2 t) ∗ owns (c : Thread nD τ) (st0_3 t) fullShare ((datsOf m (blocks m) 0 c).after 3 t)
    ∗ owns (c : Thread nD τ) (st0_4 t) fullShare ((datsOf m (blocks m) 0 c).after 4 t) ∗ owns (c : Thread nD τ) (st0_5 t) fullShare ((datsOf m (blocks m) 0 c).after 5 t)
    ∗ owns (c : Thread nD τ) (st0_6 t) fullShare ((datsOf m (blocks m) 0 c).after 6 t) ∗ owns (c : Thread nD τ) (st0_7 t) fullShare ((datsOf m (blocks m) 0 c).after 7 t)
    ∗ owns (c : Thread nD τ) (st0_8 t) fullShare ((datsOf m (blocks m) 0 c).after 8 t)) : sProp (MT nD τ sig Unit (Elt Ideal) ℕ (UR sig nD τ) ℕ)) := by
  unfold pointPost
  rw [datsOf_after8]
  iintro ⟨HP, Ho, H0, H1, H2, H3, H4, H5, H6, H7, ⟨%f10, %f11, %f12, %f13, %f14, %f15, H8⟩⟩
  rw [out_block m hz c t f10 f11 f12 f13 f14 f15]
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the pipeline hands over, the output buffer at whatever it held. -/
theorem point_enter (c : Dev nD) (t : Fin cfg0.N) :
    (iprop((datsOf m (blocks m) 0 c).Φ t.castSucc ∗ (datsOf m (blocks m) 0 c).owesAt () t.castSucc
    ∗ (∃ d, owns (c : Thread nD τ) (st0_0 t) fullShare ((datsOf m (blocks m) 0 c).before 0 t d)) ∗ (∃ d, owns (c : Thread nD τ) (st0_1 t) fullShare ((datsOf m (blocks m) 0 c).before 1 t d)) ∗ (∃ d, owns (c : Thread nD τ) (st0_2 t) fullShare ((datsOf m (blocks m) 0 c).before 2 t d)) ∗ (∃ d, owns (c : Thread nD τ) (st0_3 t) fullShare ((datsOf m (blocks m) 0 c).before 3 t d)) ∗ (∃ d, owns (c : Thread nD τ) (st0_4 t) fullShare ((datsOf m (blocks m) 0 c).before 4 t d)) ∗ (∃ d, owns (c : Thread nD τ) (st0_5 t) fullShare ((datsOf m (blocks m) 0 c).before 5 t d)) ∗ (∃ d, owns (c : Thread nD τ) (st0_6 t) fullShare ((datsOf m (blocks m) 0 c).before 6 t d)) ∗ (∃ d, owns (c : Thread nD τ) (st0_7 t) fullShare ((datsOf m (blocks m) 0 c).before 7 t d)) ∗ (∃ d, owns (c : Thread nD τ) (st0_8 t) fullShare ((datsOf m (blocks m) 0 c).before 8 t d))) : sProp (MT nD τ sig Unit (Elt Ideal) ℕ (UR sig nD τ) ℕ)) ⊢ pointPre m (blocks m) c t := by
  unfold pointPre
  iintro ⟨HP, Ho, H0, H1, H2, H3, H4, H5, H6, H7, ⟨%d, H8⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

theorem obligation (hz : RealZ m) (c : Dev nD) :
    BodyObligation (datsOf (F := Ideal) m (blocks m) 0 c) (defs₀ (F := Ideal)) Variants.none () Set.univ := fun t => by
  rw [bigSep_W0, bigSep_W0, body_row]
  exact triple_restated (point_sound m (blocks m) c t) rfl (point_enter m c t) fun _ => point_block m hz c t

set_option backward.isDefEq.respectTransparency.types false in
theorem run_blocks (hz : RealZ m) : θ_run defs (onTc (τ := τ) (main (F := Ideal))) (s₀ m ρ)
    (fun r => Pipeline.FramePost cfgs (datsOf m (blocks m)) (0 : Fin 1) (V m) r) :=
  Pipeline.θ_run_frame_shared (Q' := _) cfgs (datsOf m (blocks m)) (0 : Fin 1) launch₀0 defs₀ Variants.none m ρ main
    (hbody := fun c => (obligation m hz c).loose) (hq := fun _ _ _ => rfl)
    (howed := fun _ _ => rfl) (V := V m) (hmain := hmain m Variants.none) (hA := datsOf_A m (blocks m)) (hΦ := fun _ _ => rfl)
    (hQ' := fun _ h => h.1)

theorem final (c : Dev nD) : (datsOf m (blocks m) 0 c).arrAt 8 cfg0.N = result m c := by
  refine (datsOf m (blocks m) 0 c).arrAt_eq_of_covers 8 _ (by decide +kernel) fun t hf y => ?_
  rw [datsOf_after8]
  rfl

set_option backward.isDefEq.respectTransparency.types false in
/-- The kernel's run: the result array is `attn` of the arguments, and the arguments are unchanged. -/
theorem kernel_run (hz : RealZ m) : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
     ⟨((h c).1 8).trans (final m c),
      ((h c).1 2).trans (((datsOf m (blocks m) 0 c).arrAt_in 2 rfl _).trans ((datsOf_A m (blocks m) c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_blocks m ρ hz)

end Cert.Flash

end
-- ==== Proof.RefScores.lean ====
module

public import proofs.«01_k».proof.Proof.Spec
public import proofs.«01_k».proof.Proof.Gen.ReferenceIdeal.Read
public import Idealize.ShloMosaic.PureOps.Reduce

/-! The reference's softmax over the real numbers.

The reference takes the products of query and key rows, divides them by the root of 128, puts −∞ at
the keys after the query, subtracts the row's largest score, and divides the exponentials by their
sum. The largest score cancels: what is left is `weight` over the row's sum of weights. -/

@[expose] public section

set_option maxRecDepth 16384

noncomputable section

namespace Cert.Flash

open Idealize.ShloMosaic Idealize.ShloMosaic.TcCoe Idealize.ShloMosaic.ValueIdx Cert.ReferenceIdeal Cert.ReferenceIdeal.Read

variable {x0 : S16384x6144.Idx → EReal} {Z : ℕ → ℕ → ℝ}

/-- The array `x0` holds the real numbers `Z`. -/
def Holds (x0 : S16384x6144.Idx → EReal) (Z : ℕ → ℕ → ℝ) : Prop :=
  ∀ (p c : ℕ) (i : S16384x6144.Idx), (i 0).val = p → (i 1).val = c → x0 i = (Z p c : EReal)

theorem ref_query (hx : Holds x0 Z) (i : S4x2x16384x128.Idx) :
    (val_main_v13 (F := Ideal) x0 i : EReal)
      = (Z (i 2).val (3072 + 256 * (i 0).val + 128 * (i 1).val + (i 3).val) : EReal) := by
  have h0 : (i 0).val < 4 := (i 0).isLt
  have h1 : (i 1).val < 2 := (i 1).isLt
  have h3 : (i 3).val < 128 := (i 3).isLt
  rw [val_main_v13_apply, val_main_v12_apply, val_main_v1_apply, val_main_v0_apply]
  refine hx _ _ _ ?_ ?_
  · show ((((i 2).val * 4 + (i 0).val) * 2 + (i 1).val) * 128 + (i 3).val) / 1024 = _; omega
  · show 3072 + ((((i 2).val * 4 + (i 0).val) * 2 + (i 1).val) * 128 + (i 3).val) % 1024 = _; omega

theorem ref_key (hx : Holds x0 Z) (i : S4x2x16384x128.Idx) :
    (val_main_v15 (F := Ideal) x0 i : EReal)
      = (Z (i 2).val (4096 + 256 * (i 0).val + 128 * (i 1).val + (i 3).val) : EReal) := by
  have h0 : (i 0).val < 4 := (i 0).isLt
  have h1 : (i 1).val < 2 := (i 1).isLt
  have h3 : (i 3).val < 128 := (i 3).isLt
  rw [val_main_v15_apply, val_main_v14_apply, val_main_v2_apply, val_main_v0_apply]
  refine hx _ _ _ ?_ ?_
  · show ((((i 2).val * 4 + (i 0).val) * 2 + (i 1).val) * 128 + (i 3).val) / 1024 = _; omega
  · show 4096 + ((((i 2).val * 4 + (i 0).val) * 2 + (i 1).val) * 128 + (i 3).val) % 1024 = _; omega

theorem ref_value (hx : Holds x0 Z) (i : S4x16384x256.Idx) :
    (val_main_v17 (F := Ideal) x0 i : EReal) = (Z (i 1).val (5120 + 256 * (i 0).val + (i 2).val) : EReal) := by
  have h0 : (i 0).val < 4 := (i 0).isLt
  have h2 : (i 2).val < 256 := (i 2).isLt
  rw [val_main_v17_apply, val_main_v16_apply, val_main_v3_apply, val_main_v0_apply]
  refine hx _ _ _ ?_ ?_
  · show (((i 1).val * 4 + (i 0).val) * 256 + (i 2).val) / 1024 = _; omega
  · show 5120 + (((i 1).val * 4 + (i 0).val) * 256 + (i 2).val) % 1024 = _; omega

theorem ofBits_128 : Ideal.ofBits .f32 0x43000000#32 = ((128 : ℝ) : EReal) := by
  simp [Ideal.ofBits, Ideal.ieee]; rw [← EReal.coe_mul]; norm_num

theorem ofBits_ninf : Ideal.ofBits .f32 0xFF800000#32 = ⊥ := by
  simp [Ideal.ofBits, Ideal.ieee]

/-- The divisor of the scores. -/
theorem ref_root (i : S4x2x16384x16384.Idx) : (val_main_v21 (F := Ideal) i : EReal) = (Real.sqrt 128 : EReal) := by
  rw [val_main_v21_apply, val_main_v20_apply, val_main_cst_2_apply]
  show Ideal.sqrt (Ideal.ofBits .f32 0x43000000#32) = _
  rw [ofBits_128]
  show (if (128 : ℝ) < 0 then (⊥ : EReal) else (Real.sqrt 128 : EReal)) = _
  rw [if_neg (by norm_num)]

/-- The scaled scores. -/
def scaled (Z : ℕ → ℕ → ℝ) (h μ p k : ℕ) : ℝ := qk Z h μ p k * (Real.sqrt 128)⁻¹

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem ref_score (hx : Holds x0 Z) (i : S4x2x16384x16384.Idx) :
    (val_main_v22 (F := Ideal) x0 i : EReal) = (scaled Z (i 0).val (i 1).val (i 2).val (i 3).val : EReal) := by
  have hr : Real.sqrt 128 ≠ 0 := by positivity
  have e : (val_main_v19 (F := Ideal) x0 i : EReal) = (qk Z (i 0).val (i 1).val (i 2).val (i 3).val : EReal) := by
    rw [val_main_v19_apply]
    unfold qk
    rw [coe_sum]
    refine Finset.sum_congr rfl fun d _ => ?_
    rw [EReal.coe_mul]
    exact congrArg₂ (fun a b : EReal => a * b) (ref_query hx _) (ref_key hx _)
  rw [val_main_v22_apply]
  show Ideal.div (val_main_v19 (F := Ideal) x0 i) (val_main_v21 (F := Ideal) i) = _
  rw [e, ref_root]
  refine (Ideal.div_coe hr _).trans ?_
  unfold scaled
  rw [← EReal.coe_mul, one_div]

theorem sle_iff {a b : ℕ} (ha : a < 16384) (hb : b < 16384) :
    IntOp.cmpi .sle (BitVec.ofNat 32 a) (BitVec.ofNat 32 b) = if a ≤ b then 1#1 else 0#1 := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  show BitVec.ofBool ((BitVec.ofNat 32 a).sle (BitVec.ofNat 32 b)) = _
  rw [e]
  by_cases h : a ≤ b <;> simp [h]

theorem ref_mask (j : S16384x16384.Idx) : val_main_v27 (F := Ideal) j = if (j 1).val ≤ (j 0).val then 1#1 else 0#1 := by
  rw [val_main_v27_apply, val_main_v25_apply, val_main_v26_apply, val_main_v23_apply, val_main_v24_apply,
    val_main_v18_apply, val_main_v18_apply]
  exact sle_iff (j 1).isLt (j 0).isLt

/-- The scores with −∞ at the keys after the query. -/
theorem ref_masked (hx : Holds x0 Z) (i : S4x2x16384x16384.Idx) :
    (val_main_v28 (F := Ideal) x0 i : EReal)
      = if (i 3).val ≤ (i 2).val then (scaled Z (i 0).val (i 1).val (i 2).val (i 3).val : EReal) else ⊥ := by
  have em : val_main_call0_v1 (F := Ideal) i = if (i 3).val ≤ (i 2).val then 1#1 else 0#1 := by
    rw [val_main_call0_v1_apply, ref_mask]
  have eb : (val_main_call0_v2 (F := Ideal) i : EReal) = ⊥ := by
    rw [val_main_call0_v2_apply, val_main_call0_v0_apply, val_main_cst_3_apply]; exact ofBits_ninf
  rw [val_main_v28_apply, em]
  by_cases h : (i 3).val ≤ (i 2).val
  · rw [if_pos h, if_pos h]; exact ref_score hx i
  · rw [if_neg h, if_neg h]; exact eb

/-- The row's largest score is a real number: the query's own key is not masked. -/
theorem ref_largest (hx : Holds x0 Z) (j : S4x2x16384.Idx) : ∃ M : ℝ, (val_main_v31 (F := Ideal) x0 j : EReal) = (M : EReal) := by
  have e : (val_main_v29 (F := Ideal) x0 j : EReal)
      = (Finset.univ.filter fun i => Cert.ReferenceIdeal.Gen.reducesTo_S4x2x16384x16384_S4x2x16384_d3.drop i = j).sup fun i => (val_main_v28 (F := Ideal) x0 i : EReal) := by
    unfold val_main_v29
    refine (Host.reduce_eq_fold (FloatOps.maximumf (F := Ideal) (φ := .f32)) _ _ _ _ j).trans ?_
    unfold Finset.sup
    rw [show val_main_cst_4 (F := Ideal) (Shape.Idx.first Cert.ReferenceIdeal.Gen.h_S_) = (⊥ : EReal) from ofBits_ninf]
    rfl
  have hb : (val_main_v29 (F := Ideal) x0 j : EReal) ≠ ⊥ := by
    rw [e]
    refine ne_of_gt (lt_of_lt_of_le ?_ (Finset.le_sup (b := (ix4 ⟨(j 0).val, (j 0).isLt⟩ ⟨(j 1).val, (j 1).isLt⟩ ⟨(j 2).val, (j 2).isLt⟩ ⟨(j 2).val, (j 2).isLt⟩ : S4x2x16384x16384.Idx)) ?_))
    · rw [ref_masked hx, if_pos (le_refl (j 2).val)]; exact EReal.bot_lt_coe _
    · rw [Finset.mem_filter]
      refine ⟨Finset.mem_univ _, funext fun a => Fin.ext ?_⟩
      match a with | ⟨0, _⟩ => rfl | ⟨1, _⟩ => rfl | ⟨2, _⟩ => rfl
  have ht : (val_main_v29 (F := Ideal) x0 j : EReal) ≠ ⊤ := by
    rw [e]
    refine ne_of_lt ((Finset.sup_lt_iff bot_lt_top).2 fun i _ => ?_)
    rw [ref_masked hx]
    split
    · exact EReal.coe_lt_top _
    · exact bot_lt_top
  refine ⟨(val_main_v29 (F := Ideal) x0 j : EReal).toReal, ?_⟩
  rw [EReal.coe_toReal ht hb, val_main_v31_apply, val_main_v30_apply, val_main_cst_5_apply]
  show max (Ideal.ofBits .f32 0xFF800000#32) _ = _
  rw [ofBits_ninf]; exact max_eq_right bot_le

theorem exp_scaled (Z : ℕ → ℕ → ℝ) (h μ p k : ℕ) (M : ℝ) :
    Real.exp (scaled Z h μ p k - M) = Real.rpow 2 (qk Z h μ p k * qscale) * Real.exp (-M) := by
  have hl : Real.log 2 ≠ 0 := (Real.log_pos (by norm_num)).ne'
  have e : Real.rpow 2 (qk Z h μ p k * qscale) = Real.exp (Real.log 2 * (qk Z h μ p k * qscale)) :=
    Real.rpow_def_of_pos (by norm_num) _
  rw [e, ← Real.exp_add]
  congr 1
  unfold scaled qscale
  field_simp
  ring

/-- The exponentials of the scores less the row's largest. -/
theorem ref_exp (hx : Holds x0 Z) (i : S4x2x16384x16384.Idx) (M : ℝ)
    (hM : (val_main_v33 (F := Ideal) x0 i : EReal) = (M : EReal)) :
    (val_main_v35 (F := Ideal) x0 i : EReal)
      = (weight Z (i 0).val (i 1).val (i 2).val (i 3).val * Real.exp (-M) : ℝ) := by
  rw [val_main_v35_apply, val_main_v34_apply]
  show Ideal.exp ((val_main_v28 (F := Ideal) x0 i : EReal) - (val_main_v33 (F := Ideal) x0 i : EReal)) = _
  rw [hM, ref_masked hx]
  unfold weight
  by_cases h : (i 3).val ≤ (i 2).val
  · rw [if_pos h, if_pos h, ← EReal.coe_sub, Ideal.exp_coe, exp_scaled]
  · rw [if_neg h, if_neg h, zero_mul]
    rw [show (⊥ : EReal) - (M : EReal) = ⊥ by rw [sub_eq_add_neg]; exact EReal.bot_add _]
    rfl

/-- The sum of a row's weights. -/
def total (Z : ℕ → ℕ → ℝ) (h μ p : ℕ) : ℝ := ∑ k ∈ Finset.range 16384, weight Z h μ p k

theorem weight_nonneg (Z : ℕ → ℕ → ℝ) (h μ p k : ℕ) : 0 ≤ weight Z h μ p k := by
  unfold weight; split
  · exact Real.rpow_nonneg (by norm_num) _
  · exact le_refl _

theorem total_pos (Z : ℕ → ℕ → ℝ) (h μ p : ℕ) (hp : p < 16384) : 0 < total Z h μ p := by
  refine Finset.sum_pos' (fun k _ => weight_nonneg Z h μ p k) ⟨p, by simpa using hp, ?_⟩
  unfold weight; rw [if_pos (le_refl p)]
  exact Real.rpow_pos_of_pos (by norm_num) _

/-- The softmax: a key's weight over the row's sum of weights. -/
theorem ref_softmax (hx : Holds x0 Z) (i : S4x2x16384x16384.Idx) :
    (val_main_v43 (F := Ideal) x0 i : EReal)
      = (weight Z (i 0).val (i 1).val (i 2).val (i 3).val / total Z (i 0).val (i 1).val (i 2).val : ℝ) := by
  obtain ⟨M, hM⟩ := ref_largest hx (idx_main_v32 (idx_main_v33 i))
  have e33 : ∀ i' : S4x2x16384x16384.Idx, idx_main_v32 (idx_main_v33 i') = idx_main_v32 (idx_main_v33 i) →
      (val_main_v33 (F := Ideal) x0 i' : EReal) = (M : EReal) := fun i' h => by
    rw [val_main_v33_apply, val_main_v32_apply, h]; exact hM
  have es : (val_main_v38 (F := Ideal) x0 i : EReal) = (total Z (i 0).val (i 1).val (i 2).val * Real.exp (-M) : ℝ) := by
    rw [val_main_v38_apply, val_main_v37_apply, val_main_v36_apply, val_main_cst_6_apply]
    show Ideal.ofBits .f32 0x00000000#32 + _ = _
    rw [Ideal.ofBits_zero_f32, zero_add]
    unfold total
    rw [← Fin.sum_univ_eq_sum_range (fun k => weight Z (i 0).val (i 1).val (i 2).val k) 16384, Finset.sum_mul, coe_sum]
    refine Finset.sum_congr rfl fun k _ => ?_
    exact ref_exp hx _ M (e33 _ rfl)
  have hT : total Z (i 0).val (i 1).val (i 2).val * Real.exp (-M) ≠ 0 :=
    (mul_pos (total_pos Z _ _ _ (i 2).isLt) (Real.exp_pos _)).ne'
  have em : (val_main_v42 (F := Ideal) i : EReal) = if (i 3).val ≤ (i 2).val then 1 else 0 := by
    rw [val_main_v42_apply, val_main_v41_apply, val_main_v40_apply, ref_mask]
    show (FloatOps.uitofp (F := Ideal) .f32 (if (i 3).val ≤ (i 2).val then 1#1 else 0#1) : EReal) = _
    by_cases h : (i 3).val ≤ (i 2).val
    · rw [if_pos h, if_pos h]; simp [FloatOps.uitofp]
    · rw [if_neg h, if_neg h]; simp [FloatOps.uitofp]
  rw [val_main_v43_apply, val_main_v39_apply]
  show Ideal.div (val_main_v35 (F := Ideal) x0 i) (val_main_v38 (F := Ideal) x0 i) * (val_main_v42 (F := Ideal) i : EReal) = _
  rw [ref_exp hx i M (e33 i rfl), es, em]
  refine (congrArg (fun a : EReal => a * _) (Ideal.div_coe hT _)).trans ?_
  rw [← EReal.coe_mul, mul_one_div, mul_div_mul_right _ _ (Real.exp_pos _).ne']
  by_cases h : (i 3).val ≤ (i 2).val
  · rw [if_pos h, mul_one]
  · rw [if_neg h, mul_zero]
    unfold weight; rw [if_neg h, zero_div]; rfl

end Cert.Flash

end
-- ==== Proof.RefValue.lean ====
module

public import proofs.«01_k».proof.Proof.RefScores

/-! The reference's result is `attn` of its arguments.

With the softmaxes known, the reference's row is a sum over the keys of the difference of two
weights; it is split into the two averages. The scale of the row is the same on both sides. -/

@[expose] public section

set_option maxRecDepth 16384

noncomputable section

namespace Cert.Flash

open Idealize.ShloMosaic Idealize.ShloMosaic.TcCoe Idealize.ShloMosaic.ValueIdx Cert.ReferenceIdeal Cert.ReferenceIdeal.Read

variable {x0 : S16384x6144.Idx → EReal} {Z : ℕ → ℕ → ℝ}

theorem sum_ix1 (f : S128.Idx → EReal) : ∑ j : S128.Idx, f j = ∑ d : Fin 128, f (ix1 d) := by
  refine (Fintype.sum_equiv ⟨fun d : Fin 128 => (ix1 d : S128.Idx), fun j => j 0, fun d => rfl, fun j => ?_⟩ _ _ fun d => rfl).symm
  funext a; match a with | ⟨0, _⟩ => rfl

/-- The reference's scalar is the kernel's. -/
theorem ref_lam (x1 x2 x3 x4 : S128.Idx → EReal) (i : S_.Idx) :
    (val_main_v11 (F := Ideal) x1 x2 x3 x4 i : EReal) = lamOf x1 x2 x3 x4 := by
  have e1 : (val_main_v5 (F := Ideal) x1 x2 i : EReal) = ∑ d : Fin 128, x1 (ix1 d) * x2 (ix1 d) := by
    rw [val_main_v5_apply, val_main_cst_apply]
    show Ideal.ofBits .f32 0x00000000#32 + _ = _
    rw [Ideal.ofBits_zero_f32, zero_add]
    exact sum_ix1 _
  have e2 : (val_main_v8 (F := Ideal) x3 x4 i : EReal) = ∑ d : Fin 128, x3 (ix1 d) * x4 (ix1 d) := by
    rw [val_main_v8_apply, val_main_cst_0_apply]
    show Ideal.ofBits .f32 0x00000000#32 + _ = _
    rw [Ideal.ofBits_zero_f32, zero_add]
    exact sum_ix1 _
  rw [val_main_v11_apply, val_main_v10_apply, val_main_v6_apply, val_main_v9_apply, val_main_cst_1_apply, e1, e2]
  rfl

theorem exists_mul_sum {n : ℕ} {a b : Fin n → EReal} (ha : ∀ d, ∃ r : ℝ, a d = (r : EReal)) (hb : ∀ d, ∃ r : ℝ, b d = (r : EReal)) :
    ∃ r : ℝ, ∑ d : Fin n, a d * b d = (r : EReal) := by
  choose ra ha using ha
  choose rb hb using hb
  refine ⟨∑ d, ra d * rb d, ?_⟩
  rw [coe_sum]
  refine Finset.sum_congr rfl fun d _ => ?_
  rw [ha, hb, EReal.coe_mul]

theorem ofBits_lam : ∃ r : ℝ, Ideal.ofBits .f32 0x3EB60549#32 = (r : EReal) := by
  refine ⟨11928905 / 33554432, ?_⟩
  simp [Ideal.ofBits, Ideal.ieee]
  rw [← EReal.coe_mul]; norm_num

/-- Of real vectors the scalar is a real number. -/
theorem lamOf_real {x1 x2 x3 x4 : S128.Idx → EReal} (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) :
    ∃ l : ℝ, lamOf x1 x2 x3 x4 = (l : EReal) := by
  obtain ⟨a, ha⟩ := exists_mul_sum (fun d : Fin 128 => h1 (ix1 d)) (fun d => h2 (ix1 d))
  obtain ⟨b, hb⟩ := exists_mul_sum (fun d : Fin 128 => h3 (ix1 d)) (fun d => h4 (ix1 d))
  obtain ⟨c, hc⟩ := ofBits_lam
  refine ⟨Real.exp a - Real.exp b + c, ?_⟩
  unfold lamOf lam
  rw [ha, hb, hc, Ideal.exp_coe, Ideal.exp_coe, ← EReal.coe_sub, ← EReal.coe_add]

/-- The difference of the two softmaxes. -/
theorem ref_difference (hx : Holds x0 Z) {x1 x2 x3 x4 : S128.Idx → EReal} {l : ℝ} (hl : lamOf x1 x2 x3 x4 = (l : EReal))
    (i : S4x16384x16384.Idx) :
    (val_main_v50 (F := Ideal) x0 x1 x2 x3 x4 i : EReal)
      = (weight Z (i 0).val 0 (i 1).val (i 2).val / total Z (i 0).val 0 (i 1).val
          - l * (weight Z (i 0).val 1 (i 1).val (i 2).val / total Z (i 0).val 1 (i 1).val) : ℝ) := by
  have h0 : (i 0).val < 4 := (i 0).isLt
  have h1 : (i 1).val < 16384 := (i 1).isLt
  have h2 : (i 2).val < 16384 := (i 2).isLt
  have a0 : (((i 0).val * 16384 + (i 1).val) * 16384 + (i 2).val) / 268435456 = (i 0).val := by omega
  have a1 : (((i 0).val * 16384 + (i 1).val) * 16384 + (i 2).val) / 16384 % 16384 = (i 1).val := by omega
  have a2 : (((i 0).val * 16384 + (i 1).val) * 16384 + (i 2).val) % 16384 = (i 2).val := by omega
  have e0 : (val_main_v45 (F := Ideal) x0 i : EReal) = (weight Z (i 0).val 0 (i 1).val (i 2).val / total Z (i 0).val 0 (i 1).val : ℝ) := by
    rw [val_main_v45_apply, val_main_v44_apply, ref_softmax hx]
    show ((weight Z ((((i 0).val * 16384 + (i 1).val) * 16384 + (i 2).val) / 268435456) 0
        ((((i 0).val * 16384 + (i 1).val) * 16384 + (i 2).val) / 16384 % 16384) ((((i 0).val * 16384 + (i 1).val) * 16384 + (i 2).val) % 16384)
      / total Z ((((i 0).val * 16384 + (i 1).val) * 16384 + (i 2).val) / 268435456) 0
        ((((i 0).val * 16384 + (i 1).val) * 16384 + (i 2).val) / 16384 % 16384) : ℝ) : EReal) = _
    rw [a0, a1, a2]
  have e1 : (val_main_v47 (F := Ideal) x0 i : EReal) = (weight Z (i 0).val 1 (i 1).val (i 2).val / total Z (i 0).val 1 (i 1).val : ℝ) := by
    rw [val_main_v47_apply, val_main_v46_apply, ref_softmax hx]
    show ((weight Z ((((i 0).val * 16384 + (i 1).val) * 16384 + (i 2).val) / 268435456) (1 + 0)
        ((((i 0).val * 16384 + (i 1).val) * 16384 + (i 2).val) / 16384 % 16384) ((((i 0).val * 16384 + (i 1).val) * 16384 + (i 2).val) % 16384)
      / total Z ((((i 0).val * 16384 + (i 1).val) * 16384 + (i 2).val) / 268435456) (1 + 0)
        ((((i 0).val * 16384 + (i 1).val) * 16384 + (i 2).val) / 16384 % 16384) : ℝ) : EReal) = _
    rw [a0, a1, a2]
  rw [val_main_v50_apply, val_main_v49_apply, val_main_v48_apply]
  show (val_main_v45 (F := Ideal) x0 i : EReal) - (val_main_v11 (F := Ideal) x1 x2 x3 x4 (idx_main_v48 i) : EReal) * (val_main_v47 (F := Ideal) x0 i : EReal) = _
  rw [e0, e1, ref_lam, hl, ← EReal.coe_mul, ← EReal.coe_sub]

/-- The row before its scale. -/
theorem ref_row (hx : Holds x0 Z) {x1 x2 x3 x4 : S128.Idx → EReal} {l : ℝ} (hl : lamOf x1 x2 x3 x4 = (l : EReal))
    (i : S16384x4x256.Idx) :
    (val_main_v52 (F := Ideal) x0 x1 x2 x3 x4 i : EReal)
      = (avg Z (i 1).val 0 (i 0).val (i 2).val : EReal) - (l : EReal) * (avg Z (i 1).val 1 (i 0).val (i 2).val : EReal) := by
  rw [val_main_v52_apply, val_main_v51_apply, ← EReal.coe_mul, ← EReal.coe_sub]
  have e : ∀ k : Fin 16384, (val_main_v50 (F := Ideal) x0 x1 x2 x3 x4 (lidx_main_v51 (idx_main_v52 i) k) : EReal)
        * (val_main_v17 (F := Ideal) x0 (ridx_main_v51 (idx_main_v52 i) k) : EReal)
      = ((weight Z (i 1).val 0 (i 0).val k.val * Z k.val (5120 + 256 * (i 1).val + (i 2).val)) / total Z (i 1).val 0 (i 0).val
          - l * ((weight Z (i 1).val 1 (i 0).val k.val * Z k.val (5120 + 256 * (i 1).val + (i 2).val)) / total Z (i 1).val 1 (i 0).val) : ℝ) := by
    intro k
    rw [ref_difference hx hl, ref_value hx, ← EReal.coe_mul]
    refine congrArg _ ?_
    show (weight Z (i 1).val 0 (i 0).val k.val / total Z (i 1).val 0 (i 0).val
      - l * (weight Z (i 1).val 1 (i 0).val k.val / total Z (i 1).val 1 (i 0).val)) * Z k.val (5120 + 256 * (i 1).val + (i 2).val) = _
    ring
  refine (Finset.sum_congr rfl fun k _ => e k).trans ?_
  rw [← coe_sum]
  refine congrArg _ ?_
  rw [Finset.sum_sub_distrib, ← Finset.mul_sum, ← Finset.sum_div, ← Finset.sum_div]
  rw [Fin.sum_univ_eq_sum_range (fun k => weight Z (i 1).val 0 (i 0).val k * Z k (5120 + 256 * (i 1).val + (i 2).val)) 16384,
    Fin.sum_univ_eq_sum_range (fun k => weight Z (i 1).val 1 (i 0).val k * Z k (5120 + 256 * (i 1).val + (i 2).val)) 16384]
  rfl

/-- The reference's result array. -/
theorem ref_value_eq (x0 : S16384x6144.Idx → EReal) (hz : ∀ i, x0 i ≠ ⊥ ∧ x0 i ≠ ⊤) {x1 x2 x3 x4 : S128.Idx → EReal} (x5 : S256.Idx → EReal)
    {l : ℝ} (hl : lamOf x1 x2 x3 x4 = (l : EReal)) (i : S16384x1024.Idx) :
    (val_main_v69 (F := Ideal) x0 x1 x2 x3 x4 x5 i : EReal) = attn x0 x1 x2 x3 x4 x5 i := by
  have hx : Holds x0 (realOf x0) := fun p c i h0 h1 => realOf_eq hz p c i h0 h1
  have hi0 : (i 0).val < 16384 := (i 0).isLt
  have hi1 : (i 1).val < 1024 := (i 1).isLt
  have a0 : ((i 0).val * 1024 + (i 1).val) / 1024 = (i 0).val := by omega
  have a1 : ((i 0).val * 1024 + (i 1).val) / 256 % 4 = (i 1).val / 256 := by omega
  have a2 : ((i 0).val * 1024 + (i 1).val) % 256 = (i 1).val % 256 := by omega
  have row : ∀ (u : S16384x4x256.Idx) (e : Fin 256), (u 0).val = (i 0).val → (u 1).val = (i 1).val / 256 → (u 2).val = e.val →
      (val_main_v52 (F := Ideal) x0 x1 x2 x3 x4 u : EReal) = diff x0 (lamOf x1 x2 x3 x4) ((i 1).val / 256) (i 0).val e := by
    intro u e h0 h1 h2
    rw [ref_row hx hl, h0, h1, h2, hl]; rfl
  have hs : ∀ u : S16384x4.Idx, (u 0).val = (i 0).val → (u 1).val = (i 1).val / 256 →
      (val_main_v54 (F := Ideal) x0 x1 x2 x3 x4 u : EReal)
        = ∑ e : Fin 256, diff x0 (lamOf x1 x2 x3 x4) ((i 1).val / 256) (i 0).val e * diff x0 (lamOf x1 x2 x3 x4) ((i 1).val / 256) (i 0).val e := by
    intro u h0 h1
    rw [val_main_v54_apply, val_main_cst_7_apply]
    show Ideal.ofBits .f32 0x00000000#32 + _ = _
    rw [Ideal.ofBits_zero_f32, zero_add]
    refine Finset.sum_congr rfl fun e _ => ?_
    rw [val_main_v53_apply, row (idx_main_v54 u e) e h0 h1 rfl]; rfl
  rw [val_main_v69_apply, val_main_v68_apply, val_main_v67_apply, val_main_v65_apply, val_main_v62_apply, val_main_v61_apply,
    val_main_v60_apply, val_main_v59_apply, val_main_v57_apply, val_main_v55_apply, val_main_v56_apply, val_main_v58_apply,
    val_main_v64_apply, val_main_v63_apply, val_main_v66_apply, val_main_cst_8_apply, val_main_cst_9_apply, val_main_cst_10_apply,
    hs _ a0 a1, row _ ⟨(i 1).val % 256, Nat.mod_lt _ (by omega)⟩ a0 a1 a2]
  have ew : x5 (idx_main_v63 (idx_main_v64 (idx_main_v68 i))) = x5 (ix1 ⟨(i 1).val % 256, Nat.mod_lt _ (by omega)⟩) :=
    congrArg x5 (funext fun a => Fin.ext (by match a with | ⟨0, _⟩ => exact a2))
  rw [ew]
  rfl

end Cert.Flash

end
-- ==== Proof.Finite.lean ====
module

public import proofs.«01_k».proof.Proof.IdealValue
public import proofs.«01_k».proof.Defs
public import proofs.«01_k».proof.Proof.Gen.Pre_finite
public import Idealize.ShloMosaic.Lib.ReduceAll

/-! What the precondition says: the activations and the four vectors are real numbers. -/

@[expose] public section

set_option maxRecDepth 16384

noncomputable section

namespace Cert.Flash

open Idealize.ShloMosaic Idealize.ShloMosaic.TcCoe Cert.KernelIdeal

theorem ofBits_inf : Ideal.ofBits .f32 0x7F800000#32 = ⊤ := by
  simp [Ideal.ofBits, Ideal.ieee]

/-- A number whose absolute value is below +∞ is real. -/
theorem real_of_abs {x : EReal} (h : FloatOps.cmpf (F := Ideal) (φ := .f32) .olt (FloatOps.hostAbsf (F := Ideal) (φ := .f32) x) (Ideal.ofBits .f32 0x7F800000#32) = 1#1) :
    x ≠ ⊥ ∧ x ≠ ⊤ := by
  rw [ofBits_inf] at h
  constructor
  · rintro rfl; revert h; simp [FloatOps.cmpf, FloatOps.hostAbsf, Ideal.cmp]
  · rintro rfl; revert h; simp [FloatOps.cmpf, FloatOps.hostAbsf, Ideal.cmp]

theorem and_one {a b : BitVec 1} (h : a &&& b = 1#1) : a = 1#1 ∧ b = 1#1 := by
  revert a b; decide

theorem pre_real {z : S16384x6144.Idx → EReal} {x1 x2 x3 x4 : S128.Idx → EReal} {w : S256.Idx → EReal}
    (h : Cert.Pre_finite.fn (F := Ideal) z x1 x2 x3 x4 w = fun _ => 1#1) :
    (∀ i, z i ≠ ⊥ ∧ z i ≠ ⊤) ∧ (∀ i, x1 i ≠ ⊥ ∧ x1 i ≠ ⊤) ∧ (∀ i, x2 i ≠ ⊥ ∧ x2 i ≠ ⊤) ∧ (∀ i, x3 i ≠ ⊥ ∧ x3 i ≠ ⊤)
      ∧ (∀ i, x4 i ≠ ⊥ ∧ x4 i ≠ ⊤) := by
  haveI : Subsingleton Cert.Pre_finite.S_.Idx := ⟨fun a b => funext fun k => k.elim0⟩
  have h := congrFun h (fun a => a.elim0)
  obtain ⟨h, h4⟩ := and_one h
  obtain ⟨h, h3⟩ := and_one h
  obtain ⟨h, h2⟩ := and_one h
  obtain ⟨h0, h1⟩ := and_one h
  exact ⟨fun i => real_of_abs (Host.reduce_andi_all _ _ _ _ _ h0 i), fun i => real_of_abs (Host.reduce_andi_all _ _ _ _ _ h1 i),
    fun i => real_of_abs (Host.reduce_andi_all _ _ _ _ _ h2 i), fun i => real_of_abs (Host.reduce_andi_all _ _ _ _ _ h3 i),
    fun i => real_of_abs (Host.reduce_andi_all _ _ _ _ _ h4 i)⟩

theorem exists_real {x : EReal} (h : x ≠ ⊥ ∧ x ≠ ⊤) : ∃ r : ℝ, x = (r : EReal) := ⟨x.toReal, (EReal.coe_toReal h.2 h.1).symm⟩

end Cert.Flash

end
-- ==== Proof.FfnValue.lean ====
module

public import proofs.«01_k».proof.Proof.Gen.FfnIdeal.Value
public import proofs.«01_k».proof.Proof.Gen.FfnRefIdeal.Run
public import proofs.«01_k».proof.Proof.Gen.FfnRefIdeal.Read
public import Idealize.ShloMosaic.Lib.MatmulPlain
public import Idealize.ShloMosaic.Lib.ValueLayout
public import Idealize.ShloMosaic.Lib.Pipeline.ValueKit
public import Idealize.ShloMosaic.Lib.Pipeline.ReadBack

/-! The first feed-forward product with its gate: kernel and reference both end with `ffnIn` of the
arguments.

The grid runs over 11 tiles of 512 columns and, inside, 16 tiles of 1024 rows. The first row tile of a
column tile casts the two weight blocks into scratch; the other fifteen read what it left. -/

@[expose] public section

set_option maxRecDepth 16384

noncomputable section

namespace Cert.Layer.Ffn

open Idealize.ShloMosaic Idealize.ShloMosaic.TcCoe Idealize.SL.Sem
open Cert.FfnIdeal Cert.FfnIdeal.Gen

/-- `g · σ(g) · u`, with `σ(g) = 1 / (1 + exp (-g))`. -/
def gate (g u : EReal) : EReal :=
  g * Ideal.div (Ideal.ofBits .f32 0x3F800000#32) (Ideal.ofBits .f32 0x3F800000#32 + Ideal.exp (-g)) * u

/-- Row `p` of the tokens against column `q` of the second layer's weights. -/
def prod (x0 : S16384x2048.Idx → EReal) (x1 : S2x2048x11264.Idx → EReal) (p : Fin 16384) (q : Fin 11264) : EReal :=
  ∑ k : Fin 2048, x0 (ValueIdx.ix2 p k) * x1 (ValueIdx.ix3 (1 : Fin 2) k q)

/-- The result: the gated product of the two halves of the columns. -/
def ffnIn (x0 : S16384x2048.Idx → EReal) (x1 : S2x2048x11264.Idx → EReal) (p : Fin 16384) (q : Fin 5632) : EReal :=
  gate (prod x0 x1 p ⟨q.val, by omega⟩) (prod x0 x1 p ⟨5632 + q.val, by omega⟩)

/-! ## The body's payloads -/

theorem pay1_apply (v : Vec Ideal S1x2048x512 .f32) (k : Fin 2048) (j : Fin 512) :
    (k0_pay1 (F := Ideal) v (ValueIdx.ix2 k j) : EReal) = v (ValueIdx.ix3 (0 : Fin 1) k j) := by
  unfold k0_pay1
  rw [shapeCast_self]
  exact ValueIdx.shapeCast_1ab_ab_apply _ _ _ _
theorem pay2_apply (v : Vec Ideal S1x2048x512 .f32) (k : Fin 2048) (j : Fin 512) :
    (k0_pay2 (F := Ideal) v (ValueIdx.ix2 k j) : EReal) = v (ValueIdx.ix3 (0 : Fin 1) k j) := by
  unfold k0_pay2
  rw [shapeCast_self]
  exact ValueIdx.shapeCast_1ab_ab_apply _ _ _ _

theorem pay3_apply (x : Vec Ideal S1024x2048 .bf16) (g u : Vec Ideal S2048x512 .bf16) (r : Fin 1024) (j : Fin 512) :
    (k0_pay3 (F := Ideal) x g u (ValueIdx.ix2 r j) : EReal)
      = gate (∑ k : Fin 2048, (x (ValueIdx.ix2 r k) : EReal) * g (ValueIdx.ix2 k j)) (∑ k : Fin 2048, (x (ValueIdx.ix2 r k) : EReal) * u (ValueIdx.ix2 k j)) := by
  have h : ∀ w : Vec Ideal S2048x512 .bf16, (matmul (φ₁ := .bf16) (φ₂ := .bf16) dot_S1024x2048_S2048x512_S1024x512_1_0_0_1_n_n none x w
      (constant S1024x512 .f32 0x00000000#32 : FVec Ideal S1024x512 .f32) (ValueIdx.ix2 r j) : EReal)
        = ∑ k : Fin 2048, (x (ValueIdx.ix2 r k) : EReal) * w (ValueIdx.ix2 k j) := by
    intro w
    refine (Ideal.matmul_plain_apply none x w _ r j).trans ?_
    show Ideal.ofBits .f32 0x00000000#32 + _ = _
    rw [Ideal.ofBits_zero_f32, zero_add]
  have e : ∀ g u : EReal, g * Ideal.div (Ideal.ofBits .f32 0x3F800000#32) (Ideal.ofBits .f32 0x3F800000#32 + Ideal.exp (Ideal.ofBits .f32 0x00000000#32 - g)) * u = gate g u := by
    intro g u
    rw [Ideal.ofBits_zero_f32, sub_eq_add_neg, zero_add]; rfl
  unfold k0_pay3
  refine Eq.trans (b := gate _ _) (e _ _) ?_
  rw [h, h]

variable (m : (ℓ : Loc nD τ sig) → Buf (Elt Ideal) ℓ) (ρ : Dev nD → PrngReg)

theorem at0 : ∀ t : Fin cfg0.N, win0_0.index t = ![t.val % 16, 0] := (by decide +kernel : ∀ t : Fin grid0.N, _)
theorem at1 : ∀ t : Fin cfg0.N, win0_1.index t = ![1, 0, t.val / 16] := (by decide +kernel : ∀ t : Fin grid0.N, _)
theorem at2 : ∀ t : Fin cfg0.N, win0_2.index t = ![1, 0, 11 + t.val / 16] := (by decide +kernel : ∀ t : Fin grid0.N, _)
theorem at3 : ∀ t : Fin cfg0.N, win0_3.index t = ![t.val % 16, t.val / 16] := (by decide +kernel : ∀ t : Fin grid0.N, _)

/-- Row `r` of point `t`'s row tile. -/
def row (t : Fin cfg0.N) (r : Fin 1024) : Fin 16384 := ⟨1024 * (t.val % 16) + r.val, by
  have h2 := r.isLt
  omega⟩

/-- Column `j` of point `n`'s column tile. -/
def col (n : ℕ) (h : n < cfg0.N) (j : Fin 512) : Fin 5632 := ⟨512 * (n / 16) + j.val, by
  have h1 : n < 176 := h
  have h2 := j.isLt
  omega⟩

theorem blk0 (c : Dev nD) (t : Fin cfg0.N) (r : Fin 1024) (k : Fin 2048) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val % 16 * 1024 + r.val = 1024 * (t.val % 16) + r.val; omega
    | ⟨1, _⟩ => blk_simp [at0]
  rw [h, e, V_main_arg0]
theorem blk1 (c : Dev nD) (t : Fin cfg0.N) (k : Fin 2048) (j : Fin 512) :
    (iblk m c 1 t (ValueIdx.ix3 (0 : Fin 1) k j) : EReal)
      = m ((c : Thread nD τ).loc main_arg1) (ValueIdx.ix3 (1 : Fin 2) k (⟨(col t.val t.isLt j).val, by omega⟩ : Fin 11264)) := by
  have h : iblk m c 1 t (ValueIdx.ix3 (0 : Fin 1) k j) = V m c main_arg1 (((cfg0.win 1).blk t).view.emb (ValueIdx.ix3 (0 : Fin 1) k j)) := rfl
  have e : ((cfg0.win 1).blk t).view.emb (ValueIdx.ix3 (0 : Fin 1) k j) = ValueIdx.ix3 (1 : Fin 2) k (⟨(col t.val t.isLt j).val, by omega⟩ : Fin 11264) := by
    funext a; apply Fin.ext
    match a with
    | ⟨0, _⟩ => blk_simp [at1]; rfl
    | ⟨1, _⟩ => blk_simp [at1]
    | ⟨2, _⟩ => blk_simp [at1]; show t.val / 16 * 512 + j.val = 512 * (t.val / 16) + j.val; omega
  rw [h, e, V_main_arg1]
theorem blk2 (c : Dev nD) (t : Fin cfg0.N) (k : Fin 2048) (j : Fin 512) :
    (iblk m c 2 t (ValueIdx.ix3 (0 : Fin 1) k j) : EReal)
      = m ((c : Thread nD τ).loc main_arg1) (ValueIdx.ix3 (1 : Fin 2) k (⟨5632 + (col t.val t.isLt j).val, by omega⟩ : Fin 11264)) := by
  have h : iblk m c 2 t (ValueIdx.ix3 (0 : Fin 1) k j) = V m c main_arg1 (((cfg0.win 2).blk t).view.emb (ValueIdx.ix3 (0 : Fin 1) k j)) := rfl
  have e : ((cfg0.win 2).blk t).view.emb (ValueIdx.ix3 (0 : Fin 1) k j) = ValueIdx.ix3 (1 : Fin 2) k (⟨5632 + (col t.val t.isLt j).val, by omega⟩ : Fin 11264) := by
    funext a; apply Fin.ext
    match a with
    | ⟨0, _⟩ => blk_simp [at2]; rfl
    | ⟨1, _⟩ => blk_simp [at2]
    | ⟨2, _⟩ => blk_simp [at2]; show (11 + t.val / 16) * 512 + j.val = 5632 + (512 * (t.val / 16) + j.val); omega
  rw [h, e, V_main_arg1]

/-! ## The scratch carried between the row tiles -/

/-- The scratches after point `n`: the two weight blocks of its column tile. -/
theorem scratch (c : Dev nD) : ∀ (n : ℕ) (hn : n < cfg0.N) (k : Fin 2048) (j : Fin 512),
    ((outsAt0 m c n hn).2.1 (ValueIdx.ix2 k j) : EReal)
        = m ((c : Thread nD τ).loc main_arg1) (ValueIdx.ix3 (1 : Fin 2) k (⟨(col n hn j).val, by omega⟩ : Fin 11264))
    ∧ ((outsAt0 m c n hn).2.2 (ValueIdx.ix2 k j) : EReal)
        = m ((c : Thread nD τ).loc main_arg1) (ValueIdx.ix3 (1 : Fin 2) k (⟨5632 + (col n hn j).val, by omega⟩ : Fin 11264)) := by
  intro n
  induction n with
  | zero =>
    intro hn k j
    have h0 : (⟨0, hn⟩ : Fin cfg0.N).val % 16 = 0 := rfl
    constructor
    · have := outsAt0_A m c ⟨0, hn⟩ h0
      rw [this]; frame_out
      exact (pay1_apply _ k j).trans (blk1 m c ⟨0, hn⟩ k j)
    · have := outsAt0_A m c ⟨0, hn⟩ h0
      rw [this]; frame_out
      exact (pay2_apply _ k j).trans (blk2 m c ⟨0, hn⟩ k j)
  | succ n ih =>
    intro hn k j
    by_cases h0 : (⟨n + 1, hn⟩ : Fin cfg0.N).val % 16 = 0
    · constructor
      · have := outsAt0_A m c ⟨n + 1, hn⟩ h0
        rw [this]; frame_out
        exact (pay1_apply _ k j).trans (blk1 m c ⟨n + 1, hn⟩ k j)
      · have := outsAt0_A m c ⟨n + 1, hn⟩ h0
        rw [this]; frame_out
        exact (pay2_apply _ k j).trans (blk2 m c ⟨n + 1, hn⟩ k j)
    · have e : (col n (Nat.lt_of_succ_lt hn) j).val = (col (n + 1) hn j).val := by
        show 512 * (n / 16) + j.val = 512 * ((n + 1) / 16) + j.val
        have : (n + 1) % 16 ≠ 0 := h0
        omega
      have hs := outsAt0_B m c ⟨n + 1, hn⟩ h0
      have hi := ih (Nat.lt_of_succ_lt hn) k j
      simp only [e] at hi
      rw [hs]
      exact hi

/-- What the body leaves in the output's block. -/
theorem block (c : Dev nD) (t : Fin cfg0.N) (r : Fin 1024) (j : Fin 512) :
    ((outsAt0 m c t.val t.isLt).1 (ValueIdx.ix2 r j) : EReal)
      = ffnIn (m ((c : Thread nD τ).loc main_arg0)) (m ((c : Thread nD τ).loc main_arg1)) (row t r) (col t.val t.isLt j) := by
  by_cases h0 : t.val % 16 = 0
  · rw [outsAt0_A m c t h0]; frame_out
    refine (pay3_apply _ _ _ r j).trans (congrArg₂ gate ?_ ?_)
    · exact Finset.sum_congr rfl fun k _ => congrArg₂ (fun p q : EReal => p * q) (blk0 m c t r k) ((pay1_apply _ k j).trans (blk1 m c t k j))
    · exact Finset.sum_congr rfl fun k _ => congrArg₂ (fun p q : EReal => p * q) (blk0 m c t r k) ((pay2_apply _ k j).trans (blk2 m c t k j))
  · have ht : t.val - 1 < cfg0.N := lt_of_le_of_lt (Nat.sub_le _ _) t.isLt
    have e : (col (t.val - 1) ht j).val = (col t.val t.isLt j).val := by
      show 512 * ((t.val - 1) / 16) + j.val = 512 * (t.val / 16) + j.val
      omega
    have hs := fun k => scratch m c (t.val - 1) ht k j
    simp only [e] at hs
    rw [outsAt0_B m c t h0]; frame_out
    simp only [read_unread_whole]
    refine (pay3_apply _ _ _ r j).trans (congrArg₂ gate ?_ ?_)
    · exact Finset.sum_congr rfl fun k _ => congrArg₂ (fun p q : EReal => p * q) (blk0 m c t r k) (hs k).1
    · exact Finset.sum_congr rfl fun k _ => congrArg₂ (fun p q : EReal => p * q) (blk0 m c t r k) (hs k).2

/-- The result array, from the launched arguments. -/
def result (c : Dev nD) : S16384x5632.Idx → EReal := fun i =>
  ffnIn (m ((c : Thread nD τ).loc main_arg0)) (m ((c : Thread nD τ).loc main_arg1)) (i 0) (i 1)

theorem final (c : Dev nD) : (dats m 0 c).arrAt 3 cfg0.N = result m c := by
  refine (dats m 0 c).arrAt_eq_of_covers 3 _ (by decide +kernel) fun t hf y => ?_
  rw [after0_3]
  obtain ⟨r, j, rfl⟩ : ∃ (r : Fin 1024) (j : Fin 512), y = ValueIdx.ix2 r j :=
    ⟨y 0, y 1, by funext a; match a with | ⟨0, _⟩ => rfl | ⟨1, _⟩ => rfl⟩
  have e : ((cfg0.win 3).blk t).view.emb (ValueIdx.ix2 r j) = ValueIdx.ix2 (row t r) (col t.val t.isLt j) := by
    funext a; apply Fin.ext
    match a with
    | ⟨0, _⟩ => blk_simp [at3]; show t.val % 16 * 1024 + r.val = 1024 * (t.val % 16) + r.val; omega
    | ⟨1, _⟩ => blk_simp [at3]; show t.val / 16 * 512 + j.val = 512 * (t.val / 16) + j.val; omega
  rw [e]
  exact block m c t r j

/-! ## The reference -/

section
open Cert.FfnRefIdeal.Read

variable (x0 : S16384x2048.Idx → EReal) (x1 : S2x2048x11264.Idx → EReal)

theorem ref_prod (i : Cert.FfnRefIdeal.S16384x11264.Idx) : (val_main_v3 (F := Ideal) x0 x1 i : EReal) = prod x0 x1 (i 0) (i 1) := by
  have h1 : (i 1).val < 11264 := (i 1).isLt
  rw [val_main_v3_apply]
  refine Finset.sum_congr rfl fun k _ => ?_
  rw [val_main_v0_apply, val_main_v2_apply, val_main_v1_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 11264 + (i 1).val) / 11264 % 2048 = k.val; omega
    | ⟨2, _⟩ => show (k.val * 11264 + (i 1).val) % 11264 = (i 1).val; omega

/-- The reference's result array. -/
theorem ref_out (i : S16384x5632.Idx) : (val_main_v8 (F := Ideal) x0 x1 i : EReal) = ffnIn x0 x1 (i 0) (i 1) := by
  rw [val_main_v8_apply, val_main_v7_apply, val_main_v6_apply, val_main_call0_v5_apply, val_main_call0_v4_apply, val_main_call0_cst_0_apply,
    val_main_call0_v3_apply, val_main_call0_v2_apply, val_main_call0_cst_apply, val_main_call0_v1_apply, val_main_call0_v0_apply,
    val_main_v4_apply, val_main_v5_apply, ref_prod, ref_prod]
  rfl

end

end Cert.Layer.Ffn

end
-- ==== Proof.HgrnInValue.lean ====
module

public import proofs.«01_k».proof.Proof.Gen.HgrnInIdeal.Value
public import proofs.«01_k».proof.Proof.Gen.HgrnInRefIdeal.Run
public import proofs.«01_k».proof.Proof.Gen.HgrnInRefIdeal.Read
public import Idealize.ShloMosaic.Lib.MatmulPlain
public import Idealize.ShloMosaic.Lib.ValueLayout
public import Idealize.ShloMosaic.Lib.Pipeline.ValueKit
public import Idealize.ShloMosaic.Lib.Pipeline.ReadBack

/-! The projection of the tokens to the HGRN heads' inputs: kernel and reference both end with `prod` of the
arguments.

The grid runs over 8 tiles of 512 columns and, inside, 16 tiles of 1024 rows. The first row tile of a
column tile casts the weight block into scratch; the other fifteen read what it left. -/

@[expose] public section

set_option maxRecDepth 16384

noncomputable section

namespace Cert.Layer.HgrnIn

open Idealize.ShloMosaic Idealize.ShloMosaic.TcCoe Idealize.SL.Sem
open Cert.HgrnInIdeal Cert.HgrnInIdeal.Gen

/-- Row `p` of the tokens against column `q` of the weights. -/
def prod (x0 : S16384x2048.Idx → EReal) (x1 : S1x2048x6680.Idx → EReal) (p : Fin 16384) (q : Fin 6680) : EReal :=
  ∑ k : Fin 2048, x0 (ValueIdx.ix2 p k) * x1 (ValueIdx.ix3 (0 : Fin 1) k q)

/-- Column `q` of the result as a column of the weights. -/
def wide (q : Fin 4096) : Fin 6680 := ⟨q.val, by omega⟩

/-! ## The body's payloads -/

theorem pay1_apply (v : Vec Ideal S1x2048x512 .f32) (k : Fin 2048) (j : Fin 512) :
    (k0_pay1 (F := Ideal) v (ValueIdx.ix2 k j) : EReal) = v (ValueIdx.ix3 (0 : Fin 1) k j) := by
  unfold k0_pay1
  rw [shapeCast_self]
  exact ValueIdx.shapeCast_1ab_ab_apply _ _ _ _
theorem pay2_apply (x : Vec Ideal S1024x2048 .bf16) (w : Vec Ideal S2048x512 .bf16) (r : Fin 1024) (j : Fin 512) :
    (k0_pay2 (F := Ideal) x w (ValueIdx.ix2 r j) : EReal) = ∑ k : Fin 2048, (x (ValueIdx.ix2 r k) : EReal) * w (ValueIdx.ix2 k j) := by
  unfold k0_pay2
  refine (Ideal.matmul_plain_apply (φ₁ := .bf16) (φ₂ := .bf16) none x w _ r j).trans ?_
  show Ideal.ofBits .f32 0x00000000#32 + _ = _
  rw [Ideal.ofBits_zero_f32, zero_add]

variable (m : (ℓ : Loc nD τ sig) → Buf (Elt Ideal) ℓ) (ρ : Dev nD → PrngReg)

theorem at0 : ∀ t : Fin cfg0.N, win0_0.index t = ![t.val % 16, 0] := (by decide +kernel : ∀ t : Fin grid0.N, _)
theorem at1 : ∀ t : Fin cfg0.N, win0_1.index t = ![0, 0, t.val / 16] := (by decide +kernel : ∀ t : Fin grid0.N, _)
theorem at2 : ∀ t : Fin cfg0.N, win0_2.index t = ![t.val % 16, t.val / 16] := (by decide +kernel : ∀ t : Fin grid0.N, _)

/-- Row `r` of point `t`'s row tile. -/
def row (t : Fin cfg0.N) (r : Fin 1024) : Fin 16384 := ⟨1024 * (t.val % 16) + r.val, by
  have h2 := r.isLt
  omega⟩

/-- Column `j` of point `n`'s column tile. -/
def col (n : ℕ) (h : n < cfg0.N) (j : Fin 512) : Fin 4096 := ⟨512 * (n / 16) + j.val, by
  have h1 : n < 128 := h
  have h2 := j.isLt
  omega⟩

theorem blk0 (c : Dev nD) (t : Fin cfg0.N) (r : Fin 1024) (k : Fin 2048) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val % 16 * 1024 + r.val = 1024 * (t.val % 16) + r.val; omega
    | ⟨1, _⟩ => blk_simp [at0]
  rw [h, e, V_main_arg0]
theorem blk1 (c : Dev nD) (t : Fin cfg0.N) (k : Fin 2048) (j : Fin 512) :
    (X0_1 m c t (ValueIdx.ix3 (0 : Fin 1) k j) : EReal)
      = m ((c : Thread nD τ).loc main_arg1) (ValueIdx.ix3 (0 : Fin 1) k (wide (col t.val t.isLt j))) := by
  unfold X0_1 Pipeline.Window.fill
  rw [dif_pos (moved0_1 t _)]
  refine congrArg (m ((c : Thread nD τ).loc main_arg1)) ?_
  funext a; apply Fin.ext
  match a with
  | ⟨0, _⟩ => blk_simp [at1]; rfl
  | ⟨1, _⟩ => blk_simp [at1]
  | ⟨2, _⟩ => blk_simp [at1]; show t.val / 16 * 512 + j.val = 512 * (t.val / 16) + j.val; omega

/-! ## The scratch carried between the row tiles -/

/-- The scratch after point `n`: the weight block of its column tile. -/
theorem scratch (c : Dev nD) : ∀ (n : ℕ) (hn : n < cfg0.N) (k : Fin 2048) (j : Fin 512),
    ((outsAt0 m c n hn).2 (ValueIdx.ix2 k j) : EReal) = m ((c : Thread nD τ).loc main_arg1) (ValueIdx.ix3 (0 : Fin 1) k (wide (col n hn j))) := by
  intro n
  induction n with
  | zero =>
    intro hn k j
    have h0 : (⟨0, hn⟩ : Fin cfg0.N).val % 16 = 0 := rfl
    have := outsAt0_A m c ⟨0, hn⟩ h0
    rw [this]; frame_out
    exact (pay1_apply _ k j).trans (blk1 m c ⟨0, hn⟩ k j)
  | succ n ih =>
    intro hn k j
    by_cases h0 : (⟨n + 1, hn⟩ : Fin cfg0.N).val % 16 = 0
    · have := outsAt0_A m c ⟨n + 1, hn⟩ h0
      rw [this]; frame_out
      exact (pay1_apply _ k j).trans (blk1 m c ⟨n + 1, hn⟩ k j)
    · have e : col n (Nat.lt_of_succ_lt hn) j = col (n + 1) hn j := Fin.ext (by
        show 512 * (n / 16) + j.val = 512 * ((n + 1) / 16) + j.val
        have : (n + 1) % 16 ≠ 0 := h0
        omega)
      have hs := outsAt0_B m c ⟨n + 1, hn⟩ h0
      have hi := ih (Nat.lt_of_succ_lt hn) k j
      rw [e] at hi
      rw [hs]
      exact hi

/-- What the body leaves in the output's block. -/
theorem block (c : Dev nD) (t : Fin cfg0.N) (r : Fin 1024) (j : Fin 512) :
    ((outsAt0 m c t.val t.isLt).1 (ValueIdx.ix2 r j) : EReal)
      = prod (m ((c : Thread nD τ).loc main_arg0)) (m ((c : Thread nD τ).loc main_arg1)) (row t r) (wide (col t.val t.isLt j)) := by
  by_cases h0 : t.val % 16 = 0
  · rw [outsAt0_A m c t h0]; frame_out
    refine (pay2_apply _ _ r j).trans ?_
    exact Finset.sum_congr rfl fun k _ => congrArg₂ (fun p q : EReal => p * q) (blk0 m c t r k) ((pay1_apply _ k j).trans (blk1 m c t k j))
  · have ht : t.val - 1 < cfg0.N := lt_of_le_of_lt (Nat.sub_le _ _) t.isLt
    have e : col (t.val - 1) ht j = col t.val t.isLt j := Fin.ext (by
      show 512 * ((t.val - 1) / 16) + j.val = 512 * (t.val / 16) + j.val
      omega)
    have hs := fun k => scratch m c (t.val - 1) ht k j
    simp only [e] at hs
    rw [outsAt0_B m c t h0]; frame_out
    simp only [read_unread_whole]
    refine (pay2_apply _ _ r j).trans ?_
    exact Finset.sum_congr rfl fun k _ => congrArg₂ (fun p q : EReal => p * q) (blk0 m c t r k) (hs k)

/-- The result array, from the launched arguments. -/
def result (c : Dev nD) : S16384x4096.Idx → EReal := fun i =>
  prod (m ((c : Thread nD τ).loc main_arg0)) (m ((c : Thread nD τ).loc main_arg1)) (i 0) (wide (i 1))

theorem final (c : Dev nD) : (dats m 0 c).arrAt 2 cfg0.N = result m c := by
  refine (dats m 0 c).arrAt_eq_of_covers 2 _ (by decide +kernel) fun t hf y => ?_
  rw [after0_2]
  obtain ⟨r, j, rfl⟩ : ∃ (r : Fin 1024) (j : Fin 512), y = ValueIdx.ix2 r j :=
    ⟨y 0, y 1, by funext a; match a with | ⟨0, _⟩ => rfl | ⟨1, _⟩ => rfl⟩
  have e : ((cfg0.win 2).blk t).view.emb (ValueIdx.ix2 r j) = ValueIdx.ix2 (row t r) (col t.val t.isLt j) := by
    funext a; apply Fin.ext
    match a with
    | ⟨0, _⟩ => blk_simp [at2]; show t.val % 16 * 1024 + r.val = 1024 * (t.val % 16) + r.val; omega
    | ⟨1, _⟩ => blk_simp [at2]; show t.val / 16 * 512 + j.val = 512 * (t.val / 16) + j.val; omega
  rw [e]
  exact block m c t r j

/-! ## The reference -/

section
open Cert.HgrnInRefIdeal.Read

theorem ref_prod (x0 : S16384x2048.Idx → EReal) (x1 : S1x2048x6680.Idx → EReal) (i : Cert.HgrnInRefIdeal.S16384x6680.Idx) :
    (val_main_v2 (F := Ideal) x0 x1 i : EReal) = prod x0 x1 (i 0) (i 1) := by
  have h1 : (i 1).val < 6680 := (i 1).isLt
  rw [val_main_v2_apply]
  refine Finset.sum_congr rfl fun k _ => ?_
  rw [val_main_v0_apply, val_main_v1_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 6680 + (i 1).val) / 6680 % 2048 = k.val; omega
    | ⟨2, _⟩ => show (k.val * 6680 + (i 1).val) % 6680 = (i 1).val; omega

/-- The reference's result array. -/
theorem ref_out (x0 : S16384x2048.Idx → EReal) (x1 : S1x2048x6680.Idx → EReal) (i : S16384x4096.Idx) :
    (val_main_v3 (F := Ideal) x0 x1 i : EReal) = prod x0 x1 (i 0) (wide (i 1)) := by
  rw [val_main_v3_apply]
  exact (ref_prod x0 x1 _).trans (congrArg₂ (prod x0 x1) (Fin.ext rfl) (Fin.ext rfl))

end

end Cert.Layer.HgrnIn

end
-- ==== Proof.NsaInValue.lean ====
module

public import proofs.«01_k».proof.Proof.Gen.NsaInIdeal.Value
public import proofs.«01_k».proof.Proof.Gen.NsaInRefIdeal.Run
public import proofs.«01_k».proof.Proof.Gen.NsaInRefIdeal.Read
public import Idealize.ShloMosaic.Lib.MatmulPlain
public import Idealize.ShloMosaic.Lib.ValueLayout
public import Idealize.ShloMosaic.Lib.Pipeline.ValueKit
public import Idealize.ShloMosaic.Lib.Pipeline.ReadBack

/-! The projection of the tokens to the NSA heads' inputs: kernel and reference both end with `prod` of the
arguments.

The grid runs over 5 tiles of 512 columns and, inside, 16 tiles of 1024 rows. The first row tile of a
column tile casts the weight block into scratch; the other fifteen read what it left. -/

@[expose] public section

set_option maxRecDepth 16384

noncomputable section

namespace Cert.Layer.NsaIn

open Idealize.ShloMosaic Idealize.ShloMosaic.TcCoe Idealize.SL.Sem
open Cert.NsaInIdeal Cert.NsaInIdeal.Gen

/-- Row `p` of the tokens against column `q` of the weights. -/
def prod (x0 : S16384x2048.Idx → EReal) (x1 : S1x2048x6680.Idx → EReal) (p : Fin 16384) (q : Fin 6680) : EReal :=
  ∑ k : Fin 2048, x0 (ValueIdx.ix2 p k) * x1 (ValueIdx.ix3 (0 : Fin 1) k q)

/-- Column `q` of the result as a column of the weights. -/
def wide (q : Fin 2560) : Fin 6680 := ⟨4096 + q.val, by omega⟩

/-! ## The body's payloads -/

theorem pay1_apply (v : Vec Ideal S1x2048x512 .f32) (k : Fin 2048) (j : Fin 512) :
    (k0_pay1 (F := Ideal) v (ValueIdx.ix2 k j) : EReal) = v (ValueIdx.ix3 (0 : Fin 1) k j) := by
  unfold k0_pay1
  rw [shapeCast_self]
  exact ValueIdx.shapeCast_1ab_ab_apply _ _ _ _
theorem pay2_apply (x : Vec Ideal S1024x2048 .bf16) (w : Vec Ideal S2048x512 .bf16) (r : Fin 1024) (j : Fin 512) :
    (k0_pay2 (F := Ideal) x w (ValueIdx.ix2 r j) : EReal) = ∑ k : Fin 2048, (x (ValueIdx.ix2 r k) : EReal) * w (ValueIdx.ix2 k j) := by
  unfold k0_pay2
  refine (Ideal.matmul_plain_apply (φ₁ := .bf16) (φ₂ := .bf16) none x w _ r j).trans ?_
  show Ideal.ofBits .f32 0x00000000#32 + _ = _
  rw [Ideal.ofBits_zero_f32, zero_add]

variable (m : (ℓ : Loc nD τ sig) → Buf (Elt Ideal) ℓ) (ρ : Dev nD → PrngReg)

theorem at0 : ∀ t : Fin cfg0.N, win0_0.index t = ![t.val % 16, 0] := (by decide +kernel : ∀ t : Fin grid0.N, _)
theorem at1 : ∀ t : Fin cfg0.N, win0_1.index t = ![0, 0, 8 + t.val / 16] := (by decide +kernel : ∀ t : Fin grid0.N, _)
theorem at2 : ∀ t : Fin cfg0.N, win0_2.index t = ![t.val % 16, t.val / 16] := (by decide +kernel : ∀ t : Fin grid0.N, _)

/-- Row `r` of point `t`'s row tile. -/
def row (t : Fin cfg0.N) (r : Fin 1024) : Fin 16384 := ⟨1024 * (t.val % 16) + r.val, by
  have h2 := r.isLt
  omega⟩

/-- Column `j` of point `n`'s column tile. -/
def col (n : ℕ) (h : n < cfg0.N) (j : Fin 512) : Fin 2560 := ⟨512 * (n / 16) + j.val, by
  have h1 : n < 80 := h
  have h2 := j.isLt
  omega⟩

theorem blk0 (c : Dev nD) (t : Fin cfg0.N) (r : Fin 1024) (k : Fin 2048) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val % 16 * 1024 + r.val = 1024 * (t.val % 16) + r.val; omega
    | ⟨1, _⟩ => blk_simp [at0]
  rw [h, e, V_main_arg0]
theorem blk1 (c : Dev nD) (t : Fin cfg0.N) (k : Fin 2048) (j : Fin 512) :
    (X0_1 m c t (ValueIdx.ix3 (0 : Fin 1) k j) : EReal)
      = m ((c : Thread nD τ).loc main_arg1) (ValueIdx.ix3 (0 : Fin 1) k (wide (col t.val t.isLt j))) := by
  unfold X0_1 Pipeline.Window.fill
  rw [dif_pos (moved0_1 t _)]
  refine congrArg (m ((c : Thread nD τ).loc main_arg1)) ?_
  funext a; apply Fin.ext
  match a with
  | ⟨0, _⟩ => blk_simp [at1]; rfl
  | ⟨1, _⟩ => blk_simp [at1]
  | ⟨2, _⟩ => blk_simp [at1]; show (8 + t.val / 16) * 512 + j.val = 4096 + (512 * (t.val / 16) + j.val); omega

/-! ## The scratch carried between the row tiles -/

/-- The scratch after point `n`: the weight block of its column tile. -/
theorem scratch (c : Dev nD) : ∀ (n : ℕ) (hn : n < cfg0.N) (k : Fin 2048) (j : Fin 512),
    ((outsAt0 m c n hn).2 (ValueIdx.ix2 k j) : EReal) = m ((c : Thread nD τ).loc main_arg1) (ValueIdx.ix3 (0 : Fin 1) k (wide (col n hn j))) := by
  intro n
  induction n with
  | zero =>
    intro hn k j
    have h0 : (⟨0, hn⟩ : Fin cfg0.N).val % 16 = 0 := rfl
    have := outsAt0_A m c ⟨0, hn⟩ h0
    rw [this]; frame_out
    exact (pay1_apply _ k j).trans (blk1 m c ⟨0, hn⟩ k j)
  | succ n ih =>
    intro hn k j
    by_cases h0 : (⟨n + 1, hn⟩ : Fin cfg0.N).val % 16 = 0
    · have := outsAt0_A m c ⟨n + 1, hn⟩ h0
      rw [this]; frame_out
      exact (pay1_apply _ k j).trans (blk1 m c ⟨n + 1, hn⟩ k j)
    · have e : col n (Nat.lt_of_succ_lt hn) j = col (n + 1) hn j := Fin.ext (by
        show 512 * (n / 16) + j.val = 512 * ((n + 1) / 16) + j.val
        have : (n + 1) % 16 ≠ 0 := h0
        omega)
      have hs := outsAt0_B m c ⟨n + 1, hn⟩ h0
      have hi := ih (Nat.lt_of_succ_lt hn) k j
      rw [e] at hi
      rw [hs]
      exact hi

/-- What the body leaves in the output's block. -/
theorem block (c : Dev nD) (t : Fin cfg0.N) (r : Fin 1024) (j : Fin 512) :
    ((outsAt0 m c t.val t.isLt).1 (ValueIdx.ix2 r j) : EReal)
      = prod (m ((c : Thread nD τ).loc main_arg0)) (m ((c : Thread nD τ).loc main_arg1)) (row t r) (wide (col t.val t.isLt j)) := by
  by_cases h0 : t.val % 16 = 0
  · rw [outsAt0_A m c t h0]; frame_out
    refine (pay2_apply _ _ r j).trans ?_
    exact Finset.sum_congr rfl fun k _ => congrArg₂ (fun p q : EReal => p * q) (blk0 m c t r k) ((pay1_apply _ k j).trans (blk1 m c t k j))
  · have ht : t.val - 1 < cfg0.N := lt_of_le_of_lt (Nat.sub_le _ _) t.isLt
    have e : col (t.val - 1) ht j = col t.val t.isLt j := Fin.ext (by
      show 512 * ((t.val - 1) / 16) + j.val = 512 * (t.val / 16) + j.val
      omega)
    have hs := fun k => scratch m c (t.val - 1) ht k j
    simp only [e] at hs
    rw [outsAt0_B m c t h0]; frame_out
    simp only [read_unread_whole]
    refine (pay2_apply _ _ r j).trans ?_
    exact Finset.sum_congr rfl fun k _ => congrArg₂ (fun p q : EReal => p * q) (blk0 m c t r k) (hs k)

/-- The result array, from the launched arguments. -/
def result (c : Dev nD) : S16384x2560.Idx → EReal := fun i =>
  prod (m ((c : Thread nD τ).loc main_arg0)) (m ((c : Thread nD τ).loc main_arg1)) (i 0) (wide (i 1))

theorem final (c : Dev nD) : (dats m 0 c).arrAt 2 cfg0.N = result m c := by
  refine (dats m 0 c).arrAt_eq_of_covers 2 _ (by decide +kernel) fun t hf y => ?_
  rw [after0_2]
  obtain ⟨r, j, rfl⟩ : ∃ (r : Fin 1024) (j : Fin 512), y = ValueIdx.ix2 r j :=
    ⟨y 0, y 1, by funext a; match a with | ⟨0, _⟩ => rfl | ⟨1, _⟩ => rfl⟩
  have e : ((cfg0.win 2).blk t).view.emb (ValueIdx.ix2 r j) = ValueIdx.ix2 (row t r) (col t.val t.isLt j) := by
    funext a; apply Fin.ext
    match a with
    | ⟨0, _⟩ => blk_simp [at2]; show t.val % 16 * 1024 + r.val = 1024 * (t.val % 16) + r.val; omega
    | ⟨1, _⟩ => blk_simp [at2]; show t.val / 16 * 512 + j.val = 512 * (t.val / 16) + j.val; omega
  rw [e]
  exact block m c t r j

/-! ## The reference -/

section
open Cert.NsaInRefIdeal.Read

theorem ref_prod (x0 : S16384x2048.Idx → EReal) (x1 : S1x2048x6680.Idx → EReal) (i : Cert.NsaInRefIdeal.S16384x6680.Idx) :
    (val_main_v2 (F := Ideal) x0 x1 i : EReal) = prod x0 x1 (i 0) (i 1) := by
  have h1 : (i 1).val < 6680 := (i 1).isLt
  rw [val_main_v2_apply]
  refine Finset.sum_congr rfl fun k _ => ?_
  rw [val_main_v0_apply, val_main_v1_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 6680 + (i 1).val) / 6680 % 2048 = k.val; omega
    | ⟨2, _⟩ => show (k.val * 6680 + (i 1).val) % 6680 = (i 1).val; omega

/-- The reference's result array. -/
theorem ref_out (x0 : S16384x2048.Idx → EReal) (x1 : S1x2048x6680.Idx → EReal) (i : S16384x2560.Idx) :
    (val_main_v4 (F := Ideal) x0 x1 i : EReal) = prod x0 x1 (i 0) (wide (i 1)) := by
  rw [val_main_v4_apply, val_main_v3_apply]
  exact (ref_prod x0 x1 _).trans (congrArg₂ (prod x0 x1) (Fin.ext rfl) (Fin.ext rfl))

end

end Cert.Layer.NsaIn

end
-- ==== Proof.Rows.lean ====
module

public import proofs.«01_k».proof.Proof.Tile
public import Idealize.ShloMosaic.Lib.MatmulPlain
public import Idealize.ShloMosaic.Lib.ValueLayoutCasts

/-! The layer normalisation of a row of 2048 numbers, and the vector operations that compute it for
every row of an array. -/

@[expose] public section

set_option maxRecDepth 16384

noncomputable section

namespace Cert.Layer

open Idealize.ShloMosaic Idealize.ShloMosaic.TcCoe Idealize.ShloMosaic.ValueIdx

/-- A row's mean. -/
def mean (y : Fin 2048 → EReal) : EReal := Ideal.div (∑ k : Fin 2048, y k) (Ideal.ofBits .f32 0x45000000#32)

/-- A row less its mean. -/
def centred (y : Fin 2048 → EReal) (k : Fin 2048) : EReal := y k - mean y

/-- A row normalised: less its mean, times the reciprocal root of its variance plus the small constant,
    times the weights, plus the biases. -/
def norm (y w b : Fin 2048 → EReal) (j : Fin 2048) : EReal :=
  centred y j * Ideal.rsqrt (mean (fun k => centred y k * centred y k) + Ideal.ofBits .f32 0x3727C5AC#32) * w j + b j

theorem norm_congr {y y' w w' b b' : Fin 2048 → EReal} (hy : ∀ k, y k = y' k) (hw : ∀ k, w k = w' k) (hb : ∀ k, b k = b' k)
    {j j' : Fin 2048} (hj : j.val = j'.val) : norm y w b j = norm y' w' b' j' := by
  obtain rfl := funext hy; obtain rfl := funext hw; obtain rfl := funext hb; obtain rfl := Fin.ext hj; rfl

section
variable {n : ℕ} (hr : (⟨2, ![n, 2048]⟩ : Shape).Reduces [1] (⟨1, ![n]⟩ : Shape)) (hc : (⟨1, ![n]⟩ : Shape).ShapeCasts ⟨2, ![n, 1]⟩)
  (hb : (⟨2, ![n, 1]⟩ : Shape).Broadcasts ⟨2, ![n, 2048]⟩) (hw : (⟨2, ![1, 2048]⟩ : Shape).Broadcasts ⟨2, ![n, 2048]⟩)

/-- The column of the rows' means. -/
def rowMean (x : FVec Ideal ⟨2, ![n, 2048]⟩ .f32) : FVec Ideal ⟨2, ![n, 1]⟩ .f32 :=
  divf (shapeCast ⟨2, ![n, 1]⟩ (multiReduction .add [1] (⟨1, ![n]⟩ : Shape) x 0x00000000#32 hr (.inl rfl) rfl) hc)
    (broadcast ⟨2, ![n, 1]⟩ (Scalar.ofBits .f32 0x45000000#32 : Ideal .f32))

theorem rowMean_apply (x : FVec Ideal ⟨2, ![n, 2048]⟩ .f32) (r : Fin n) (u : Fin 1) :
    (rowMean hr hc x (ix2 r u) : EReal) = mean (fun k => x (ix2 r k)) := by
  unfold rowMean mean
  refine congrArg (fun p : EReal => Ideal.div p (Ideal.ofBits .f32 0x45000000#32)) ?_
  refine (shapeCast_a_a1_apply _ _ r u).trans ?_
  refine (Ideal.multiReduction_add_single x _ hr (.inl rfl) rfl (ix1 r)).trans ?_
  refine Finset.sum_congr rfl fun c _ => ?_
  rw [Cert.Flash.lift_row]; rfl

/-- The rows less their means. -/
def rowCentred (x : FVec Ideal ⟨2, ![n, 2048]⟩ .f32) : FVec Ideal ⟨2, ![n, 2048]⟩ .f32 :=
  subf x (broadcastTo ⟨2, ![n, 2048]⟩ (rowMean hr hc x) hb)

theorem rowCentred_apply (hn : n ≠ 1) (x : FVec Ideal ⟨2, ![n, 2048]⟩ .f32) (r : Fin n) (k : Fin 2048) :
    (rowCentred hr hc hb x (ix2 r k) : EReal) = centred (fun k => x (ix2 r k)) k := by
  unfold rowCentred centred
  refine congrArg (fun p : EReal => x (ix2 r k) - p) ?_
  exact (Cert.Flash.broadcastTo_col hn _ _ r k).trans (rowMean_apply hr hc x r 0)

/-- The rows normalised. -/
def rowNorm (x : FVec Ideal ⟨2, ![n, 2048]⟩ .f32) (w b : FVec Ideal ⟨2, ![1, 2048]⟩ .f32) : FVec Ideal ⟨2, ![n, 2048]⟩ .f32 :=
  addf (mulf (mulf (rowCentred hr hc hb x) (broadcastTo ⟨2, ![n, 2048]⟩
      (rsqrt (addf (rowMean hr hc (mulf (rowCentred hr hc hb x) (rowCentred hr hc hb x)))
        (broadcast ⟨2, ![n, 1]⟩ (Scalar.ofBits .f32 0x3727C5AC#32 : Ideal .f32)))) hb))
    (broadcastTo ⟨2, ![n, 2048]⟩ w hw)) (broadcastTo ⟨2, ![n, 2048]⟩ b hw)

theorem rowNorm_apply (hn : n ≠ 1) (x : FVec Ideal ⟨2, ![n, 2048]⟩ .f32) (w b : FVec Ideal ⟨2, ![1, 2048]⟩ .f32) (r : Fin n) (j : Fin 2048) :
    (rowNorm hr hc hb hw x w b (ix2 r j) : EReal)
      = norm (fun k => x (ix2 r k)) (fun k => w (ix2 (0 : Fin 1) k)) (fun k => b (ix2 (0 : Fin 1) k)) j := by
  unfold rowNorm norm
  have h1 := rowCentred_apply hr hc hb hn x r
  have h2 : (broadcastTo ⟨2, ![n, 2048]⟩ (rsqrt (addf (rowMean hr hc (mulf (rowCentred hr hc hb x) (rowCentred hr hc hb x)))
        (broadcast ⟨2, ![n, 1]⟩ (Scalar.ofBits .f32 0x3727C5AC#32 : Ideal .f32)))) hb (ix2 r j) : EReal)
      = Ideal.rsqrt (mean (fun k => centred (fun k => x (ix2 r k)) k * centred (fun k => x (ix2 r k)) k) + Ideal.ofBits .f32 0x3727C5AC#32) := by
    refine (Cert.Flash.broadcastTo_col hn _ _ r j).trans ?_
    refine congrArg (fun p : EReal => Ideal.rsqrt (p + Ideal.ofBits .f32 0x3727C5AC#32)) ?_
    refine (rowMean_apply hr hc _ r 0).trans (congrArg mean (funext fun k => ?_))
    exact congrArg₂ (fun p q : EReal => p * q) (h1 k) (h1 k)
  refine congrArg₂ (fun p q : EReal => p + q) (congrArg₂ (fun p q : EReal => p * q) (congrArg₂ (fun p q : EReal => p * q) (h1 j) h2) ?_) ?_
  · exact broadcastTo_1b_ab_apply _ _ r j
  · exact broadcastTo_1b_ab_apply _ _ r j

end

end Cert.Layer

end
-- ==== Proof.ResValue.lean ====
module

public import proofs.«01_k».proof.Proof.Gen.ResIdeal.Value
public import proofs.«01_k».proof.Proof.Gen.ResRefIdeal.Run
public import proofs.«01_k».proof.Proof.Gen.ResRefIdeal.Read
public import proofs.«01_k».proof.Proof.Rows
public import Idealize.ShloMosaic.Lib.Pipeline.ValueKit

/-! The second feed-forward product with its residual and layer normalisation: kernel and reference
both end with `ffnOut` of the arguments. -/

@[expose] public section

set_option maxRecDepth 16384

noncomputable section

namespace Cert.Layer.Res

open Idealize.ShloMosaic Idealize.ShloMosaic.TcCoe Idealize.SL.Sem
open Cert.ResIdeal Cert.ResIdeal.Gen

/-- The residual sum at row `p`: the scaled residual row plus the product of the activations and the weights. -/
def sum (x0 : S16384x5632.Idx → EReal) (x1 : S2x5632x2048.Idx → EReal) (x2 : S16384x2048.Idx → EReal) (p : Fin 16384) (j : Fin 2048) : EReal :=
  Ideal.ofBits .f32 0x3FB504F3#32 * x2 (ValueIdx.ix2 p j) + ∑ k : Fin 5632, x0 (ValueIdx.ix2 p k) * x1 (ValueIdx.ix3 (1 : Fin 2) k j)

/-- The result: the residual sum's rows normalised. -/
def ffnOut (x0 : S16384x5632.Idx → EReal) (x1 : S2x5632x2048.Idx → EReal) (x2 : S16384x2048.Idx → EReal) (x3 x4 : S2048.Idx → EReal)
    (i : S16384x2048.Idx) : EReal :=
  norm (sum x0 x1 x2 (i 0)) (fun k => x3 (ValueIdx.ix1 k)) (fun k => x4 (ValueIdx.ix1 k)) (i 1)

/-! ## The kernel's block -/

/-- The payload stored, at an entry. -/
theorem pay1_apply (v0 : Vec Ideal S256x2048 .f32) (v3 : Vec Ideal S256x5632 .bf16) (v4 : Vec Ideal S1x5632x2048 .bf16) (v8 v10 : Vec Ideal S1x2048 .f32)
    (r : Fin 256) (j : Fin 2048) :
    (k0_pay1 (F := Ideal) v0 v3 v4 v8 v10 (ValueIdx.ix2 r j) : EReal)
      = norm (fun j => Ideal.ofBits .f32 0x3FB504F3#32 * v0 (ValueIdx.ix2 r j) + ∑ k : Fin 5632, (v3 (ValueIdx.ix2 r k) : EReal) * v4 (ValueIdx.ix3 (0 : Fin 1) k j))
          (fun k => v8 (ValueIdx.ix2 (0 : Fin 1) k)) (fun k => v10 (ValueIdx.ix2 (0 : Fin 1) k)) j := by
  unfold k0_pay1
  refine (rowNorm_apply reduces_S256x2048_S256 shapeCasts_S256_S256x1 broadcasts_S256x1_S256x2048 broadcasts_S1x2048_S256x2048 (by norm_num)
    (addf (mulf (broadcast S256x2048 (Scalar.ofBits .f32 0x3FB504F3#32 : Ideal .f32)) v0)
      (matmul dot_S256x5632_S5632x2048_S256x2048_1_0_0_1_n_n none v3 (shapeCast S5632x2048 v4 shapeCasts_S1x5632x2048_S5632x2048)
        (constant S256x2048 .f32 0x00000000#32)))
    (shapeCast S1x2048 v8 shapeCasts_S1x2048_S1x2048) (shapeCast S1x2048 v10 shapeCasts_S1x2048_S1x2048) r j).trans ?_
  refine norm_congr (fun j => ?_) (fun k => ?_) (fun k => ?_) rfl
  · refine congrArg (fun p : EReal => Ideal.ofBits .f32 0x3FB504F3#32 * v0 (ValueIdx.ix2 r j) + p) ?_
    refine (Ideal.matmul_plain_apply none v3 (shapeCast S5632x2048 v4 shapeCasts_S1x5632x2048_S5632x2048) _ r j).trans ?_
    show Ideal.ofBits .f32 0x00000000#32 + _ = _
    rw [Ideal.ofBits_zero_f32, zero_add]
    refine Finset.sum_congr rfl fun k _ => congrArg (fun p : EReal => (v3 (ValueIdx.ix2 r k) : EReal) * p) ?_
    exact ValueIdx.shapeCast_1ab_ab_apply _ _ _ _
  · rw [shapeCast_self]
  · rw [shapeCast_self]

variable (m : (ℓ : Loc nD τ sig) → Buf (Elt Ideal) ℓ) (ρ : Dev nD → PrngReg)

theorem at0 : ∀ t : Fin cfg0.N, win0_0.index t = ![t.val, 0] := (by decide +kernel : ∀ t : Fin grid0.N, _)
theorem at1 : ∀ t : Fin cfg0.N, win0_1.index t = ![1, 0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

/-- The arrays the host code prepares. -/
theorem vecW (c : Dev nD) (i : S2x5632x2048.Idx) : (V m c main_v0 i : EReal) = m ((c : Thread nD τ).loc main_arg1) i := by
  have h : V m c main_v0 = (truncf .bf16 (m ((c : Thread nD τ).loc main_arg1)) bitsLt_bf16_f32 : FVec Ideal S2x5632x2048 .bf16) := by
    unfold V hostOps0; after_results <;> rfl
  rw [h]; rfl
theorem vec3 (c : Dev nD) (d : Fin 2048) : V m c main_v1 (ValueIdx.ix2 (0 : Fin 1) d) = m ((c : Thread nD τ).loc main_arg3) (ValueIdx.ix1 d) := by
  have h : V m c main_v1 = shapeCast S1x2048 (m ((c : Thread nD τ).loc main_arg3)) shapeCasts_S2048_S1x2048 := by
    unfold V hostOps0; after_results; rfl
  rw [h]; exact ValueIdx.shapeCast_a_1a_apply _ _ _ _
theorem vec4 (c : Dev nD) (d : Fin 2048) : V m c main_v2 (ValueIdx.ix2 (0 : Fin 1) d) = m ((c : Thread nD τ).loc main_arg4) (ValueIdx.ix1 d) := by
  have h : V m c main_v2 = shapeCast S1x2048 (m ((c : Thread nD τ).loc main_arg4)) shapeCasts_S2048_S1x2048 := by
    unfold V hostOps0; after_results; rfl
  rw [h]; exact ValueIdx.shapeCast_a_1a_apply _ _ _ _

/-- Row `r` of tile `t`. -/
def row (t : Fin cfg0.N) (r : Fin 256) : Fin 16384 := ⟨256 * t.val + r.val, by
  have h1 : t.val < 64 := t.isLt
  have h2 := r.isLt
  omega⟩

theorem blk0 (c : Dev nD) (t : Fin cfg0.N) (r : Fin 256) (k : Fin 5632) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val * 256 + r.val = 256 * t.val + r.val; omega
    | ⟨1, _⟩ => blk_simp [at0]
  rw [h, e, V_main_arg0]
theorem blk1 (c : Dev nD) (t : Fin cfg0.N) (k : Fin 5632) (j : Fin 2048) :
    (iblk m c 1 t (ValueIdx.ix3 (0 : Fin 1) k j) : EReal) = m ((c : Thread nD τ).loc main_arg1) (ValueIdx.ix3 (1 : Fin 2) k j) := by
  have h : iblk m c 1 t (ValueIdx.ix3 (0 : Fin 1) k j) = V m c main_v0 (((cfg0.win 1).blk t).view.emb (ValueIdx.ix3 (0 : Fin 1) k j)) := rfl
  have e : ((cfg0.win 1).blk t).view.emb (ValueIdx.ix3 (0 : Fin 1) k j) = ValueIdx.ix3 (1 : Fin 2) k j := by
    funext a; apply Fin.ext
    match a with
    | ⟨0, _⟩ => blk_simp [at1]; rfl
    | ⟨1, _⟩ => blk_simp [at1]
    | ⟨2, _⟩ => blk_simp [at1]
  rw [h, e]; exact vecW m c _
theorem blk2 (c : Dev nD) (t : Fin cfg0.N) (r : Fin 256) (k : Fin 2048) :
    (iblk m c 2 t (ValueIdx.ix2 r k) : EReal) = m ((c : Thread nD τ).loc main_arg2) (ValueIdx.ix2 (row t r) k) := by
  have h : iblk m c 2 t (ValueIdx.ix2 r k) = V m c main_arg2 (((cfg0.win 2).blk t).view.emb (ValueIdx.ix2 r k)) := rfl
  have e : ((cfg0.win 2).blk t).view.emb (ValueIdx.ix2 r k) = ValueIdx.ix2 (row t r) k := by
    funext a; apply Fin.ext
    match a with
    | ⟨0, _⟩ => blk_simp [at2]; show t.val * 256 + r.val = 256 * t.val + r.val; omega
    | ⟨1, _⟩ => blk_simp [at2]
  rw [h, e, V_main_arg2]
theorem blk3 (c : Dev nD) (t : Fin cfg0.N) (d : Fin 2048) :
    (iblk m c 3 t (ValueIdx.ix2 (0 : Fin 1) d) : EReal) = m ((c : Thread nD τ).loc main_arg3) (ValueIdx.ix1 d) := by
  have h : iblk m c 3 t (ValueIdx.ix2 (0 : Fin 1) d) = V m c main_v1 (((cfg0.win 3).blk t).view.emb (ValueIdx.ix2 (0 : Fin 1) d)) := rfl
  have e : ((cfg0.win 3).blk t).view.emb (ValueIdx.ix2 (0 : Fin 1) d) = ValueIdx.ix2 (0 : Fin 1) d := by
    funext a; apply Fin.ext; match a with | ⟨0, _⟩ => (blk_simp [at3]) | ⟨1, _⟩ => (blk_simp [at3])
  rw [h, e]; exact vec3 m c d
theorem blk4 (c : Dev nD) (t : Fin cfg0.N) (d : Fin 2048) :
    (iblk m c 4 t (ValueIdx.ix2 (0 : Fin 1) d) : EReal) = m ((c : Thread nD τ).loc main_arg4) (ValueIdx.ix1 d) := by
  have h : iblk m c 4 t (ValueIdx.ix2 (0 : Fin 1) d) = V m c main_v2 (((cfg0.win 4).blk t).view.emb (ValueIdx.ix2 (0 : Fin 1) d)) := rfl
  have e : ((cfg0.win 4).blk t).view.emb (ValueIdx.ix2 (0 : Fin 1) d) = ValueIdx.ix2 (0 : Fin 1) d := by
    funext a; apply Fin.ext; match a with | ⟨0, _⟩ => (blk_simp [at4]) | ⟨1, _⟩ => (blk_simp [at4])
  rw [h, e]; exact vec4 m c d

/-- The result array, from the launched arguments. -/
def result (c : Dev nD) : S16384x2048.Idx → EReal :=
  ffnOut (m ((c : Thread nD τ).loc main_arg0)) (m ((c : Thread nD τ).loc main_arg1)) (m ((c : Thread nD τ).loc main_arg2))
    (m ((c : Thread nD τ).loc main_arg3)) (m ((c : Thread nD τ).loc main_arg4))

/-- What the body computes at grid point `t`, at an entry. -/
theorem block (c : Dev nD) (t : Fin cfg0.N) (r : Fin 256) (j : Fin 2048) :
    (k0_pay1 (F := Ideal) (iblk m c 2 t) (iblk m c 0 t) (iblk m c 1 t) (iblk m c 3 t) (iblk m c 4 t) (ValueIdx.ix2 r j) : EReal)
      = result m c (ValueIdx.ix2 (row t r) j) := by
  refine (pay1_apply _ _ _ _ _ r j).trans ?_
  refine norm_congr (fun j => ?_) (fun k => blk3 m c t k) (fun k => blk4 m c t k) rfl
  refine congrArg₂ (fun p q : EReal => Ideal.ofBits .f32 0x3FB504F3#32 * p + q) (blk2 m c t r j) (Finset.sum_congr rfl fun k _ => ?_)
  exact congrArg₂ (fun p q : EReal => p * q) (blk0 m c t r k) (blk1 m c t k j)

theorem out5_eq (x0 : Vec Ideal S256x5632 .bf16) (x1 : Vec Ideal S1x5632x2048 .bf16) (x2 : Vec Ideal S256x2048 .f32) (x3 x4 : Vec Ideal S1x2048 .f32) :
    out0_5 x0 x1 x2 x3 x4 = k0_pay1 x2 x0 x1 x3 x4 := by
  have z2 : ∀ a : Fin 2, (![0, 0] : Fin 2 → ℕ) a = 0 := by decide
  have z3 : ∀ a : Fin 3, (![0, 0, 0] : Fin 3 → ℕ) a = 0 := by decide
  unfold out0_5
  refine (View.canon_cons_unit_lit _ _ _ z2).trans ?_
  rw [View.ld_unit_lit _ x2 z2, View.ld_unit_lit _ x0 z2, View.ld_unit_lit _ x1 z3, View.ld_unit_lit _ x3 z2, View.ld_unit_lit _ x4 z2]
theorem out6_eq (x0 : Vec Ideal S256x5632 .bf16) (x1 : Vec Ideal S1x5632x2048 .bf16) (x2 : Vec Ideal S256x2048 .f32) (x3 x4 : Vec Ideal S1x2048 .f32) :
    out0_6 x0 x1 x2 x3 x4 = k0_pay2 x2 x0 x1 x3 x4 := by
  have z2 : ∀ a : Fin 2, (![0, 0] : Fin 2 → ℕ) a = 0 := by decide
  have z3 : ∀ a : Fin 3, (![0, 0, 0] : Fin 3 → ℕ) a = 0 := by decide
  unfold out0_6
  refine (View.canon_cons_unit_lit _ _ _ z2).trans ?_
  rw [View.ld_unit_lit _ x2 z2, View.ld_unit_lit _ x0 z2, View.ld_unit_lit _ x1 z3, View.ld_unit_lit _ x3 z2, View.ld_unit_lit _ x4 z2]

/-- The two result arrays after the run. -/
theorem final5 (c : Dev nD) : (dats m 0 c).arrAt 5 cfg0.N = result m c := by
  refine (dats m 0 c).arrAt_eq_of_covers 5 _ (by decide +kernel) fun t hf y => ?_
  rw [after0_5, out5_eq]
  obtain ⟨r, j, rfl⟩ : ∃ (r : Fin 256) (j : Fin 2048), y = ValueIdx.ix2 r j :=
    ⟨y 0, y 1, by funext a; match a with | ⟨0, _⟩ => rfl | ⟨1, _⟩ => rfl⟩
  have e : ((cfg0.win 5).blk t).view.emb (ValueIdx.ix2 r j) = ValueIdx.ix2 (row t r) j := by
    funext a; apply Fin.ext
    match a with
    | ⟨0, _⟩ => blk_simp [at5]; show t.val * 256 + r.val = 256 * t.val + r.val; omega
    | ⟨1, _⟩ => blk_simp [at5]
  rw [e]
  exact block m c t r j
theorem final6 (c : Dev nD) : (dats m 0 c).arrAt 6 cfg0.N = result m c := by
  refine (dats m 0 c).arrAt_eq_of_covers 6 _ (by decide +kernel) fun t hf y => ?_
  rw [after0_6, out6_eq]
  obtain ⟨r, j, rfl⟩ : ∃ (r : Fin 256) (j : Fin 2048), y = ValueIdx.ix2 r j :=
    ⟨y 0, y 1, by funext a; match a with | ⟨0, _⟩ => rfl | ⟨1, _⟩ => rfl⟩
  have e : ((cfg0.win 6).blk t).view.emb (ValueIdx.ix2 r j) = ValueIdx.ix2 (row t r) j := by
    funext a; apply Fin.ext
    match a with
    | ⟨0, _⟩ => blk_simp [at6]; show t.val * 256 + r.val = 256 * t.val + r.val; omega
    | ⟨1, _⟩ => blk_simp [at6]
  rw [e]
  exact block m c t r j

/-! ## The reference -/

section
open Cert.ResRefIdeal.Read

variable (x0 : S16384x5632.Idx → EReal) (x1 : S2x5632x2048.Idx → EReal) (x2 : S16384x2048.Idx → EReal) (x3 x4 : S2048.Idx → EReal)

theorem ref_sum (i : S16384x2048.Idx) : (val_main_v6 (F := Ideal) x0 x1 x2 i : EReal) = sum x0 x1 x2 (i 0) (i 1) := by
  have h0 : (i 0).val < 16384 := (i 0).isLt
  have h1 : (i 1).val < 2048 := (i 1).isLt
  rw [val_main_v6_apply, val_main_v1_apply, val_main_v0_apply, val_main_cst_apply, val_main_v5_apply]
  refine congrArg₂ (fun p q : EReal => Ideal.ofBits .f32 0x3FB504F3#32 * p + q)
    (congrArg x2 (by funext a; match a with | ⟨0, _⟩ => rfl | ⟨1, _⟩ => rfl)) (Finset.sum_congr rfl fun k _ => ?_)
  rw [val_main_v2_apply, val_main_v4_apply, val_main_v3_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 2048 + (i 1).val) / 2048 % 5632 = k.val; omega
    | ⟨2, _⟩ => show (k.val * 2048 + (i 1).val) % 2048 = (i 1).val; omega

theorem ref_mean (u : Cert.ResRefIdeal.S16384x1.Idx) : (val_main_v10 (F := Ideal) x0 x1 x2 u : EReal) = mean (sum x0 x1 x2 (u 0)) := by
  rw [val_main_v10_apply, val_main_v9_apply, val_main_cst_1_apply, val_main_v8_apply, val_main_v7_apply, val_main_cst_0_apply]
  refine congrArg (fun p : EReal => Ideal.div p (Ideal.ofBits .f32 0x45000000#32)) ?_
  show Ideal.ofBits .f32 0x00000000#32 + _ = _
  rw [Ideal.ofBits_zero_f32, zero_add]
  exact Finset.sum_congr rfl fun k _ => ref_sum x0 x1 x2 _

theorem ref_centred (i : S16384x2048.Idx) : (val_main_v12 (F := Ideal) x0 x1 x2 i : EReal) = centred (sum x0 x1 x2 (i 0)) (i 1) := by
  rw [val_main_v12_apply, val_main_v11_apply, ref_mean, ref_sum]; rfl

theorem ref_var (u : Cert.ResRefIdeal.S16384x1.Idx) : (val_main_v17 (F := Ideal) x0 x1 x2 u : EReal)
    = mean (fun k => centred (sum x0 x1 x2 (u 0)) k * centred (sum x0 x1 x2 (u 0)) k) := by
  rw [val_main_v17_apply, val_main_v16_apply, val_main_cst_3_apply, val_main_v15_apply, val_main_v14_apply, val_main_cst_2_apply]
  refine congrArg (fun p : EReal => Ideal.div p (Ideal.ofBits .f32 0x45000000#32)) ?_
  show Ideal.ofBits .f32 0x00000000#32 + _ = _
  rw [Ideal.ofBits_zero_f32, zero_add]
  refine Finset.sum_congr rfl fun k _ => ?_
  rw [val_main_v13_apply, ref_centred]; rfl

/-- The reference's result array. -/
theorem ref_out (i : S16384x2048.Idx) : (val_main_v30 (F := Ideal) x0 x1 x2 x3 x4 i : EReal) = ffnOut x0 x1 x2 x3 x4 i := by
  rw [val_main_v30_apply, val_main_v27_apply, val_main_v24_apply, val_main_v19_apply, val_main_v18_apply, val_main_v23_apply,
    val_main_v22_apply, val_main_v21_apply, val_main_v20_apply, val_main_cst_4_apply, val_main_v26_apply, val_main_v25_apply,
    val_main_v29_apply, val_main_v28_apply, ref_mean, ref_var, ref_sum]
  refine congrArg₂ (fun p q : EReal => centred (sum x0 x1 x2 (i 0)) (i 1)
      * Ideal.rsqrt (mean (fun k => centred (sum x0 x1 x2 (i 0)) k * centred (sum x0 x1 x2 (i 0)) k) + Ideal.ofBits .f32 0x3727C5AC#32) * p + q)
    (congrArg x3 ?_) (congrArg x4 ?_)
  · funext a; match a with | ⟨0, _⟩ => rfl
  · funext a; match a with | ⟨0, _⟩ => rfl

end

end Cert.Layer.Res

end
-- ==== Proof.ProjValue.lean ====
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.MatmulPlain
public import Idealize.ShloMosaic.Lib.ValueLayout
public import Idealize.ShloMosaic.Lib.Pipeline.ValueKit
public import Idealize.ShloMosaic.Lib.Pipeline.ReadBack

/-! The projection of the tokens to the differential attention's inputs: kernel and reference both end with `prod` of the
arguments.

The grid runs over 12 tiles of 512 columns and, inside, 16 tiles of 1024 rows. The first row tile of a
column tile casts the weight block into scratch; the other fifteen read what it left. -/

@[expose] public section

set_option maxRecDepth 16384

noncomputable section

namespace Cert.Layer.Proj

open Idealize.ShloMosaic Idealize.ShloMosaic.TcCoe Idealize.SL.Sem
open Cert.ProjIdeal Cert.ProjIdeal.Gen

/-- Row `p` of the tokens against column `q` of the weights. -/
def prod (x0 : S16384x2048.Idx → EReal) (x1 : S1x2048x6144.Idx → EReal) (p : Fin 16384) (q : Fin 6144) : EReal :=
  ∑ k : Fin 2048, x0 (ValueIdx.ix2 p k) * x1 (ValueIdx.ix3 (0 : Fin 1) k q)

/-! ## The body's payloads -/

theorem pay1_apply (v : Vec Ideal S1x2048x512 .f32) (k : Fin 2048) (j : Fin 512) :
    (k0_pay1 (F := Ideal) v (ValueIdx.ix2 k j) : EReal) = v (ValueIdx.ix3 (0 : Fin 1) k j) := by
  unfold k0_pay1
  rw [shapeCast_self]
  exact ValueIdx.shapeCast_1ab_ab_apply _ _ _ _
theorem pay2_apply (x : Vec Ideal S1024x2048 .bf16) (w : Vec Ideal S2048x512 .bf16) (r : Fin 1024) (j : Fin 512) :
    (k0_pay2 (F := Ideal) x w (ValueIdx.ix2 r j) : EReal) = ∑ k : Fin 2048, (x (ValueIdx.ix2 r k) : EReal) * w (ValueIdx.ix2 k j) := by
  unfold k0_pay2
  refine (Ideal.matmul_plain_apply (φ₁ := .bf16) (φ₂ := .bf16) none x w _ r j).trans ?_
  show Ideal.ofBits .f32 0x00000000#32 + _ = _
  rw [Ideal.ofBits_zero_f32, zero_add]

variable (m : (ℓ : Loc nD τ sig) → Buf (Elt Ideal) ℓ) (ρ : Dev nD → PrngReg)

theorem at0 : ∀ t : Fin cfg0.N, win0_0.index t = ![t.val % 16, 0] := (by decide +kernel : ∀ t : Fin grid0.N, _)
theorem at1 : ∀ t : Fin cfg0.N, win0_1.index t = ![0, 0, t.val / 16] := (by decide +kernel : ∀ t : Fin grid0.N, _)
theorem at2 : ∀ t : Fin cfg0.N, win0_2.index t = ![t.val % 16, t.val / 16] := (by decide +kernel : ∀ t : Fin grid0.N, _)

/-- Row `r` of point `t`'s row tile. -/
def row (t : Fin cfg0.N) (r : Fin 1024) : Fin 16384 := ⟨1024 * (t.val % 16) + r.val, by
  have h2 := r.isLt
  omega⟩

/-- Column `j` of point `n`'s column tile. -/
def col (n : ℕ) (h : n < cfg0.N) (j : Fin 512) : Fin 6144 := ⟨512 * (n / 16) + j.val, by
  have h1 : n < 192 := h
  have h2 := j.isLt
  omega⟩

theorem blk0 (c : Dev nD) (t : Fin cfg0.N) (r : Fin 1024) (k : Fin 2048) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val % 16 * 1024 + r.val = 1024 * (t.val % 16) + r.val; omega
    | ⟨1, _⟩ => blk_simp [at0]
  rw [h, e, V_main_arg0]
theorem blk1 (c : Dev nD) (t : Fin cfg0.N) (k : Fin 2048) (j : Fin 512) :
    (iblk m c 1 t (ValueIdx.ix3 (0 : Fin 1) k j) : EReal)
      = m ((c : Thread nD τ).loc main_arg1) (ValueIdx.ix3 (0 : Fin 1) k (col t.val t.isLt j)) := by
  have h : iblk m c 1 t (ValueIdx.ix3 (0 : Fin 1) k j) = V m c main_arg1 (((cfg0.win 1).blk t).view.emb (ValueIdx.ix3 (0 : Fin 1) k j)) := rfl
  have e : ((cfg0.win 1).blk t).view.emb (ValueIdx.ix3 (0 : Fin 1) k j) = ValueIdx.ix3 (0 : Fin 1) k (col t.val t.isLt j) := by
    funext a; apply Fin.ext
    match a with
    | ⟨0, _⟩ => blk_simp [at1]
    | ⟨1, _⟩ => blk_simp [at1]
    | ⟨2, _⟩ => blk_simp [at1]; show t.val / 16 * 512 + j.val = 512 * (t.val / 16) + j.val; omega
  rw [h, e, V_main_arg1]

/-! ## The scratch carried between the row tiles -/

/-- The scratch after point `n`: the weight block of its column tile. -/
theorem scratch (c : Dev nD) : ∀ (n : ℕ) (hn : n < cfg0.N) (k : Fin 2048) (j : Fin 512),
    ((outsAt0 m c n hn).2 (ValueIdx.ix2 k j) : EReal) = m ((c : Thread nD τ).loc main_arg1) (ValueIdx.ix3 (0 : Fin 1) k (col n hn j)) := by
  intro n
  induction n with
  | zero =>
    intro hn k j
    have h0 : (⟨0, hn⟩ : Fin cfg0.N).val % 16 = 0 := rfl
    have := outsAt0_A m c ⟨0, hn⟩ h0
    rw [this]; frame_out
    exact (pay1_apply _ k j).trans (blk1 m c ⟨0, hn⟩ k j)
  | succ n ih =>
    intro hn k j
    by_cases h0 : (⟨n + 1, hn⟩ : Fin cfg0.N).val % 16 = 0
    · have := outsAt0_A m c ⟨n + 1, hn⟩ h0
      rw [this]; frame_out
      exact (pay1_apply _ k j).trans (blk1 m c ⟨n + 1, hn⟩ k j)
    · have e : col n (Nat.lt_of_succ_lt hn) j = col (n + 1) hn j := Fin.ext (by
        show 512 * (n / 16) + j.val = 512 * ((n + 1) / 16) + j.val
        have : (n + 1) % 16 ≠ 0 := h0
        omega)
      have hs := outsAt0_B m c ⟨n + 1, hn⟩ h0
      have hi := ih (Nat.lt_of_succ_lt hn) k j
      rw [e] at hi
      rw [hs]
      exact hi

/-- What the body leaves in the output's block. -/
theorem block (c : Dev nD) (t : Fin cfg0.N) (r : Fin 1024) (j : Fin 512) :
    ((outsAt0 m c t.val t.isLt).1 (ValueIdx.ix2 r j) : EReal)
      = prod (m ((c : Thread nD τ).loc main_arg0)) (m ((c : Thread nD τ).loc main_arg1)) (row t r) (col t.val t.isLt j) := by
  by_cases h0 : t.val % 16 = 0
  · rw [outsAt0_A m c t h0]; frame_out
    refine (pay2_apply _ _ r j).trans ?_
    exact Finset.sum_congr rfl fun k _ => congrArg₂ (fun p q : EReal => p * q) (blk0 m c t r k) ((pay1_apply _ k j).trans (blk1 m c t k j))
  · have ht : t.val - 1 < cfg0.N := lt_of_le_of_lt (Nat.sub_le _ _) t.isLt
    have e : col (t.val - 1) ht j = col t.val t.isLt j := Fin.ext (by
      show 512 * ((t.val - 1) / 16) + j.val = 512 * (t.val / 16) + j.val
      omega)
    have hs := fun k => scratch m c (t.val - 1) ht k j
    simp only [e] at hs
    rw [outsAt0_B m c t h0]; frame_out
    simp only [read_unread_whole]
    refine (pay2_apply _ _ r j).trans ?_
    exact Finset.sum_congr rfl fun k _ => congrArg₂ (fun p q : EReal => p * q) (blk0 m c t r k) (hs k)

/-- The result array, from the launched arguments. -/
def result (c : Dev nD) : S16384x6144.Idx → EReal := fun i =>
  prod (m ((c : Thread nD τ).loc main_arg0)) (m ((c : Thread nD τ).loc main_arg1)) (i 0) (i 1)

theorem final (c : Dev nD) : (dats m 0 c).arrAt 2 cfg0.N = result m c := by
  refine (dats m 0 c).arrAt_eq_of_covers 2 _ (by decide +kernel) fun t hf y => ?_
  rw [after0_2]
  obtain ⟨r, j, rfl⟩ : ∃ (r : Fin 1024) (j : Fin 512), y = ValueIdx.ix2 r j :=
    ⟨y 0, y 1, by funext a; match a with | ⟨0, _⟩ => rfl | ⟨1, _⟩ => rfl⟩
  have e : ((cfg0.win 2).blk t).view.emb (ValueIdx.ix2 r j) = ValueIdx.ix2 (row t r) (col t.val t.isLt j) := by
    funext a; apply Fin.ext
    match a with
    | ⟨0, _⟩ => blk_simp [at2]; show t.val % 16 * 1024 + r.val = 1024 * (t.val % 16) + r.val; omega
    | ⟨1, _⟩ => blk_simp [at2]; show t.val / 16 * 512 + j.val = 512 * (t.val / 16) + j.val; omega
  rw [e]
  exact block m c t r j

/-! ## The reference -/

section
open Cert.ProjRefIdeal.Read

/-- The reference's result array. -/
theorem ref_out (x0 : S16384x2048.Idx → EReal) (x1 : S1x2048x6144.Idx → EReal) (i : S16384x6144.Idx) :
    (val_main_v3 (F := Ideal) x0 x1 i : EReal) = prod x0 x1 (i 0) (i 1) := by
  have h1 : (i 1).val < 6144 := (i 1).isLt
  refine (val_main_v2_apply x0 x1 i).trans (Finset.sum_congr rfl fun k _ => ?_)
  rw [val_main_v0_apply, val_main_v1_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 6144 + (i 1).val) / 6144 % 2048 = k.val; omega
    | ⟨2, _⟩ => show (k.val * 6144 + (i 1).val) % 6144 = (i 1).val; omega

end

end Cert.Layer.Proj

end
-- ==== Proof.MixValue.lean ====
module

public import proofs.«01_k».proof.Proof.Gen.MixIdeal.Value
public import proofs.«01_k».proof.Proof.Gen.MixRefIdeal.Run
public import proofs.«01_k».proof.Proof.Gen.MixRefIdeal.Read
public import proofs.«01_k».proof.Proof.Rows
public import Idealize.ShloMosaic.Lib.Pipeline.ValueKit

/-! The projection of two attention results with its residual and layer normalisation: kernel and reference
both end with `mixOut` of the arguments. The kernel adds the two halves of the product one after the other. -/

@[expose] public section

set_option maxRecDepth 16384

noncomputable section

namespace Cert.Layer.Mix

open Idealize.ShloMosaic Idealize.ShloMosaic.TcCoe Idealize.SL.Sem
open Cert.MixIdeal Cert.MixIdeal.Gen

/-- Row `p` of two arrays side by side. -/
def joined (x0 x1 : S16384x1024.Idx → EReal) (p : Fin 16384) (k : Fin 2048) : EReal :=
  if h : k.val < 1024 then x0 (ValueIdx.ix2 p ⟨k.val, h⟩) else x1 (ValueIdx.ix2 p ⟨k.val - 1024, by omega⟩)

/-- The residual sum at row `p`: the scaled residual row plus the product of the joined rows and the weights. -/
def sum (x0 x1 : S16384x1024.Idx → EReal) (x2 : S1x2048x2048.Idx → EReal) (x3 : S16384x2048.Idx → EReal) (p : Fin 16384) (j : Fin 2048) : EReal :=
  Ideal.ofBits .f32 0x3FB504F3#32 * x3 (ValueIdx.ix2 p j) + ∑ k : Fin 2048, joined x0 x1 p k * x2 (ValueIdx.ix3 (0 : Fin 1) k j)

/-- The result: the residual sum's rows normalised. -/
def mixOut (x0 x1 : S16384x1024.Idx → EReal) (x2 : S1x2048x2048.Idx → EReal) (x3 : S16384x2048.Idx → EReal) (x4 x5 : S2048.Idx → EReal)
    (i : S16384x2048.Idx) : EReal :=
  norm (sum x0 x1 x2 x3 (i 0)) (fun k => x4 (ValueIdx.ix1 k)) (fun k => x5 (ValueIdx.ix1 k)) (i 1)

/-- The product with the joined rows is the sum of the two halves' products. -/
theorem sum_split (x0 x1 : S16384x1024.Idx → EReal) (x2 : S1x2048x2048.Idx → EReal) (p : Fin 16384) (j : Fin 2048) :
    ∑ k : Fin 2048, joined x0 x1 p k * x2 (ValueIdx.ix3 (0 : Fin 1) k j)
      = ∑ k : Fin 1024, x0 (ValueIdx.ix2 p k) * x2 (ValueIdx.ix3 (0 : Fin 1) (⟨k.val, by omega⟩ : Fin 2048) j)
        + ∑ k : Fin 1024, x1 (ValueIdx.ix2 p k) * x2 (ValueIdx.ix3 (0 : Fin 1) (⟨1024 + k.val, by omega⟩ : Fin 2048) j) := by
  refine (Fin.sum_univ_add (a := 1024) (b := 1024) (fun k : Fin 2048 => joined x0 x1 p k * x2 (ValueIdx.ix3 (0 : Fin 1) k j))).trans ?_
  refine congrArg₂ (fun p q : EReal => p + q) (Finset.sum_congr rfl fun k _ => ?_) (Finset.sum_congr rfl fun k _ => ?_)
  · have e : joined x0 x1 p (Fin.castAdd 1024 k) = x0 (ValueIdx.ix2 p k) := dif_pos k.isLt
    exact congrArg (fun y : EReal => y * x2 (ValueIdx.ix3 (0 : Fin 1) (⟨k.val, by omega⟩ : Fin 2048) j)) e
  · have e : joined x0 x1 p (Fin.natAdd 1024 k) = x1 (ValueIdx.ix2 p k) :=
      (dif_neg (show ¬1024 + k.val < 1024 by omega)).trans
        (congrArg (fun k' => x1 (ValueIdx.ix2 p k')) (Fin.ext (show 1024 + k.val - 1024 = k.val by omega)))
    exact congrArg (fun y : EReal => y * x2 (ValueIdx.ix3 (0 : Fin 1) (⟨1024 + k.val, by omega⟩ : Fin 2048) j)) e

/-! ## The kernel's block -/

/-- One half's product, at an entry. -/
theorem half_apply (v : Vec Ideal S512x1024 .bf16) (w : Vec Ideal S1x1024x2048 .bf16) (r : Fin 512) (j : Fin 2048) :
    (matmul (φ₁ := .bf16) (φ₂ := .bf16) dot_S512x1024_S1024x2048_S512x2048_1_0_0_1_n_n none v (shapeCast S1024x2048 w shapeCasts_S1x1024x2048_S1024x2048)
        (constant S512x2048 .f32 0x00000000#32 : FVec Ideal S512x2048 .f32) (ValueIdx.ix2 r j) : EReal)
      = ∑ k : Fin 1024, (v (ValueIdx.ix2 r k) : EReal) * w (ValueIdx.ix3 (0 : Fin 1) k j) := by
  refine (Ideal.matmul_plain_apply (φ₁ := .bf16) (φ₂ := .bf16) none v (shapeCast S1024x2048 w shapeCasts_S1x1024x2048_S1024x2048) _ r j).trans ?_
  show Ideal.ofBits .f32 0x00000000#32 + _ = _
  rw [Ideal.ofBits_zero_f32, zero_add]
  refine Finset.sum_congr rfl fun k _ => congrArg (fun p : EReal => (v (ValueIdx.ix2 r k) : EReal) * p) ?_
  exact ValueIdx.shapeCast_1ab_ab_apply _ _ _ _

/-- The payload stored, at an entry. -/
theorem pay1_apply (v0 : Vec Ideal S512x2048 .f32) (v3 v8 : Vec Ideal S512x1024 .bf16) (v4 v9 : Vec Ideal S1x1024x2048 .bf16) (v13 v15 : Vec Ideal S1x2048 .f32)
    (r : Fin 512) (j : Fin 2048) :
    (k0_pay1 (F := Ideal) (k0_pay3 v15) (k0_pay4 v0 v3 v4 v8 v9 v13) (ValueIdx.ix2 r j) : EReal)
      = norm (fun j => Ideal.ofBits .f32 0x3FB504F3#32 * v0 (ValueIdx.ix2 r j) + ∑ k : Fin 1024, (v3 (ValueIdx.ix2 r k) : EReal) * v4 (ValueIdx.ix3 (0 : Fin 1) k j)
            + ∑ k : Fin 1024, (v8 (ValueIdx.ix2 r k) : EReal) * v9 (ValueIdx.ix3 (0 : Fin 1) k j))
          (fun k => v13 (ValueIdx.ix2 (0 : Fin 1) k)) (fun k => v15 (ValueIdx.ix2 (0 : Fin 1) k)) j := by
  unfold k0_pay1 k0_pay3 k0_pay4
  refine (rowNorm_apply reduces_S512x2048_S512 shapeCasts_S512_S512x1 broadcasts_S512x1_S512x2048 broadcasts_S1x2048_S512x2048 (by norm_num)
    (addf (addf (mulf (broadcast S512x2048 (Scalar.ofBits .f32 0x3FB504F3#32 : Ideal .f32)) v0)
      (matmul dot_S512x1024_S1024x2048_S512x2048_1_0_0_1_n_n none v3 (shapeCast S1024x2048 v4 shapeCasts_S1x1024x2048_S1024x2048)
        (constant S512x2048 .f32 0x00000000#32)))
      (matmul dot_S512x1024_S1024x2048_S512x2048_1_0_0_1_n_n none v8 (shapeCast S1024x2048 v9 shapeCasts_S1x1024x2048_S1024x2048)
        (constant S512x2048 .f32 0x00000000#32)))
    (shapeCast S1x2048 v13 shapeCasts_S1x2048_S1x2048) (shapeCast S1x2048 v15 shapeCasts_S1x2048_S1x2048) r j).trans ?_
  refine norm_congr (fun j => ?_) (fun k => ?_) (fun k => ?_) rfl
  · exact congrArg₂ (fun p q : EReal => Ideal.ofBits .f32 0x3FB504F3#32 * v0 (ValueIdx.ix2 r j) + p + q) (half_apply v3 v4 r j) (half_apply v8 v9 r j)
  · rw [shapeCast_self]
  · rw [shapeCast_self]

variable (m : (ℓ : Loc nD τ sig) → Buf (Elt Ideal) ℓ) (ρ : Dev nD → PrngReg)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![t.val, 0] := (by decide +kernel : ∀ t : Fin grid0.N, _)

/-- The arrays the host code prepares. -/
theorem vecW (c : Dev nD) (i : S1x2048x2048.Idx) : (V m c main_v0 i : EReal) = m ((c : Thread nD τ).loc main_arg2) i := by
  have h : V m c main_v0 = (truncf .bf16 (m ((c : Thread nD τ).loc main_arg2)) bitsLt_bf16_f32 : FVec Ideal S1x2048x2048 .bf16) := by
    unfold V hostOps0; after_results <;> rfl
  rw [h]; rfl
theorem vec4 (c : Dev nD) (d : Fin 2048) : V m c main_v1 (ValueIdx.ix2 (0 : Fin 1) d) = m ((c : Thread nD τ).loc main_arg4) (ValueIdx.ix1 d) := by
  have h : V m c main_v1 = shapeCast S1x2048 (m ((c : Thread nD τ).loc main_arg4)) shapeCasts_S2048_S1x2048 := by
    unfold V hostOps0; after_results; rfl
  rw [h]; exact ValueIdx.shapeCast_a_1a_apply _ _ _ _
theorem vec5 (c : Dev nD) (d : Fin 2048) : V m c main_v2 (ValueIdx.ix2 (0 : Fin 1) d) = m ((c : Thread nD τ).loc main_arg5) (ValueIdx.ix1 d) := by
  have h : V m c main_v2 = shapeCast S1x2048 (m ((c : Thread nD τ).loc main_arg5)) shapeCasts_S2048_S1x2048 := by
    unfold V hostOps0; after_results; rfl
  rw [h]; exact ValueIdx.shapeCast_a_1a_apply _ _ _ _

/-- Row `r` of tile `t`. -/
def row (t : Fin cfg0.N) (r : Fin 512) : Fin 16384 := ⟨512 * t.val + r.val, by
  have h1 : t.val < 32 := t.isLt
  have h2 := r.isLt
  omega⟩

theorem blk0 (c : Dev nD) (t : Fin cfg0.N) (r : Fin 512) (k : Fin 1024) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val * 512 + r.val = 512 * t.val + r.val; omega
    | ⟨1, _⟩ => blk_simp [at0]
  rw [h, e, V_main_arg0]
theorem blk1 (c : Dev nD) (t : Fin cfg0.N) (r : Fin 512) (k : Fin 1024) :
    (iblk m c 1 t (ValueIdx.ix2 r k) : EReal) = m ((c : Thread nD τ).loc main_arg1) (ValueIdx.ix2 (row t r) k) := by
  have h : iblk m c 1 t (ValueIdx.ix2 r k) = V m c main_arg1 (((cfg0.win 1).blk t).view.emb (ValueIdx.ix2 r k)) := rfl
  have e : ((cfg0.win 1).blk t).view.emb (ValueIdx.ix2 r k) = ValueIdx.ix2 (row t r) k := by
    funext a; apply Fin.ext
    match a with
    | ⟨0, _⟩ => blk_simp [at1]; show t.val * 512 + r.val = 512 * t.val + r.val; omega
    | ⟨1, _⟩ => blk_simp [at1]
  rw [h, e, V_main_arg1]
theorem blk3 (c : Dev nD) (t : Fin cfg0.N) (r : Fin 512) (k : Fin 2048) :
    (iblk m c 3 t (ValueIdx.ix2 r k) : EReal) = m ((c : Thread nD τ).loc main_arg3) (ValueIdx.ix2 (row t r) k) := by
  have h : iblk m c 3 t (ValueIdx.ix2 r k) = V m c main_arg3 (((cfg0.win 3).blk t).view.emb (ValueIdx.ix2 r k)) := rfl
  have e : ((cfg0.win 3).blk t).view.emb (ValueIdx.ix2 r k) = ValueIdx.ix2 (row t r) k := by
    funext a; apply Fin.ext
    match a with
    | ⟨0, _⟩ => blk_simp [at3]; show t.val * 512 + r.val = 512 * t.val + r.val; omega
    | ⟨1, _⟩ => blk_simp [at3]
  rw [h, e, V_main_arg3]
theorem blk2 (c : Dev nD) (t : Fin cfg0.N) (k : Fin 2048) (j : Fin 2048) :
    (iblk m c 2 t (ValueIdx.ix3 (0 : Fin 1) k j) : EReal) = m ((c : Thread nD τ).loc main_arg2) (ValueIdx.ix3 (0 : Fin 1) k j) := by
  have h : iblk m c 2 t (ValueIdx.ix3 (0 : Fin 1) k j) = V m c main_v0 (((cfg0.win 2).blk t).view.emb (ValueIdx.ix3 (0 : Fin 1) k j)) := rfl
  have e : ((cfg0.win 2).blk t).view.emb (ValueIdx.ix3 (0 : Fin 1) k j) = ValueIdx.ix3 (0 : Fin 1) k j := by
    funext a; apply Fin.ext
    match a with
    | ⟨0, _⟩ => blk_simp [at2]
    | ⟨1, _⟩ => blk_simp [at2]
    | ⟨2, _⟩ => blk_simp [at2]
  rw [h, e]; exact vecW m c _
theorem blk4 (c : Dev nD) (t : Fin cfg0.N) (d : Fin 2048) :
    (iblk m c 4 t (ValueIdx.ix2 (0 : Fin 1) d) : EReal) = m ((c : Thread nD τ).loc main_arg4) (ValueIdx.ix1 d) := by
  have h : iblk m c 4 t (ValueIdx.ix2 (0 : Fin 1) d) = V m c main_v1 (((cfg0.win 4).blk t).view.emb (ValueIdx.ix2 (0 : Fin 1) d)) := rfl
  have e : ((cfg0.win 4).blk t).view.emb (ValueIdx.ix2 (0 : Fin 1) d) = ValueIdx.ix2 (0 : Fin 1) d := by
    funext a; apply Fin.ext; match a with | ⟨0, _⟩ => (blk_simp [at4]) | ⟨1, _⟩ => (blk_simp [at4])
  rw [h, e]; exact vec4 m c d
theorem blk5 (c : Dev nD) (t : Fin cfg0.N) (d : Fin 2048) :
    (iblk m c 5 t (ValueIdx.ix2 (0 : Fin 1) d) : EReal) = m ((c : Thread nD τ).loc main_arg5) (ValueIdx.ix1 d) := by
  have h : iblk m c 5 t (ValueIdx.ix2 (0 : Fin 1) d) = V m c main_v2 (((cfg0.win 5).blk t).view.emb (ValueIdx.ix2 (0 : Fin 1) d)) := rfl
  have e : ((cfg0.win 5).blk t).view.emb (ValueIdx.ix2 (0 : Fin 1) d) = ValueIdx.ix2 (0 : Fin 1) d := by
    funext a; apply Fin.ext; match a with | ⟨0, _⟩ => (blk_simp [at5]) | ⟨1, _⟩ => (blk_simp [at5])
  rw [h, e]; exact vec5 m c d

/-- The result array, from the launched arguments. -/
def result (c : Dev nD) : S16384x2048.Idx → EReal :=
  mixOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The weights' first half, as the body loads it. -/
theorem ld_lo (x2 : Vec Ideal S1x2048x2048 .bf16) (k : Fin 1024) (j : Fin 2048) :
    (View.ld x2 r0_2 (ValueIdx.ix3 (0 : Fin 1) k j) : EReal) = x2 (ValueIdx.ix3 (0 : Fin 1) (⟨k.val, by omega⟩ : Fin 2048) j) :=
  View.ld_unit_apply_of x2 _ _ _ _ _ fun a => match a with
    | ⟨0, _⟩ => rfl
    | ⟨1, _⟩ => (Nat.zero_add _).symm
    | ⟨2, _⟩ => (Nat.zero_add _).symm
/-- The weights' second half, as the body loads it. -/
theorem ld_hi (x2 : Vec Ideal S1x2048x2048 .bf16) (k : Fin 1024) (j : Fin 2048) :
    (View.ld x2 r0_3 (ValueIdx.ix3 (0 : Fin 1) k j) : EReal) = x2 (ValueIdx.ix3 (0 : Fin 1) (⟨1024 + k.val, by omega⟩ : Fin 2048) j) :=
  View.ld_unit_apply_of x2 _ _ _ _ _ fun a => match a with
    | ⟨0, _⟩ => rfl
    | ⟨1, _⟩ => rfl
    | ⟨2, _⟩ => (Nat.zero_add _).symm

/-- What the body computes at grid point `t`, at an entry. -/
theorem block (c : Dev nD) (t : Fin cfg0.N) (r : Fin 512) (j : Fin 2048) :
    (k0_pay1 (F := Ideal) (k0_pay3 (iblk m c 5 t)) (k0_pay4 (iblk m c 3 t) (iblk m c 0 t) (View.ld (iblk m c 2 t) r0_2) (iblk m c 1 t)
        (View.ld (iblk m c 2 t) r0_3) (iblk m c 4 t)) (ValueIdx.ix2 r j) : EReal)
      = result m c (ValueIdx.ix2 (row t r) j) := by
  refine (pay1_apply _ _ _ _ _ _ _ r j).trans ?_
  refine norm_congr (fun j => ?_) (fun k => blk4 m c t k) (fun k => blk5 m c t k) rfl
  refine (congrArg₂ (fun p q : EReal => p + q) (congrArg₂ (fun p q : EReal => Ideal.ofBits .f32 0x3FB504F3#32 * p + q) (blk3 m c t r j)
    (Finset.sum_congr rfl fun k _ => congrArg₂ (fun p q : EReal => p * q) (blk0 m c t r k) ((ld_lo _ k j).trans (blk2 m c t _ j))))
    (Finset.sum_congr rfl fun k _ => congrArg₂ (fun p q : EReal => p * q) (blk1 m c t r k) ((ld_hi _ k j).trans (blk2 m c t _ j)))).trans ?_
  refine (add_assoc _ _ _).trans (congrArg (fun p : EReal => Ideal.ofBits .f32 0x3FB504F3#32 * m ((c : Thread nD τ).loc main_arg3) (ValueIdx.ix2 (row t r) j) + p) ?_)
  exact (sum_split _ _ _ _ _).symm

theorem out6_eq (x0 x1 : Vec Ideal S512x1024 .bf16) (x2 : Vec Ideal S1x2048x2048 .bf16) (x3 : Vec Ideal S512x2048 .f32) (x4 x5 : Vec Ideal S1x2048 .f32) :
    out0_6 x0 x1 x2 x3 x4 x5 = k0_pay1 (k0_pay3 x5) (k0_pay4 x3 x0 (View.ld x2 r0_2) x1 (View.ld x2 r0_3) x4) := by
  have z2 : ∀ a : Fin 2, (![0, 0] : Fin 2 → ℕ) a = 0 := by decide
  unfold out0_6 k0_pay5 k0_pay6
  refine (View.canon_cons_unit_lit _ _ _ z2).trans ?_
  rw [View.ld_unit_lit _ x3 z2, View.ld_unit_lit _ x0 z2, View.ld_unit_lit _ x1 z2, View.ld_unit_lit _ x4 z2, View.ld_unit_lit _ x5 z2]
theorem out7_eq (x0 x1 : Vec Ideal S512x1024 .bf16) (x2 : Vec Ideal S1x2048x2048 .bf16) (x3 : Vec Ideal S512x2048 .f32) (x4 x5 : Vec Ideal S1x2048 .f32) :
    out0_7 x0 x1 x2 x3 x4 x5 = k0_pay2 (k0_pay3 x5) (k0_pay4 x3 x0 (View.ld x2 r0_2) x1 (View.ld x2 r0_3) x4) := by
  have z2 : ∀ a : Fin 2, (![0, 0] : Fin 2 → ℕ) a = 0 := by decide
  unfold out0_7 k0_pay5 k0_pay6
  refine (View.canon_cons_unit_lit _ _ _ z2).trans ?_
  rw [View.ld_unit_lit _ x3 z2, View.ld_unit_lit _ x0 z2, View.ld_unit_lit _ x1 z2, View.ld_unit_lit _ x4 z2, View.ld_unit_lit _ x5 z2]

/-- The two result arrays after the run. -/
theorem final6 (c : Dev nD) : (dats m 0 c).arrAt 6 cfg0.N = result m c := by
  refine (dats m 0 c).arrAt_eq_of_covers 6 _ (by decide +kernel) fun t hf y => ?_
  rw [after0_6, out6_eq]
  obtain ⟨r, j, rfl⟩ : ∃ (r : Fin 512) (j : Fin 2048), y = ValueIdx.ix2 r j :=
    ⟨y 0, y 1, by funext a; match a with | ⟨0, _⟩ => rfl | ⟨1, _⟩ => rfl⟩
  have e : ((cfg0.win 6).blk t).view.emb (ValueIdx.ix2 r j) = ValueIdx.ix2 (row t r) j := by
    funext a; apply Fin.ext
    match a with
    | ⟨0, _⟩ => blk_simp [at6]; show t.val * 512 + r.val = 512 * t.val + r.val; omega
    | ⟨1, _⟩ => blk_simp [at6]
  rw [e]
  exact block m c t r j
theorem final7 (c : Dev nD) : (dats m 0 c).arrAt 7 cfg0.N = result m c := by
  refine (dats m 0 c).arrAt_eq_of_covers 7 _ (by decide +kernel) fun t hf y => ?_
  rw [after0_7, out7_eq]
  obtain ⟨r, j, rfl⟩ : ∃ (r : Fin 512) (j : Fin 2048), y = ValueIdx.ix2 r j :=
    ⟨y 0, y 1, by funext a; match a with | ⟨0, _⟩ => rfl | ⟨1, _⟩ => rfl⟩
  have e : ((cfg0.win 7).blk t).view.emb (ValueIdx.ix2 r j) = ValueIdx.ix2 (row t r) j := by
    funext a; apply Fin.ext
    match a with
    | ⟨0, _⟩ => blk_simp [at7]; show t.val * 512 + r.val = 512 * t.val + r.val; omega
    | ⟨1, _⟩ => blk_simp [at7]
  rw [e]
  exact block m c t r j

/-! ## The reference -/

section
open Cert.MixRefIdeal.Read

variable (x0 x1 : S16384x1024.Idx → EReal) (x2 : S1x2048x2048.Idx → EReal) (x3 : S16384x2048.Idx → EReal) (x4 x5 : S2048.Idx → EReal)

theorem ref_joined (i : S16384x2048.Idx) : (val_main_v2 (F := Ideal) x0 x1 i : EReal) = joined x0 x1 (i 0) (i 1) := by
  have h1 : (i 1).val < 2048 := (i 1).isLt
  unfold val_main_v2 joined
  by_cases h : (i 1).val < 1024
  · rw [dif_pos h]
    exact concatenate_pair_apply_left (t := S16384x2048) (s₁ := S16384x1024) (s₂ := S16384x1024) 1 x0 x1 _ i rfl
      (ValueIdx.ix2 (i 0) ⟨(i 1).val, h⟩) fun b => match b with | ⟨0, _⟩ => rfl | ⟨1, _⟩ => rfl
  · rw [dif_neg h]
    exact concatenate_pair_apply_right (t := S16384x2048) (s₁ := S16384x1024) (s₂ := S16384x1024) 1 x0 x1 _ i rfl rfl
      (ValueIdx.ix2 (i 0) ⟨(i 1).val - 1024, by omega⟩)
      (fun b => match b with | ⟨0, _⟩ => fun _ => rfl | ⟨1, _⟩ => fun hb => absurd rfl hb)
      (show (i 1).val - 1024 + 1024 = (i 1).val by omega)

theorem ref_sum (i : S16384x2048.Idx) : (val_main_v6 (F := Ideal) x0 x1 x2 x3 i : EReal) = sum x0 x1 x2 x3 (i 0) (i 1) := by
  have h0 : (i 0).val < 16384 := (i 0).isLt
  have h1 : (i 1).val < 2048 := (i 1).isLt
  rw [val_main_v6_apply, val_main_v1_apply, val_main_v0_apply, val_main_cst_apply, val_main_v5_apply]
  refine congrArg₂ (fun p q : EReal => Ideal.ofBits .f32 0x3FB504F3#32 * p + q)
    (congrArg x3 (by funext a; match a with | ⟨0, _⟩ => rfl | ⟨1, _⟩ => rfl)) (Finset.sum_congr rfl fun k _ => ?_)
  rw [val_main_v3_apply, val_main_v4_apply]
  have hk := k.isLt
  refine congrArg₂ (fun p q : EReal => p * q) (ref_joined x0 x1 _) (congrArg x2 ?_)
  funext a; apply Fin.ext
  match a with
  | ⟨0, _⟩ => rfl
  | ⟨1, _⟩ => show (k.val * 2048 + (i 1).val) / 2048 % 2048 = k.val; omega
  | ⟨2, _⟩ => show (k.val * 2048 + (i 1).val) % 2048 = (i 1).val; omega

theorem ref_mean (u : Cert.MixRefIdeal.S16384x1.Idx) : (val_main_v10 (F := Ideal) x0 x1 x2 x3 u : EReal) = mean (sum x0 x1 x2 x3 (u 0)) := by
  rw [val_main_v10_apply, val_main_v9_apply, val_main_cst_1_apply, val_main_v8_apply, val_main_v7_apply, val_main_cst_0_apply]
  refine congrArg (fun p : EReal => Ideal.div p (Ideal.ofBits .f32 0x45000000#32)) ?_
  show Ideal.ofBits .f32 0x00000000#32 + _ = _
  rw [Ideal.ofBits_zero_f32, zero_add]
  exact Finset.sum_congr rfl fun k _ => ref_sum x0 x1 x2 x3 _

theorem ref_centred (i : S16384x2048.Idx) : (val_main_v12 (F := Ideal) x0 x1 x2 x3 i : EReal) = centred (sum x0 x1 x2 x3 (i 0)) (i 1) := by
  rw [val_main_v12_apply, val_main_v11_apply, ref_mean, ref_sum]; rfl

theorem ref_var (u : Cert.MixRefIdeal.S16384x1.Idx) : (val_main_v17 (F := Ideal) x0 x1 x2 x3 u : EReal)
    = mean (fun k => centred (sum x0 x1 x2 x3 (u 0)) k * centred (sum x0 x1 x2 x3 (u 0)) k) := by
  rw [val_main_v17_apply, val_main_v16_apply, val_main_cst_3_apply, val_main_v15_apply, val_main_v14_apply, val_main_cst_2_apply]
  refine congrArg (fun p : EReal => Ideal.div p (Ideal.ofBits .f32 0x45000000#32)) ?_
  show Ideal.ofBits .f32 0x00000000#32 + _ = _
  rw [Ideal.ofBits_zero_f32, zero_add]
  refine Finset.sum_congr rfl fun k _ => ?_
  rw [val_main_v13_apply, ref_centred]; rfl

/-- The reference's result array. -/
theorem ref_out (i : S16384x2048.Idx) : (val_main_v30 (F := Ideal) x0 x1 x2 x3 x4 x5 i : EReal) = mixOut x0 x1 x2 x3 x4 x5 i := by
  rw [val_main_v30_apply, val_main_v27_apply, val_main_v24_apply, val_main_v19_apply, val_main_v18_apply, val_main_v23_apply,
    val_main_v22_apply, val_main_v21_apply, val_main_v20_apply, val_main_cst_4_apply, val_main_v26_apply, val_main_v25_apply,
    val_main_v29_apply, val_main_v28_apply, ref_mean, ref_var, ref_sum]
  refine congrArg₂ (fun p q : EReal => centred (sum x0 x1 x2 x3 (i 0)) (i 1)
      * Ideal.rsqrt (mean (fun k => centred (sum x0 x1 x2 x3 (i 0)) k * centred (sum x0 x1 x2 x3 (i 0)) k) + Ideal.ofBits .f32 0x3727C5AC#32) * p + q)
    (congrArg x4 ?_) (congrArg x5 ?_)
  · funext a; match a with | ⟨0, _⟩ => rfl
  · funext a; match a with | ⟨0, _⟩ => rfl

end

end Cert.Layer.Mix

end
-- ==== Proof.WinRows.lean ====
module

public import proofs.«01_k».proof.Proof.Flash
public import proofs.«01_k».proof.Proof.BodyOut

/-! The sliding-window attention, one row at a time, over the reals.

A row sees 512 keys: those of its own tile up to itself, and those of the tile before that come after
its own place. The kernel takes the two tiles' scores, those not seen at −∞, subtracts the larger of
the two tiles' maxima, and divides the weighted sum of the values by the sum of the weights.
`two_tiles` says that the quotient is the weighted average under the weights `2 ^ score`, whatever the
maximum is. `avg` is that average over all 16384 keys, `avg_eq` its sum over the two tiles. -/

@[expose] public section

set_option maxRecDepth 16384

noncomputable section

namespace Cert.Layer.Win

open Idealize.ShloMosaic Cert.Flash

/-- A key's weight, from whether it is seen and its score. -/
def wgt (A : Prop) [Decidable A] (s : ℝ) : ℝ := if A then Real.rpow 2 s else 0

theorem wgt_nonneg (A : Prop) [Decidable A] (s : ℝ) : 0 ≤ wgt A s := by
  unfold wgt; split
  · exact (Real.rpow_pos_of_pos (by norm_num) _).le
  · exact le_rfl

/-- A shift of the score multiplies every weight. -/
theorem wgt_shift (A : Prop) [Decidable A] (s y : ℝ) : wgt A (s - y) = Real.rpow 2 (-y) * wgt A s := by
  unfold wgt; split
  · show (2 : ℝ) ^ (s - y) = (2 : ℝ) ^ (-y) * (2 : ℝ) ^ s
    rw [← Real.rpow_add (by norm_num)]; congr 1; ring
  · exact (mul_zero _).symm

/-- A weight as the kernel computes it. -/
theorem exp2_wgt (A : Prop) [Decidable A] (s y : ℝ) (T : EReal) (hT : T = if A then (s : EReal) else ⊥) :
    Ideal.exp2 (T - (y : EReal)) = (wgt A (s - y) : EReal) := by
  rw [hT, wgt]
  split
  · rw [← EReal.coe_sub, Ideal.exp2_coe]
  · rw [EReal.bot_sub, Ideal.exp2_bot, EReal.coe_zero]

section
variable {n : ℕ} (A B : Fin n → Prop) [DecidablePred A] [DecidablePred B] (sa sb va vb : Fin n → ℝ) (Ta Tb : Fin n → EReal)

/-- The larger maximum is a real number when some key of the second tile is seen. -/
theorem max_two (hA : ∀ c, Ta c = if A c then (sa c : EReal) else ⊥) (hB : ∀ c, Tb c = if B c then (sb c : EReal) else ⊥)
    (c₀ : Fin n) (h₀ : B c₀) :
    ∃ y : ℝ, max ((Finset.univ : Finset (Fin n)).fold max ⊥ Ta) ((Finset.univ : Finset (Fin n)).fold max ⊥ Tb) = (y : EReal) := by
  have ht : ∀ (D : Fin n → Prop) [DecidablePred D] (s : Fin n → ℝ) (T : Fin n → EReal), (∀ c, T c = if D c then (s c : EReal) else ⊥) →
      (Finset.univ : Finset (Fin n)).fold max ⊥ T < ⊤ := fun D _ s T h => by
    rw [Finset.fold_max_lt]
    refine ⟨bot_lt_top, fun c _ => ?_⟩
    rw [h]; split
    · exact EReal.coe_lt_top _
    · exact bot_lt_top
  refine ⟨_, (EReal.coe_toReal (ne_of_lt (max_lt (ht A sa Ta hA) (ht B sb Tb hB))) (ne_of_gt ?_)).symm⟩
  refine lt_of_lt_of_le ?_ (le_max_right _ _)
  rw [Finset.lt_fold_max]
  refine Or.inr ⟨c₀, Finset.mem_univ _, ?_⟩
  rw [hB, if_pos h₀]
  exact EReal.bot_lt_coe _

/-- The row's quotient. -/
theorem two_tiles (hA : ∀ c, Ta c = if A c then (sa c : EReal) else ⊥) (hB : ∀ c, Tb c = if B c then (sb c : EReal) else ⊥)
    (c₀ : Fin n) (h₀ : B c₀) (M : EReal)
    (hM : M = max ((Finset.univ : Finset (Fin n)).fold max ⊥ Ta) ((Finset.univ : Finset (Fin n)).fold max ⊥ Tb)) :
    Ideal.div ((∑ c, Ideal.exp2 (Ta c - M) * (va c : EReal)) + ∑ c, Ideal.exp2 (Tb c - M) * (vb c : EReal))
        ((∑ c, Ideal.exp2 (Ta c - M)) + ∑ c, Ideal.exp2 (Tb c - M))
      = ((((∑ c, wgt (A c) (sa c) * va c) + ∑ c, wgt (B c) (sb c) * vb c) / ((∑ c, wgt (A c) (sa c)) + ∑ c, wgt (B c) (sb c)) : ℝ) : EReal) := by
  obtain ⟨y, hy⟩ := max_two A B sa sb Ta Tb hA hB c₀ h₀
  rw [hM, hy]
  simp only [exp2_wgt _ _ y _ (hA _), exp2_wgt _ _ y _ (hB _), ← EReal.coe_mul, coe_sum_univ, ← EReal.coe_add]
  have hp : 0 < Real.rpow 2 (-y) := Real.rpow_pos_of_pos (by norm_num) _
  have hw : 0 < (∑ c, wgt (A c) (sa c)) + ∑ c, wgt (B c) (sb c) := by
    refine add_pos_of_nonneg_of_pos (Finset.sum_nonneg fun c _ => wgt_nonneg _ _) ?_
    refine Finset.sum_pos' (fun c _ => wgt_nonneg _ _) ⟨c₀, Finset.mem_univ _, ?_⟩
    unfold wgt; rw [if_pos h₀]; exact Real.rpow_pos_of_pos (by norm_num) _
  have e1 : (∑ c, wgt (A c) (sa c - y)) + ∑ c, wgt (B c) (sb c - y)
      = Real.rpow 2 (-y) * ((∑ c, wgt (A c) (sa c)) + ∑ c, wgt (B c) (sb c)) := by
    simp only [wgt_shift, Finset.mul_sum, mul_add]
  have e2 : (∑ c, wgt (A c) (sa c - y) * va c) + ∑ c, wgt (B c) (sb c - y) * vb c
      = Real.rpow 2 (-y) * ((∑ c, wgt (A c) (sa c) * va c) + ∑ c, wgt (B c) (sb c) * vb c) := by
    simp only [wgt_shift, Finset.mul_sum, mul_add, mul_assoc]
  rw [e1, e2, Ideal.div_coe (mul_pos hp hw).ne', ← EReal.coe_mul]
  refine congrArg _ ?_
  rw [mul_one_div, mul_div_mul_left _ _ hp.ne']

end

/-- Query row `p` of head `h` against key row `k` of the head's group. -/
def qk (Z : ℕ → ℕ → ℝ) (h p k : ℕ) : ℝ :=
  ∑ d : Fin 128, Z p (128 * h + d.val) * Z k (2048 + 128 * (h / 4) + d.val)

/-- The weight row `p` gives key `k`, before it is divided by the row's sum. -/
def weight (Z : ℕ → ℕ → ℝ) (h p k : ℕ) : ℝ := wgt (k ≤ p ∧ p < k + 512) (qk Z h p k * qscale)

/-- The weighted average of the value rows. -/
def avg (Z : ℕ → ℕ → ℝ) (h p e : ℕ) : ℝ :=
  (∑ k ∈ Finset.range 16384, weight Z h p k * Z k (2304 + 128 * (h / 4) + e)) / (∑ k ∈ Finset.range 16384, weight Z h p k)

/-- A sum over the keys of tile `i` and the tile before it is the sum over all the keys. -/
theorem sum_two {f : ℕ → ℝ} {i : ℕ} (hi : i < 32) (hl : ∀ k, k + 512 ≤ 512 * i → f k = 0) (hr : ∀ k, 512 * i + 512 ≤ k → f k = 0) :
    (∑ c : Fin 512, if 0 < i then f (512 * (i - 1) + c.val) else 0) + (∑ c : Fin 512, f (512 * i + c.val))
      = ∑ k ∈ Finset.range 16384, f k := by
  have e0 : (∑ k ∈ Finset.range (512 * i), f k) = ∑ c : Fin 512, if 0 < i then f (512 * (i - 1) + c.val) else 0 := by
    rcases Nat.eq_zero_or_pos i with h | h
    · subst h; simp
    · simp only [if_pos h]
      have e : 512 * i = 512 * (i - 1) + 512 := by omega
      rw [e, ← sum_tile]
      have : (∑ k ∈ Finset.range (512 * (i - 1)), f k) = 0 := Finset.sum_eq_zero fun k hk => hl k (by have := Finset.mem_range.1 hk; omega)
      rw [this, zero_add]
  rw [← e0, sum_tile]
  exact sum_keys_le (by omega) hr
where
  sum_keys_le {f : ℕ → ℝ} {n : ℕ} (hn : n ≤ 16384) (h : ∀ k, n ≤ k → f k = 0) :
      ∑ k ∈ Finset.range n, f k = ∑ k ∈ Finset.range 16384, f k :=
    Finset.sum_subset (by simpa using hn) fun k _ hk => h k (by simpa using hk)

/-- The average as a quotient of sums over the two tiles. -/
theorem avg_eq (Z : ℕ → ℕ → ℝ) (h e : ℕ) {i r : ℕ} (hi : i < 32) (hr : r < 512) :
    ((∑ c : Fin 512, wgt (0 < i ∧ r < c.val) (qk Z h (512 * i + r) (512 * (i - 1) + c.val) * qscale) * Z (512 * (i - 1) + c.val) (2304 + 128 * (h / 4) + e))
        + ∑ c : Fin 512, wgt (c.val ≤ r) (qk Z h (512 * i + r) (512 * i + c.val) * qscale) * Z (512 * i + c.val) (2304 + 128 * (h / 4) + e))
      / ((∑ c : Fin 512, wgt (0 < i ∧ r < c.val) (qk Z h (512 * i + r) (512 * (i - 1) + c.val) * qscale))
        + ∑ c : Fin 512, wgt (c.val ≤ r) (qk Z h (512 * i + r) (512 * i + c.val) * qscale))
      = avg Z h (512 * i + r) e := by
  have ha : ∀ c : Fin 512, wgt (0 < i ∧ r < c.val) (qk Z h (512 * i + r) (512 * (i - 1) + c.val) * qscale)
      = if 0 < i then weight Z h (512 * i + r) (512 * (i - 1) + c.val) else 0 := fun c => by
    have hc := c.isLt
    by_cases h0 : 0 < i
    · rw [if_pos h0]
      unfold weight wgt
      refine if_congr ?_ rfl rfl
      constructor
      · rintro ⟨_, hlt⟩; omega
      · rintro ⟨_, hlt⟩; omega
    · rw [if_neg h0]; exact if_neg fun hh => h0 hh.1
  have hb : ∀ c : Fin 512, wgt (c.val ≤ r) (qk Z h (512 * i + r) (512 * i + c.val) * qscale)
      = weight Z h (512 * i + r) (512 * i + c.val) := fun c => by
    have hc := c.isLt
    unfold weight wgt
    refine if_congr ?_ rfl rfl
    constructor
    · intro; omega
    · rintro ⟨hlt, _⟩; omega
  have h1 : ∀ k, k + 512 ≤ 512 * i → weight Z h (512 * i + r) k = 0 := fun k hk => if_neg (by omega)
  have h2 : ∀ k, 512 * i + 512 ≤ k → weight Z h (512 * i + r) k = 0 := fun k hk => if_neg (by omega)
  unfold avg
  rw [← sum_two hi h1 h2, ← sum_two (f := fun k => weight Z h (512 * i + r) k * Z k (2304 + 128 * (h / 4) + e)) hi
    (fun k hk => by rw [h1 k hk, zero_mul]) (fun k hk => by rw [h2 k hk, zero_mul])]
  simp only [ha, hb, ite_mul, zero_mul]

end Cert.Layer.Win

end
-- ==== Proof.WinBody.lean ====
module

public import proofs.«01_k».proof.Proof.WinRows
public import proofs.«01_k».proof.Proof.LastPair
public import proofs.«01_k».proof.Proof.Gen.WinIdeal.Value
public import Idealize.ShloMosaic.Lib.WordCmp

/-! What the sliding-window kernel's body computes from its two tiles of keys and values.

The four query heads of a group stand one below the other: row `R` of 2048 is row `R % 512` of the
tile, for head `R / 512`. `window_apply` is the attention's block, `pay15_apply` to `pay21_apply` the
gated combination of the three branches, head by head. -/

@[expose] public section

set_option maxRecDepth 16384

noncomputable section

namespace Cert.Layer.Win

open Idealize.ShloMosaic Idealize.ShloMosaic.TcCoe Idealize.ShloMosaic.ValueIdx Cert.WinIdeal Cert.WinIdeal.Gen
open Cert.Flash (broadcastTo_col coe_sum_univ qscale)

/-! ## Scores and masks -/

/-- The kernel's vector of row places. -/
theorem place_apply (R : Fin 2048) : k0_pay5 (ix2 R (0 : Fin 1)) = BitVec.ofNat 32 (R.val % 512) := by
  show IntOp.andi (BitVec.ofNat 32 ((0 : ℕ) * 2048 + R.val)) 511#32 = _
  have hR := R.isLt
  apply BitVec.eq_of_toNat_eq
  simp only [IntOp.andi, BitVec.toNat_and, BitVec.toNat_ofNat, Nat.zero_mul, Nat.zero_add]
  rw [Nat.mod_eq_of_lt (show R.val < 2 ^ 32 by omega), Nat.mod_eq_of_lt (show R.val % 512 < 2 ^ 32 by omega)]
  exact Nat.and_two_pow_sub_one_eq_mod R.val 9

/-- The kernel's row of key places. -/
theorem keyPlace_apply (c : Fin 512) :
    (iota .tc S1x512 32 [1] iota_S1x512_d1_w32) (ix2 (0 : Fin 1) c) = BitVec.ofNat 32 c.val := by
  show BitVec.ofNat 32 ((0 : ℕ) * 512 + c.val) = _
  rw [Nat.zero_mul, Nat.zero_add]

/-- The word added to a row's place, so that no key of the tile before the first is seen. -/
theorem shift_word {i : ℕ} (hi : i < 32) :
    Scalar.select (Scalar.cmpi .sgt (BitVec.ofNat 32 i) 0#32) 0#32 512#32 = BitVec.ofNat 32 (if 0 < i then 0 else 512) := by
  show Scalar.select (IntOp.cmpi .sgt (BitVec.ofNat 32 i) (BitVec.ofNat 32 0)) 0#32 512#32 = _
  rw [WordCmp.cmpi_sgt_ofNat (by omega) (by omega), WordCmp.select_decide]
  split <;> rfl

/-- A row of scores. -/
theorem dot_apply (Q : Vec Ideal S2048x128 .bf16) (K : Vec Ideal S512x128 .bf16) (R : Fin 2048) (c : Fin 512) :
    (matmul (φ₁ := .bf16) (φ₂ := .bf16) dot_S2048x128_S512x128_S2048x512_1_1_0_0_n_n none Q K (constant (F := Ideal) S2048x512 .f32 0x00000000#32) (ix2 R c) : EReal)
      = ∑ d : Fin 128, (Q (ix2 R d) : EReal) * K (ix2 c d) := by
  refine (Ideal.matmul_transposedRhs_apply (φ₁ := .bf16) (φ₂ := .bf16) none Q K _ R c).trans ?_
  show Ideal.ofBits .f32 0x00000000#32 + _ = _
  rw [Ideal.ofBits_zero_f32, zero_add]

/-- The previous tile's masked scores. -/
theorem pay6_apply {i : ℕ} (hi : i < 32) (Q : Vec Ideal S2048x128 .bf16) (K : Vec Ideal S512x128 .bf16) (R : Fin 2048) (c : Fin 512) :
    (k0_pay6 (F := Ideal) (BitVec.ofNat 32 i) Q K (ix2 R c) : EReal)
      = if 0 < i ∧ R.val % 512 < c.val then ∑ d : Fin 128, (Q (ix2 R d) : EReal) * K (ix2 c d) else ⊥ := by
  have hc := c.isLt
  unfold k0_pay6
  show Scalar.select (IntOp.cmpi .sgt (broadcastTo S2048x512 (iota .tc S1x512 32 [1] iota_S1x512_d1_w32) broadcasts_S1x512_S2048x512 (ix2 R c))
    (broadcastTo S2048x512 (addi k0_pay5 (broadcast S2048x1 (Scalar.select (Scalar.cmpi .sgt (BitVec.ofNat 32 i) 0#32) 0#32 512#32))) broadcasts_S2048x1_S2048x512 (ix2 R c)))
    (matmul (φ₁ := .bf16) (φ₂ := .bf16) dot_S2048x128_S512x128_S2048x512_1_1_0_0_n_n none Q K (constant (F := Ideal) S2048x512 .f32 0x00000000#32) (ix2 R c) : EReal) (⊥ : EReal) = _
  rw [Flash.spread_col, Flash.spread_row, keyPlace_apply, dot_apply]
  show Scalar.select (IntOp.cmpi .sgt _ (IntOp.addi (k0_pay5 (ix2 R (0 : Fin 1))) (Scalar.select (Scalar.cmpi .sgt (BitVec.ofNat 32 i) 0#32) 0#32 512#32))) _ _ = _
  rw [place_apply, shift_word hi]
  have e : IntOp.addi (BitVec.ofNat 32 (R.val % 512)) (BitVec.ofNat 32 (if 0 < i then 0 else 512))
      = BitVec.ofNat 32 (R.val % 512 + if 0 < i then 0 else 512) := by
    apply BitVec.eq_of_toNat_eq; simp [IntOp.addi]
  have hb : R.val % 512 + (if 0 < i then 0 else 512) < 2 ^ (32 - 1) := by split <;> omega
  rw [e, WordCmp.cmpi_sgt_ofNat (by omega) hb, WordCmp.select_decide]
  refine if_congr ?_ rfl rfl
  split
  · constructor
    · intro h; exact ⟨by assumption, by omega⟩
    · intro h; omega
  · constructor
    · intro h; omega
    · intro h; omega

/-- The own tile's masked scores. -/
theorem pay7_apply (Q : Vec Ideal S2048x128 .bf16) (K : Vec Ideal S512x128 .bf16) (R : Fin 2048) (c : Fin 512) :
    (k0_pay7 (F := Ideal) Q K (ix2 R c) : EReal)
      = if c.val ≤ R.val % 512 then ∑ d : Fin 128, (Q (ix2 R d) : EReal) * K (ix2 c d) else ⊥ := by
  have hc := c.isLt
  unfold k0_pay7
  show Scalar.select (IntOp.cmpi .sle (broadcastTo S2048x512 (iota .tc S1x512 32 [1] iota_S1x512_d1_w32) broadcasts_S1x512_S2048x512 (ix2 R c))
    (broadcastTo S2048x512 k0_pay5 broadcasts_S2048x1_S2048x512 (ix2 R c)))
    (matmul (φ₁ := .bf16) (φ₂ := .bf16) dot_S2048x128_S512x128_S2048x512_1_1_0_0_n_n none Q K (constant (F := Ideal) S2048x512 .f32 0x00000000#32) (ix2 R c) : EReal) (⊥ : EReal) = _
  rw [Flash.spread_col, Flash.spread_row, keyPlace_apply, dot_apply, place_apply, WordCmp.cmpi_sle_ofNat (by omega) (by omega), WordCmp.select_decide]

/-! ## The attention -/

section
variable (w : BitVec 32) (Q : Vec Ideal S2048x128 .bf16) (ka kb va vb : Vec Ideal S512x128 .bf16) (R : Fin 2048)

/-- The row's maximum. -/
def rowM : EReal := max ((Finset.univ : Finset (Fin 512)).fold max (⊥ : EReal) (fun c => k0_pay6 (F := Ideal) w Q ka (ix2 R c)))
  ((Finset.univ : Finset (Fin 512)).fold max (⊥ : EReal) (fun c => k0_pay7 (F := Ideal) Q kb (ix2 R c)))

theorem pay8_apply : (k0_pay8 (F := Ideal) w Q ka kb (ix2 R (0 : Fin 1)) : EReal) = rowM w Q ka kb R := by
  unfold k0_pay8 rowM
  refine congrArg₂ (fun p q : EReal => max p q) ?_ ?_
  · exact (shapeCast_a_a1_apply _ _ R 0).trans (Flash.rowMax_apply _ R)
  · exact (shapeCast_a_a1_apply _ _ R 0).trans (Flash.rowMax_apply _ R)

theorem pay9_apply (c : Fin 512) : (k0_pay9 (F := Ideal) w Q ka kb (ix2 R c) : EReal)
    = Ideal.exp2 ((k0_pay6 (F := Ideal) w Q ka (ix2 R c) : EReal) - rowM w Q ka kb R) := by
  unfold k0_pay9
  exact congrArg (fun p : EReal => Ideal.exp2 ((k0_pay6 (F := Ideal) w Q ka (ix2 R c) : EReal) - p)) ((Flash.spread_col _ R c).trans (pay8_apply w Q ka kb R))

theorem pay10_apply (c : Fin 512) : (k0_pay10 (F := Ideal) w Q ka kb (ix2 R c) : EReal)
    = Ideal.exp2 ((k0_pay7 (F := Ideal) Q kb (ix2 R c) : EReal) - rowM w Q ka kb R) := by
  unfold k0_pay10
  exact congrArg (fun p : EReal => Ideal.exp2 ((k0_pay7 (F := Ideal) Q kb (ix2 R c) : EReal) - p)) ((Flash.spread_col _ R c).trans (pay8_apply w Q ka kb R))

theorem pay11_apply : (k0_pay11 (F := Ideal) w Q ka kb (ix2 R (0 : Fin 1)) : EReal)
    = (∑ c : Fin 512, (k0_pay9 (F := Ideal) w Q ka kb (ix2 R c) : EReal)) + ∑ c : Fin 512, (k0_pay10 (F := Ideal) w Q ka kb (ix2 R c) : EReal) := by
  unfold k0_pay11
  refine congrArg₂ (fun p q : EReal => p + q) ?_ ?_
  · exact (shapeCast_a_a1_apply _ _ R 0).trans (Flash.rowSum_apply _ R)
  · exact (shapeCast_a_a1_apply _ _ R 0).trans (Flash.rowSum_apply _ R)

/-- The attention's block as the body forms it. -/
abbrev window : FVec Ideal S2048x128 .f32 :=
  k0_pay13 (F := Ideal) (k0_pay10 w Q ka kb) (k0_pay11 w Q ka kb) (k0_pay12 w Q ka kb) va (constant S2048x128 .f32 0x00000000#32) vb

theorem mm_apply (p : FVec Ideal S2048x512 .bf16) (v : Vec Ideal S512x128 .bf16) (e : Fin 128) :
    (matmul (φ₁ := .bf16) (φ₂ := .bf16) dot_S2048x512_S512x128_S2048x128_1_0_0_1_n_n none p v (constant (F := Ideal) S2048x128 .f32 0x00000000#32) (ix2 R e) : EReal)
      = ∑ c : Fin 512, (p (ix2 R c) : EReal) * v (ix2 c e) := by
  refine (Ideal.matmul_plain_apply (φ₁ := .bf16) (φ₂ := .bf16) none p v _ R e).trans ?_
  show Ideal.ofBits .f32 0x00000000#32 + _ = _
  rw [Ideal.ofBits_zero_f32, zero_add]

theorem window_eq (e : Fin 128) : (window w Q ka kb va vb (ix2 R e) : EReal)
    = Ideal.div ((∑ c : Fin 512, (k0_pay9 (F := Ideal) w Q ka kb (ix2 R c) : EReal) * va (ix2 c e))
        + ∑ c : Fin 512, (k0_pay10 (F := Ideal) w Q ka kb (ix2 R c) : EReal) * vb (ix2 c e))
      ((∑ c : Fin 512, (k0_pay9 (F := Ideal) w Q ka kb (ix2 R c) : EReal)) + ∑ c : Fin 512, (k0_pay10 (F := Ideal) w Q ka kb (ix2 R c) : EReal)) := by
  unfold window k0_pay13
  refine congrArg₂ (fun p q : EReal => Ideal.div p q) (congrArg₂ (fun p q : EReal => p + q) ?_ ?_) ?_
  · exact mm_apply R _ va e
  · exact mm_apply R _ vb e
  · exact (broadcastTo_col (by norm_num) _ _ R e).trans (pay11_apply w Q ka kb R)

end

/-- The attention's block from the activations: row `R` is row `R % 512` of tile `i`, for head `4 g + R / 512`. -/
theorem window_apply (Z : ℕ → ℕ → ℝ) {i g : ℕ} (hi : i < 32) (Q : Vec Ideal S2048x128 .bf16) (ka kb va vb : Vec Ideal S512x128 .bf16)
    (hQ : ∀ (R : Fin 2048) (d : Fin 128), (Q (ix2 R d) : EReal) = ((Z (512 * i + R.val % 512) (128 * (4 * g + R.val / 512) + d.val) * qscale : ℝ) : EReal))
    (hka : ∀ (c : Fin 512) (d : Fin 128), (ka (ix2 c d) : EReal) = (Z (512 * (i - 1) + c.val) (2048 + 128 * g + d.val) : EReal))
    (hkb : ∀ (c : Fin 512) (d : Fin 128), (kb (ix2 c d) : EReal) = (Z (512 * i + c.val) (2048 + 128 * g + d.val) : EReal))
    (hva : ∀ (c : Fin 512) (d : Fin 128), (va (ix2 c d) : EReal) = (Z (512 * (i - 1) + c.val) (2304 + 128 * g + d.val) : EReal))
    (hvb : ∀ (c : Fin 512) (d : Fin 128), (vb (ix2 c d) : EReal) = (Z (512 * i + c.val) (2304 + 128 * g + d.val) : EReal))
    (R : Fin 2048) (e : Fin 128) :
    (window (BitVec.ofNat 32 i) Q ka kb va vb (ix2 R e) : EReal) = (avg Z (4 * g + R.val / 512) (512 * i + R.val % 512) e.val : EReal) := by
  have hR := R.isLt
  have hg : (4 * g + R.val / 512) / 4 = g := by omega
  have hs : ∀ (K : Vec Ideal S512x128 .bf16) (n : ℕ), (∀ (c : Fin 512) (d : Fin 128), (K (ix2 c d) : EReal) = (Z (n + c.val) (2048 + 128 * g + d.val) : EReal)) →
      ∀ c : Fin 512, (∑ d : Fin 128, (Q (ix2 R d) : EReal) * K (ix2 c d))
        = ((qk Z (4 * g + R.val / 512) (512 * i + R.val % 512) (n + c.val) * qscale : ℝ) : EReal) := fun K n hK c => by
    unfold qk
    rw [hg, Finset.sum_mul, ← coe_sum_univ]
    refine Finset.sum_congr rfl fun d _ => ?_
    rw [hQ, hK, ← EReal.coe_mul]
    refine congrArg _ ?_
    ring
  have ha : ∀ c : Fin 512, (k0_pay6 (F := Ideal) (BitVec.ofNat 32 i) Q ka (ix2 R c) : EReal)
      = if 0 < i ∧ R.val % 512 < c.val then ((qk Z (4 * g + R.val / 512) (512 * i + R.val % 512) (512 * (i - 1) + c.val) * qscale : ℝ) : EReal) else ⊥ :=
    fun c => (pay6_apply hi Q ka R c).trans (if_congr Iff.rfl (hs ka _ hka c) rfl)
  have hb : ∀ c : Fin 512, (k0_pay7 (F := Ideal) Q kb (ix2 R c) : EReal)
      = if c.val ≤ R.val % 512 then ((qk Z (4 * g + R.val / 512) (512 * i + R.val % 512) (512 * i + c.val) * qscale : ℝ) : EReal) else ⊥ :=
    fun c => (pay7_apply Q kb R c).trans (if_congr Iff.rfl (hs kb _ hkb c) rfl)
  rw [window_eq]
  simp only [pay9_apply, pay10_apply, hva, hvb]
  rw [two_tiles (fun c : Fin 512 => 0 < i ∧ R.val % 512 < c.val) (fun c : Fin 512 => c.val ≤ R.val % 512) _ _
    (fun c => Z (512 * (i - 1) + c.val) (2304 + 128 * g + e.val)) (fun c => Z (512 * i + c.val) (2304 + 128 * g + e.val)) _ _ ha hb
    (⟨R.val % 512, by omega⟩ : Fin 512) (le_refl _) (rowM (BitVec.ofNat 32 i) Q ka kb R) rfl]
  have := avg_eq Z (4 * g + R.val / 512) e.val (i := i) (r := R.val % 512) hi (by omega)
  rw [hg] at this
  exact congrArg _ this

/-! ## The gates -/

/-- The logistic function. -/
def gate (x : EReal) : EReal := Ideal.div (Ideal.ofBits .f32 0x3F800000#32) (Ideal.ofBits .f32 0x3F800000#32 + Ideal.exp (-x))

/-- The three branches, each times its gate, added. -/
def combine (gc oc gs os gw ow : EReal) : EReal := gate gc * oc + gate gs * os + gate gw * ow

theorem pay14_apply (G : Vec Ideal S512x128 .f32) (y : S512x128.Idx) : (k0_pay14 (F := Ideal) G y : EReal) = gate (G y) := by
  unfold k0_pay14
  show Ideal.div (Ideal.ofBits .f32 0x3F800000#32) (Ideal.ofBits .f32 0x3F800000#32 + Ideal.exp (Ideal.ofBits .f32 0x00000000#32 - G y)) = _
  rw [Ideal.ofBits_zero_f32, sub_eq_add_neg, zero_add]
  rfl

/-- One gate's column, spread over a head's columns. -/
theorem gateCol {k : ℕ} (X : FVec Ideal S512x128 .f32) (h : S512x128.Slices ![0, k] S512x1) (r : Fin 512) (e : Fin 128) (hk : k < 128) :
    broadcastTo S512x128 (extractStridedSlice S512x1 ![0, k] X h) broadcasts_S512x1_S512x128 (ix2 r e) = X (ix2 r (⟨k, hk⟩ : Fin 128)) := by
  refine (broadcastTo_col (by norm_num) _ _ r e).trans ?_
  refine extractStridedSlice_apply _ X h _ _ fun a => ?_
  match a with
  | ⟨0, _⟩ => exact (Nat.zero_add _).symm
  | ⟨1, _⟩ => rfl

/-- One head's rows of the attention's block. -/
theorem headRows {o : ℕ} (X : FVec Ideal S2048x128 .f32) (h : S2048x128.Slices ![o, 0] S512x128) (r : Fin 512) (e : Fin 128) (ho : o + r.val < 2048) :
    extractStridedSlice S512x128 ![o, 0] X h (ix2 r e) = X (ix2 (⟨o + r.val, ho⟩ : Fin 2048) e) := by
  refine extractStridedSlice_apply _ X h _ _ fun a => ?_
  match a with
  | ⟨0, _⟩ => rfl
  | ⟨1, _⟩ => exact (Nat.zero_add _).symm

section
variable (G : Vec Ideal S512x128 .f32) (oc os : Vec Ideal S512x128 .bf16) (r : Fin 512) (e : Fin 128)

theorem pay15_apply (p : FVec Ideal S2048x512 .f32) (l : FVec Ideal S2048x1 .f32) (p' : FVec Ideal S2048x512 .bf16) (va vb : Vec Ideal S512x128 .bf16) (z : FVec Ideal S2048x128 .f32) :
    (k0_pay15 (F := Ideal) p l p' va z vb G oc os (ix2 r e) : EReal)
      = combine (G (ix2 r (0 : Fin 128))) (oc (ix2 r e)) (G (ix2 r (1 : Fin 128))) (os (ix2 r e)) (G (ix2 r (2 : Fin 128)))
          (k0_pay13 (F := Ideal) p l p' va z vb (ix2 (⟨0 + r.val, by omega⟩ : Fin 2048) e)) := by
  unfold k0_pay15 combine
  refine congrArg₂ (fun a b : EReal => a + b) (congrArg₂ (fun a b : EReal => a + b) (congrArg (fun a : EReal => a * oc (ix2 r e)) ?_)
    (congrArg (fun a : EReal => a * os (ix2 r e)) ?_)) (congrArg₂ (fun a b : EReal => a * b) ?_ (headRows _ _ r e _))
  · exact (gateCol _ _ r e (by norm_num)).trans (pay14_apply G _)
  · exact (gateCol _ _ r e (by norm_num)).trans (pay14_apply G _)
  · exact (gateCol _ _ r e (by norm_num)).trans (pay14_apply G _)

theorem pay19_apply (X : FVec Ideal S2048x128 .f32) :
    (k0_pay19 (F := Ideal) X (k0_pay16 G) (k0_pay17 G) (k0_pay18 G oc) os (ix2 r e) : EReal)
      = combine (G (ix2 r (3 : Fin 128))) (oc (ix2 r e)) (G (ix2 r (4 : Fin 128))) (os (ix2 r e)) (G (ix2 r (5 : Fin 128)))
          (X (ix2 (⟨512 + r.val, by omega⟩ : Fin 2048) e)) := by
  unfold k0_pay19 k0_pay16 k0_pay17 k0_pay18 combine
  refine congrArg₂ (fun a b : EReal => a + b) (congrArg₂ (fun a b : EReal => a + b) (congrArg (fun a : EReal => a * oc (ix2 r e)) ?_)
    (congrArg (fun a : EReal => a * os (ix2 r e)) ?_)) (congrArg₂ (fun a b : EReal => a * b) ?_ (headRows _ _ r e _))
  · exact (gateCol _ _ r e (by norm_num)).trans (pay14_apply G _)
  · exact (gateCol _ _ r e (by norm_num)).trans (pay14_apply G _)
  · exact (gateCol _ _ r e (by norm_num)).trans (pay14_apply G _)

theorem pay20_apply (X : FVec Ideal S2048x128 .f32) :
    (k0_pay20 (F := Ideal) X (k0_pay14 G) oc os (ix2 r e) : EReal)
      = combine (G (ix2 r (6 : Fin 128))) (oc (ix2 r e)) (G (ix2 r (7 : Fin 128))) (os (ix2 r e)) (G (ix2 r (8 : Fin 128)))
          (X (ix2 (⟨1024 + r.val, by omega⟩ : Fin 2048) e)) := by
  unfold k0_pay20 combine
  refine congrArg₂ (fun a b : EReal => a + b) (congrArg₂ (fun a b : EReal => a + b) (congrArg (fun a : EReal => a * oc (ix2 r e)) ?_)
    (congrArg (fun a : EReal => a * os (ix2 r e)) ?_)) (congrArg₂ (fun a b : EReal => a * b) ?_ (headRows _ _ r e _))
  · exact (gateCol _ _ r e (by norm_num)).trans (pay14_apply G _)
  · exact (gateCol _ _ r e (by norm_num)).trans (pay14_apply G _)
  · exact (gateCol _ _ r e (by norm_num)).trans (pay14_apply G _)

theorem pay21_apply (X : FVec Ideal S2048x128 .f32) :
    (k0_pay21 (F := Ideal) X (k0_pay14 G) oc os (ix2 r e) : EReal)
      = combine (G (ix2 r (9 : Fin 128))) (oc (ix2 r e)) (G (ix2 r (10 : Fin 128))) (os (ix2 r e)) (G (ix2 r (11 : Fin 128)))
          (X (ix2 (⟨1536 + r.val, by omega⟩ : Fin 2048) e)) := by
  unfold k0_pay21 combine
  refine congrArg₂ (fun a b : EReal => a + b) (congrArg₂ (fun a b : EReal => a + b) (congrArg (fun a : EReal => a * oc (ix2 r e)) ?_)
    (congrArg (fun a : EReal => a * os (ix2 r e)) ?_)) (congrArg₂ (fun a b : EReal => a * b) ?_ (headRows _ _ r e _))
  · exact (gateCol _ _ r e (by norm_num)).trans (pay14_apply G _)
  · exact (gateCol _ _ r e (by norm_num)).trans (pay14_apply G _)
  · exact (gateCol _ _ r e (by norm_num)).trans (pay14_apply G _)

end

end Cert.Layer.Win

end
-- ==== Proof.WinValue.lean ====
module

public import proofs.«01_k».proof.Proof.WinBody
public import Idealize.ShloMosaic.Lib.Pipeline.ReadBack
public import Idealize.ShloMosaic.Lib.Pipeline.ValueKit

/-! The sliding-window kernel's result array: at grid point `t` the body writes the block of row tile
`t % 32` and of group `t / 32`, four heads of 128 columns each. `final` is the whole array after the
run, as one function of the launched arguments. -/

@[expose] public section

set_option maxRecDepth 16384

noncomputable section

namespace Cert.Layer.Win

open Idealize.ShloMosaic Idealize.ShloMosaic.TcCoe Cert.WinIdeal Cert.WinIdeal.Gen
open Cert.Flash (qscale)

/-! ## The result, from the arguments -/

/-- The activations as real numbers. -/
def realOf (z : S16384x2560.Idx → EReal) (p c : ℕ) : ℝ :=
  if h : p < 16384 ∧ c < 2560 then (z (ValueIdx.ix2 ⟨p, h.1⟩ ⟨c, h.2⟩)).toReal else 0

/-- All entries are real numbers. -/
def RealArr (z : S16384x2560.Idx → EReal) : Prop := ∀ i, z i ≠ ⊥ ∧ z i ≠ ⊤

theorem realOf_eq {z : S16384x2560.Idx → EReal} (hz : RealArr z) (p c : ℕ) (i : S16384x2560.Idx)
    (h0 : (i 0).val = p) (h1 : (i 1).val = c) : z i = (realOf z p c : EReal) := by
  have l0 : p < 16384 := h0 ▸ (show (i 0).val < 16384 from (i 0).isLt)
  have l1 : c < 2560 := h1 ▸ (show (i 1).val < 2560 from (i 1).isLt)
  have e : i = ValueIdx.ix2 ⟨p, l0⟩ ⟨c, l1⟩ := by
    funext a; match a with | ⟨0, _⟩ => exact Fin.ext h0 | ⟨1, _⟩ => exact Fin.ext h1
  unfold realOf
  rw [dif_pos ⟨l0, l1⟩, ← e, EReal.coe_toReal (hz i).2 (hz i).1]

/-- The column of head `h`'s gate for branch `k`. -/
def gcol (h k : ℕ) : Fin 256 := ⟨(128 * (h / 4) + 3 * (h % 4) + k) % 256, Nat.mod_lt _ (by norm_num)⟩

/-- The result at a row and a column. -/
def out (z : S16384x2560.Idx → EReal) (oc os : S16384x1024.Idx → EReal) (g : S16384x256.Idx → EReal) (p : Fin 16384) (j : Fin 1024) : EReal :=
  combine (g (ValueIdx.ix2 p (gcol (j.val / 128) 0))) (oc (ValueIdx.ix2 p j)) (g (ValueIdx.ix2 p (gcol (j.val / 128) 1))) (os (ValueIdx.ix2 p j)) (g (ValueIdx.ix2 p (gcol (j.val / 128) 2)))
    (avg (realOf z) (j.val / 128) p.val (j.val % 128) : EReal)

/-! ## The block a grid point writes -/

/-- The scratch with the four heads' scaled queries, read back. -/
theorem scratch_apply (x0 : Vec Ideal S512x512 .bf16) (R : Fin 2048) (d : Fin 128) :
    ((View.whole cc0_scratch0).readCov (Val := Elt Ideal)
      [⟨Rect.unit (s := S2048x128) ![1536, 0] ![512, 128] inb_S2048x128_S512x128_1536_0, k0_pay4 (F := Ideal) (View.ld x0 (Rect.unit (s := S512x512) ![0, 384] ![512, 128] inb_S512x512_S512x128_0_384))⟩,
        ⟨Rect.unit (s := S2048x128) ![1024, 0] ![512, 128] inb_S2048x128_S512x128_1024_0, k0_pay3 (F := Ideal) (View.ld x0 (Rect.unit (s := S512x512) ![0, 256] ![512, 128] inb_S512x512_S512x128_0_256))⟩,
        ⟨Rect.unit (s := S2048x128) ![512, 0] ![512, 128] inb_S2048x128_S512x128_512_0, k0_pay2 (F := Ideal) (View.ld x0 (Rect.unit (s := S512x512) ![0, 128] ![512, 128] inb_S512x512_S512x128_0_128))⟩,
        ⟨Rect.unit (s := S2048x128) ![0, 0] ![512, 128] inb_S2048x128_S512x128_0_0, k0_pay1 (F := Ideal) (View.ld x0 (Rect.unit (s := S512x512) ![0, 0] ![512, 128] inb_S512x512_S512x128_0_0))⟩]
      (Rect.unit (s := S2048x128) ![0, 0] ![2048, 128] inb_S2048x128_S2048x128_0_0).toLoadRect (ValueIdx.ix2 R d) : EReal)
      = (x0 (ValueIdx.ix2 (⟨R.val % 512, Nat.mod_lt _ (by norm_num)⟩ : Fin 512) (⟨128 * (R.val / 512) + d.val, by omega⟩ : Fin 512)) : EReal) * (qscale : EReal) := by
  have hR := R.isLt
  have hd := d.isLt
  let H : S2048x128.Idx → EReal := fun y => (x0 (ValueIdx.ix2 (⟨(y 0).val % 512, Nat.mod_lt _ (by norm_num)⟩ : Fin 512)
    (⟨(128 * ((y 0).val / 512) + (y 1).val) % 512, Nat.mod_lt _ (by norm_num)⟩ : Fin 512)) : EReal) * (qscale : EReal)
  have key : ∀ (k : ℕ) (hk : k < 4) (inb : ∀ a, (![0, 128 * k] : Fin 2 → ℕ) a + (![512, 128] : Fin 2 → ℕ) a ≤ S512x512.size a)
      (inb' : ∀ a, (![512 * k, 0] : Fin 2 → ℕ) a + (![512, 128] : Fin 2 → ℕ) a ≤ S2048x128.size a)
      (x : (Rect.unit (s := S2048x128) ![512 * k, 0] ![512, 128] inb').shape.Idx),
      ((View.ld x0 (Rect.unit (s := S512x512) ![0, 128 * k] ![512, 128] inb) x : EReal) * (qscale : EReal))
        = H ((Rect.unit (s := S2048x128) ![512 * k, 0] ![512, 128] inb').emb x) := fun k hk inb inb' x => by
    have h0 : (x 0).val < 512 := (x 0).isLt
    have h1 : (x 1).val < 128 := (x 1).isLt
    have e0 : (((Rect.unit (s := S2048x128) ![512 * k, 0] ![512, 128] inb').emb x) 0).val = 512 * k + (x 0).val := Rect.idx_unit_val _ _ _ x 0
    have e1 : (((Rect.unit (s := S2048x128) ![512 * k, 0] ![512, 128] inb').emb x) 1).val = (x 1).val :=
      (Rect.idx_unit_val _ _ _ x 1).trans (Nat.zero_add _)
    refine congrArg (fun p : EReal => p * (qscale : EReal)) (View.ld_unit_apply_of x0 _ _ _ _ _ fun a => ?_)
    match a with
    | ⟨0, _⟩ =>
      show (((Rect.unit (s := S2048x128) ![512 * k, 0] ![512, 128] inb').emb x) 0).val % 512 = 0 + (x 0).val
      rw [e0]; omega
    | ⟨1, _⟩ =>
      show (128 * ((((Rect.unit (s := S2048x128) ![512 * k, 0] ![512, 128] inb').emb x) 0).val / 512) + (((Rect.unit (s := S2048x128) ![512 * k, 0] ![512, 128] inb').emb x) 1).val) % 512
        = 128 * k + (x 1).val
      rw [e0, e1]; omega
  rw [View.readCov_eq_canon']
  refine (View.canon_apply_of_pieces H _ ?_ _ ?_).trans ?_
  · intro p hp x
    simp only [List.mem_cons, List.not_mem_nil, or_false] at hp
    rcases hp with rfl | rfl | rfl | rfl
    · refine Eq.trans ?_ (key 3 (by norm_num) inb_S512x512_S512x128_0_384 inb_S2048x128_S512x128_1536_0 x)
      show k0_pay4 (F := Ideal) _ x = _
      unfold k0_pay4; rw [shapeCast_self]; rfl
    · refine Eq.trans ?_ (key 2 (by norm_num) inb_S512x512_S512x128_0_256 inb_S2048x128_S512x128_1024_0 x)
      show k0_pay3 (F := Ideal) _ x = _
      unfold k0_pay3; rw [shapeCast_self]; rfl
    · refine Eq.trans ?_ (key 1 (by norm_num) inb_S512x512_S512x128_0_128 inb_S2048x128_S512x128_512_0 x)
      show k0_pay2 (F := Ideal) _ x = _
      unfold k0_pay2; rw [shapeCast_self]; rfl
    · refine Eq.trans ?_ (key 0 (by norm_num) inb_S512x512_S512x128_0_0 inb_S2048x128_S512x128_0_0 x)
      show k0_pay1 (F := Ideal) _ x = _
      unfold k0_pay1; rw [shapeCast_self]; rfl
  · refine View.cover_of_tiledL _ (![512, 128] : Fin 2 → ℕ) ?_ _
    sl_kernel_rfl
  · have e0 : (((Rect.unit (s := S2048x128) ![0, 0] ![2048, 128] inb_S2048x128_S2048x128_0_0).toLoadRect.idx (ValueIdx.ix2 R d)) 0).val = R.val :=
      (Rect.idx_unit_val (s := S2048x128) ![0, 0] ![2048, 128] inb_S2048x128_S2048x128_0_0 (ValueIdx.ix2 R d) 0).trans (Nat.zero_add R.val)
    have e1 : (((Rect.unit (s := S2048x128) ![0, 0] ![2048, 128] inb_S2048x128_S2048x128_0_0).toLoadRect.idx (ValueIdx.ix2 R d)) 1).val = d.val :=
      (Rect.idx_unit_val (s := S2048x128) ![0, 0] ![2048, 128] inb_S2048x128_S2048x128_0_0 (ValueIdx.ix2 R d) 1).trans (Nat.zero_add d.val)
    refine congrArg (fun p : EReal => p * (qscale : EReal)) (congrArg x0 ?_)
    funext a; apply Fin.ext
    match a with
    | ⟨0, _⟩ =>
      show (((Rect.unit (s := S2048x128) ![0, 0] ![2048, 128] inb_S2048x128_S2048x128_0_0).toLoadRect.idx (ValueIdx.ix2 R d)) 0).val % 512 = R.val % 512
      rw [e0]
    | ⟨1, _⟩ =>
      show (128 * ((((Rect.unit (s := S2048x128) ![0, 0] ![2048, 128] inb_S2048x128_S2048x128_0_0).toLoadRect.idx (ValueIdx.ix2 R d)) 0).val / 512)
        + (((Rect.unit (s := S2048x128) ![0, 0] ![2048, 128] inb_S2048x128_S2048x128_0_0).toLoadRect.idx (ValueIdx.ix2 R d)) 1).val) % 512 = 128 * (R.val / 512) + d.val
      rw [e0, e1]; omega

/-- A block's entry from its four heads' stores. -/
def entry (x5 x6 : Vec Ideal S512x512 .bf16) (G : Vec Ideal S512x128 .f32) (X : FVec Ideal S2048x128 .f32) (r : Fin 512) (h : Fin 4) (e : Fin 128) : EReal :=
  combine (G (ValueIdx.ix2 r (⟨3 * h.val, by omega⟩ : Fin 128))) (x5 (ValueIdx.ix2 r (⟨128 * h.val + e.val, by omega⟩ : Fin 512)))
    (G (ValueIdx.ix2 r (⟨3 * h.val + 1, by omega⟩ : Fin 128))) (x6 (ValueIdx.ix2 r (⟨128 * h.val + e.val, by omega⟩ : Fin 512)))
    (G (ValueIdx.ix2 r (⟨3 * h.val + 2, by omega⟩ : Fin 128))) (X (ValueIdx.ix2 (⟨512 * h.val + r.val, by omega⟩ : Fin 2048) e))

theorem stores_apply (x5 x6 : Vec Ideal S512x512 .bf16) (G : Vec Ideal S512x128 .f32) (w : BitVec 32) (Q : Vec Ideal S2048x128 .bf16)
    (ka kb va vb : Vec Ideal S512x128 .bf16) (r : Fin 512) (j : Fin 512) :
    (View.canon (Val := Elt Ideal) (s := S512x512) (e := .bf16)
      [⟨Rect.unit (s := S512x512) ![0, 384] ![512, 128] inb_S512x512_S512x128_0_384,
          k0_pay21 (F := Ideal) (window w Q ka kb va vb) (k0_pay14 G) (View.ld x5 (Rect.unit (s := S512x512) ![0, 384] ![512, 128] inb_S512x512_S512x128_0_384))
            (View.ld x6 (Rect.unit (s := S512x512) ![0, 384] ![512, 128] inb_S512x512_S512x128_0_384))⟩,
        ⟨Rect.unit (s := S512x512) ![0, 256] ![512, 128] inb_S512x512_S512x128_0_256,
          k0_pay20 (F := Ideal) (window w Q ka kb va vb) (k0_pay14 G) (View.ld x5 (Rect.unit (s := S512x512) ![0, 256] ![512, 128] inb_S512x512_S512x128_0_256))
            (View.ld x6 (Rect.unit (s := S512x512) ![0, 256] ![512, 128] inb_S512x512_S512x128_0_256))⟩,
        ⟨Rect.unit (s := S512x512) ![0, 128] ![512, 128] inb_S512x512_S512x128_0_128,
          k0_pay19 (F := Ideal) (window w Q ka kb va vb) (k0_pay16 G) (k0_pay17 G) (k0_pay18 G (View.ld x5 (Rect.unit (s := S512x512) ![0, 128] ![512, 128] inb_S512x512_S512x128_0_128)))
            (View.ld x6 (Rect.unit (s := S512x512) ![0, 128] ![512, 128] inb_S512x512_S512x128_0_128))⟩,
        ⟨Rect.unit (s := S512x512) ![0, 0] ![512, 128] inb_S512x512_S512x128_0_0,
          k0_pay15 (F := Ideal) (k0_pay10 w Q ka kb) (k0_pay11 w Q ka kb) (k0_pay12 w Q ka kb) va (constant S2048x128 .f32 0x00000000#32) vb G
            (View.ld x5 (Rect.unit (s := S512x512) ![0, 0] ![512, 128] inb_S512x512_S512x128_0_0))
            (View.ld x6 (Rect.unit (s := S512x512) ![0, 0] ![512, 128] inb_S512x512_S512x128_0_0))⟩] (ValueIdx.ix2 r j) : EReal)
      = entry x5 x6 G (window w Q ka kb va vb) r (⟨j.val / 128, by omega⟩ : Fin 4) (⟨j.val % 128, Nat.mod_lt _ (by norm_num)⟩ : Fin 128) := by
  generalize hX : window w Q ka kb va vb = X
  let H : S512x512.Idx → EReal := fun y => entry x5 x6 G X (⟨(y 0).val, (y 0).isLt⟩ : Fin 512)
    (⟨(y 1).val / 128, by have : (y 1).val < 512 := (y 1).isLt; omega⟩ : Fin 4) (⟨(y 1).val % 128, Nat.mod_lt _ (by norm_num)⟩ : Fin 128)
  have key : ∀ (k : Fin 4) (inb : ∀ a, (![0, 128 * k.val] : Fin 2 → ℕ) a + (![512, 128] : Fin 2 → ℕ) a ≤ S512x512.size a) (r : Fin 512) (e : Fin 128),
      H ((Rect.unit (s := S512x512) ![0, 128 * k.val] ![512, 128] inb).emb (ValueIdx.ix2 r e)) = entry x5 x6 G X r k e := fun k inb r e => by
    have h1 : e.val < 128 := e.isLt
    have e0 : (((Rect.unit (s := S512x512) ![0, 128 * k.val] ![512, 128] inb).emb (ValueIdx.ix2 r e)) 0).val = r.val :=
      (Rect.idx_unit_val (s := S512x512) ![0, 128 * k.val] ![512, 128] inb (ValueIdx.ix2 r e) 0).trans (Nat.zero_add r.val)
    have e1 : (((Rect.unit (s := S512x512) ![0, 128 * k.val] ![512, 128] inb).emb (ValueIdx.ix2 r e)) 1).val = 128 * k.val + e.val := Rect.idx_unit_val (s := S512x512) ![0, 128 * k.val] ![512, 128] inb (ValueIdx.ix2 r e) 1
    have a0 : (⟨(((Rect.unit (s := S512x512) ![0, 128 * k.val] ![512, 128] inb).emb (ValueIdx.ix2 r e)) 0).val, Fin.isLt _⟩ : Fin 512) = r := Fin.ext e0
    have a1 : ∀ h, (⟨(((Rect.unit (s := S512x512) ![0, 128 * k.val] ![512, 128] inb).emb (ValueIdx.ix2 r e)) 1).val / 128, h⟩ : Fin 4) = k := fun h => Fin.ext (by
      show _ / 128 = k.val; rw [e1]; omega)
    have a2 : ∀ h, (⟨(((Rect.unit (s := S512x512) ![0, 128 * k.val] ![512, 128] inb).emb (ValueIdx.ix2 r e)) 1).val % 128, h⟩ : Fin 128) = e := fun h => Fin.ext (by
      show _ % 128 = e.val; rw [e1]; omega)
    show entry x5 x6 G X _ _ _ = _
    rw [a0, a1, a2]
  have hld : ∀ (x : Vec Ideal S512x512 .bf16) (k : Fin 4) (inb : ∀ a, (![0, 128 * k.val] : Fin 2 → ℕ) a + (![512, 128] : Fin 2 → ℕ) a ≤ S512x512.size a) (r : Fin 512) (e : Fin 128),
      View.ld x (Rect.unit (s := S512x512) ![0, 128 * k.val] ![512, 128] inb) (ValueIdx.ix2 r e) = x (ValueIdx.ix2 r (⟨128 * k.val + e.val, by omega⟩ : Fin 512)) := fun x k inb r e => by
    refine View.ld_unit_apply_of x _ _ _ _ _ fun a => ?_
    match a with
    | ⟨0, _⟩ => exact (Nat.zero_add _).symm
    | ⟨1, _⟩ => rfl
  refine (View.canon_apply_of_pieces H _ ?_ _ ?_).trans ?_
  · intro p hp x
    simp only [List.mem_cons, List.not_mem_nil, or_false] at hp
    rcases hp with rfl | rfl | rfl | rfl
    · obtain ⟨r, e, rfl⟩ : ∃ (r : Fin 512) (e : Fin 128), x = ValueIdx.ix2 r e := ⟨x 0, x 1, by funext a; match a with | ⟨0, _⟩ => rfl | ⟨1, _⟩ => rfl⟩
      refine Eq.trans ?_ (key (3 : Fin 4) inb_S512x512_S512x128_0_384 r e).symm
      refine (pay21_apply _ _ _ r e _).trans ?_
      have h5 : View.ld x5 (Rect.unit (s := S512x512) ![0, 384] ![512, 128] inb_S512x512_S512x128_0_384) (ValueIdx.ix2 r e) = _ := hld x5 (3 : Fin 4) inb_S512x512_S512x128_0_384 r e
      have h6 : View.ld x6 (Rect.unit (s := S512x512) ![0, 384] ![512, 128] inb_S512x512_S512x128_0_384) (ValueIdx.ix2 r e) = _ := hld x6 (3 : Fin 4) inb_S512x512_S512x128_0_384 r e
      rw [h5, h6]
      rfl
    · obtain ⟨r, e, rfl⟩ : ∃ (r : Fin 512) (e : Fin 128), x = ValueIdx.ix2 r e := ⟨x 0, x 1, by funext a; match a with | ⟨0, _⟩ => rfl | ⟨1, _⟩ => rfl⟩
      refine Eq.trans ?_ (key (2 : Fin 4) inb_S512x512_S512x128_0_256 r e).symm
      refine (pay20_apply _ _ _ r e _).trans ?_
      have h5 : View.ld x5 (Rect.unit (s := S512x512) ![0, 256] ![512, 128] inb_S512x512_S512x128_0_256) (ValueIdx.ix2 r e) = _ := hld x5 (2 : Fin 4) inb_S512x512_S512x128_0_256 r e
      have h6 : View.ld x6 (Rect.unit (s := S512x512) ![0, 256] ![512, 128] inb_S512x512_S512x128_0_256) (ValueIdx.ix2 r e) = _ := hld x6 (2 : Fin 4) inb_S512x512_S512x128_0_256 r e
      rw [h5, h6]
      rfl
    · obtain ⟨r, e, rfl⟩ : ∃ (r : Fin 512) (e : Fin 128), x = ValueIdx.ix2 r e := ⟨x 0, x 1, by funext a; match a with | ⟨0, _⟩ => rfl | ⟨1, _⟩ => rfl⟩
      refine Eq.trans ?_ (key (1 : Fin 4) inb_S512x512_S512x128_0_128 r e).symm
      refine (pay19_apply _ _ _ r e _).trans ?_
      have h5 : View.ld x5 (Rect.unit (s := S512x512) ![0, 128] ![512, 128] inb_S512x512_S512x128_0_128) (ValueIdx.ix2 r e) = _ := hld x5 (1 : Fin 4) inb_S512x512_S512x128_0_128 r e
      have h6 : View.ld x6 (Rect.unit (s := S512x512) ![0, 128] ![512, 128] inb_S512x512_S512x128_0_128) (ValueIdx.ix2 r e) = _ := hld x6 (1 : Fin 4) inb_S512x512_S512x128_0_128 r e
      rw [h5, h6]
      rfl
    · obtain ⟨r, e, rfl⟩ : ∃ (r : Fin 512) (e : Fin 128), x = ValueIdx.ix2 r e := ⟨x 0, x 1, by funext a; match a with | ⟨0, _⟩ => rfl | ⟨1, _⟩ => rfl⟩
      refine Eq.trans ?_ (key (0 : Fin 4) inb_S512x512_S512x128_0_0 r e).symm
      refine (pay15_apply _ _ _ r e _ _ _ _ _ _).trans ?_
      have h5 : View.ld x5 (Rect.unit (s := S512x512) ![0, 0] ![512, 128] inb_S512x512_S512x128_0_0) (ValueIdx.ix2 r e) = _ := hld x5 (0 : Fin 4) inb_S512x512_S512x128_0_0 r e
      have h6 : View.ld x6 (Rect.unit (s := S512x512) ![0, 0] ![512, 128] inb_S512x512_S512x128_0_0) (ValueIdx.ix2 r e) = _ := hld x6 (0 : Fin 4) inb_S512x512_S512x128_0_0 r e
      rw [h5, h6]
      rw [← hX]; rfl
  · refine View.cover_of_tiledL _ (![512, 128] : Fin 2 → ℕ) ?_ _
    sl_kernel_rfl
  · rfl

/-! ## The blocks read -/

variable (m : (ℓ : Loc nD τ sig) → Buf (Elt Ideal) ℓ) (ρ : Dev nD → PrngReg)

theorem at0 : ∀ t : Fin cfg0.N, win0_0.index t = ![t.val % 32, t.val / 32] := (by decide +kernel : ∀ t : Fin grid0.N, _)
theorem at1 : ∀ t : Fin cfg0.N, win0_1.index t = ![t.val % 32 - 1, 16 + t.val / 32] := (by decide +kernel : ∀ t : Fin grid0.N, _)
theorem at2 : ∀ t : Fin cfg0.N, win0_2.index t = ![t.val % 32, 16 + t.val / 32] := (by decide +kernel : ∀ t : Fin grid0.N, _)
theorem at3 : ∀ t : Fin cfg0.N, win0_3.index t = ![t.val % 32 - 1, 18 + t.val / 32] := (by decide +kernel : ∀ t : Fin grid0.N, _)
theorem at4 : ∀ t : Fin cfg0.N, win0_4.index t = ![t.val % 32, 18 + t.val / 32] := (by decide +kernel : ∀ t : Fin grid0.N, _)
theorem at5 : ∀ t : Fin cfg0.N, win0_5.index t = ![t.val % 32, t.val / 32] := (by decide +kernel : ∀ t : Fin grid0.N, _)
theorem at6 : ∀ t : Fin cfg0.N, win0_6.index t = ![t.val % 32, t.val / 32] := (by decide +kernel : ∀ t : Fin grid0.N, _)
theorem at7 : ∀ t : Fin cfg0.N, win0_7.index t = ![t.val % 32, t.val / 32] := (by decide +kernel : ∀ t : Fin grid0.N, _)
theorem at8 : ∀ t : Fin cfg0.N, win0_8.index t = ![t.val % 32, t.val / 32] := (by decide +kernel : ∀ t : Fin grid0.N, _)
theorem tile : ∀ t : Fin cfg0.N, (grid0.coords t 1).val = t.val % 32 := (by decide +kernel : ∀ t : Fin grid0.N, _)

theorem lt64 (t : Fin cfg0.N) : t.val < 64 := t.isLt

/-- Row `r` of point `t`'s row tile. -/
def row (t : Fin cfg0.N) (r : Fin 512) : Fin 16384 := ⟨512 * (t.val % 32) + r.val, by
  have h2 := r.isLt
  omega⟩
/-- Row `r` of the tile before it, or of the first tile. -/
def prev (t : Fin cfg0.N) (r : Fin 512) : Fin 16384 := ⟨512 * (t.val % 32 - 1) + r.val, by
  have h2 := r.isLt
  omega⟩
/-- Column `j` of point `t`'s group of heads. -/
def col (t : Fin cfg0.N) (j : Fin 512) : Fin 1024 := ⟨512 * (t.val / 32) + j.val, by
  have h1 := lt64 t
  have h2 := j.isLt
  omega⟩

theorem blk0 (c : Dev nD) (t : Fin cfg0.N) (r : Fin 512) (k : Fin 512) :
    (iblk m c 0 t (ValueIdx.ix2 r k) : EReal) = m ((c : Thread nD τ).loc main_arg0) (ValueIdx.ix2 (row t r) (⟨512 * (t.val / 32) + k.val, by have := lt64 t; omega⟩ : Fin 2560)) := by
  have h64 := lt64 t
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) (⟨512 * (t.val / 32) + k.val, by have := lt64 t; omega⟩ : Fin 2560) := by
    funext a; apply Fin.ext
    match a with
    | ⟨0, _⟩ => blk_simp [at0]; show t.val % 32 * 512 + r.val = 512 * (t.val % 32) + r.val; omega
    | ⟨1, _⟩ => blk_simp [at0]; show t.val / 32 * 512 + k.val = 512 * (t.val / 32) + k.val; omega
  rw [h, e, V_main_arg0]

theorem blk1 (c : Dev nD) (t : Fin cfg0.N) (r : Fin 512) (k : Fin 128) :
    (iblk m c 1 t (ValueIdx.ix2 r k) : EReal) = m ((c : Thread nD τ).loc main_arg0) (ValueIdx.ix2 (prev t r) (⟨2048 + 128 * (t.val / 32) + k.val, by have := lt64 t; omega⟩ : Fin 2560)) := by
  have h64 := lt64 t
  have h : iblk m c 1 t (ValueIdx.ix2 r k) = V m c main_arg0 (((cfg0.win 1).blk t).view.emb (ValueIdx.ix2 r k)) := rfl
  have e : ((cfg0.win 1).blk t).view.emb (ValueIdx.ix2 r k) = ValueIdx.ix2 (prev t r) (⟨2048 + 128 * (t.val / 32) + k.val, by have := lt64 t; omega⟩ : Fin 2560) := by
    funext a; apply Fin.ext
    match a with
    | ⟨0, _⟩ => blk_simp [at1]; show (t.val % 32 - 1) * 512 + r.val = 512 * ((t.val % 32 - 1)) + r.val; omega
    | ⟨1, _⟩ => blk_simp [at1]; show (16 + t.val / 32) * 128 + k.val = 2048 + 128 * (t.val / 32) + k.val; omega
  rw [h, e, V_main_arg0]

theorem blk2 (c : Dev nD) (t : Fin cfg0.N) (r : Fin 512) (k : Fin 128) :
    (iblk m c 2 t (ValueIdx.ix2 r k) : EReal) = m ((c : Thread nD τ).loc main_arg0) (ValueIdx.ix2 (row t r) (⟨2048 + 128 * (t.val / 32) + k.val, by have := lt64 t; omega⟩ : Fin 2560)) := by
  have h64 := lt64 t
  have h : iblk m c 2 t (ValueIdx.ix2 r k) = V m c main_arg0 (((cfg0.win 2).blk t).view.emb (ValueIdx.ix2 r k)) := rfl
  have e : ((cfg0.win 2).blk t).view.emb (ValueIdx.ix2 r k) = ValueIdx.ix2 (row t r) (⟨2048 + 128 * (t.val / 32) + k.val, by have := lt64 t; omega⟩ : Fin 2560) := by
    funext a; apply Fin.ext
    match a with
    | ⟨0, _⟩ => blk_simp [at2]; show t.val % 32 * 512 + r.val = 512 * (t.val % 32) + r.val; omega
    | ⟨1, _⟩ => blk_simp [at2]; show (16 + t.val / 32) * 128 + k.val = 2048 + 128 * (t.val / 32) + k.val; omega
  rw [h, e, V_main_arg0]

theorem blk3 (c : Dev nD) (t : Fin cfg0.N) (r : Fin 512) (k : Fin 128) :
    (iblk m c 3 t (ValueIdx.ix2 r k) : EReal) = m ((c : Thread nD τ).loc main_arg0) (ValueIdx.ix2 (prev t r) (⟨2304 + 128 * (t.val / 32) + k.val, by have := lt64 t; omega⟩ : Fin 2560)) := by
  have h64 := lt64 t
  have h : iblk m c 3 t (ValueIdx.ix2 r k) = V m c main_arg0 (((cfg0.win 3).blk t).view.emb (ValueIdx.ix2 r k)) := rfl
  have e : ((cfg0.win 3).blk t).view.emb (ValueIdx.ix2 r k) = ValueIdx.ix2 (prev t r) (⟨2304 + 128 * (t.val / 32) + k.val, by have := lt64 t; omega⟩ : Fin 2560) := by
    funext a; apply Fin.ext
    match a with
    | ⟨0, _⟩ => blk_simp [at3]; show (t.val % 32 - 1) * 512 + r.val = 512 * ((t.val % 32 - 1)) + r.val; omega
    | ⟨1, _⟩ => blk_simp [at3]; show (18 + t.val / 32) * 128 + k.val = 2304 + 128 * (t.val / 32) + k.val; omega
  rw [h, e, V_main_arg0]

theorem blk4 (c : Dev nD) (t : Fin cfg0.N) (r : Fin 512) (k : Fin 128) :
    (iblk m c 4 t (ValueIdx.ix2 r k) : EReal) = m ((c : Thread nD τ).loc main_arg0) (ValueIdx.ix2 (row t r) (⟨2304 + 128 * (t.val / 32) + k.val, by have := lt64 t; omega⟩ : Fin 2560)) := by
  have h64 := lt64 t
  have h : iblk m c 4 t (ValueIdx.ix2 r k) = V m c main_arg0 (((cfg0.win 4).blk t).view.emb (ValueIdx.ix2 r k)) := rfl
  have e : ((cfg0.win 4).blk t).view.emb (ValueIdx.ix2 r k) = ValueIdx.ix2 (row t r) (⟨2304 + 128 * (t.val / 32) + k.val, by have := lt64 t; omega⟩ : Fin 2560) := by
    funext a; apply Fin.ext
    match a with
    | ⟨0, _⟩ => blk_simp [at4]; show t.val % 32 * 512 + r.val = 512 * (t.val % 32) + r.val; omega
    | ⟨1, _⟩ => blk_simp [at4]; show (18 + t.val / 32) * 128 + k.val = 2304 + 128 * (t.val / 32) + k.val; omega
  rw [h, e, V_main_arg0]

theorem blk5 (c : Dev nD) (t : Fin cfg0.N) (r : Fin 512) (k : Fin 512) :
    (iblk m c 5 t (ValueIdx.ix2 r k) : EReal) = m ((c : Thread nD τ).loc main_arg1) (ValueIdx.ix2 (row t r) (col t k)) := by
  have h64 := lt64 t
  have h : iblk m c 5 t (ValueIdx.ix2 r k) = V m c main_arg1 (((cfg0.win 5).blk t).view.emb (ValueIdx.ix2 r k)) := rfl
  have e : ((cfg0.win 5).blk t).view.emb (ValueIdx.ix2 r k) = ValueIdx.ix2 (row t r) (col t k) := by
    funext a; apply Fin.ext
    match a with
    | ⟨0, _⟩ => blk_simp [at5]; show t.val % 32 * 512 + r.val = 512 * (t.val % 32) + r.val; omega
    | ⟨1, _⟩ => blk_simp [at5]; show t.val / 32 * 512 + k.val = 512 * (t.val / 32) + k.val; omega
  rw [h, e, V_main_arg1]

theorem blk6 (c : Dev nD) (t : Fin cfg0.N) (r : Fin 512) (k : Fin 512) :
    (iblk m c 6 t (ValueIdx.ix2 r k) : EReal) = m ((c : Thread nD τ).loc main_arg2) (ValueIdx.ix2 (row t r) (col t k)) := by
  have h64 := lt64 t
  have h : iblk m c 6 t (ValueIdx.ix2 r k) = V m c main_arg2 (((cfg0.win 6).blk t).view.emb (ValueIdx.ix2 r k)) := rfl
  have e : ((cfg0.win 6).blk t).view.emb (ValueIdx.ix2 r k) = ValueIdx.ix2 (row t r) (col t k) := by
    funext a; apply Fin.ext
    match a with
    | ⟨0, _⟩ => blk_simp [at6]; show t.val % 32 * 512 + r.val = 512 * (t.val % 32) + r.val; omega
    | ⟨1, _⟩ => blk_simp [at6]; show t.val / 32 * 512 + k.val = 512 * (t.val / 32) + k.val; omega
  rw [h, e, V_main_arg2]

theorem blk7 (c : Dev nD) (t : Fin cfg0.N) (r : Fin 512) (k : Fin 128) :
    (iblk m c 7 t (ValueIdx.ix2 r k) : EReal) = m ((c : Thread nD τ).loc main_arg3) (ValueIdx.ix2 (row t r) (⟨128 * (t.val / 32) + k.val, by have := lt64 t; omega⟩ : Fin 256)) := by
  have h64 := lt64 t
  have h : iblk m c 7 t (ValueIdx.ix2 r k) = V m c main_arg3 (((cfg0.win 7).blk t).view.emb (ValueIdx.ix2 r k)) := rfl
  have e : ((cfg0.win 7).blk t).view.emb (ValueIdx.ix2 r k) = ValueIdx.ix2 (row t r) (⟨128 * (t.val / 32) + k.val, by have := lt64 t; omega⟩ : Fin 256) := by
    funext a; apply Fin.ext
    match a with
    | ⟨0, _⟩ => blk_simp [at7]; show t.val % 32 * 512 + r.val = 512 * (t.val % 32) + r.val; omega
    | ⟨1, _⟩ => blk_simp [at7]; show t.val / 32 * 128 + k.val = 128 * (t.val / 32) + k.val; omega
  rw [h, e, V_main_arg3]

/-- The result array, from the launched arguments. -/
def result (c : Dev nD) : S16384x1024.Idx → EReal := fun i =>
  out (m ((c : Thread nD τ).loc main_arg0)) (m ((c : Thread nD τ).loc main_arg1)) (m ((c : Thread nD τ).loc main_arg2)) (m ((c : Thread nD τ).loc main_arg3)) (i 0) (i 1)

theorem combine_congr {a a' b b' c c' d d' e e' f f' : EReal} (h1 : a = a') (h2 : b = b') (h3 : c = c') (h4 : d = d') (h5 : e = e') (h6 : f = f') :
    combine a b c d e f = combine a' b' c' d' e' f' := by rw [h1, h2, h3, h4, h5, h6]

/-- What the body leaves in the output's block. -/
theorem block (c : Dev nD) (hz : RealArr (m ((c : Thread nD τ).loc main_arg0)))
    (t : Fin cfg0.N) (r : Fin 512) (j : Fin 512) :
    (outsAt0 (F := Ideal) m c t (ValueIdx.ix2 r j) : EReal) = result m c (ValueIdx.ix2 (row t r) (col t j)) := by
  have h64 := lt64 t
  have hj := j.isLt
  have hr := r.isLt
  simp only [outsAt0]
  frame_out
  refine (stores_apply (iblk m c 5 t) (iblk m c 6 t) (iblk m c 7 t) (BitVec.ofNat 32 (grid0.coords t 1).val) _ (iblk m c 1 t) (iblk m c 2 t) (iblk m c 3 t) (iblk m c 4 t) r j).trans ?_
  unfold entry
  rw [tile t, blk5, blk6, blk7, blk7, blk7]
  rw [window_apply (realOf (m ((c : Thread nD τ).loc main_arg0))) (i := t.val % 32) (g := t.val / 32) (by omega) _ (iblk m c 1 t) (iblk m c 2 t) (iblk m c 3 t) (iblk m c 4 t)
    (fun R d => ((scratch_apply (iblk m c 0 t) R d).trans (congrArg (fun p : EReal => p * (qscale : EReal)) ((blk0 m c t _ _).trans
      (realOf_eq hz (512 * (t.val % 32) + R.val % 512) (128 * (4 * (t.val / 32) + R.val / 512) + d.val) _ rfl
        (by show 512 * (t.val / 32) + (128 * (R.val / 512) + d.val) = 128 * (4 * (t.val / 32) + R.val / 512) + d.val; omega))))).trans (EReal.coe_mul _ _).symm)
    (fun k d => (blk1 m c t k d).trans (realOf_eq hz _ _ _ rfl rfl))
    (fun k d => (blk2 m c t k d).trans (realOf_eq hz _ _ _ rfl rfl))
    (fun k d => (blk3 m c t k d).trans (realOf_eq hz _ _ _ rfl rfl))
    (fun k d => (blk4 m c t k d).trans (realOf_eq hz _ _ _ rfl rfl))]
  have hq : (col t j).val / 128 = 4 * (t.val / 32) + j.val / 128 := by
    show (512 * (t.val / 32) + j.val) / 128 = _; omega
  have hh : 4 * (t.val / 32) + (512 * (j.val / 128) + r.val) / 512 = (col t j).val / 128 := by rw [hq]; omega
  have hp : 512 * (t.val % 32) + (512 * (j.val / 128) + r.val) % 512 = (row t r).val := by
    show _ = 512 * (t.val % 32) + r.val; omega
  have he : j.val % 128 = (col t j).val % 128 := by
    show _ = (512 * (t.val / 32) + j.val) % 128; omega
  have hc : ∀ h, (⟨128 * (j.val / 128) + j.val % 128, h⟩ : Fin 512) = j := fun h => Fin.ext (by show 128 * (j.val / 128) + j.val % 128 = j.val; omega)
  have hg : ∀ (k n : ℕ) (h : 128 * (t.val / 32) + n < 256), k < 3 → n = 3 * (j.val / 128) + k →
      (⟨128 * (t.val / 32) + n, h⟩ : Fin 256) = gcol ((col t j).val / 128) k := fun k n h hk hn => Fin.ext (by
    show 128 * (t.val / 32) + n = (128 * ((col t j).val / 128 / 4) + 3 * ((col t j).val / 128 % 4) + k) % 256
    have hlt : 128 * (t.val / 32) + n < 256 := h
    have hj : j.val / 128 < 4 := by omega
    rw [hq, hn]
    clear hq
    generalize t.val / 32 = T at *
    generalize j.val / 128 = J at *
    rw [show (4 * T + J) / 4 = T by omega, show (4 * T + J) % 4 = J by omega]
    omega)
  refine combine_congr (congrArg _ (congrArg _ (hg 0 _ _ (by norm_num) rfl))) (congrArg _ (congrArg (fun z => ValueIdx.ix2 (row t r) (col t z)) (hc _)))
    (congrArg _ (congrArg _ (hg 1 _ _ (by norm_num) rfl))) (congrArg _ (congrArg (fun z => ValueIdx.ix2 (row t r) (col t z)) (hc _)))
    (congrArg _ (congrArg _ (hg 2 _ _ (by norm_num) rfl))) ?_
  dsimp only
  rw [hh, hp, he]

/-- The result array after the run. -/
theorem final (c : Dev nD) (hz : RealArr (m ((c : Thread nD τ).loc main_arg0))) :
    (dats m 0 c).arrAt 8 cfg0.N = result m c := by
  refine (dats m 0 c).arrAt_eq_of_covers 8 _ (by decide +kernel) fun t hf y => ?_
  rw [after0_8]
  obtain ⟨r, j, rfl⟩ : ∃ (r : Fin 512) (j : Fin 512), y = ValueIdx.ix2 r j :=
    ⟨y 0, y 1, by funext a; match a with | ⟨0, _⟩ => rfl | ⟨1, _⟩ => rfl⟩
  have e : ((cfg0.win 8).blk t).view.emb (ValueIdx.ix2 r j) = ValueIdx.ix2 (row t r) (col t j) := by
    funext a; apply Fin.ext
    match a with
    | ⟨0, _⟩ => blk_simp [at8]; show t.val % 32 * 512 + r.val = 512 * (t.val % 32) + r.val; omega
    | ⟨1, _⟩ => blk_simp [at8]; show t.val / 32 * 512 + j.val = 512 * (t.val / 32) + j.val; omega
  rw [e]
  exact block m c hz t r j

end Cert.Layer.Win

end
-- ==== Proof.WinRef.lean ====
module

public import proofs.«01_k».proof.Defs
public import proofs.«01_k».proof.Proof.WinValue
public import proofs.«01_k».proof.Proof.Finite
public import proofs.«01_k».proof.Proof.RefScores
public import proofs.«01_k».proof.Proof.Gen.WinRefIdeal.Read
public import proofs.«01_k».proof.Proof.Gen.Pre_finite_win

/-! The sliding-window reference's result is `out` of its arguments.

The reference takes the products of query and key rows, divides them by the root of 128, puts −∞ at
the keys not seen, subtracts the row's largest score, and divides the exponentials by their sum. The
largest score cancels: what is left is `weight` over the row's sum of weights. The values' sum is then
`avg`, and the gates are the kernel's. -/

@[expose] public section

set_option maxRecDepth 16384

noncomputable section

namespace Cert.Layer.Win

open Idealize.ShloMosaic Idealize.ShloMosaic.TcCoe Cert.WinRefIdeal Cert.WinRefIdeal.Read
open Cert.Flash (qscale coe_sum sle_iff ofBits_128 ofBits_ninf)

variable {x0 : S16384x2560.Idx → EReal} {Z : ℕ → ℕ → ℝ}

/-- The array `x0` holds the real numbers `Z`. -/
def Holds (x0 : S16384x2560.Idx → EReal) (Z : ℕ → ℕ → ℝ) : Prop :=
  ∀ (p c : ℕ) (i : S16384x2560.Idx), (i 0).val = p → (i 1).val = c → x0 i = (Z p c : EReal)

theorem ref_query (hx : Holds x0 Z) (i : S2x4x16384x128.Idx) :
    (val_main_v3 (F := Ideal) x0 i : EReal) = (Z (i 2).val (128 * (4 * (i 0).val + (i 1).val) + (i 3).val) : EReal) := by
  have h0 : (i 0).val < 2 := (i 0).isLt
  have h1 : (i 1).val < 4 := (i 1).isLt
  have h3 : (i 3).val < 128 := (i 3).isLt
  rw [val_main_v3_apply, val_main_v2_apply, val_main_v1_apply, val_main_v0_apply]
  refine hx _ _ _ ?_ ?_
  · show ((((i 2).val * 2 + (i 0).val) * 4 + (i 1).val) * 128 + (i 3).val) / 1024 = _; omega
  · show ((((i 2).val * 2 + (i 0).val) * 4 + (i 1).val) * 128 + (i 3).val) % 1024 = _; omega

theorem ref_key (hx : Holds x0 Z) (i : S2x16384x128.Idx) :
    (val_main_v6 (F := Ideal) x0 i : EReal) = (Z (i 1).val (2048 + 128 * (i 0).val + (i 2).val) : EReal) := by
  have h0 : (i 0).val < 2 := (i 0).isLt
  have h2 : (i 2).val < 128 := (i 2).isLt
  rw [val_main_v6_apply, val_main_v5_apply, val_main_v4_apply, val_main_v0_apply]
  refine hx _ _ _ ?_ ?_
  · show (((i 1).val * 2 + (i 0).val) * 128 + (i 2).val) / 256 = _; omega
  · show 2048 + (((i 1).val * 2 + (i 0).val) * 128 + (i 2).val) % 256 = _; omega

theorem ref_value (hx : Holds x0 Z) (i : S2x16384x128.Idx) :
    (val_main_v9 (F := Ideal) x0 i : EReal) = (Z (i 1).val (2304 + 128 * (i 0).val + (i 2).val) : EReal) := by
  have h0 : (i 0).val < 2 := (i 0).isLt
  have h2 : (i 2).val < 128 := (i 2).isLt
  rw [val_main_v9_apply, val_main_v8_apply, val_main_v7_apply, val_main_v0_apply]
  refine hx _ _ _ ?_ ?_
  · show (((i 1).val * 2 + (i 0).val) * 128 + (i 2).val) / 256 = _; omega
  · show 2304 + (((i 1).val * 2 + (i 0).val) * 128 + (i 2).val) % 256 = _; omega

/-! ## The scores -/

/-- The divisor of the scores. -/
theorem ref_root (i : S2x4x16384x16384.Idx) : (val_main_v22 (F := Ideal) i : EReal) = (Real.sqrt 128 : EReal) := by
  rw [val_main_v22_apply, val_main_v21_apply, val_main_cst_1_apply]
  show Ideal.sqrt (Ideal.ofBits .f32 0x43000000#32) = _
  rw [ofBits_128]
  show (if (128 : ℝ) < 0 then (⊥ : EReal) else (Real.sqrt 128 : EReal)) = _
  rw [if_neg (by norm_num)]

/-- The scaled scores. -/
def scaled (Z : ℕ → ℕ → ℝ) (h p k : ℕ) : ℝ := qk Z h p k * (Real.sqrt 128)⁻¹

/-- The head of an index of the scores: four to a group. -/
abbrev hd (g h : ℕ) : ℕ := 4 * g + h

theorem ref_score (hx : Holds x0 Z) (i : S2x4x16384x16384.Idx) :
    (val_main_v23 (F := Ideal) x0 i : EReal) = (scaled Z (hd (i 0).val (i 1).val) (i 2).val (i 3).val : EReal) := by
  have hr : Real.sqrt 128 ≠ 0 := by positivity
  have h1 : (i 1).val < 4 := (i 1).isLt
  have hg : (4 * (i 0).val + (i 1).val) / 4 = (i 0).val := by omega
  have e : (val_main_v20 (F := Ideal) x0 i : EReal) = (qk Z (hd (i 0).val (i 1).val) (i 2).val (i 3).val : EReal) := by
    rw [val_main_v20_apply]
    unfold qk
    rw [hg, coe_sum]
    refine Finset.sum_congr rfl fun d _ => ?_
    rw [EReal.coe_mul]
    exact congrArg₂ (fun a b : EReal => a * b) (ref_query hx _) (ref_key hx _)
  rw [val_main_v23_apply]
  show Ideal.div (val_main_v20 (F := Ideal) x0 i) (val_main_v22 (F := Ideal) i) = _
  rw [e, ref_root]
  refine (Ideal.div_coe hr _).trans ?_
  unfold scaled
  rw [← EReal.coe_mul, one_div]

/-- A key is after the word 512 before the query when the query is less than 512 after it. -/
theorem sgt_iff {k p : ℕ} (hk : k < 16384) (hp : p < 16384) :
    IntOp.cmpi .sgt (BitVec.ofNat 32 k) (IntOp.subi (BitVec.ofNat 32 p) 512#32) = if p < k + 512 then 1#1 else 0#1 := by
  have e : (BitVec.ofNat 32 p - 512#32).slt (BitVec.ofNat 32 k) = decide (p < k + 512) := by
    have e1 : (BitVec.ofNat 32 k).toInt = (k : ℤ) := by
      rw [BitVec.toInt_eq_toNat_of_lt (by simp; omega)]; simp; omega
    have e2 : (BitVec.ofNat 32 p).toInt = (p : ℤ) := by
      rw [BitVec.toInt_eq_toNat_of_lt (by simp; omega)]; simp; omega
    have e3 : (512#32).toInt = 512 := by decide
    rw [BitVec.slt_eq_decide, BitVec.toInt_sub, e1, e2, e3, Int.bmod_eq_of_le (by omega) (by omega)]
    exact decide_eq_decide.2 (by omega)
  show BitVec.ofBool ((BitVec.ofNat 32 p - 512#32).slt (BitVec.ofNat 32 k)) = _
  rw [e]
  by_cases h : p < k + 512 <;> simp [h]

/-- The keys a query sees. -/
abbrev Seen (p k : ℕ) : Prop := k ≤ p ∧ p < k + 512

theorem ref_mask (j : S16384x16384.Idx) : val_main_v36 (F := Ideal) j = if Seen (j 0).val (j 1).val then 1#1 else 0#1 := by
  have e1 : val_main_v28 (F := Ideal) j = if (j 1).val ≤ (j 0).val then 1#1 else 0#1 := by
    rw [val_main_v28_apply, val_main_v26_apply, val_main_v27_apply, val_main_v24_apply, val_main_v25_apply,
      val_main_v19_apply, val_main_v19_apply]
    exact sle_iff (j 1).isLt (j 0).isLt
  have e2 : val_main_v35 (F := Ideal) j = if (j 0).val < (j 1).val + 512 then 1#1 else 0#1 := by
    rw [val_main_v35_apply, val_main_v33_apply, val_main_v34_apply, val_main_v29_apply, val_main_v32_apply,
      val_main_v30_apply, val_main_v31_apply, val_main_c_apply, val_main_v19_apply, val_main_v19_apply]
    exact sgt_iff (j 1).isLt (j 0).isLt
  rw [val_main_v36_apply, e1, e2]
  by_cases h1 : (j 1).val ≤ (j 0).val
  · by_cases h2 : (j 0).val < (j 1).val + 512
    · rw [if_pos h1, if_pos h2, if_pos ⟨h1, h2⟩]; rfl
    · rw [if_pos h1, if_neg h2, if_neg fun h => h2 h.2]; rfl
  · by_cases h2 : (j 0).val < (j 1).val + 512
    · rw [if_neg h1, if_pos h2, if_neg fun h => h1 h.1]; rfl
    · rw [if_neg h1, if_neg h2, if_neg fun h => h1 h.1]; rfl

/-- The scores with −∞ at the keys not seen. -/
theorem ref_masked (hx : Holds x0 Z) (i : S2x4x16384x16384.Idx) :
    (val_main_v37 (F := Ideal) x0 i : EReal)
      = if Seen (i 2).val (i 3).val then (scaled Z (hd (i 0).val (i 1).val) (i 2).val (i 3).val : EReal) else ⊥ := by
  have em : val_main_call0_v1 (F := Ideal) i = if Seen (i 2).val (i 3).val then 1#1 else 0#1 := by
    rw [val_main_call0_v1_apply, ref_mask]
  have eb : (val_main_call0_v2 (F := Ideal) i : EReal) = ⊥ := by
    rw [val_main_call0_v2_apply, val_main_call0_v0_apply, val_main_cst_2_apply]; exact ofBits_ninf
  rw [val_main_v37_apply, em]
  by_cases h : Seen (i 2).val (i 3).val
  · rw [if_pos h, if_pos h]; exact ref_score hx i
  · rw [if_neg h, if_neg h]; exact eb

theorem seen_self (p : ℕ) : Seen p p := ⟨le_refl p, by omega⟩

/-- The row's largest score is a real number: the query's own key is seen. -/
theorem ref_largest (hx : Holds x0 Z) (j : S2x4x16384.Idx) : ∃ M : ℝ, (val_main_v40 (F := Ideal) x0 j : EReal) = (M : EReal) := by
  have e : (val_main_v38 (F := Ideal) x0 j : EReal)
      = (Finset.univ.filter fun i => Cert.WinRefIdeal.Gen.reducesTo_S2x4x16384x16384_S2x4x16384_d3.drop i = j).sup fun i => (val_main_v37 (F := Ideal) x0 i : EReal) := by
    unfold val_main_v38
    refine (Host.reduce_eq_fold (FloatOps.maximumf (F := Ideal) (φ := .f32)) _ _ _ _ j).trans ?_
    unfold Finset.sup
    rw [show val_main_cst_3 (F := Ideal) (Shape.Idx.first Cert.WinRefIdeal.Gen.h_S_) = (⊥ : EReal) from ofBits_ninf]
    rfl
  have hb : (val_main_v38 (F := Ideal) x0 j : EReal) ≠ ⊥ := by
    rw [e]
    refine ne_of_gt (lt_of_lt_of_le ?_ (Finset.le_sup (b := (ValueIdx.ix4 ⟨(j 0).val, (j 0).isLt⟩ ⟨(j 1).val, (j 1).isLt⟩ ⟨(j 2).val, (j 2).isLt⟩ ⟨(j 2).val, (j 2).isLt⟩ : S2x4x16384x16384.Idx)) ?_))
    · rw [ref_masked hx, if_pos (seen_self (j 2).val)]; exact EReal.bot_lt_coe _
    · rw [Finset.mem_filter]
      refine ⟨Finset.mem_univ _, funext fun a => Fin.ext ?_⟩
      match a with | ⟨0, _⟩ => rfl | ⟨1, _⟩ => rfl | ⟨2, _⟩ => rfl
  have ht : (val_main_v38 (F := Ideal) x0 j : EReal) ≠ ⊤ := by
    rw [e]
    refine ne_of_lt ((Finset.sup_lt_iff bot_lt_top).2 fun i _ => ?_)
    rw [ref_masked hx]
    split
    · exact EReal.coe_lt_top _
    · exact bot_lt_top
  refine ⟨(val_main_v38 (F := Ideal) x0 j : EReal).toReal, ?_⟩
  rw [EReal.coe_toReal ht hb, val_main_v40_apply, val_main_v39_apply, val_main_cst_4_apply]
  show max (Ideal.ofBits .f32 0xFF800000#32) _ = _
  rw [ofBits_ninf]; exact max_eq_right bot_le

/-! ## The softmax -/

theorem exp_scaled (Z : ℕ → ℕ → ℝ) (h p k : ℕ) (M : ℝ) :
    Real.exp (scaled Z h p k - M) = Real.rpow 2 (qk Z h p k * qscale) * Real.exp (-M) := by
  have hl : Real.log 2 ≠ 0 := (Real.log_pos (by norm_num)).ne'
  have e : Real.rpow 2 (qk Z h p k * qscale) = Real.exp (Real.log 2 * (qk Z h p k * qscale)) :=
    Real.rpow_def_of_pos (by norm_num) _
  rw [e, ← Real.exp_add]
  congr 1
  unfold scaled qscale
  field_simp
  ring

/-- The exponentials of the scores less the row's largest. -/
theorem ref_exp (hx : Holds x0 Z) (i : S2x4x16384x16384.Idx) (M : ℝ)
    (hM : (val_main_v42 (F := Ideal) x0 i : EReal) = (M : EReal)) :
    (val_main_v44 (F := Ideal) x0 i : EReal)
      = (weight Z (hd (i 0).val (i 1).val) (i 2).val (i 3).val * Real.exp (-M) : ℝ) := by
  rw [val_main_v44_apply, val_main_v43_apply]
  show Ideal.exp ((val_main_v37 (F := Ideal) x0 i : EReal) - (val_main_v42 (F := Ideal) x0 i : EReal)) = _
  rw [hM, ref_masked hx]
  unfold weight wgt
  by_cases h : Seen (i 2).val (i 3).val
  · rw [if_pos h, if_pos h, ← EReal.coe_sub, Ideal.exp_coe, exp_scaled]
  · rw [if_neg h, if_neg h, zero_mul]
    rw [show (⊥ : EReal) - (M : EReal) = ⊥ by rw [sub_eq_add_neg]; exact EReal.bot_add _]
    rfl

/-- The sum of a row's weights. -/
def total (Z : ℕ → ℕ → ℝ) (h p : ℕ) : ℝ := ∑ k ∈ Finset.range 16384, weight Z h p k

theorem total_pos (Z : ℕ → ℕ → ℝ) (h p : ℕ) (hp : p < 16384) : 0 < total Z h p := by
  refine Finset.sum_pos' (fun k _ => wgt_nonneg _ _) ⟨p, by simpa using hp, ?_⟩
  unfold weight wgt; rw [if_pos (seen_self p)]
  exact Real.rpow_pos_of_pos (by norm_num) _

/-- The softmax: a key's weight over the row's sum of weights. -/
theorem ref_softmax (hx : Holds x0 Z) (i : S2x4x16384x16384.Idx) :
    (val_main_v52 (F := Ideal) x0 i : EReal)
      = (weight Z (hd (i 0).val (i 1).val) (i 2).val (i 3).val / total Z (hd (i 0).val (i 1).val) (i 2).val : ℝ) := by
  obtain ⟨M, hM⟩ := ref_largest hx (idx_main_v41 (idx_main_v42 i))
  have e42 : ∀ i' : S2x4x16384x16384.Idx, idx_main_v41 (idx_main_v42 i') = idx_main_v41 (idx_main_v42 i) →
      (val_main_v42 (F := Ideal) x0 i' : EReal) = (M : EReal) := fun i' h => by
    rw [val_main_v42_apply, val_main_v41_apply, h]; exact hM
  have es : (val_main_v47 (F := Ideal) x0 i : EReal) = (total Z (hd (i 0).val (i 1).val) (i 2).val * Real.exp (-M) : ℝ) := by
    rw [val_main_v47_apply, val_main_v46_apply, val_main_v45_apply, val_main_cst_5_apply]
    show Ideal.ofBits .f32 0x00000000#32 + _ = _
    rw [Ideal.ofBits_zero_f32, zero_add]
    unfold total
    rw [← Fin.sum_univ_eq_sum_range (fun k => weight Z (hd (i 0).val (i 1).val) (i 2).val k) 16384, Finset.sum_mul, coe_sum]
    refine Finset.sum_congr rfl fun k _ => ?_
    exact ref_exp hx _ M (e42 _ rfl)
  have hT : total Z (hd (i 0).val (i 1).val) (i 2).val * Real.exp (-M) ≠ 0 :=
    (mul_pos (total_pos Z _ _ (i 2).isLt) (Real.exp_pos _)).ne'
  have em : (val_main_v51 (F := Ideal) i : EReal) = if Seen (i 2).val (i 3).val then 1 else 0 := by
    rw [val_main_v51_apply, val_main_v50_apply, val_main_v49_apply, ref_mask]
    show (FloatOps.uitofp (F := Ideal) .f32 (if Seen (i 2).val (i 3).val then 1#1 else 0#1) : EReal) = _
    by_cases h : Seen (i 2).val (i 3).val
    · rw [if_pos h, if_pos h]; simp [FloatOps.uitofp]
    · rw [if_neg h, if_neg h]; simp [FloatOps.uitofp]
  rw [val_main_v52_apply, val_main_v48_apply]
  show Ideal.div (val_main_v44 (F := Ideal) x0 i) (val_main_v47 (F := Ideal) x0 i) * (val_main_v51 (F := Ideal) i : EReal) = _
  rw [ref_exp hx i M (e42 i rfl), es, em]
  refine (congrArg (fun a : EReal => a * _) (Ideal.div_coe hT _)).trans ?_
  rw [← EReal.coe_mul, mul_one_div, mul_div_mul_right _ _ (Real.exp_pos _).ne']
  by_cases h : Seen (i 2).val (i 3).val
  · rw [if_pos h, mul_one]
  · rw [if_neg h, mul_zero]
    unfold weight wgt; rw [if_neg h, zero_div]; rfl

/-- The attention's row. -/
theorem ref_row (hx : Holds x0 Z) (i : S16384x2x4x128.Idx) :
    (val_main_v54 (F := Ideal) x0 i : EReal) = (avg Z (hd (i 1).val (i 2).val) (i 0).val (i 3).val : EReal) := by
  have h2 : (i 2).val < 4 := (i 2).isLt
  have hg : (4 * (i 1).val + (i 2).val) / 4 = (i 1).val := by omega
  rw [val_main_v54_apply, val_main_v53_apply]
  have e : ∀ k : Fin 16384, (val_main_v52 (F := Ideal) x0 (lidx_main_v53 (idx_main_v54 i) k) : EReal)
        * (val_main_v9 (F := Ideal) x0 (ridx_main_v53 (idx_main_v54 i) k) : EReal)
      = ((weight Z (hd (i 1).val (i 2).val) (i 0).val k.val * Z k.val (2304 + 128 * (i 1).val + (i 3).val))
          / total Z (hd (i 1).val (i 2).val) (i 0).val : ℝ) := by
    intro k
    rw [ref_softmax hx, ref_value hx, ← EReal.coe_mul]
    refine congrArg _ ?_
    show weight Z (hd (i 1).val (i 2).val) (i 0).val k.val / total Z (hd (i 1).val (i 2).val) (i 0).val
      * Z k.val (2304 + 128 * (i 1).val + (i 3).val) = _
    ring
  refine (Finset.sum_congr rfl fun k _ => e k).trans ?_
  rw [← coe_sum]
  refine congrArg _ ?_
  rw [← Finset.sum_div]
  rw [Fin.sum_univ_eq_sum_range (fun k => weight Z (hd (i 1).val (i 2).val) (i 0).val k * Z k (2304 + 128 * (i 1).val + (i 3).val)) 16384]
  unfold avg
  rw [hg]
  rfl

/-! ## The gates and the result -/

theorem gate_places {A B C D : ℕ} (hB : B < 2) (hC : C < 4) (hD : D < 3) :
    (((A * 2 + B) * 4 + C) * 3 + D) / 24 = A ∧ (((A * 2 + B) * 4 + C) * 3 + D) / 12 % 2 = B ∧ (((A * 2 + B) * 4 + C) * 3 + D) % 12 = 3 * C + D := by
  refine ⟨by omega, ?_, by omega⟩
  rw [show (((A * 2 + B) * 4 + C) * 3 + D) / 12 = A * 2 + B by omega]
  omega

/-- A gate, at its column. -/
theorem ref_gate (x3 : S16384x256.Idx → EReal) (i : S16384x2x4x3.Idx) (p : Fin 16384) (q : Fin 256) (h0 : (i 0).val = p.val)
    (h1 : 128 * (i 1).val + 3 * (i 2).val + (i 3).val = q.val) :
    (val_main_v18 (F := Ideal) x3 i : EReal) = gate (x3 (ValueIdx.ix2 p q)) := by
  have l1 : (i 1).val < 2 := (i 1).isLt
  have l2 : (i 2).val < 4 := (i 2).isLt
  have l3 : (i 3).val < 3 := (i 3).isLt
  obtain ⟨a0, a1, a2⟩ := gate_places (A := (i 0).val) l1 l2 l3
  have ei : idx_main_v10 (idx_main_v11 (idx_main_v18 i)) = ValueIdx.ix2 p q := by
    funext a; apply Fin.ext
    match a with
    | ⟨0, _⟩ =>
      show (((((((i 0).val * 2 + (i 1).val) * 4 + (i 2).val) * 3 + (i 3).val) / 24) * 2
        + ((((i 0).val * 2 + (i 1).val) * 4 + (i 2).val) * 3 + (i 3).val) / 12 % 2) * 128
        + ((((i 0).val * 2 + (i 1).val) * 4 + (i 2).val) * 3 + (i 3).val) % 12) / 256 = p.val
      rw [a0, a1, a2]; omega
    | ⟨1, _⟩ =>
      show (((((((i 0).val * 2 + (i 1).val) * 4 + (i 2).val) * 3 + (i 3).val) / 24) * 2
        + ((((i 0).val * 2 + (i 1).val) * 4 + (i 2).val) * 3 + (i 3).val) / 12 % 2) * 128
        + ((((i 0).val * 2 + (i 1).val) * 4 + (i 2).val) * 3 + (i 3).val) % 12) % 256 = q.val
      rw [a0, a1, a2]; omega
  rw [val_main_v18_apply, val_main_v17_apply, val_main_v16_apply, val_main_cst_0_apply, val_main_v15_apply, val_main_v14_apply,
    val_main_cst_apply, val_main_v13_apply, val_main_v12_apply, val_main_v11_apply, val_main_v10_apply, ei]
  rfl

/-- The reference's result array. -/
theorem ref_out {x0 : S16384x2560.Idx → EReal} (hz : RealArr x0) (x1 x2 : S16384x1024.Idx → EReal) (x3 : S16384x256.Idx → EReal)
    (i : S16384x1024.Idx) :
    (val_main_v71 (F := Ideal) x0 x1 x2 x3 i : EReal) = out x0 x1 x2 x3 (i 0) (i 1) := by
  have hx : Holds x0 (realOf x0) := fun p c i h0 h1 => realOf_eq hz p c i h0 h1
  have hi0 : (i 0).val < 16384 := (i 0).isLt
  have hi1 : (i 1).val < 1024 := (i 1).isLt
  have a0 : ((i 0).val * 1024 + (i 1).val) / 1024 = (i 0).val := by omega
  have a1 : ((i 0).val * 1024 + (i 1).val) / 512 % 2 = (i 1).val / 128 / 4 := by omega
  have a2 : ((i 0).val * 1024 + (i 1).val) / 128 % 4 = (i 1).val / 128 % 4 := by omega
  have a3 : ((i 0).val * 1024 + (i 1).val) % 128 = (i 1).val % 128 := by omega
  have ec : ∀ (j : S16384x2x4x128.Idx), (j 0).val = (i 0).val → (j 1).val = (i 1).val / 128 / 4 → (j 2).val = (i 1).val / 128 % 4 →
      (j 3).val = (i 1).val % 128 → idx_main_v56 j = ValueIdx.ix2 (i 0) (i 1) := fun j h0 h1 h2 h3 => by
    funext a; apply Fin.ext
    match a with
    | ⟨0, _⟩ =>
      show ((((j 0).val * 2 + (j 1).val) * 4 + (j 2).val) * 128 + (j 3).val) / 1024 = (i 0).val
      rw [h0, h1, h2, h3]; omega
    | ⟨1, _⟩ =>
      show ((((j 0).val * 2 + (j 1).val) * 4 + (j 2).val) * 128 + (j 3).val) % 1024 = (i 1).val
      rw [h0, h1, h2, h3]; omega
  have eg : ∀ (k : ℕ) (j : S16384x2x4x3.Idx), (j 0).val = (i 0).val → (j 1).val = (i 1).val / 128 / 4 → (j 2).val = (i 1).val / 128 % 4 →
      (j 3).val = k → (val_main_v18 (F := Ideal) x3 j : EReal) = gate (x3 (ValueIdx.ix2 (i 0) (gcol ((i 1).val / 128) k))) := fun k j h0 h1 h2 h3 => by
    have l3 : (j 3).val < 3 := (j 3).isLt
    refine ref_gate x3 j _ _ h0 ?_
    show _ = (128 * ((i 1).val / 128 / 4) + 3 * ((i 1).val / 128 % 4) + k) % 256
    rw [h1, h2, h3]; omega
  have ew : (val_main_v54 (F := Ideal) x0 (idx_main_v70 i) : EReal)
      = (avg (realOf x0) ((i 1).val / 128) (i 0).val ((i 1).val % 128) : EReal) := by
    rw [ref_row hx]
    show ((avg (realOf x0) (4 * (((i 0).val * 1024 + (i 1).val) / 512 % 2) + ((i 0).val * 1024 + (i 1).val) / 128 % 4)
      (((i 0).val * 1024 + (i 1).val) / 1024) (((i 0).val * 1024 + (i 1).val) % 128) : ℝ) : EReal) = _
    rw [a0, a1, a2, a3, show 4 * ((i 1).val / 128 / 4) + (i 1).val / 128 % 4 = (i 1).val / 128 by omega]
  rw [val_main_v71_apply, val_main_v70_apply, val_main_v69_apply, val_main_v65_apply, val_main_v61_apply, val_main_v64_apply, val_main_v68_apply,
    val_main_v60_apply, val_main_v59_apply, val_main_v63_apply, val_main_v62_apply, val_main_v67_apply, val_main_v66_apply,
    val_main_v56_apply, val_main_v55_apply, val_main_v58_apply, val_main_v57_apply, ew, eg 0 _ a0 a1 a2 rfl, eg 1 _ a0 a1 a2 rfl,
    eg 2 _ a0 a1 a2 rfl, ec _ a0 a1 a2 a3,
    show idx_main_v58 (idx_main_v70 i) = ValueIdx.ix2 (i 0) (i 1) from ec _ a0 a1 a2 a3]
  rfl

/-- What the precondition says: the activations are real numbers. -/
theorem pre_real {z : S16384x2560.Idx → EReal} {oc os : S16384x1024.Idx → EReal} {g : S16384x256.Idx → EReal}
    (h : Cert.Pre_finite_win.fn (F := Ideal) z oc os g = fun _ => 1#1) : RealArr z := by
  haveI : Subsingleton Cert.Pre_finite_win.S_.Idx := ⟨fun a b => funext fun k => k.elim0⟩
  have h0 := congrFun h (fun a => a.elim0)
  exact fun i => Cert.Flash.real_of_abs (Host.reduce_andi_all _ _ _ _ _ h0 i)

end Cert.Layer.Win

end
-- ==== Proof.GateValue.lean ====
module

public import proofs.«01_k».proof.Proof.Gen.GateIdeal.Value
public import proofs.«01_k».proof.Proof.Gen.GateRefIdeal.Run
public import proofs.«01_k».proof.Proof.Gen.GateRefIdeal.Read
public import Idealize.ShloMosaic.Lib.KernelVsHost
public import Idealize.ShloMosaic.Lib.MatmulPlain
public import Idealize.ShloMosaic.Lib.ValueLayout
public import Idealize.ShloMosaic.Lib.Pipeline.ValueKit
public import Idealize.ShloMosaic.Lib.Pipeline.ReadBack

/-! The projection of the tokens to the NSA heads' gates: kernel and reference both end with `gate` of the
arguments.

The 24 gate columns, twelve per group, lie on 256 lanes: twelve, then 116 zeros, twice. The grid runs over 16
tiles of 1024 rows. The first casts the weight block into scratch; the other fifteen read what it left. -/

@[expose] public section

set_option maxRecDepth 16384

noncomputable section

namespace Cert.Layer.Gate

open Idealize.ShloMosaic Idealize.ShloMosaic.TcCoe Idealize.SL.Sem
open Cert.GateIdeal Cert.GateIdeal.Gen

/-- The weight at lane `q`: the gate's column on the first twelve lanes of each 128, zero on the others. -/
def wgt (x1 : S1x2048x6680.Idx → EReal) (k : Fin 2048) (q : Fin 256) : EReal :=
  if h : q.val % 128 < 12 then x1 (ValueIdx.ix3 (0 : Fin 1) k (⟨6656 + 12 * (q.val / 128) + q.val % 128, by omega⟩ : Fin 6680)) else 0

/-- Row `p` of the tokens against lane `q` of the gates' weights. -/
def gate (x0 : S16384x2048.Idx → EReal) (x1 : S1x2048x6680.Idx → EReal) (p : Fin 16384) (q : Fin 256) : EReal :=
  ∑ k : Fin 2048, x0 (ValueIdx.ix2 p k) * wgt x1 k q

/-! ## The body's payloads -/

theorem pay1_apply (v : Vec Ideal S1x2048x256 .f32) (k : Fin 2048) (j : Fin 256) :
    (k0_pay1 (F := Ideal) v (ValueIdx.ix2 k j) : EReal) = v (ValueIdx.ix3 (0 : Fin 1) k j) := by
  unfold k0_pay1
  rw [shapeCast_self]
  exact ValueIdx.shapeCast_1ab_ab_apply _ _ _ _
theorem pay2_apply (x : Vec Ideal S1024x2048 .bf16) (w : Vec Ideal S2048x256 .bf16) (r : Fin 1024) (j : Fin 256) :
    (k0_pay2 (F := Ideal) x w (ValueIdx.ix2 r j) : EReal) = ∑ k : Fin 2048, (x (ValueIdx.ix2 r k) : EReal) * w (ValueIdx.ix2 k j) := by
  unfold k0_pay2
  refine (Ideal.matmul_plain_apply (φ₁ := .bf16) (φ₂ := .bf16) none x w _ r j).trans ?_
  show Ideal.ofBits .f32 0x00000000#32 + _ = _
  rw [Ideal.ofBits_zero_f32, zero_add]

variable (m : (ℓ : Loc nD τ sig) → Buf (Elt Ideal) ℓ) (ρ : Dev nD → PrngReg)

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![t.val, 0] := (by decide +kernel : ∀ t : Fin grid0.N, _)

/-- The weights the host code prepares. -/
theorem vecW (c : Dev nD) (k : Fin 2048) (q : Fin 256) :
    (V m c main_v5 (ValueIdx.ix3 (0 : Fin 1) k q) : EReal) = wgt (m ((c : Thread nD τ).loc main_arg1)) k q := by
  have h : V m c main_v5 = broadcastInDim S1x2048x256 ![1, 2] bcast_S2048x256_S1x2048x256_1_2
      (shapeCast S2048x256 (pad S2048x2x128 ![0, 0, 0] ![0, 0, 116] ![0, 0, 0]
        (shapeCast S2048x2x12 (shapeCast S2048x24 (extractStridedSlice S1x2048x24 ![0, 0, 6656] (m ((c : Thread nD τ).loc main_arg1) : FVec Ideal S1x2048x6680 .f32) slices_S1x2048x6680_S1x2048x24_0_0_6656) shapeCasts_S1x2048x24_S2048x24) shapeCasts_S2048x24_S2048x2x12)
        (sitofp .f32 (constantI S_ 32 0#32) : FVec Ideal S_ .f32) pads_S2048x2x12_S2048x2x128_000_000_01160 h_S_) shapeCasts_S2048x2x128_S2048x256) := by
    unfold V; simp only [hostOps0, hostOps0_1, hostOps0_2, List.flatten_cons, List.flatten_nil, List.append_nil, List.cons_append, List.nil_append]
    after_results <;> rfl
  have hk := k.isLt
  have hq := q.isLt
  rw [h]
  refine (broadcastInDim_apply _ _ _ _ (ValueIdx.ix2 k q) fun a => match a with | ⟨0, _⟩ => rfl | ⟨1, _⟩ => rfl).trans ?_
  refine (shapeCast_apply _ _ _ (ValueIdx.ix3 k (⟨q.val / 128, by omega⟩ : Fin 2) (⟨q.val % 128, by omega⟩ : Fin 128)) (by
    rewrite [Shape.rowMajor_val_three, Shape.rowMajor_val_two]
    show (k.val * 2 + q.val / 128) * 128 + q.val % 128 = k.val * 256 + q.val; omega)).trans ?_
  unfold wgt
  by_cases h12 : q.val % 128 < 12
  · rw [dif_pos h12]
    refine (pad_apply_of_inside _ _ _ _ _ _ _ _ (ValueIdx.ix3 k (⟨q.val / 128, by omega⟩ : Fin 2) (⟨q.val % 128, h12⟩ : Fin 12)) fun a => match a with
      | ⟨0, _⟩ => by show k.val = 0 + k.val * 1; omega
      | ⟨1, _⟩ => by show q.val / 128 = 0 + q.val / 128 * 1; omega
      | ⟨2, _⟩ => by show q.val % 128 = 0 + q.val % 128 * 1; omega).trans ?_
    refine (shapeCast_apply _ _ _ (ValueIdx.ix2 k (⟨12 * (q.val / 128) + q.val % 128, by omega⟩ : Fin 24)) (by
      rewrite [Shape.rowMajor_val_three, Shape.rowMajor_val_two]
      show k.val * 24 + (12 * (q.val / 128) + q.val % 128) = (k.val * 2 + q.val / 128) * 12 + q.val % 128; omega)).trans ?_
    refine (shapeCast_apply _ _ _ (ValueIdx.ix3 (0 : Fin 1) k (⟨12 * (q.val / 128) + q.val % 128, by omega⟩ : Fin 24)) (by
      rewrite [Shape.rowMajor_val_three, Shape.rowMajor_val_two]
      show (0 * 2048 + k.val) * 24 + (12 * (q.val / 128) + q.val % 128) = k.val * 24 + (12 * (q.val / 128) + q.val % 128); omega)).trans ?_
    exact extractStridedSlice_apply _ _ _ _ _ fun a => match a with
      | ⟨0, _⟩ => rfl
      | ⟨1, _⟩ => by show k.val = 0 + k.val; omega
      | ⟨2, _⟩ => by show 6656 + 12 * (q.val / 128) + q.val % 128 = 6656 + (12 * (q.val / 128) + q.val % 128); omega
  · rw [dif_neg h12]
    refine (pad_apply_of_not_inside _ _ _ _ _ _ _ _ (2 : Fin 3) fun hin => h12 ?_).trans ?_
    · have := hin.2.2
      have e : (q.val % 128 - 0) / 1 < 12 := this
      omega
    · show ((((0#32 : BitVec 32).toInt : ℝ)) : EReal) = 0
      simp

/-- Row `r` of point `t`'s row tile. -/
def row (t : Fin cfg0.N) (r : Fin 1024) : Fin 16384 := ⟨1024 * t.val + r.val, by
  have h1 : t.val < 16 := t.isLt
  have h2 := r.isLt
  omega⟩

theorem blk0 (c : Dev nD) (t : Fin cfg0.N) (r : Fin 1024) (k : Fin 2048) :
    (iblk m c 0 t (ValueIdx.ix2 r k) : EReal) = m ((c : Thread nD τ).loc main_arg0) (ValueIdx.ix2 (row t r) k) := by
  have h : iblk m c 0 t (ValueIdx.ix2 r k) = V m c main_arg0 (((cfg0.win 0).blk t).view.emb (ValueIdx.ix2 r k)) := rfl
  have e : ((cfg0.win 0).blk t).view.emb (ValueIdx.ix2 r k) = ValueIdx.ix2 (row t r) k := by
    funext a; apply Fin.ext
    match a with
    | ⟨0, _⟩ => blk_simp [at0]; show t.val * 1024 + r.val = 1024 * t.val + r.val; omega
    | ⟨1, _⟩ => blk_simp [at0]
  rw [h, e, V_main_arg0]
theorem blk1 (c : Dev nD) (t : Fin cfg0.N) (k : Fin 2048) (j : Fin 256) :
    (iblk m c 1 t (ValueIdx.ix3 (0 : Fin 1) k j) : EReal) = wgt (m ((c : Thread nD τ).loc main_arg1)) k j := by
  have h : iblk m c 1 t (ValueIdx.ix3 (0 : Fin 1) k j) = V m c main_v5 (((cfg0.win 1).blk t).view.emb (ValueIdx.ix3 (0 : Fin 1) k j)) := rfl
  have e : ((cfg0.win 1).blk t).view.emb (ValueIdx.ix3 (0 : Fin 1) k j) = ValueIdx.ix3 (0 : Fin 1) k j := by
    funext a; apply Fin.ext
    match a with
    | ⟨0, _⟩ => blk_simp [at1]
    | ⟨1, _⟩ => blk_simp [at1]
    | ⟨2, _⟩ => blk_simp [at1]
  rw [h, e, vecW]

/-! ## The scratch carried between the row tiles -/

/-- The scratch after point `n`: the weights. -/
theorem scratch (c : Dev nD) : ∀ (n : ℕ) (hn : n < cfg0.N) (k : Fin 2048) (j : Fin 256),
    ((outsAt0 m c n hn).2 (ValueIdx.ix2 k j) : EReal) = wgt (m ((c : Thread nD τ).loc main_arg1)) k j := by
  intro n
  induction n with
  | zero =>
    intro hn k j
    have h0 : (⟨0, hn⟩ : Fin cfg0.N).val % 16 = 0 := rfl
    have := outsAt0_A m c ⟨0, hn⟩ h0
    rw [this]; frame_out
    exact (pay1_apply _ k j).trans (blk1 m c ⟨0, hn⟩ k j)
  | succ n ih =>
    intro hn k j
    by_cases h0 : (⟨n + 1, hn⟩ : Fin cfg0.N).val % 16 = 0
    · have := outsAt0_A m c ⟨n + 1, hn⟩ h0
      rw [this]; frame_out
      exact (pay1_apply _ k j).trans (blk1 m c ⟨n + 1, hn⟩ k j)
    · have hs := outsAt0_B m c ⟨n + 1, hn⟩ h0
      rw [hs]
      exact ih (Nat.lt_of_succ_lt hn) k j

/-- What the body leaves in the output's block. -/
theorem block (c : Dev nD) (t : Fin cfg0.N) (r : Fin 1024) (j : Fin 256) :
    ((outsAt0 m c t.val t.isLt).1 (ValueIdx.ix2 r j) : EReal)
      = gate (m ((c : Thread nD τ).loc main_arg0)) (m ((c : Thread nD τ).loc main_arg1)) (row t r) j := by
  by_cases h0 : t.val % 16 = 0
  · rw [outsAt0_A m c t h0]; frame_out
    refine (pay2_apply _ _ r j).trans ?_
    exact Finset.sum_congr rfl fun k _ => congrArg₂ (fun p q : EReal => p * q) (blk0 m c t r k) ((pay1_apply _ k j).trans (blk1 m c t k j))
  · have ht : t.val - 1 < cfg0.N := lt_of_le_of_lt (Nat.sub_le _ _) t.isLt
    have hs := fun k => scratch m c (t.val - 1) ht k j
    rw [outsAt0_B m c t h0]; frame_out
    simp only [read_unread_whole]
    refine (pay2_apply _ _ r j).trans ?_
    exact Finset.sum_congr rfl fun k _ => congrArg₂ (fun p q : EReal => p * q) (blk0 m c t r k) (hs k)

/-- The result array, from the launched arguments. -/
def result (c : Dev nD) : S16384x256.Idx → EReal := fun i =>
  gate (m ((c : Thread nD τ).loc main_arg0)) (m ((c : Thread nD τ).loc main_arg1)) (i 0) (i 1)

theorem final (c : Dev nD) : (dats m 0 c).arrAt 2 cfg0.N = result m c := by
  refine (dats m 0 c).arrAt_eq_of_covers 2 _ (by decide +kernel) fun t hf y => ?_
  rw [after0_2]
  obtain ⟨r, j, rfl⟩ : ∃ (r : Fin 1024) (j : Fin 256), y = ValueIdx.ix2 r j :=
    ⟨y 0, y 1, by funext a; match a with | ⟨0, _⟩ => rfl | ⟨1, _⟩ => rfl⟩
  have e : ((cfg0.win 2).blk t).view.emb (ValueIdx.ix2 r j) = ValueIdx.ix2 (row t r) j := by
    funext a; apply Fin.ext
    match a with
    | ⟨0, _⟩ => blk_simp [at2]; show t.val * 1024 + r.val = 1024 * t.val + r.val; omega
    | ⟨1, _⟩ => blk_simp [at2]
  rw [e]
  exact block m c t r j

/-! ## The reference -/

section
open Cert.GateRefIdeal.Read

theorem ref_prod (x0 : S16384x2048.Idx → EReal) (x1 : S1x2048x6680.Idx → EReal) (i : Cert.GateRefIdeal.S16384x6680.Idx) :
    (val_main_v2 (F := Ideal) x0 x1 i : EReal) = ∑ k : Fin 2048, x0 (ValueIdx.ix2 (i 0) k) * x1 (ValueIdx.ix3 (0 : Fin 1) k (i 1)) := by
  have h1 : (i 1).val < 6680 := (i 1).isLt
  rw [val_main_v2_apply]
  refine Finset.sum_congr rfl fun k _ => ?_
  rw [val_main_v0_apply, val_main_v1_apply]
  have hk := k.isLt
  refine congrArg₂ (fun p q : EReal => p * q) (congrArg x0 ?_) (congrArg x1 ?_)
  · funext a; match a with | ⟨0, _⟩ => rfl | ⟨1, _⟩ => rfl
  · funext a; apply Fin.ext
    match a with
    | ⟨0, _⟩ => rfl
    | ⟨1, _⟩ => show (k.val * 6680 + (i 1).val) / 6680 % 2048 = k.val; omega
    | ⟨2, _⟩ => show (k.val * 6680 + (i 1).val) % 6680 = (i 1).val; omega

/-- The reference's result array. -/
theorem ref_out (x0 : S16384x2048.Idx → EReal) (x1 : S1x2048x6680.Idx → EReal) (i : S16384x256.Idx) :
    (val_main_v6 (F := Ideal) x0 x1 i : EReal) = gate x0 x1 (i 0) (i 1) := by
  obtain ⟨p, q, rfl⟩ : ∃ (p : Fin 16384) (q : Fin 256), i = ValueIdx.ix2 p q :=
    ⟨i 0, i 1, by funext a; match a with | ⟨0, _⟩ => rfl | ⟨1, _⟩ => rfl⟩
  have hp := p.isLt
  have hq := q.isLt
  rw [val_main_v6_apply]
  have e : idx_main_v6 (ValueIdx.ix2 p q) = ValueIdx.ix3 p (⟨q.val / 128, by omega⟩ : Fin 2) (⟨q.val % 128, by omega⟩ : Fin 128) := by
    funext a; apply Fin.ext
    match a with
    | ⟨0, _⟩ => show (p.val * 256 + q.val) / 256 = p.val; omega
    | ⟨1, _⟩ => show (p.val * 256 + q.val) / 128 % 2 = q.val / 128; omega
    | ⟨2, _⟩ => show (p.val * 256 + q.val) % 128 = q.val % 128; omega
  rw [e]
  show val_main_v5 (F := Ideal) x0 x1 _ = gate x0 x1 p q
  unfold val_main_v5 gate wgt
  by_cases h12 : q.val % 128 < 12
  · simp only [dif_pos h12]
    refine (pad_apply_of_inside _ _ _ _ _ _ _ _ (ValueIdx.ix3 p (⟨q.val / 128, by omega⟩ : Fin 2) (⟨q.val % 128, h12⟩ : Fin 12)) fun a => match a with
      | ⟨0, _⟩ => by show p.val = 0 + p.val * 1; omega
      | ⟨1, _⟩ => by show q.val / 128 = 0 + q.val / 128 * 1; omega
      | ⟨2, _⟩ => by show q.val % 128 = 0 + q.val % 128 * 1; omega).trans ?_
    rw [val_main_v4_apply, val_main_v3_apply]
    refine (ref_prod x0 x1 _).trans (Finset.sum_congr rfl fun k _ => congrArg₂ (fun a b : EReal => a * b) (congrArg x0 ?_) (congrArg x1 ?_))
    · funext a; apply Fin.ext
      match a with
      | ⟨0, _⟩ => show ((p.val * 2 + q.val / 128) * 12 + q.val % 128) / 24 = p.val; omega
      | ⟨1, _⟩ => rfl
    · funext a; apply Fin.ext
      match a with
      | ⟨0, _⟩ => rfl
      | ⟨1, _⟩ => rfl
      | ⟨2, _⟩ => show 6656 + ((p.val * 2 + q.val / 128) * 12 + q.val % 128) % 24 = 6656 + 12 * (q.val / 128) + q.val % 128; omega
  · simp only [dif_neg h12, mul_zero, Finset.sum_const_zero]
    refine (pad_apply_of_not_inside _ _ _ _ _ _ _ _ (2 : Fin 3) fun hin => h12 ?_).trans ?_
    · have := hin.2.2
      have e : (q.val % 128 - 0) / 1 < 12 := this
      omega
    · show ((((0#32 : BitVec 32).toInt : ℝ)) : EReal) = 0
      simp

end

end Cert.Layer.Gate

end
-- ==== Proof.CmpValue.lean ====
module

public import proofs.«01_k».proof.Proof.Gen.CmpIdeal.Value
public import Idealize.ShloMosaic.Lib.KernelVsHost
public import Idealize.ShloMosaic.Lib.MatmulPlain
public import Idealize.ShloMosaic.Lib.ValueLayout
public import Idealize.ShloMosaic.Lib.Pipeline.ValueKit
public import Idealize.ShloMosaic.Lib.Pipeline.ReadBack

/-! The compression of the NSA heads' keys and values: what the kernel computes, from the launched arguments.

A group's tokens are cut into 1024 segments of 16. A block is a segment and the next one, the last segment's next
being the first. The kernel multiplies each segment with the upper and with the lower half of the first layer's
weights, moves the second product up by one segment, and adds the two and the positions' product. -/

@[expose] public section

set_option maxRecDepth 16384

noncomputable section

namespace Cert.Layer.Cmp

open Idealize.ShloMosaic Idealize.ShloMosaic.TcCoe Idealize.SL.Sem
open Cert.CmpIdeal Cert.CmpIdeal.Gen

/-- Entry `k` of segment `n` of group `g`, of the keys (`a = 0`) or the values (`a = 1`). -/
def seg (z : S16384x2560.Idx → EReal) (a g : Fin 2) (n : Fin 1024) (k : Fin 2048) : EReal :=
  z (ValueIdx.ix2 (⟨16 * n.val + k.val / 128, by omega⟩ : Fin 16384) (⟨1024 + 256 * a.val + 128 * g.val + k.val % 128, by omega⟩ : Fin 2560))

/-- The positions' array as one row. -/
def flat (p : S32x128.Idx → EReal) (k : Fin 4096) : EReal :=
  p (ValueIdx.ix2 (⟨k.val / 128, by omega⟩ : Fin 32) (⟨k.val % 128, by omega⟩ : Fin 128))

/-- The next segment, the last one's being the first. -/
def next (n : Fin 1024) : Fin 1024 := ⟨(n.val + 1) % 1024, by omega⟩

/-- A row of the first layer's upper and of its lower half. -/
def upper (k : Fin 2048) : Fin 4096 := ⟨k.val, by omega⟩
def lower (k : Fin 2048) : Fin 4096 := ⟨2048 + k.val, by omega⟩

/-- The first layer's outcome, before its activation. -/
def hidden (z : S16384x2560.Idx → EReal) (p : S32x128.Idx → EReal) (w : S4096x128.Idx → EReal) (a g : Fin 2) (n : Fin 1024) (d : Fin 128) : EReal :=
  (∑ k : Fin 2048, seg z a g n k * w (ValueIdx.ix2 (upper k) d)) + (∑ k : Fin 2048, seg z a g (next n) k * w (ValueIdx.ix2 (lower k) d))
    + ∑ k : Fin 4096, flat p k * w (ValueIdx.ix2 k d)

/-- A number times its logistic. -/
def silu (x : EReal) : EReal := x * Ideal.div (Ideal.ofBits .f32 0x3F800000#32) (Ideal.ofBits .f32 0x3F800000#32 + Ideal.exp (-x))

/-- An entry of the compressed keys or values. -/
def cmp (z : S16384x2560.Idx → EReal) (p : S32x128.Idx → EReal) (w : S4096x128.Idx → EReal) (w' : S128x128.Idx → EReal)
    (a g : Fin 2) (n : Fin 1024) (e : Fin 128) : EReal :=
  ∑ d : Fin 128, silu (hidden z p w a g n d) * w' (ValueIdx.ix2 d e)

/-! ## The body's payloads -/

theorem rows_apply (x : Vec Ideal S1x1x1024x2048 .bf16) (n : Fin 1024) (k : Fin 2048) :
    (shapeCast S1024x2048 x shapeCasts_S1x1x1024x2048_S1024x2048 (ValueIdx.ix2 n k) : EReal) = x (ValueIdx.ix4 (0 : Fin 1) (0 : Fin 1) n k) :=
  shapeCast_apply _ _ _ _ (by
    rewrite [Shape.rowMajor_val_four, Shape.rowMajor_val_two]
    show ((0 * 1 + 0) * 1024 + n.val) * 2048 + k.val = n.val * 2048 + k.val; omega)

theorem half_apply (x : Vec Ideal S1x1x1024x2048 .bf16) (w : Vec Ideal S1x2048x128 .bf16) (n : Fin 1024) (d : Fin 128) :
    (matmul dot_S1024x2048_S2048x128_S1024x128_1_0_0_1_n_n none (shapeCast S1024x2048 x shapeCasts_S1x1x1024x2048_S1024x2048 : FVec Ideal S1024x2048 .bf16)
      (shapeCast S2048x128 w shapeCasts_S1x2048x128_S2048x128 : FVec Ideal S2048x128 .bf16) (constant S1024x128 .f32 0x00000000#32 : FVec Ideal S1024x128 .f32) (ValueIdx.ix2 n d) : EReal)
      = ∑ k : Fin 2048, (x (ValueIdx.ix4 (0 : Fin 1) (0 : Fin 1) n k) : EReal) * w (ValueIdx.ix3 (0 : Fin 1) k d) := by
  refine (Ideal.matmul_plain_apply (φ₁ := .bf16) (φ₂ := .bf16) none _ _ _ n d).trans ?_
  show Ideal.ofBits .f32 0x00000000#32 + _ = _
  rw [Ideal.ofBits_zero_f32, zero_add]
  exact Finset.sum_congr rfl fun k _ => congrArg₂ (fun p q : EReal => p * q) (rows_apply x n k) (ValueIdx.shapeCast_1ab_ab_apply _ _ _ _)

theorem moved_apply (y : FVec Ideal S1024x128 .f32) (n : Fin 1024) (d : Fin 128) :
    (dynamicRotate 0 1023#32 none y rotates_S1024x128_d0 (ValueIdx.ix2 n d) : EReal) = y (ValueIdx.ix2 (next n) d) :=
  dynamicRotate_apply _ _ _ _ _ _ fun b => match b with
    | ⟨0, _⟩ => by show (n.val + 1) % 1024 = (n.val + 1024 - 1023 % 1024) % 1024; omega
    | ⟨1, _⟩ => rfl

theorem places_apply (p : Vec Ideal S1x1x4096 .bf16) (w : Vec Ideal S1x4096x128 .bf16) (n : Fin 1024) (d : Fin 128) :
    (broadcastTo S1024x128 (extractStridedSlice S1x128 ![0, 0]
      (matmul dot_S8x4096_S4096x128_S8x128_1_0_0_1_n_n none
        (broadcastTo S8x4096 (shapeCast S1x4096 (shapeCast S1x4096 p shapeCasts_S1x1x4096_S1x4096) shapeCasts_S1x4096_S1x4096) broadcasts_S1x4096_S8x4096 : FVec Ideal S8x4096 .bf16)
        (shapeCast S4096x128 w shapeCasts_S1x4096x128_S4096x128 : FVec Ideal S4096x128 .bf16) (constant S8x128 .f32 0x00000000#32 : FVec Ideal S8x128 .f32))
      slices_S8x128_o0_0_S1x128) broadcasts_S1x128_S1024x128 (ValueIdx.ix2 n d) : EReal)
      = ∑ k : Fin 4096, (p (ValueIdx.ix3 (0 : Fin 1) (0 : Fin 1) k) : EReal) * w (ValueIdx.ix3 (0 : Fin 1) k d) := by
  refine (broadcastTo_apply _ _ _ (ValueIdx.ix2 (0 : Fin 1) d) fun a => match a with | ⟨0, _⟩ => rfl | ⟨1, _⟩ => rfl).trans ?_
  refine (extractStridedSlice_apply _ _ _ _ (ValueIdx.ix2 (0 : Fin 8) d) fun a => match a with
    | ⟨0, _⟩ => rfl | ⟨1, _⟩ => by show d.val = 0 + d.val; omega).trans ?_
  refine (Ideal.matmul_plain_apply (φ₁ := .bf16) (φ₂ := .bf16) none _ _ _ (0 : Fin 8) d).trans ?_
  show Ideal.ofBits .f32 0x00000000#32 + _ = _
  rw [Ideal.ofBits_zero_f32, zero_add]
  refine Finset.sum_congr rfl fun k _ => congrArg₂ (fun p q : EReal => p * q) ?_ (ValueIdx.shapeCast_1ab_ab_apply _ _ _ _)
  rw [shapeCast_self]
  refine (broadcastTo_apply _ _ _ (ValueIdx.ix2 (0 : Fin 1) k) fun a => match a with | ⟨0, _⟩ => rfl | ⟨1, _⟩ => rfl).trans ?_
  exact ValueIdx.shapeCast_1ab_ab_apply _ _ _ _

theorem pay2_apply (x : Vec Ideal S1x1x1024x2048 .bf16) (wu wl : Vec Ideal S1x2048x128 .bf16) (p : Vec Ideal S1x1x4096 .bf16) (w : Vec Ideal S1x4096x128 .bf16)
    (n : Fin 1024) (d : Fin 128) :
    (k0_pay2 (F := Ideal) x wu wl p w (ValueIdx.ix2 n d) : EReal)
      = silu ((∑ k : Fin 2048, (x (ValueIdx.ix4 (0 : Fin 1) (0 : Fin 1) n k) : EReal) * wu (ValueIdx.ix3 (0 : Fin 1) k d))
          + (∑ k : Fin 2048, (x (ValueIdx.ix4 (0 : Fin 1) (0 : Fin 1) (next n) k) : EReal) * wl (ValueIdx.ix3 (0 : Fin 1) k d))
          + ∑ k : Fin 4096, (p (ValueIdx.ix3 (0 : Fin 1) (0 : Fin 1) k) : EReal) * w (ValueIdx.ix3 (0 : Fin 1) k d)) := by
  have e := moved_apply (matmul dot_S1024x2048_S2048x128_S1024x128_1_0_0_1_n_n none (shapeCast S1024x2048 x shapeCasts_S1x1x1024x2048_S1024x2048 : FVec Ideal S1024x2048 .bf16)
      (shapeCast S2048x128 wl shapeCasts_S1x2048x128_S2048x128 : FVec Ideal S2048x128 .bf16) (constant S1024x128 .f32 0x00000000#32 : FVec Ideal S1024x128 .f32)) n d
  rw [← half_apply x wu n d, ← half_apply x wl (next n) d, ← places_apply p w n d, ← e]
  unfold k0_pay2 silu
  show _ * Ideal.div (Ideal.ofBits .f32 0x3F800000#32) (Ideal.ofBits .f32 0x3F800000#32 + Ideal.exp (Ideal.ofBits .f32 0x00000000#32 - _)) = _
  rw [Ideal.ofBits_zero_f32, sub_eq_add_neg, zero_add]
  rfl

theorem pay1_apply (h : FVec Ideal S1024x128 .bf16) (w : Vec Ideal S1x128x128 .bf16) (n : Fin 1024) (e : Fin 128) :
    (k0_pay1 (F := Ideal) h (k0_pay3 w) (constant S1024x128 .f32 0x00000000#32) (ValueIdx.ix4 (0 : Fin 1) (0 : Fin 1) n e) : EReal)
      = ∑ d : Fin 128, (h (ValueIdx.ix2 n d) : EReal) * w (ValueIdx.ix3 (0 : Fin 1) d e) := by
  unfold k0_pay1 k0_pay3
  refine (shapeCast_apply _ _ _ (ValueIdx.ix2 n e) (by
    rewrite [Shape.rowMajor_val_four, Shape.rowMajor_val_two]
    show n.val * 128 + e.val = ((0 * 1 + 0) * 1024 + n.val) * 128 + e.val; omega)).trans ?_
  refine (Ideal.matmul_plain_apply (φ₁ := .bf16) (φ₂ := .bf16) none _ _ _ n e).trans ?_
  show Ideal.ofBits .f32 0x00000000#32 + _ = _
  rw [Ideal.ofBits_zero_f32, zero_add]
  exact Finset.sum_congr rfl fun k _ => congrArg (fun q : EReal => h (ValueIdx.ix2 n k) * q) (ValueIdx.shapeCast_1ab_ab_apply _ _ _ _)

theorem upper_apply (x : Vec Ideal S1x4096x128 .bf16) (k : Fin 2048) (d : Fin 128) :
    (View.ld x r0_1 (ValueIdx.ix3 (0 : Fin 1) k d) : EReal) = x (ValueIdx.ix3 (0 : Fin 1) (upper k) d) :=
  View.ld_unit_apply_of _ _ _ _ _ _ fun a => match a with
    | ⟨0, _⟩ => rfl
    | ⟨1, _⟩ => by show k.val = 0 + k.val; omega
    | ⟨2, _⟩ => by show d.val = 0 + d.val; omega
theorem lower_apply (x : Vec Ideal S1x4096x128 .bf16) (k : Fin 2048) (d : Fin 128) :
    (View.ld x r0_2 (ValueIdx.ix3 (0 : Fin 1) k d) : EReal) = x (ValueIdx.ix3 (0 : Fin 1) (lower k) d) :=
  View.ld_unit_apply_of _ _ _ _ _ _ fun a => match a with
    | ⟨0, _⟩ => rfl
    | ⟨1, _⟩ => rfl
    | ⟨2, _⟩ => by show d.val = 0 + d.val; omega

/-- What the body leaves in the output's block, from the input blocks. -/
theorem out4_apply (x0 : Vec Ideal S1x1x1024x2048 .bf16) (x1 : Vec Ideal S1x1x4096 .bf16) (x2 : Vec Ideal S1x4096x128 .bf16) (x3 : Vec Ideal S1x128x128 .bf16)
    (n : Fin 1024) (e : Fin 128) :
    (out0_4 x0 x1 x2 x3 (ValueIdx.ix4 (0 : Fin 1) (0 : Fin 1) n e) : EReal)
      = ∑ d : Fin 128, silu ((∑ k : Fin 2048, (x0 (ValueIdx.ix4 (0 : Fin 1) (0 : Fin 1) n k) : EReal) * x2 (ValueIdx.ix3 (0 : Fin 1) (upper k) d))
          + (∑ k : Fin 2048, (x0 (ValueIdx.ix4 (0 : Fin 1) (0 : Fin 1) (next n) k) : EReal) * x2 (ValueIdx.ix3 (0 : Fin 1) (lower k) d))
          + ∑ k : Fin 4096, (x1 (ValueIdx.ix3 (0 : Fin 1) (0 : Fin 1) k) : EReal) * x2 (ValueIdx.ix3 (0 : Fin 1) k d)) * x3 (ValueIdx.ix3 (0 : Fin 1) d e) := by
  have z3 : ∀ a : Fin 3, (![0, 0, 0] : Fin 3 → ℕ) a = 0 := by decide
  have z4 : ∀ a : Fin 4, (![0, 0, 0, 0] : Fin 4 → ℕ) a = 0 := by decide
  have h : out0_4 x0 x1 x2 x3 = k0_pay1 (k0_pay2 x0 (View.ld x2 r0_1) (View.ld x2 r0_2) x1 x2) (k0_pay3 x3) (constant S1024x128 .f32 0x00000000#32) := by
    unfold out0_4
    refine (View.canon_cons_unit_lit _ _ _ z4).trans ?_
    rw [View.ld_unit_lit _ x0 z4, View.ld_unit_lit _ x1 z3, View.ld_unit_lit _ x2 z3, View.ld_unit_lit _ x3 z3]
  rw [h, pay1_apply]
  refine Finset.sum_congr rfl fun d _ => ?_
  rw [pay2_apply]
  exact congrArg (fun p : EReal => silu p * x3 (ValueIdx.ix3 (0 : Fin 1) d e)) (congrArg (fun p : EReal => p + _) (congrArg₂ (fun p q : EReal => p + q)
    (Finset.sum_congr rfl fun k _ => congrArg (fun q : EReal => x0 (ValueIdx.ix4 (0 : Fin 1) (0 : Fin 1) n k) * q) (upper_apply x2 k d))
    (Finset.sum_congr rfl fun k _ => congrArg (fun q : EReal => x0 (ValueIdx.ix4 (0 : Fin 1) (0 : Fin 1) (next n) k) * q) (lower_apply x2 k d))))

/-! ## What the host code prepares -/

variable (m : (ℓ : Loc nD τ sig) → Buf (Elt Ideal) ℓ) (ρ : Dev nD → PrngReg)

/-- The keys' array or the values'. -/
def pick {S : Type} (a : Fin 2) (x y : S) : S := if a = 0 then x else y

theorem join3 {A B : ℕ} (x y : (⟨3, ![1, A, B]⟩ : Shape).Idx → EReal) (h) (a : Fin 2) (k : Fin A) (d : Fin B) :
    concatenate ⟨3, ![2, A, B]⟩ 0 [⟨⟨3, ![1, A, B]⟩, x⟩, ⟨⟨3, ![1, A, B]⟩, y⟩] h (ValueIdx.ix3 a k d) = pick a x y (ValueIdx.ix3 (0 : Fin 1) k d) := by
  unfold pick
  rcases (show a = 0 ∨ a = 1 by omega) with rfl | rfl
  · rw [if_pos rfl]
    refine concatenate_pair_apply_left (t := ⟨3, ![2, A, B]⟩) (s₁ := ⟨3, ![1, A, B]⟩) (s₂ := ⟨3, ![1, A, B]⟩) 0 x y h (ValueIdx.ix3 (0 : Fin 2) k d) rfl (ValueIdx.ix3 (0 : Fin 1) k d) ?_
    intro b
    match b with | ⟨0, _⟩ => rfl | ⟨1, _⟩ => rfl | ⟨2, _⟩ => rfl
  · rw [if_neg (by decide)]
    refine concatenate_pair_apply_right (t := ⟨3, ![2, A, B]⟩) (s₁ := ⟨3, ![1, A, B]⟩) (s₂ := ⟨3, ![1, A, B]⟩) 0 x y h (ValueIdx.ix3 (1 : Fin 2) k d) rfl rfl (ValueIdx.ix3 (0 : Fin 1) k d) ?_ rfl
    intro b hb
    match b, hb with | ⟨0, _⟩, hb => exact absurd (Fin.ext rfl) hb | ⟨1, _⟩, _ => rfl | ⟨2, _⟩, _ => rfl

theorem join4 {A B C : ℕ} (x y : (⟨4, ![1, A, B, C]⟩ : Shape).Idx → EReal) (h) (a : Fin 2) (k : Fin A) (d : Fin B) (e : Fin C) :
    concatenate ⟨4, ![2, A, B, C]⟩ 0 [⟨⟨4, ![1, A, B, C]⟩, x⟩, ⟨⟨4, ![1, A, B, C]⟩, y⟩] h (ValueIdx.ix4 a k d e) = pick a x y (ValueIdx.ix4 (0 : Fin 1) k d e) := by
  unfold pick
  rcases (show a = 0 ∨ a = 1 by omega) with rfl | rfl
  · rw [if_pos rfl]
    refine concatenate_pair_apply_left (t := ⟨4, ![2, A, B, C]⟩) (s₁ := ⟨4, ![1, A, B, C]⟩) (s₂ := ⟨4, ![1, A, B, C]⟩) 0 x y h (ValueIdx.ix4 (0 : Fin 2) k d e) rfl (ValueIdx.ix4 (0 : Fin 1) k d e) ?_
    intro b
    match b with | ⟨0, _⟩ => rfl | ⟨1, _⟩ => rfl | ⟨2, _⟩ => rfl | ⟨3, _⟩ => rfl
  · rw [if_neg (by decide)]
    refine concatenate_pair_apply_right (t := ⟨4, ![2, A, B, C]⟩) (s₁ := ⟨4, ![1, A, B, C]⟩) (s₂ := ⟨4, ![1, A, B, C]⟩) 0 x y h (ValueIdx.ix4 (1 : Fin 2) k d e) rfl rfl (ValueIdx.ix4 (0 : Fin 1) k d e) ?_ rfl
    intro b hb
    match b, hb with | ⟨0, _⟩, hb => exact absurd (Fin.ext rfl) hb | ⟨1, _⟩, _ => rfl | ⟨2, _⟩, _ => rfl | ⟨3, _⟩, _ => rfl

theorem segRow (z : FVec Ideal S16384x2560 .bf16) (o : ℕ) (ho : o + 256 ≤ 2560) (h : S16384x2560.Slices ![0, o] S16384x256) (g : Fin 2) (n : Fin 1024) (k : Fin 2048) :
    (shapeCast S2x1024x2048 (transpose S2x16384x128 [1, 0, 2] (shapeCast S16384x2x128 (extractStridedSlice S16384x256 ![0, o] z h) shapeCasts_S16384x256_S16384x2x128)
      transposes_S16384x2x128_S2x16384x128_1_0_2) shapeCasts_S2x16384x128_S2x1024x2048 (ValueIdx.ix3 g n k) : EReal)
      = z (ValueIdx.ix2 (⟨16 * n.val + k.val / 128, by omega⟩ : Fin 16384) (⟨o + 128 * g.val + k.val % 128, by omega⟩ : Fin 2560)) := by
  have hk := k.isLt
  have hg := g.isLt
  refine (shapeCast_apply _ _ _ (ValueIdx.ix3 g (⟨16 * n.val + k.val / 128, by omega⟩ : Fin 16384) (⟨k.val % 128, by omega⟩ : Fin 128)) (by
    rewrite [Shape.rowMajor_val_three, Shape.rowMajor_val_three]
    show (g.val * 16384 + (16 * n.val + k.val / 128)) * 128 + k.val % 128 = (g.val * 1024 + n.val) * 2048 + k.val; omega)).trans ?_
  refine (transpose_apply _ _ _ _ (ValueIdx.ix3 (⟨16 * n.val + k.val / 128, by omega⟩ : Fin 16384) g (⟨k.val % 128, by omega⟩ : Fin 128)) fun b => match b with
    | ⟨0, _⟩ => rfl | ⟨1, _⟩ => rfl | ⟨2, _⟩ => rfl).trans ?_
  refine (shapeCast_apply _ _ _ (ValueIdx.ix2 (⟨16 * n.val + k.val / 128, by omega⟩ : Fin 16384) (⟨128 * g.val + k.val % 128, by omega⟩ : Fin 256)) (by
    rewrite [Shape.rowMajor_val_three, Shape.rowMajor_val_two]
    show (16 * n.val + k.val / 128) * 256 + (128 * g.val + k.val % 128) = ((16 * n.val + k.val / 128) * 2 + g.val) * 128 + k.val % 128; omega)).trans ?_
  exact extractStridedSlice_apply _ _ _ _ _ fun a => match a with
    | ⟨0, _⟩ => by show 16 * n.val + k.val / 128 = 0 + (16 * n.val + k.val / 128); omega
    | ⟨1, _⟩ => by show o + 128 * g.val + k.val % 128 = o + (128 * g.val + k.val % 128); omega

theorem hostSeg (c : Dev nD) (a g : Fin 2) (n : Fin 1024) (k : Fin 2048) :
    (V m c main_v10 (ValueIdx.ix4 a g n k) : EReal) = seg (m ((c : Thread nD τ).loc main_arg0)) a g n k := by
  have h : V m c main_v10 = concatenate S2x2x1024x2048 0
      [⟨S1x2x1024x2048, broadcastInDim S1x2x1024x2048 ![1, 2, 3] bcast_S2x1024x2048_S1x2x1024x2048_1_2_3
          (shapeCast S2x1024x2048 (transpose S2x16384x128 [1, 0, 2] (shapeCast S16384x2x128 (extractStridedSlice S16384x256 ![0, 1024] (m ((c : Thread nD τ).loc main_arg0) : FVec Ideal S16384x2560 .bf16) slices_S16384x2560_S16384x256_0_1024) shapeCasts_S16384x256_S16384x2x128)
            transposes_S16384x2x128_S2x16384x128_1_0_2) shapeCasts_S2x16384x128_S2x1024x2048)⟩,
        ⟨S1x2x1024x2048, broadcastInDim S1x2x1024x2048 ![1, 2, 3] bcast_S2x1024x2048_S1x2x1024x2048_1_2_3
          (shapeCast S2x1024x2048 (transpose S2x16384x128 [1, 0, 2] (shapeCast S16384x2x128 (extractStridedSlice S16384x256 ![0, 1280] (m ((c : Thread nD τ).loc main_arg0) : FVec Ideal S16384x2560 .bf16) slices_S16384x2560_S16384x256_0_1280) shapeCasts_S16384x256_S16384x2x128)
            transposes_S16384x2x128_S2x16384x128_1_0_2) shapeCasts_S2x16384x128_S2x1024x2048)⟩]
      concatenates_S1x2x1024x2048_S1x2x1024x2048_S2x2x1024x2048_d0 := by
    unfold V hostOps0; after_results <;> rfl
  rw [h]
  refine (join4 _ _ _ a g n k).trans ?_
  unfold seg pick
  rcases (show a = 0 ∨ a = 1 by omega) with rfl | rfl
  · rw [if_pos rfl]
    refine (broadcastInDim_apply _ _ _ _ (ValueIdx.ix3 g n k) fun b => match b with | ⟨0, _⟩ => rfl | ⟨1, _⟩ => rfl | ⟨2, _⟩ => rfl).trans ?_
    exact segRow _ 1024 (by norm_num) _ g n k
  · rw [if_neg (by decide)]
    refine (broadcastInDim_apply _ _ _ _ (ValueIdx.ix3 g n k) fun b => match b with | ⟨0, _⟩ => rfl | ⟨1, _⟩ => rfl | ⟨2, _⟩ => rfl).trans ?_
    exact segRow _ 1280 (by norm_num) _ g n k

theorem spread (x : FVec Ideal S32x128 .f32) (r : Fin 32) (s : Fin 128) :
    (broadcastInDim S1x32x128 ![1, 2] bcast_S32x128_S1x32x128_1_2 x (ValueIdx.ix3 (0 : Fin 1) r s) : EReal) = x (ValueIdx.ix2 r s) :=
  broadcastInDim_apply _ _ _ _ _ fun b => match b with | ⟨0, _⟩ => rfl | ⟨1, _⟩ => rfl

theorem hostPos (c : Dev nD) (a : Fin 2) (k : Fin 4096) :
    (V m c main_v15 (ValueIdx.ix3 a (0 : Fin 1) k) : EReal)
      = flat (pick a (m ((c : Thread nD τ).loc main_arg1)) (m ((c : Thread nD τ).loc main_arg4))) k := by
  have h : V m c main_v15 = (truncf .bf16 (shapeCast S2x1x4096 (concatenate S2x32x128 0
      [⟨S1x32x128, broadcastInDim S1x32x128 ![1, 2] bcast_S32x128_S1x32x128_1_2 (m ((c : Thread nD τ).loc main_arg1) : FVec Ideal S32x128 .f32)⟩,
        ⟨S1x32x128, broadcastInDim S1x32x128 ![1, 2] bcast_S32x128_S1x32x128_1_2 (m ((c : Thread nD τ).loc main_arg4) : FVec Ideal S32x128 .f32)⟩]
      concatenates_S1x32x128_S1x32x128_S2x32x128_d0) shapeCasts_S2x32x128_S2x1x4096 : FVec Ideal S2x1x4096 .f32) bitsLt_bf16_f32 : FVec Ideal S2x1x4096 .bf16) := by
    unfold V hostOps0; after_results <;> rfl
  have hk := k.isLt
  rw [h]
  have e : ∀ x y : FVec Ideal S32x128 .f32, (shapeCast S2x1x4096 (concatenate S2x32x128 0
      [⟨S1x32x128, broadcastInDim S1x32x128 ![1, 2] bcast_S32x128_S1x32x128_1_2 x⟩, ⟨S1x32x128, broadcastInDim S1x32x128 ![1, 2] bcast_S32x128_S1x32x128_1_2 y⟩]
      concatenates_S1x32x128_S1x32x128_S2x32x128_d0) shapeCasts_S2x32x128_S2x1x4096 (ValueIdx.ix3 a (0 : Fin 1) k) : EReal) = flat (pick a x y) k := by
    intro x y
    unfold flat
    generalize hr : (⟨k.val / 128, _⟩ : Fin 32) = r
    generalize hs : (⟨k.val % 128, _⟩ : Fin 128) = s
    refine (shapeCast_apply (s := S2x32x128) (t := S2x1x4096) _ _ _ (ValueIdx.ix3 a r s) (by
      rewrite [Shape.rowMajor_val_three, Shape.rowMajor_val_three]
      have hr' := congrArg Fin.val hr
      have hs' := congrArg Fin.val hs
      simp only at hr' hs'
      show (a.val * 32 + r.val) * 128 + s.val = (a.val * 1 + 0) * 4096 + k.val; omega)).trans ?_
    refine (join3 _ _ concatenates_S1x32x128_S1x32x128_S2x32x128_d0 a r s).trans ?_
    unfold pick
    rcases (show a = 0 ∨ a = 1 by omega) with rfl | rfl
    · rw [if_pos rfl, if_pos rfl]
      exact spread x r s
    · rw [if_neg (by decide), if_neg (by decide)]
      exact spread y r s
  exact e _ _

theorem hostW1 (c : Dev nD) (a : Fin 2) (k : Fin 4096) (d : Fin 128) :
    (V m c main_v19 (ValueIdx.ix3 a k d) : EReal)
      = pick a (m ((c : Thread nD τ).loc main_arg2)) (m ((c : Thread nD τ).loc main_arg5)) (ValueIdx.ix2 k d) := by
  have h : V m c main_v19 = (truncf .bf16 (concatenate S2x4096x128 0
      [⟨S1x4096x128, broadcastInDim S1x4096x128 ![1, 2] bcast_S4096x128_S1x4096x128_1_2 (m ((c : Thread nD τ).loc main_arg2) : FVec Ideal S4096x128 .f32)⟩,
        ⟨S1x4096x128, broadcastInDim S1x4096x128 ![1, 2] bcast_S4096x128_S1x4096x128_1_2 (m ((c : Thread nD τ).loc main_arg5) : FVec Ideal S4096x128 .f32)⟩]
      concatenates_S1x4096x128_S1x4096x128_S2x4096x128_d0 : FVec Ideal S2x4096x128 .f32) bitsLt_bf16_f32 : FVec Ideal S2x4096x128 .bf16) := by
    unfold V hostOps0; after_results <;> rfl
  rw [h]
  refine (join3 _ _ concatenates_S1x4096x128_S1x4096x128_S2x4096x128_d0 a k d).trans ?_
  unfold pick
  rcases (show a = 0 ∨ a = 1 by omega) with rfl | rfl
  · rw [if_pos rfl, if_pos rfl]
    exact broadcastInDim_apply _ _ _ _ _ fun b => match b with | ⟨0, _⟩ => rfl | ⟨1, _⟩ => rfl
  · rw [if_neg (by decide), if_neg (by decide)]
    exact broadcastInDim_apply _ _ _ _ _ fun b => match b with | ⟨0, _⟩ => rfl | ⟨1, _⟩ => rfl

theorem hostW2 (c : Dev nD) (a : Fin 2) (k : Fin 128) (d : Fin 128) :
    (V m c main_v23 (ValueIdx.ix3 a k d) : EReal)
      = pick a (m ((c : Thread nD τ).loc main_arg3)) (m ((c : Thread nD τ).loc main_arg6)) (ValueIdx.ix2 k d) := by
  have h : V m c main_v23 = (truncf .bf16 (concatenate S2x128x128 0
      [⟨S1x128x128, broadcastInDim S1x128x128 ![1, 2] bcast_S128x128_S1x128x128_1_2 (m ((c : Thread nD τ).loc main_arg3) : FVec Ideal S128x128 .f32)⟩,
        ⟨S1x128x128, broadcastInDim S1x128x128 ![1, 2] bcast_S128x128_S1x128x128_1_2 (m ((c : Thread nD τ).loc main_arg6) : FVec Ideal S128x128 .f32)⟩]
      concatenates_S1x128x128_S1x128x128_S2x128x128_d0 : FVec Ideal S2x128x128 .f32) bitsLt_bf16_f32 : FVec Ideal S2x128x128 .bf16) := by
    unfold V hostOps0; after_results <;> rfl
  rw [h]
  refine (join3 _ _ concatenates_S1x128x128_S1x128x128_S2x128x128_d0 a k d).trans ?_
  unfold pick
  rcases (show a = 0 ∨ a = 1 by omega) with rfl | rfl
  · rw [if_pos rfl, if_pos rfl]
    exact broadcastInDim_apply _ _ _ _ _ fun b => match b with | ⟨0, _⟩ => rfl | ⟨1, _⟩ => rfl
  · rw [if_neg (by decide), if_neg (by decide)]
    exact broadcastInDim_apply _ _ _ _ _ fun b => match b with | ⟨0, _⟩ => rfl | ⟨1, _⟩ => rfl

/-! ## The blocks -/

theorem at0 : ∀ t : Fin cfg0.N, win0_0.index t = ![t.val / 2, t.val % 2, 0, 0] := (by decide +kernel : ∀ t : Fin grid0.N, _)
theorem at1 : ∀ t : Fin cfg0.N, win0_1.index t = ![t.val / 2, 0, 0] := (by decide +kernel : ∀ t : Fin grid0.N, _)
theorem at2 : ∀ t : Fin cfg0.N, win0_2.index t = ![t.val / 2, 0, 0] := (by decide +kernel : ∀ t : Fin grid0.N, _)
theorem at3 : ∀ t : Fin cfg0.N, win0_3.index t = ![t.val / 2, 0, 0] := (by decide +kernel : ∀ t : Fin grid0.N, _)
theorem at4 : ∀ t : Fin cfg0.N, win0_4.index t = ![t.val / 2, t.val % 2, 0, 0] := (by decide +kernel : ∀ t : Fin grid0.N, _)

/-- Keys or values, and the group, of a grid point. -/
def kv (t : Fin cfg0.N) : Fin 2 := ⟨t.val / 2, by have h : t.val < 4 := t.isLt; omega⟩
def grp (t : Fin cfg0.N) : Fin 2 := ⟨t.val % 2, by omega⟩

theorem blk0 (c : Dev nD) (t : Fin cfg0.N) (n : Fin 1024) (k : Fin 2048) :
    (iblk m c 0 t (ValueIdx.ix4 (0 : Fin 1) (0 : Fin 1) n k) : EReal) = seg (m ((c : Thread nD τ).loc main_arg0)) (kv t) (grp t) n k := by
  have h : iblk m c 0 t (ValueIdx.ix4 (0 : Fin 1) (0 : Fin 1) n k) = V m c main_v10 (((cfg0.win 0).blk t).view.emb (ValueIdx.ix4 (0 : Fin 1) (0 : Fin 1) n k)) := rfl
  have e : ((cfg0.win 0).blk t).view.emb (ValueIdx.ix4 (0 : Fin 1) (0 : Fin 1) n k) = ValueIdx.ix4 (kv t) (grp t) n k := by
    funext a; apply Fin.ext
    match a with
    | ⟨0, _⟩ => blk_simp [at0]; rfl
    | ⟨1, _⟩ => blk_simp [at0]; rfl
    | ⟨2, _⟩ => blk_simp [at0]
    | ⟨3, _⟩ => blk_simp [at0]
  rw [h, e, hostSeg]
theorem blk1 (c : Dev nD) (t : Fin cfg0.N) (k : Fin 4096) :
    (iblk m c 1 t (ValueIdx.ix3 (0 : Fin 1) (0 : Fin 1) k) : EReal)
      = flat (pick (kv t) (m ((c : Thread nD τ).loc main_arg1)) (m ((c : Thread nD τ).loc main_arg4))) k := by
  have h : iblk m c 1 t (ValueIdx.ix3 (0 : Fin 1) (0 : Fin 1) k) = V m c main_v15 (((cfg0.win 1).blk t).view.emb (ValueIdx.ix3 (0 : Fin 1) (0 : Fin 1) k)) := rfl
  have e : ((cfg0.win 1).blk t).view.emb (ValueIdx.ix3 (0 : Fin 1) (0 : Fin 1) k) = ValueIdx.ix3 (kv t) (0 : Fin 1) k := by
    funext a; apply Fin.ext
    match a with
    | ⟨0, _⟩ => blk_simp [at1]; rfl
    | ⟨1, _⟩ => blk_simp [at1]
    | ⟨2, _⟩ => blk_simp [at1]
  rw [h, e, hostPos]
theorem blk2 (c : Dev nD) (t : Fin cfg0.N) (k : Fin 4096) (d : Fin 128) :
    (iblk m c 2 t (ValueIdx.ix3 (0 : Fin 1) k d) : EReal)
      = pick (kv t) (m ((c : Thread nD τ).loc main_arg2)) (m ((c : Thread nD τ).loc main_arg5)) (ValueIdx.ix2 k d) := by
  have h : iblk m c 2 t (ValueIdx.ix3 (0 : Fin 1) k d) = V m c main_v19 (((cfg0.win 2).blk t).view.emb (ValueIdx.ix3 (0 : Fin 1) k d)) := rfl
  have e : ((cfg0.win 2).blk t).view.emb (ValueIdx.ix3 (0 : Fin 1) k d) = ValueIdx.ix3 (kv t) k d := by
    funext a; apply Fin.ext
    match a with
    | ⟨0, _⟩ => blk_simp [at2]; rfl
    | ⟨1, _⟩ => blk_simp [at2]
    | ⟨2, _⟩ => blk_simp [at2]
  rw [h, e, hostW1]
theorem blk3 (c : Dev nD) (t : Fin cfg0.N) (k : Fin 128) (d : Fin 128) :
    (iblk m c 3 t (ValueIdx.ix3 (0 : Fin 1) k d) : EReal)
      = pick (kv t) (m ((c : Thread nD τ).loc main_arg3)) (m ((c : Thread nD τ).loc main_arg6)) (ValueIdx.ix2 k d) := by
  have h : iblk m c 3 t (ValueIdx.ix3 (0 : Fin 1) k d) = V m c main_v23 (((cfg0.win 3).blk t).view.emb (ValueIdx.ix3 (0 : Fin 1) k d)) := rfl
  have e : ((cfg0.win 3).blk t).view.emb (ValueIdx.ix3 (0 : Fin 1) k d) = ValueIdx.ix3 (kv t) k d := by
    funext a; apply Fin.ext
    match a with
    | ⟨0, _⟩ => blk_simp [at3]; rfl
    | ⟨1, _⟩ => blk_simp [at3]
    | ⟨2, _⟩ => blk_simp [at3]
  rw [h, e, hostW2]

/-- The result array, from the launched arguments. -/
def result (c : Dev nD) : S2x2x1024x128.Idx → EReal := fun i =>
  cmp (m ((c : Thread nD τ).loc main_arg0)) (pick (i 0) (m ((c : Thread nD τ).loc main_arg1)) (m ((c : Thread nD τ).loc main_arg4)))
    (pick (i 0) (m ((c : Thread nD τ).loc main_arg2)) (m ((c : Thread nD τ).loc main_arg5)))
    (pick (i 0) (m ((c : Thread nD τ).loc main_arg3)) (m ((c : Thread nD τ).loc main_arg6))) (i 0) (i 1) (i 2) (i 3)

theorem block (c : Dev nD) (t : Fin cfg0.N) (n : Fin 1024) (e : Fin 128) :
    (out0_4 (iblk m c 0 t) (iblk m c 1 t) (iblk m c 2 t) (iblk m c 3 t) (ValueIdx.ix4 (0 : Fin 1) (0 : Fin 1) n e) : EReal)
      = result m c (ValueIdx.ix4 (kv t) (grp t) n e) := by
  refine (out4_apply _ _ _ _ n e).trans ?_
  refine Finset.sum_congr rfl fun d _ => congrArg₂ (fun p q : EReal => silu p * q) ?_ (blk3 m c t d e)
  refine congrArg₂ (fun p q : EReal => p + q) (congrArg₂ (fun p q : EReal => p + q) (Finset.sum_congr rfl fun k _ => ?_) (Finset.sum_congr rfl fun k _ => ?_)) (Finset.sum_congr rfl fun k _ => ?_)
  · exact congrArg₂ (fun p q : EReal => p * q) (blk0 m c t n k) (blk2 m c t (upper k) d)
  · exact congrArg₂ (fun p q : EReal => p * q) (blk0 m c t (next n) k) (blk2 m c t (lower k) d)
  · exact congrArg₂ (fun p q : EReal => p * q) (blk1 m c t k) (blk2 m c t k d)

theorem split4 (y : S1x1x1024x128.Idx) : ∃ (n : Fin 1024) (e : Fin 128), y = ValueIdx.ix4 (0 : Fin 1) (0 : Fin 1) n e := by
  refine ⟨y 2, y 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl

theorem place4 (t : Fin cfg0.N) (n : Fin 1024) (e : Fin 128) :
    ((cfg0.win 4).blk t).view.emb (ValueIdx.ix4 (0 : Fin 1) (0 : Fin 1) n e) = ValueIdx.ix4 (kv t) (grp t) n e := by
  funext a; apply Fin.ext
  match a with
  | ⟨0, _⟩ => blk_simp [at4]; rfl
  | ⟨1, _⟩ => blk_simp [at4]; rfl
  | ⟨2, _⟩ => blk_simp [at4]
  | ⟨3, _⟩ => blk_simp [at4]

theorem final (c : Dev nD) : (dats m 0 c).arrAt 4 cfg0.N = result m c := by
  refine (dats m 0 c).arrAt_eq_of_covers 4 _ (by decide +kernel) fun t hf y => ?_
  obtain ⟨n, e, rfl⟩ := split4 y
  blk_simp
  rw [after0_4]
  exact (block m c t n e).trans (congrArg (result m c) (place4 t n e).symm)

end Cert.Layer.Cmp

end
-- ==== Proof.CmpRef.lean ====
module

public import proofs.«01_k».proof.Proof.CmpValue
public import proofs.«01_k».proof.Proof.Finite
public import proofs.«01_k».proof.Proof.Gen.CmpRefIdeal.Read
public import proofs.«01_k».proof.Proof.Gen.Pre_finite_cmp

/-! The compression of the NSA heads' keys and values: what the reference computes, and why it is the kernel's number.

The reference lays a block out as one row of 4096 numbers, adds the positions to it and multiplies by the first layer's
weights. The kernel multiplies the two segments and the positions separately. For real numbers the products add up. -/

@[expose] public section

set_option maxRecDepth 16384

noncomputable section

namespace Cert.Layer.Cmp

open Idealize.ShloMosaic Idealize.ShloMosaic.TcCoe Idealize.SL.Sem
open Cert.CmpRefIdeal Cert.CmpRefIdeal.Gen Cert.CmpRefIdeal.Read

/-- Entry `k` of a block: the segment, then the next one. -/
def blk (z : S16384x2560.Idx → EReal) (a g : Fin 2) (n : Fin 1024) (k : Fin 4096) : EReal :=
  if h : k.val < 2048 then seg z a g n ⟨k.val, h⟩ else seg z a g (next n) ⟨k.val - 2048, by omega⟩

theorem blk_upper (z : S16384x2560.Idx → EReal) (a g : Fin 2) (n : Fin 1024) (k : Fin 2048) : blk z a g n (upper k) = seg z a g n k :=
  dif_pos k.isLt
theorem blk_lower (z : S16384x2560.Idx → EReal) (a g : Fin 2) (n : Fin 1024) (k : Fin 2048) : blk z a g n (lower k) = seg z a g (next n) k := by
  have h : ¬ (lower k).val < 2048 := by show ¬ 2048 + k.val < 2048; omega
  refine (dif_neg h).trans (congrArg (seg z a g (next n)) (Fin.ext ?_))
  show 2048 + k.val - 2048 = k.val; omega

/-- A sum over a block's row is the sum over its two halves. -/
theorem sum_halves (f : Fin 4096 → EReal) : ∑ k : Fin 4096, f k = (∑ k : Fin 2048, f (upper k)) + ∑ k : Fin 2048, f (lower k) :=
  Fin.sum_univ_add (a := 2048) (b := 2048) f

/-- For real numbers the block's and the positions' products add up to the product of their sum. -/
theorem hidden_eq {z : S16384x2560.Idx → EReal} {p : S32x128.Idx → EReal} {w : S4096x128.Idx → EReal}
    (hz : ∀ i, z i ≠ ⊥ ∧ z i ≠ ⊤) (hp : ∀ i, p i ≠ ⊥ ∧ p i ≠ ⊤) (hw : ∀ i, w i ≠ ⊥ ∧ w i ≠ ⊤) (a g : Fin 2) (n : Fin 1024) (d : Fin 128) :
    ∑ k : Fin 4096, (blk z a g n k + flat p k) * w (ValueIdx.ix2 k d) = hidden z p w a g n d := by
  have hb : ∀ k, ∃ r : ℝ, blk z a g n k = (r : EReal) := fun k => by
    unfold blk
    split
    · exact Cert.Flash.exists_real (hz _)
    · exact Cert.Flash.exists_real (hz _)
  have hq : ∀ k, ∃ r : ℝ, flat p k = (r : EReal) := fun k => Cert.Flash.exists_real (hp _)
  have hv : ∀ k : Fin 4096, ∃ r : ℝ, w (ValueIdx.ix2 k d) = (r : EReal) := fun k => Cert.Flash.exists_real (hw _)
  have e : ∀ k : Fin 4096, (blk z a g n k + flat p k) * w (ValueIdx.ix2 k d) = blk z a g n k * w (ValueIdx.ix2 k d) + flat p k * w (ValueIdx.ix2 k d) := fun k => by
    obtain ⟨x, hx⟩ := hb k
    obtain ⟨y, hy⟩ := hq k
    obtain ⟨v, hv⟩ := hv k
    rw [hx, hy, hv, ← EReal.coe_add, ← EReal.coe_mul, ← EReal.coe_mul, ← EReal.coe_mul, ← EReal.coe_add, add_mul]
  rw [Finset.sum_congr rfl fun k _ => e k, Finset.sum_add_distrib, sum_halves fun k => blk z a g n k * w (ValueIdx.ix2 k d)]
  unfold hidden
  simp only [blk_upper, blk_lower]

/-! ## The reference's arrays, an entry at a time -/

theorem ref_seg_k (x0 : S16384x2560.Idx → EReal) (n : Fin 1024) (s : Fin 16) (g : Fin 2) (l : Fin 128) :
    (val_main_v2 (F := Ideal) x0 (ValueIdx.ix4 n s g l) : EReal) = seg x0 (0 : Fin 2) g n ⟨128 * s.val + l.val, by omega⟩ := by
  rw [val_main_v2_apply, val_main_v1_apply, val_main_v0_apply]
  have hs := s.isLt
  have hg := g.isLt
  have hl := l.isLt
  refine congrArg x0 (funext fun a => Fin.ext ?_)
  match a with
  | ⟨0, _⟩ => show (((n.val * 16 + s.val) * 2 + g.val) * 128 + l.val) / 256 = 16 * n.val + (128 * s.val + l.val) / 128; omega
  | ⟨1, _⟩ => show 1024 + (((n.val * 16 + s.val) * 2 + g.val) * 128 + l.val) % 256 = 1024 + 256 * 0 + 128 * g.val + (128 * s.val + l.val) % 128; omega

theorem ref_next_k (x0 : S16384x2560.Idx → EReal) (n : Fin 1024) (s : Fin 16) (g : Fin 2) (l : Fin 128) :
    (val_main_v5 (F := Ideal) x0 (ValueIdx.ix4 n s g l) : EReal) = seg x0 (0 : Fin 2) g (next n) ⟨128 * s.val + l.val, by omega⟩ := by
  have hn := n.isLt
  unfold val_main_v5
  by_cases h : n.val < 1023
  · refine (concatenate_pair_apply_left (t := S1024x16x2x128) (s₁ := S1023x16x2x128) (s₂ := S1x16x2x128) 0 (val_main_v3 (F := Ideal) x0) (val_main_v4 (F := Ideal) x0)
      concatenates_S1023x16x2x128_S1x16x2x128_S1024x16x2x128_d0 (ValueIdx.ix4 n s g l) rfl (ValueIdx.ix4 (⟨n.val, h⟩ : Fin 1023) s g l) ?_).trans ?_
    · intro b
      match b with | ⟨0, _⟩ => rfl | ⟨1, _⟩ => rfl | ⟨2, _⟩ => rfl | ⟨3, _⟩ => rfl
    · rw [val_main_v3_apply]
      refine Eq.trans (congrArg (val_main_v2 (F := Ideal) x0) (funext fun b => Fin.ext ?_)) (ref_seg_k x0 (next n) s g l)
      match b with
      | ⟨0, _⟩ => show 1 + n.val = (n.val + 1) % 1024; omega
      | ⟨1, _⟩ => rfl
      | ⟨2, _⟩ => rfl
      | ⟨3, _⟩ => rfl
  · refine (concatenate_pair_apply_right (t := S1024x16x2x128) (s₁ := S1023x16x2x128) (s₂ := S1x16x2x128) 0 (val_main_v3 (F := Ideal) x0) (val_main_v4 (F := Ideal) x0)
      concatenates_S1023x16x2x128_S1x16x2x128_S1024x16x2x128_d0 (ValueIdx.ix4 n s g l) rfl rfl (ValueIdx.ix4 (0 : Fin 1) s g l) ?_ ?_).trans ?_
    · intro b hb
      match b, hb with | ⟨0, _⟩, hb => exact absurd (Fin.ext rfl) hb | ⟨1, _⟩, _ => rfl | ⟨2, _⟩, _ => rfl | ⟨3, _⟩, _ => rfl
    · show 0 + 1023 = n.val; omega
    · rw [val_main_v4_apply]
      refine Eq.trans (congrArg (val_main_v2 (F := Ideal) x0) (funext fun b => Fin.ext ?_)) (ref_seg_k x0 (next n) s g l)
      match b with
      | ⟨0, _⟩ => show 0 = (n.val + 1) % 1024; omega
      | ⟨1, _⟩ => rfl
      | ⟨2, _⟩ => rfl
      | ⟨3, _⟩ => rfl

theorem ref_blk_k (x0 : S16384x2560.Idx → EReal) (g : Fin 2) (n : Fin 1024) (s : Fin 32) (l : Fin 128) (k : Fin 4096) (hk : k.val = 128 * s.val + l.val) :
    (val_main_v6 (F := Ideal) x0 (ValueIdx.ix4 n s g l) : EReal) = blk x0 (0 : Fin 2) g n k := by
  have hs := s.isLt
  have hl := l.isLt
  unfold val_main_v6 blk
  by_cases h : k.val < 2048
  · rw [dif_pos h]
    refine (concatenate_pair_apply_left (t := S1024x32x2x128) (s₁ := S1024x16x2x128) (s₂ := S1024x16x2x128) 1 (val_main_v2 (F := Ideal) x0) (val_main_v5 (F := Ideal) x0)
      concatenates_S1024x16x2x128_S1024x16x2x128_S1024x32x2x128_d1 (ValueIdx.ix4 n s g l) rfl (ValueIdx.ix4 n (⟨s.val, by omega⟩ : Fin 16) g l) ?_).trans ?_
    · intro b
      match b with | ⟨0, _⟩ => rfl | ⟨1, _⟩ => rfl | ⟨2, _⟩ => rfl | ⟨3, _⟩ => rfl
    · refine (ref_seg_k x0 n _ g l).trans (congrArg (seg x0 (0 : Fin 2) g n) (Fin.ext ?_))
      show 128 * s.val + l.val = k.val; omega
  · rw [dif_neg h]
    refine (concatenate_pair_apply_right (t := S1024x32x2x128) (s₁ := S1024x16x2x128) (s₂ := S1024x16x2x128) 1 (val_main_v2 (F := Ideal) x0) (val_main_v5 (F := Ideal) x0)
      concatenates_S1024x16x2x128_S1024x16x2x128_S1024x32x2x128_d1 (ValueIdx.ix4 n s g l) rfl rfl (ValueIdx.ix4 n (⟨s.val - 16, by omega⟩ : Fin 16) g l) ?_ ?_).trans ?_
    · intro b hb
      match b, hb with | ⟨0, _⟩, _ => rfl | ⟨1, _⟩, hb => exact absurd (Fin.ext rfl) hb | ⟨2, _⟩, _ => rfl | ⟨3, _⟩, _ => rfl
    · show s.val - 16 + 16 = s.val; omega
    · refine (ref_next_k x0 n _ g l).trans (congrArg (seg x0 (0 : Fin 2) g (next n)) (Fin.ext ?_))
      show 128 * (s.val - 16) + l.val = k.val - 2048; omega

theorem ref_row_k (x0 : S16384x2560.Idx → EReal) (x1 : S32x128.Idx → EReal) (g : Fin 2) (n : Fin 1024) (k : Fin 4096) :
    (val_main_v11 (F := Ideal) x0 x1 (ValueIdx.ix3 g n k) : EReal) = blk x0 (0 : Fin 2) g n k + flat x1 k := by
  have hg := g.isLt
  have hn := n.isLt
  have hk := k.isLt
  rw [val_main_v11_apply, val_main_v10_apply, val_main_v7_apply, val_main_v9_apply, val_main_v8_apply]
  refine congrArg₂ (fun p q : EReal => p + q) ?_ (congrArg x1 (funext fun a => Fin.ext ?_))
  · refine Eq.trans (congrArg (val_main_v6 (F := Ideal) x0) (funext fun b => Fin.ext ?_))
      (ref_blk_k x0 g n (⟨k.val / 128, by omega⟩ : Fin 32) (⟨k.val % 128, by omega⟩ : Fin 128) k (by show k.val = 128 * (k.val / 128) + k.val % 128; omega))
    match b with
    | ⟨0, _⟩ => show ((g.val * 1024 + n.val) * 4096 + k.val) / 4096 % 1024 = n.val; omega
    | ⟨1, _⟩ => show ((g.val * 1024 + n.val) * 4096 + k.val) / 128 % 32 = k.val / 128; omega
    | ⟨2, _⟩ => show ((g.val * 1024 + n.val) * 4096 + k.val) / 4194304 = g.val; omega
    | ⟨3, _⟩ => show ((g.val * 1024 + n.val) * 4096 + k.val) % 128 = k.val % 128; omega
  · match a with
    | ⟨0, _⟩ => show ((g.val * 1024 + n.val) * 4096 + k.val) / 128 % 32 = k.val / 128; omega
    | ⟨1, _⟩ => show ((g.val * 1024 + n.val) * 4096 + k.val) % 128 = k.val % 128; omega

theorem ref_hidden_k {x0 : S16384x2560.Idx → EReal} {x1 : S32x128.Idx → EReal} {x2 : S4096x128.Idx → EReal}
    (hz : ∀ i, x0 i ≠ ⊥ ∧ x0 i ≠ ⊤) (hp : ∀ i, x1 i ≠ ⊥ ∧ x1 i ≠ ⊤) (hw : ∀ i, x2 i ≠ ⊥ ∧ x2 i ≠ ⊤) (g : Fin 2) (n : Fin 1024) (d : Fin 128) :
    (val_main_v12 (F := Ideal) x0 x1 x2 (ValueIdx.ix3 g n d) : EReal) = hidden x0 x1 x2 (0 : Fin 2) g n d := by
  rw [val_main_v12_apply, ← hidden_eq hz hp hw]
  refine Finset.sum_congr rfl fun k _ => congrArg₂ (fun p q : EReal => p * q) ?_ (congrArg x2 (funext fun a => ?_))
  · refine Eq.trans (congrArg (val_main_v11 (F := Ideal) x0 x1) (funext fun a => ?_)) (ref_row_k x0 x1 g n k)
    match a with | ⟨0, _⟩ => rfl | ⟨1, _⟩ => rfl | ⟨2, _⟩ => rfl
  · match a with | ⟨0, _⟩ => rfl | ⟨1, _⟩ => rfl

theorem ref_silu_k (x0 : S16384x2560.Idx → EReal) (x1 : S32x128.Idx → EReal) (x2 : S4096x128.Idx → EReal) (i : S2x1024x128.Idx) :
    (val_main_v13 (F := Ideal) x0 x1 x2 i : EReal) = silu (val_main_v12 (F := Ideal) x0 x1 x2 i) := by
  rw [val_main_v13_apply, val_main_call0_v5_apply, val_main_call0_v4_apply, val_main_call0_v3_apply, val_main_call0_v2_apply, val_main_call0_v1_apply, val_main_call0_v0_apply,
    val_main_call0_cst_apply, val_main_call0_cst_0_apply]
  rfl

theorem ref_cmp_k {x0 : S16384x2560.Idx → EReal} {x1 : S32x128.Idx → EReal} {x2 : S4096x128.Idx → EReal} (x3 : S128x128.Idx → EReal)
    (hz : ∀ i, x0 i ≠ ⊥ ∧ x0 i ≠ ⊤) (hp : ∀ i, x1 i ≠ ⊥ ∧ x1 i ≠ ⊤) (hw : ∀ i, x2 i ≠ ⊥ ∧ x2 i ≠ ⊤) (g : Fin 2) (n : Fin 1024) (e : Fin 128) :
    (val_main_v14 (F := Ideal) x0 x1 x2 x3 (ValueIdx.ix3 g n e) : EReal) = cmp x0 x1 x2 x3 (0 : Fin 2) g n e := by
  rw [val_main_v14_apply]
  refine Finset.sum_congr rfl fun d _ => congrArg₂ (fun p q : EReal => p * q) ?_ (congrArg x3 (funext fun a => ?_))
  · rw [ref_silu_k]
    refine congrArg silu (Eq.trans (congrArg (val_main_v12 (F := Ideal) x0 x1 x2) (funext fun a => ?_)) (ref_hidden_k hz hp hw g n d))
    match a with | ⟨0, _⟩ => rfl | ⟨1, _⟩ => rfl | ⟨2, _⟩ => rfl
  · match a with | ⟨0, _⟩ => rfl | ⟨1, _⟩ => rfl

theorem ref_seg_v (x0 : S16384x2560.Idx → EReal) (n : Fin 1024) (s : Fin 16) (g : Fin 2) (l : Fin 128) :
    (val_main_v16 (F := Ideal) x0 (ValueIdx.ix4 n s g l) : EReal) = seg x0 (1 : Fin 2) g n ⟨128 * s.val + l.val, by omega⟩ := by
  rw [val_main_v16_apply, val_main_v15_apply, val_main_v0_apply]
  have hs := s.isLt
  have hg := g.isLt
  have hl := l.isLt
  refine congrArg x0 (funext fun a => Fin.ext ?_)
  match a with
  | ⟨0, _⟩ => show (((n.val * 16 + s.val) * 2 + g.val) * 128 + l.val) / 256 = 16 * n.val + (128 * s.val + l.val) / 128; omega
  | ⟨1, _⟩ => show 1280 + (((n.val * 16 + s.val) * 2 + g.val) * 128 + l.val) % 256 = 1024 + 256 * 1 + 128 * g.val + (128 * s.val + l.val) % 128; omega

theorem ref_next_v (x0 : S16384x2560.Idx → EReal) (n : Fin 1024) (s : Fin 16) (g : Fin 2) (l : Fin 128) :
    (val_main_v19 (F := Ideal) x0 (ValueIdx.ix4 n s g l) : EReal) = seg x0 (1 : Fin 2) g (next n) ⟨128 * s.val + l.val, by omega⟩ := by
  have hn := n.isLt
  unfold val_main_v19
  by_cases h : n.val < 1023
  · refine (concatenate_pair_apply_left (t := S1024x16x2x128) (s₁ := S1023x16x2x128) (s₂ := S1x16x2x128) 0 (val_main_v17 (F := Ideal) x0) (val_main_v18 (F := Ideal) x0)
      concatenates_S1023x16x2x128_S1x16x2x128_S1024x16x2x128_d0 (ValueIdx.ix4 n s g l) rfl (ValueIdx.ix4 (⟨n.val, h⟩ : Fin 1023) s g l) ?_).trans ?_
    · intro b
      match b with | ⟨0, _⟩ => rfl | ⟨1, _⟩ => rfl | ⟨2, _⟩ => rfl | ⟨3, _⟩ => rfl
    · rw [val_main_v17_apply]
      refine Eq.trans (congrArg (val_main_v16 (F := Ideal) x0) (funext fun b => Fin.ext ?_)) (ref_seg_v x0 (next n) s g l)
      match b with
      | ⟨0, _⟩ => show 1 + n.val = (n.val + 1) % 1024; omega
      | ⟨1, _⟩ => rfl
      | ⟨2, _⟩ => rfl
      | ⟨3, _⟩ => rfl
  · refine (concatenate_pair_apply_right (t := S1024x16x2x128) (s₁ := S1023x16x2x128) (s₂ := S1x16x2x128) 0 (val_main_v17 (F := Ideal) x0) (val_main_v18 (F := Ideal) x0)
      concatenates_S1023x16x2x128_S1x16x2x128_S1024x16x2x128_d0 (ValueIdx.ix4 n s g l) rfl rfl (ValueIdx.ix4 (0 : Fin 1) s g l) ?_ ?_).trans ?_
    · intro b hb
      match b, hb with | ⟨0, _⟩, hb => exact absurd (Fin.ext rfl) hb | ⟨1, _⟩, _ => rfl | ⟨2, _⟩, _ => rfl | ⟨3, _⟩, _ => rfl
    · show 0 + 1023 = n.val; omega
    · rw [val_main_v18_apply]
      refine Eq.trans (congrArg (val_main_v16 (F := Ideal) x0) (funext fun b => Fin.ext ?_)) (ref_seg_v x0 (next n) s g l)
      match b with
      | ⟨0, _⟩ => show 0 = (n.val + 1) % 1024; omega
      | ⟨1, _⟩ => rfl
      | ⟨2, _⟩ => rfl
      | ⟨3, _⟩ => rfl

theorem ref_blk_v (x0 : S16384x2560.Idx → EReal) (g : Fin 2) (n : Fin 1024) (s : Fin 32) (l : Fin 128) (k : Fin 4096) (hk : k.val = 128 * s.val + l.val) :
    (val_main_v20 (F := Ideal) x0 (ValueIdx.ix4 n s g l) : EReal) = blk x0 (1 : Fin 2) g n k := by
  have hs := s.isLt
  have hl := l.isLt
  unfold val_main_v20 blk
  by_cases h : k.val < 2048
  · rw [dif_pos h]
    refine (concatenate_pair_apply_left (t := S1024x32x2x128) (s₁ := S1024x16x2x128) (s₂ := S1024x16x2x128) 1 (val_main_v16 (F := Ideal) x0) (val_main_v19 (F := Ideal) x0)
      concatenates_S1024x16x2x128_S1024x16x2x128_S1024x32x2x128_d1 (ValueIdx.ix4 n s g l) rfl (ValueIdx.ix4 n (⟨s.val, by omega⟩ : Fin 16) g l) ?_).trans ?_
    · intro b
      match b with | ⟨0, _⟩ => rfl | ⟨1, _⟩ => rfl | ⟨2, _⟩ => rfl | ⟨3, _⟩ => rfl
    · refine (ref_seg_v x0 n _ g l).trans (congrArg (seg x0 (1 : Fin 2) g n) (Fin.ext ?_))
      show 128 * s.val + l.val = k.val; omega
  · rw [dif_neg h]
    refine (concatenate_pair_apply_right (t := S1024x32x2x128) (s₁ := S1024x16x2x128) (s₂ := S1024x16x2x128) 1 (val_main_v16 (F := Ideal) x0) (val_main_v19 (F := Ideal) x0)
      concatenates_S1024x16x2x128_S1024x16x2x128_S1024x32x2x128_d1 (ValueIdx.ix4 n s g l) rfl rfl (ValueIdx.ix4 n (⟨s.val - 16, by omega⟩ : Fin 16) g l) ?_ ?_).trans ?_
    · intro b hb
      match b, hb with | ⟨0, _⟩, _ => rfl | ⟨1, _⟩, hb => exact absurd (Fin.ext rfl) hb | ⟨2, _⟩, _ => rfl | ⟨3, _⟩, _ => rfl
    · show s.val - 16 + 16 = s.val; omega
    · refine (ref_next_v x0 n _ g l).trans (congrArg (seg x0 (1 : Fin 2) g (next n)) (Fin.ext ?_))
      show 128 * (s.val - 16) + l.val = k.val - 2048; omega

theorem ref_row_v (x0 : S16384x2560.Idx → EReal) (x4 : S32x128.Idx → EReal) (g : Fin 2) (n : Fin 1024) (k : Fin 4096) :
    (val_main_v25 (F := Ideal) x0 x4 (ValueIdx.ix3 g n k) : EReal) = blk x0 (1 : Fin 2) g n k + flat x4 k := by
  have hg := g.isLt
  have hn := n.isLt
  have hk := k.isLt
  rw [val_main_v25_apply, val_main_v24_apply, val_main_v21_apply, val_main_v23_apply, val_main_v22_apply]
  refine congrArg₂ (fun p q : EReal => p + q) ?_ (congrArg x4 (funext fun a => Fin.ext ?_))
  · refine Eq.trans (congrArg (val_main_v20 (F := Ideal) x0) (funext fun b => Fin.ext ?_))
      (ref_blk_v x0 g n (⟨k.val / 128, by omega⟩ : Fin 32) (⟨k.val % 128, by omega⟩ : Fin 128) k (by show k.val = 128 * (k.val / 128) + k.val % 128; omega))
    match b with
    | ⟨0, _⟩ => show ((g.val * 1024 + n.val) * 4096 + k.val) / 4096 % 1024 = n.val; omega
    | ⟨1, _⟩ => show ((g.val * 1024 + n.val) * 4096 + k.val) / 128 % 32 = k.val / 128; omega
    | ⟨2, _⟩ => show ((g.val * 1024 + n.val) * 4096 + k.val) / 4194304 = g.val; omega
    | ⟨3, _⟩ => show ((g.val * 1024 + n.val) * 4096 + k.val) % 128 = k.val % 128; omega
  · match a with
    | ⟨0, _⟩ => show ((g.val * 1024 + n.val) * 4096 + k.val) / 128 % 32 = k.val / 128; omega
    | ⟨1, _⟩ => show ((g.val * 1024 + n.val) * 4096 + k.val) % 128 = k.val % 128; omega

theorem ref_hidden_v {x0 : S16384x2560.Idx → EReal} {x4 : S32x128.Idx → EReal} {x5 : S4096x128.Idx → EReal}
    (hz : ∀ i, x0 i ≠ ⊥ ∧ x0 i ≠ ⊤) (hp : ∀ i, x4 i ≠ ⊥ ∧ x4 i ≠ ⊤) (hw : ∀ i, x5 i ≠ ⊥ ∧ x5 i ≠ ⊤) (g : Fin 2) (n : Fin 1024) (d : Fin 128) :
    (val_main_v26 (F := Ideal) x0 x4 x5 (ValueIdx.ix3 g n d) : EReal) = hidden x0 x4 x5 (1 : Fin 2) g n d := by
  rw [val_main_v26_apply, ← hidden_eq hz hp hw]
  refine Finset.sum_congr rfl fun k _ => congrArg₂ (fun p q : EReal => p * q) ?_ (congrArg x5 (funext fun a => ?_))
  · refine Eq.trans (congrArg (val_main_v25 (F := Ideal) x0 x4) (funext fun a => ?_)) (ref_row_v x0 x4 g n k)
    match a with | ⟨0, _⟩ => rfl | ⟨1, _⟩ => rfl | ⟨2, _⟩ => rfl
  · match a with | ⟨0, _⟩ => rfl | ⟨1, _⟩ => rfl

theorem ref_silu_v (x0 : S16384x2560.Idx → EReal) (x4 : S32x128.Idx → EReal) (x5 : S4096x128.Idx → EReal) (i : S2x1024x128.Idx) :
    (val_main_v27 (F := Ideal) x0 x4 x5 i : EReal) = silu (val_main_v26 (F := Ideal) x0 x4 x5 i) := by
  rw [val_main_v27_apply, val_main_call1_v5_apply, val_main_call1_v4_apply, val_main_call1_v3_apply, val_main_call1_v2_apply, val_main_call1_v1_apply, val_main_call1_v0_apply,
    val_main_call1_cst_apply, val_main_call1_cst_0_apply]
  rfl

theorem ref_cmp_v {x0 : S16384x2560.Idx → EReal} {x4 : S32x128.Idx → EReal} {x5 : S4096x128.Idx → EReal} (x6 : S128x128.Idx → EReal)
    (hz : ∀ i, x0 i ≠ ⊥ ∧ x0 i ≠ ⊤) (hp : ∀ i, x4 i ≠ ⊥ ∧ x4 i ≠ ⊤) (hw : ∀ i, x5 i ≠ ⊥ ∧ x5 i ≠ ⊤) (g : Fin 2) (n : Fin 1024) (e : Fin 128) :
    (val_main_v28 (F := Ideal) x0 x4 x5 x6 (ValueIdx.ix3 g n e) : EReal) = cmp x0 x4 x5 x6 (1 : Fin 2) g n e := by
  rw [val_main_v28_apply]
  refine Finset.sum_congr rfl fun d _ => congrArg₂ (fun p q : EReal => p * q) ?_ (congrArg x6 (funext fun a => ?_))
  · rw [ref_silu_v]
    refine congrArg silu (Eq.trans (congrArg (val_main_v26 (F := Ideal) x0 x4 x5) (funext fun a => ?_)) (ref_hidden_v hz hp hw g n d))
    match a with | ⟨0, _⟩ => rfl | ⟨1, _⟩ => rfl | ⟨2, _⟩ => rfl
  · match a with | ⟨0, _⟩ => rfl | ⟨1, _⟩ => rfl

/-- The reference's result, given that the activations, the positions and the first layer's weights are real numbers. -/
theorem ref_out {x0 : S16384x2560.Idx → EReal} {x1 x4 : S32x128.Idx → EReal} {x2 x5 : S4096x128.Idx → EReal} (x3 x6 : S128x128.Idx → EReal)
    (h0 : ∀ i, x0 i ≠ ⊥ ∧ x0 i ≠ ⊤) (h1 : ∀ i, x1 i ≠ ⊥ ∧ x1 i ≠ ⊤) (h2 : ∀ i, x2 i ≠ ⊥ ∧ x2 i ≠ ⊤)
    (h4 : ∀ i, x4 i ≠ ⊥ ∧ x4 i ≠ ⊤) (h5 : ∀ i, x5 i ≠ ⊥ ∧ x5 i ≠ ⊤) (a g : Fin 2) (n : Fin 1024) (e : Fin 128) :
    (val_main_v32 (F := Ideal) x0 x1 x2 x3 x4 x5 x6 (ValueIdx.ix4 a g n e) : EReal)
      = cmp x0 (pick a x1 x4) (pick a x2 x5) (pick a x3 x6) a g n e := by
  rw [val_main_v32_apply]
  show (val_main_v31 (F := Ideal) x0 x1 x2 x3 x4 x5 x6 (ValueIdx.ix4 a g n e) : EReal) = _
  unfold val_main_v31
  refine (join4 _ _ concatenates_S1x2x1024x128_S1x2x1024x128_S2x2x1024x128_d0 a g n e).trans ?_
  unfold pick
  rcases (show a = 0 ∨ a = 1 by omega) with rfl | rfl
  · simp only [if_true]
    rw [val_main_v29_apply]
    refine Eq.trans (congrArg (val_main_v14 (F := Ideal) x0 x1 x2 x3) (funext fun b => ?_)) (ref_cmp_k x3 h0 h1 h2 g n e)
    match b with | ⟨0, _⟩ => rfl | ⟨1, _⟩ => rfl | ⟨2, _⟩ => rfl
  · simp only [if_neg (show ¬ (1 : Fin 2) = 0 by decide)]
    rw [val_main_v30_apply]
    refine Eq.trans (congrArg (val_main_v28 (F := Ideal) x0 x4 x5 x6) (funext fun b => ?_)) (ref_cmp_v x6 h0 h4 h5 g n e)
    match b with | ⟨0, _⟩ => rfl | ⟨1, _⟩ => rfl | ⟨2, _⟩ => rfl

theorem ix4_self (i : S2x2x1024x128.Idx) : i = ValueIdx.ix4 (i 0) (i 1) (i 2) (i 3) := by
  funext a
  match a with | ⟨0, _⟩ => rfl | ⟨1, _⟩ => rfl | ⟨2, _⟩ => rfl | ⟨3, _⟩ => rfl

/-- What the precondition says: the activations, the positions and the first layer's weights are real numbers. -/
theorem pre_real {x0 : S16384x2560.Idx → EReal} {x1 x4 : S32x128.Idx → EReal} {x2 x5 : S4096x128.Idx → EReal} {x3 x6 : S128x128.Idx → EReal}
    (h : Cert.Pre_finite_cmp.fn (F := Ideal) x0 x1 x2 x3 x4 x5 x6 = fun _ => 1#1) :
    (∀ i, x0 i ≠ ⊥ ∧ x0 i ≠ ⊤) ∧ (∀ i, x1 i ≠ ⊥ ∧ x1 i ≠ ⊤) ∧ (∀ i, x2 i ≠ ⊥ ∧ x2 i ≠ ⊤) ∧ (∀ i, x4 i ≠ ⊥ ∧ x4 i ≠ ⊤)
      ∧ (∀ i, x5 i ≠ ⊥ ∧ x5 i ≠ ⊤) := by
  haveI : Subsingleton Cert.Pre_finite_cmp.S_.Idx := ⟨fun a b => funext fun k => k.elim0⟩
  have h := congrFun h (fun a => a.elim0)
  obtain ⟨h, h5⟩ := Cert.Flash.and_one h
  obtain ⟨h, h4⟩ := Cert.Flash.and_one h
  obtain ⟨h, h2⟩ := Cert.Flash.and_one h
  obtain ⟨h0, h1⟩ := Cert.Flash.and_one h
  exact ⟨fun i => Cert.Flash.real_of_abs (Host.reduce_andi_all _ _ _ _ _ h0 i), fun i => Cert.Flash.real_of_abs (Host.reduce_andi_all _ _ _ _ _ h1 i),
    fun i => Cert.Flash.real_of_abs (Host.reduce_andi_all _ _ _ _ _ h2 i), fun i => Cert.Flash.real_of_abs (Host.reduce_andi_all _ _ _ _ _ h4 i),
    fun i => Cert.Flash.real_of_abs (Host.reduce_andi_all _ _ _ _ _ h5 i)⟩

end Cert.Layer.Cmp

end
-- ==== Proof.KmeanValue.lean ====
module

public import proofs.«01_k».proof.Proof.Gen.KmeanIdeal.Value
public import proofs.«01_k».proof.Proof.Gen.KmeanRefIdeal.Run
public import proofs.«01_k».proof.Proof.Gen.KmeanRefIdeal.Read
public import Idealize.ShloMosaic.Lib.KernelVsHost
public import Idealize.ShloMosaic.Lib.ValueLayout
public import Idealize.ShloMosaic.Lib.Pipeline.ValueKit
public import Idealize.ShloMosaic.Lib.Pipeline.ReadBack

/-! The means of the MoBA heads' keys over blocks of 256 tokens: kernel and reference both end with `kmean` of the
argument.

The keys are the second 1024 of the 6144 columns, head by head. The grid runs over 8 tiles of 2048 tokens, eight
blocks each. -/

@[expose] public section

set_option maxRecDepth 16384

noncomputable section

namespace Cert.Layer.Kmean

open Idealize.ShloMosaic Idealize.ShloMosaic.TcCoe Idealize.SL.Sem
open Cert.KmeanIdeal Cert.KmeanIdeal.Gen

/-- Column `j` of the keys, averaged over the 256 tokens of block `b`. -/
def kmean (x0 : S16384x6144.Idx → EReal) (b : Fin 64) (j : Fin 1024) : EReal :=
  Ideal.div (∑ k : Fin 256, x0 (ValueIdx.ix2 (⟨256 * b.val + k.val, by omega⟩ : Fin 16384) (⟨1024 + j.val, by omega⟩ : Fin 6144)))
    (Ideal.ofBits .f32 0x43800000#32)

/-! ## The body's payload -/

/-- The index of token `k` of block `r`. -/
theorem lift_token (r : Fin 8) (j : Fin 1024) (k : Fin 256) :
    (reduces_S8x256x1024_S8x1024 : S8x256x1024.Reduces [1] S8x1024).lift (ValueIdx.ix2 r j) k = ValueIdx.ix3 r k j := by
  funext a; apply Fin.ext
  match a with
  | ⟨0, _⟩ => rfl
  | ⟨1, _⟩ => rfl
  | ⟨2, _⟩ => rfl

/-- A tile's sums over the tokens of its blocks. -/
theorem sum_apply (x : FVec Ideal S2048x1024 .f32) (r : Fin 8) (j : Fin 1024) :
    (multiReduction .add [1] S8x1024 (shapeCast S8x256x1024 x shapeCasts_S2048x1024_S8x256x1024) 0x00000000#32
        reduces_S8x256x1024_S8x1024 (.inl rfl) rfl (ValueIdx.ix2 r j) : EReal)
      = ∑ k : Fin 256, (x (ValueIdx.ix2 (⟨256 * r.val + k.val, by omega⟩ : Fin 2048) j) : EReal) := by
  refine (Ideal.multiReduction_add_single _ _ reduces_S8x256x1024_S8x1024 (.inl rfl) rfl (ValueIdx.ix2 r j)).trans ?_
  refine Finset.sum_congr rfl fun (k : Fin 256) _ => ?_
  refine (congrArg _ (lift_token r j k)).trans ?_
  have hk := k.isLt
  exact shapeCast_apply x _ _ (ValueIdx.ix2 (⟨256 * r.val + k.val, by omega⟩ : Fin 2048) j) (by
    rewrite [Shape.rowMajor_val_three, Shape.rowMajor_val_two]
    show (256 * r.val + k.val) * 1024 + j.val = (r.val * 256 + k.val) * 1024 + j.val; omega)

theorem pay1_apply (v : Vec Ideal S2048x1024 .bf16) (r : Fin 8) (j : Fin 1024) :
    (k0_pay1 (F := Ideal) v (ValueIdx.ix2 r j) : EReal)
      = Ideal.div (∑ k : Fin 256, (v (ValueIdx.ix2 (⟨256 * r.val + k.val, by omega⟩ : Fin 2048) j) : EReal)) (Ideal.ofBits .f32 0x43800000#32) := by
  unfold k0_pay1
  exact congrArg (fun p : EReal => Ideal.div p (Ideal.ofBits .f32 0x43800000#32)) (sum_apply _ r j)

variable (m : (ℓ : Loc nD τ sig) → Buf (Elt Ideal) ℓ) (ρ : Dev nD → PrngReg)

theorem at0 : ∀ t : Fin cfg0.N, win0_0.index t = ![t.val, 1] := (by decide +kernel : ∀ t : Fin grid0.N, _)
theorem at1 : ∀ t : Fin cfg0.N, win0_1.index t = ![t.val, 0] := (by decide +kernel : ∀ t : Fin grid0.N, _)

/-- Block `r` of point `t`'s tile. -/
def blkOf (t : Fin cfg0.N) (r : Fin 8) : Fin 64 := ⟨8 * t.val + r.val, by
  have h1 : t.val < 8 := t.isLt
  have h2 := r.isLt
  omega⟩

theorem blk0 (c : Dev nD) (t : Fin cfg0.N) (r : Fin 8) (k : Fin 256) (j : Fin 1024) :
    (iblk m c 0 t (ValueIdx.ix2 (⟨256 * r.val + k.val, by omega⟩ : Fin 2048) j) : EReal)
      = m ((c : Thread nD τ).loc main_arg0) (ValueIdx.ix2 (⟨256 * (blkOf t r).val + k.val, by have := (blkOf t r).isLt; omega⟩ : Fin 16384)
          (⟨1024 + j.val, by omega⟩ : Fin 6144)) := by
  generalize hi : (ValueIdx.ix2 (⟨256 * r.val + k.val, by omega⟩ : Fin 2048) j) = i
  have h : iblk m c 0 t i = V m c main_arg0 (((cfg0.win 0).blk t).view.emb i) := rfl
  have e : ((cfg0.win 0).blk t).view.emb i = ValueIdx.ix2 (⟨256 * (blkOf t r).val + k.val, by have := (blkOf t r).isLt; omega⟩ : Fin 16384)
          (⟨1024 + j.val, by omega⟩ : Fin 6144) := by
    subst hi
    funext a; apply Fin.ext
    match a with
    | ⟨0, _⟩ => blk_simp [at0]; show t.val * 2048 + (256 * r.val + k.val) = 256 * (8 * t.val + r.val) + k.val; omega
    | ⟨1, _⟩ => blk_simp [at0]
  rw [h, e, V_main_arg0]

/-- The result array, from the launched argument. -/
def result (c : Dev nD) : S64x1024.Idx → EReal := fun i => kmean (m ((c : Thread nD τ).loc main_arg0)) (i 0) (i 1)

/-- What the body leaves in the output's block. -/
theorem block (c : Dev nD) (t : Fin cfg0.N) (r : Fin 8) (j : Fin 1024) :
    (out0_1 (iblk m c 0 t) (ValueIdx.ix2 r j) : EReal) = kmean (m ((c : Thread nD τ).loc main_arg0)) (blkOf t r) j := by
  frame_out
  refine (pay1_apply _ r j).trans ?_
  exact congrArg (fun p : EReal => Ideal.div p (Ideal.ofBits .f32 0x43800000#32)) (Finset.sum_congr rfl fun k _ => blk0 m c t r k j)

/-- Where an index of the output's block lies in the array. -/
theorem place (t : Fin cfg0.N) (r : Fin 8) (j : Fin 1024) :
    ((cfg0.win 1).blk t).view.emb (ValueIdx.ix2 r j) = ValueIdx.ix2 (blkOf t r) j := by
  funext a; apply Fin.ext
  match a with
  | ⟨0, _⟩ => blk_simp [at1]; show t.val * 8 + r.val = 8 * t.val + r.val; omega
  | ⟨1, _⟩ => blk_simp [at1]

theorem split (y : S8x1024.Idx) : ∃ (r : Fin 8) (j : Fin 1024), y = ValueIdx.ix2 r j :=
  ⟨y 0, y 1, by funext a; match a with | ⟨0, _⟩ => rfl | ⟨1, _⟩ => rfl⟩

theorem final (c : Dev nD) : (dats m 0 c).arrAt 1 cfg0.N = result m c := by
  refine (dats m 0 c).arrAt_eq_of_covers 1 _ (by decide +kernel) fun t hf y => ?_
  obtain ⟨r, j, rfl⟩ := split y
  blk_simp
  rw [after0_1]
  exact (block m c t r j).trans (congrArg (result m c) (place t r j).symm)

/-! ## The reference -/

section
open Cert.KmeanRefIdeal.Read

/-- The reference's result array. -/
theorem ref_out (x0 : S16384x6144.Idx → EReal) (i : S64x1024.Idx) :
    (val_main_v8 (F := Ideal) x0 i : EReal) = kmean x0 (i 0) (i 1) := by
  obtain ⟨b, j, rfl⟩ : ∃ (b : Fin 64) (j : Fin 1024), i = ValueIdx.ix2 b j :=
    ⟨i 0, i 1, by funext a; match a with | ⟨0, _⟩ => rfl | ⟨1, _⟩ => rfl⟩
  have hb := b.isLt
  have hj := j.isLt
  rw [val_main_v8_apply, val_main_v7_apply, val_main_v6_apply, val_main_v5_apply, val_main_v4_apply, val_main_cst_0_apply, val_main_cst_apply]
  show Ideal.div (Ideal.ofBits .f32 0x00000000#32 + _) (Ideal.ofBits .f32 0x43800000#32) = kmean x0 b j
  rw [Ideal.ofBits_zero_f32, zero_add]
  unfold kmean
  refine congrArg (fun p : EReal => Ideal.div p (Ideal.ofBits .f32 0x43800000#32)) (Finset.sum_congr rfl fun k _ => ?_)
  have hk := k.isLt
  rw [val_main_v3_apply, val_main_v2_apply, val_main_v1_apply, val_main_v0_apply]
  refine congrArg x0 ?_
  funext a; apply Fin.ext
  match a with
  | ⟨0, _⟩ =>
    show (((((b.val * 1024 + j.val) / 1024) * 256 + k.val) * 8 + (b.val * 1024 + j.val) / 128 % 8) * 128 + (b.val * 1024 + j.val) % 128) / 1024 = 256 * b.val + k.val
    omega
  | ⟨1, _⟩ =>
    show 1024 + (((((b.val * 1024 + j.val) / 1024) * 256 + k.val) * 8 + (b.val * 1024 + j.val) / 128 % 8) * 128 + (b.val * 1024 + j.val) % 128) % 1024 = 1024 + j.val
    omega

end

end Cert.Layer.Kmean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FrameLaunch
public import proofs.«01_k».proof.Proof.IdealLaunch
public import proofs.«01_k».proof.Proof.IdealValue
public import proofs.«01_k».proof.Proof.RefValue
public import proofs.«01_k».proof.Proof.Finite
public import proofs.«01_k».proof.Proof.Gen.Ffn
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Res
public import proofs.«01_k».proof.Proof.Gen.ResIdeal.Value
public import proofs.«01_k».proof.Proof.Gen.ResRefIdeal.Run
public import proofs.«01_k».proof.Proof.Gen.ResRefIdeal.Read
public import proofs.«01_k».proof.Proof.Gen.Proj
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Mix
public import proofs.«01_k».proof.Proof.Gen.MixIdeal.Value
public import proofs.«01_k».proof.Proof.Gen.MixRefIdeal.Run
public import proofs.«01_k».proof.Proof.Gen.MixRefIdeal.Read
public import proofs.«01_k».proof.Proof.Gen.HgrnIn
public import proofs.«01_k».proof.Proof.Gen.HgrnInIdeal.Value
public import proofs.«01_k».proof.Proof.Gen.HgrnInRefIdeal.Run
public import proofs.«01_k».proof.Proof.Gen.HgrnInRefIdeal.Read
public import proofs.«01_k».proof.Proof.Gen.NsaIn
public import proofs.«01_k».proof.Proof.Gen.NsaInIdeal.Value
public import proofs.«01_k».proof.Proof.Gen.NsaInRefIdeal.Run
public import proofs.«01_k».proof.Proof.Gen.NsaInRefIdeal.Read
public import proofs.«01_k».proof.Proof.Gen.Win
public import proofs.«01_k».proof.Proof.Gen.Win.Frame
public import proofs.«01_k».proof.Proof.Gen.WinIdeal.Value
public import proofs.«01_k».proof.Proof.Gen.WinRefIdeal.Run
public import proofs.«01_k».proof.Proof.Gen.WinRefIdeal.Read
public import proofs.«01_k».proof.Proof.Gen.Pre_finite_win
public import proofs.«01_k».proof.Proof.Gen.Gate
public import proofs.«01_k».proof.Proof.Gen.GateIdeal.Value
public import proofs.«01_k».proof.Proof.Gen.GateRefIdeal.Run
public import proofs.«01_k».proof.Proof.Gen.GateRefIdeal.Read
public import proofs.«01_k».proof.Proof.Gen.Cmp
public import proofs.«01_k».proof.Proof.Gen.CmpIdeal.Value
public import proofs.«01_k».proof.Proof.Gen.CmpRefIdeal.Run
public import proofs.«01_k».proof.Proof.Gen.CmpRefIdeal.Read
public import proofs.«01_k».proof.Proof.Gen.Pre_finite_cmp
public import proofs.«01_k».proof.Proof.Gen.Kmean
public import proofs.«01_k».proof.Proof.Gen.KmeanIdeal.Value
public import proofs.«01_k».proof.Proof.Gen.KmeanRefIdeal.Run
public import proofs.«01_k».proof.Proof.Gen.KmeanRefIdeal.Read
public import proofs.«01_k».proof.Proof.FfnValue
public import proofs.«01_k».proof.Proof.HgrnInValue
public import proofs.«01_k».proof.Proof.NsaInValue
public import proofs.«01_k».proof.Proof.ResValue
public import proofs.«01_k».proof.Proof.ProjValue
public import proofs.«01_k».proof.Proof.MixValue
public import proofs.«01_k».proof.Proof.WinRef
public import proofs.«01_k».proof.Proof.GateValue
public import proofs.«01_k».proof.Proof.CmpRef
public import proofs.«01_k».proof.Proof.KmeanValue
public import Idealize.ShloMosaic.Adequacy
public import Idealize.ShloMosaic.Init

/-! The claims: the frames, the named constants, and the values of the differential attention, of the feed-forward's two
products, of the projections before and after the attentions, and of the sliding-window attention. -/

@[expose] public section

noncomputable section

namespace Cert.Proof

open Idealize.ShloMosaic Idealize.SL.Sem

theorem frame_p : Cert.quiescent_Kernel := fun m ρ _ => Cert.Kernel.Gen.frame_run m ρ

theorem frame_pi : Cert.quiescent_KernelIdeal := fun m ρ _ => Cert.KernelIdeal.Gen.frame_run m ρ

theorem frame_pi_finite : Cert.quiescent_KernelIdeal_pre_finite := fun m ρ _ => Cert.KernelIdeal.Gen.frame_run m ρ

/-- The reference's run leaves its arguments as they were; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "mask" .f32 0xF149F2CA#32 ⊥ rfl⟩

/-- Both programs end with `attn` of the arguments. -/
theorem algebraic : Cert.algebraic_KernelIdeal_ReferenceIdeal_pre_finite := by
  intro m ρ m' ρ' hpre hagree
  have hf := fun c => Cert.Flash.pre_real (hpre c)
  refine ⟨fun c => Cert.Flash.result m c, Cert.Flash.kernel_run m ρ (fun c => (hf c).1), ?_⟩
  refine (θ_run Cert.ReferenceIdeal.defs _ _).mono (fun r h c => ⟨((h c).1.trans (Cert.ReferenceIdeal.Read.val_main_v69_eq m' c)).trans ?_, (h c).2⟩)
    (Cert.ReferenceIdeal.Value.run (F := Ideal) m' ρ')
  obtain ⟨e0, e1, e2, e3, e4, e5⟩ := hagree c
  obtain ⟨h0, h1, h2, h3, h4⟩ := hf c
  obtain ⟨l, hl⟩ := Cert.Flash.lamOf_real (fun i => Cert.Flash.exists_real (h1 i)) (fun i => Cert.Flash.exists_real (h2 i))
    (fun i => Cert.Flash.exists_real (h3 i)) (fun i => Cert.Flash.exists_real (h4 i))
  rw [e0, e1, e2, e3, e4, e5]
  exact funext fun i => Cert.Flash.ref_value_eq _ h0 _ hl i

/-! ## The gated first feed-forward product -/

/-- The two programs of one kernel have the same text, so the same bodies. -/
theorem bodies_ffn : Cert.Ffn.defs₀ (F := Bits) = Cert.FfnIdeal.defs₀ (F := Bits) := by
  unfold Cert.Ffn.defs₀ Cert.FfnIdeal.defs₀
  refine congrArg Defs.onTc ?_
  funext l x
  match l, x with
  | 0, (t, s) => rfl

theorem defs_ffn : Cert.Ffn.defs (F := Bits) = Cert.FfnIdeal.defs (F := Bits) :=
  congrArg (Pipeline.defs Cert.FfnIdeal.pcfgs) bodies_ffn

theorem frame_ffn : Cert.quiescent_Ffn := by
  intro m ρ _
  rw [defs_ffn]
  exact Cert.FfnIdeal.Gen.frame (F := Bits) m ρ

theorem frame_ffn_ideal : Cert.quiescent_FfnIdeal := fun m ρ _ => Cert.FfnIdeal.Gen.frame (F := Ideal) m ρ

theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem preserves_ffn : Cert.preserves_Ffn_FfnIdeal := trivial

theorem algebraic_ffn : Cert.algebraic_FfnIdeal_FfnRefIdeal := by
  intro m ρ m' ρ' _ hagree
  refine ⟨fun c => Cert.Layer.Ffn.result m c, ?_, ?_⟩
  · exact (θ_run Cert.FfnIdeal.defs _ _).mono (fun r h c => ⟨(h c).1.trans (Cert.Layer.Ffn.final m c), (h c).2⟩)
      (Cert.FfnIdeal.Value.run_blocks (F := Ideal) m ρ)
  refine (θ_run Cert.FfnRefIdeal.defs _ _).mono
    (fun r h c => ⟨((h c).1.trans (Cert.FfnRefIdeal.Read.val_main_v8_eq _ _)).trans ?_, (h c).2⟩) (Cert.FfnRefIdeal.Value.run (F := Ideal) m' ρ')
  obtain ⟨e0, e1⟩ := hagree c
  rw [e0, e1]
  exact funext fun i => Cert.Layer.Ffn.ref_out _ _ i

/-! ## The projection before the attentions -/

/-- The two programs of one kernel have the same text, so the same bodies. -/
theorem bodies_proj : Cert.Proj.defs₀ (F := Bits) = Cert.ProjIdeal.defs₀ (F := Bits) := by
  unfold Cert.Proj.defs₀ Cert.ProjIdeal.defs₀
  refine congrArg Defs.onTc ?_
  funext l x
  match l, x with
  | 0, (t, s) => rfl

theorem defs_proj : Cert.Proj.defs (F := Bits) = Cert.ProjIdeal.defs (F := Bits) :=
  congrArg (Pipeline.defs Cert.ProjIdeal.pcfgs) bodies_proj

theorem frame_proj : Cert.quiescent_Proj := by
  intro m ρ _
  rw [defs_proj]
  exact Cert.ProjIdeal.Gen.frame (F := Bits) m ρ

theorem frame_proj_ideal : Cert.quiescent_ProjIdeal := fun m ρ _ => Cert.ProjIdeal.Gen.frame (F := Ideal) m ρ

theorem frame_proj_ref : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

theorem preserves_proj : Cert.preserves_Proj_ProjIdeal := trivial

theorem algebraic_proj : Cert.algebraic_ProjIdeal_ProjRefIdeal := by
  intro m ρ m' ρ' _ hagree
  refine ⟨fun c => Cert.Layer.Proj.result m c, ?_, ?_⟩
  · exact (θ_run Cert.ProjIdeal.defs _ _).mono (fun r h c => ⟨(h c).1.trans (Cert.Layer.Proj.final m c), (h c).2⟩)
      (Cert.ProjIdeal.Value.run_blocks (F := Ideal) m ρ)
  refine (θ_run Cert.ProjRefIdeal.defs _ _).mono
    (fun r h c => ⟨((h c).1.trans (Cert.ProjRefIdeal.Read.val_main_v3_eq _ _)).trans ?_, (h c).2⟩) (Cert.ProjRefIdeal.Value.run (F := Ideal) m' ρ')
  obtain ⟨e0, e1⟩ := hagree c
  rw [e0, e1]
  exact funext fun i => Cert.Layer.Proj.ref_out _ _ i

/-! ## The second feed-forward product with its residual and normalisation -/

/-- The two programs of one kernel have the same text, so the same bodies. -/
theorem bodies_res : Cert.Res.defs₀ (F := Bits) = Cert.ResIdeal.defs₀ (F := Bits) := by
  unfold Cert.Res.defs₀ Cert.ResIdeal.defs₀
  refine congrArg Defs.onTc ?_
  funext l x
  match l, x with
  | 0, (t, s) => rfl

theorem defs_res : Cert.Res.defs (F := Bits) = Cert.ResIdeal.defs (F := Bits) :=
  congrArg (Pipeline.defs Cert.ResIdeal.pcfgs) bodies_res

theorem frame_res : Cert.quiescent_Res := by
  intro m ρ _
  rw [defs_res]
  exact Cert.ResIdeal.Gen.frame (F := Bits) m ρ

theorem frame_res_ideal : Cert.quiescent_ResIdeal := fun m ρ _ => Cert.ResIdeal.Gen.frame (F := Ideal) m ρ

theorem frame_res_ref : Cert.quiescent_ResRefIdeal := fun m ρ _ =>
  (θ_run Cert.ResRefIdeal.defs _ _).mono (fun r h => ⟨fun c => (h c).2.2, sem_eq_zero_of_no_sems (by decide) r.2⟩)
    (Cert.ResRefIdeal.Value.run (F := Ideal) m ρ)

theorem preserves_res : Cert.preserves_Res_ResIdeal := trivial

theorem algebraic_res : Cert.algebraic_ResIdeal_ResRefIdeal := by
  intro m ρ m' ρ' _ hagree
  refine ⟨fun c => Cert.Layer.Res.result m c, fun c => Cert.Layer.Res.result m c, ?_, ?_⟩
  · exact (θ_run Cert.ResIdeal.defs _ _).mono
      (fun r h c => ⟨(h c).1.trans (Cert.Layer.Res.final5 m c), (h c).2.1.trans (Cert.Layer.Res.final6 m c), (h c).2.2⟩)
      (Cert.ResIdeal.Value.run_blocks (F := Ideal) m ρ)
  refine (θ_run Cert.ResRefIdeal.defs _ _).mono
    (fun r h c => ⟨((h c).1.trans (Cert.ResRefIdeal.Read.val_main_v30_eq m' c)).trans ?_,
      ((h c).2.1.trans (Cert.ResRefIdeal.Read.val_main_v31_eq m' c)).trans ?_, (h c).2.2⟩) (Cert.ResRefIdeal.Value.run (F := Ideal) m' ρ')
  · obtain ⟨e0, e1, e2, e3, e4⟩ := hagree c
    rw [e0, e1, e2, e3, e4]
    exact funext fun i => Cert.Layer.Res.ref_out _ _ _ _ _ i
  · obtain ⟨e0, e1, e2, e3, e4⟩ := hagree c
    rw [e0, e1, e2, e3, e4]
    exact funext fun i => Cert.Layer.Res.ref_out _ _ _ _ _ i

/-! ## The projection after the attentions with its residual and normalisation -/

/-- The two programs of one kernel have the same text, so the same bodies. -/
theorem bodies_mix : Cert.Mix.defs₀ (F := Bits) = Cert.MixIdeal.defs₀ (F := Bits) := by
  unfold Cert.Mix.defs₀ Cert.MixIdeal.defs₀
  refine congrArg Defs.onTc ?_
  funext l x
  match l, x with
  | 0, (t, s) => rfl

theorem defs_mix : Cert.Mix.defs (F := Bits) = Cert.MixIdeal.defs (F := Bits) :=
  congrArg (Pipeline.defs Cert.MixIdeal.pcfgs) bodies_mix

theorem frame_mix : Cert.quiescent_Mix := by
  intro m ρ _
  rw [defs_mix]
  exact Cert.MixIdeal.Gen.frame (F := Bits) m ρ

theorem frame_mix_ideal : Cert.quiescent_MixIdeal := fun m ρ _ => Cert.MixIdeal.Gen.frame (F := Ideal) m ρ

theorem frame_mix_ref : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

theorem preserves_mix : Cert.preserves_Mix_MixIdeal := trivial

theorem algebraic_mix : Cert.algebraic_MixIdeal_MixRefIdeal := by
  intro m ρ m' ρ' _ hagree
  refine ⟨fun c => Cert.Layer.Mix.result m c, fun c => Cert.Layer.Mix.result m c, ?_, ?_⟩
  · exact (θ_run Cert.MixIdeal.defs _ _).mono
      (fun r h c => ⟨(h c).1.trans (Cert.Layer.Mix.final6 m c), (h c).2.1.trans (Cert.Layer.Mix.final7 m c), (h c).2.2⟩)
      (Cert.MixIdeal.Value.run_blocks (F := Ideal) m ρ)
  refine (θ_run Cert.MixRefIdeal.defs _ _).mono
    (fun r h c => ⟨((h c).1.trans (Cert.MixRefIdeal.Read.val_main_v30_eq m' c)).trans ?_,
      ((h c).2.1.trans (Cert.MixRefIdeal.Read.val_main_v31_eq m' c)).trans ?_, (h c).2.2⟩) (Cert.MixRefIdeal.Value.run (F := Ideal) m' ρ')
  · obtain ⟨e0, e1, e2, e3, e4, e5⟩ := hagree c
    rw [e0, e1, e2, e3, e4, e5]
    exact funext fun i => Cert.Layer.Mix.ref_out _ _ _ _ _ _ i
  · obtain ⟨e0, e1, e2, e3, e4, e5⟩ := hagree c
    rw [e0, e1, e2, e3, e4, e5]
    exact funext fun i => Cert.Layer.Mix.ref_out _ _ _ _ _ _ i

/-! ## The projection before the HGRN heads -/

theorem bodies_hgrn_in : Cert.HgrnIn.defs₀ (F := Bits) = Cert.HgrnInIdeal.defs₀ (F := Bits) := by
  unfold Cert.HgrnIn.defs₀ Cert.HgrnInIdeal.defs₀
  refine congrArg Defs.onTc ?_
  funext l x
  match l, x with
  | 0, (t, s) => rfl

theorem defs_hgrn_in : Cert.HgrnIn.defs (F := Bits) = Cert.HgrnInIdeal.defs (F := Bits) :=
  congrArg (Pipeline.defs Cert.HgrnInIdeal.pcfgs) bodies_hgrn_in

theorem frame_hgrn_in : Cert.quiescent_HgrnIn := by
  intro m ρ _
  rw [defs_hgrn_in]
  exact Cert.HgrnInIdeal.Gen.frame (F := Bits) m ρ

theorem frame_hgrn_in_ideal : Cert.quiescent_HgrnInIdeal := fun m ρ _ => Cert.HgrnInIdeal.Gen.frame (F := Ideal) m ρ

theorem frame_hgrn_in_ref : Cert.quiescent_HgrnInRefIdeal := fun m ρ _ =>
  (θ_run Cert.HgrnInRefIdeal.defs _ _).mono (fun r h => ⟨fun c => (h c).2, sem_eq_zero_of_no_sems (by decide) r.2⟩)
    (Cert.HgrnInRefIdeal.Value.run (F := Ideal) m ρ)

theorem preserves_hgrn_in : Cert.preserves_HgrnIn_HgrnInIdeal := trivial

theorem algebraic_hgrn_in : Cert.algebraic_HgrnInIdeal_HgrnInRefIdeal := by
  intro m ρ m' ρ' _ hagree
  refine ⟨fun c => Cert.Layer.HgrnIn.result m c, ?_, ?_⟩
  · exact (θ_run Cert.HgrnInIdeal.defs _ _).mono (fun r h c => ⟨(h c).1.trans (Cert.Layer.HgrnIn.final m c), (h c).2⟩)
      (Cert.HgrnInIdeal.Value.run_blocks (F := Ideal) m ρ)
  refine (θ_run Cert.HgrnInRefIdeal.defs _ _).mono
    (fun r h c => ⟨((h c).1.trans (Cert.HgrnInRefIdeal.Read.val_main_v3_eq _ _)).trans ?_, (h c).2⟩) (Cert.HgrnInRefIdeal.Value.run (F := Ideal) m' ρ')
  obtain ⟨e0, e1⟩ := hagree c
  rw [e0, e1]
  exact funext fun i => Cert.Layer.HgrnIn.ref_out _ _ i

/-! ## The projection before the NSA heads -/

theorem bodies_nsa_in : Cert.NsaIn.defs₀ (F := Bits) = Cert.NsaInIdeal.defs₀ (F := Bits) := by
  unfold Cert.NsaIn.defs₀ Cert.NsaInIdeal.defs₀
  refine congrArg Defs.onTc ?_
  funext l x
  match l, x with
  | 0, (t, s) => rfl

theorem defs_nsa_in : Cert.NsaIn.defs (F := Bits) = Cert.NsaInIdeal.defs (F := Bits) :=
  congrArg (Pipeline.defs Cert.NsaInIdeal.pcfgs) bodies_nsa_in

theorem frame_nsa_in : Cert.quiescent_NsaIn := by
  intro m ρ _
  rw [defs_nsa_in]
  exact Cert.NsaInIdeal.Gen.frame (F := Bits) m ρ

theorem frame_nsa_in_ideal : Cert.quiescent_NsaInIdeal := fun m ρ _ => Cert.NsaInIdeal.Gen.frame (F := Ideal) m ρ

theorem frame_nsa_in_ref : Cert.quiescent_NsaInRefIdeal := fun m ρ _ =>
  (θ_run Cert.NsaInRefIdeal.defs _ _).mono (fun r h => ⟨fun c => (h c).2, sem_eq_zero_of_no_sems (by decide) r.2⟩)
    (Cert.NsaInRefIdeal.Value.run (F := Ideal) m ρ)

theorem preserves_nsa_in : Cert.preserves_NsaIn_NsaInIdeal := trivial

theorem algebraic_nsa_in : Cert.algebraic_NsaInIdeal_NsaInRefIdeal := by
  intro m ρ m' ρ' _ hagree
  refine ⟨fun c => Cert.Layer.NsaIn.result m c, ?_, ?_⟩
  · exact (θ_run Cert.NsaInIdeal.defs _ _).mono (fun r h c => ⟨(h c).1.trans (Cert.Layer.NsaIn.final m c), (h c).2⟩)
      (Cert.NsaInIdeal.Value.run_blocks (F := Ideal) m ρ)
  refine (θ_run Cert.NsaInRefIdeal.defs _ _).mono
    (fun r h c => ⟨((h c).1.trans (Cert.NsaInRefIdeal.Read.val_main_v4_eq _ _)).trans ?_, (h c).2⟩) (Cert.NsaInRefIdeal.Value.run (F := Ideal) m' ρ')
  obtain ⟨e0, e1⟩ := hagree c
  rw [e0, e1]
  exact funext fun i => Cert.Layer.NsaIn.ref_out _ _ i

/-! ## The NSA heads' sliding-window attention and the gated combination of the three branches -/

theorem frame_win : Cert.quiescent_Win := fun m ρ _ => Cert.Win.Gen.frame (F := Bits) m ρ

theorem frame_win_ideal : Cert.quiescent_WinIdeal := fun m ρ _ => Cert.WinIdeal.Gen.frame (F := Ideal) m ρ

theorem frame_win_ideal_finite : Cert.quiescent_WinIdeal_pre_finite_win := fun m ρ _ => Cert.WinIdeal.Gen.frame (F := Ideal) m ρ

theorem frame_win_ref : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem frame_win_ref_finite : Cert.quiescent_WinRefIdeal_pre_finite_win := fun m ρ _ =>
  (θ_run Cert.WinRefIdeal.defs _ _).mono (fun r h => ⟨fun c => (h c).2, sem_eq_zero_of_no_sems (by decide) r.2⟩)
    (Cert.WinRefIdeal.Value.run (F := Ideal) m ρ)

theorem preserves_win : Cert.preserves_Win_WinIdeal :=
  ⟨IdealRules.named_const.statement Cert.WinIdeal.κ "scale_log2e" .f32 0x3E0293EE#32 (((Real.sqrt 128)⁻¹ * (Real.log 2)⁻¹ : ℝ) : EReal) rfl,
    IdealRules.named_const.statement Cert.WinIdeal.κ "mask" .f32 0xF149F2CA#32 ⊥ rfl⟩

theorem algebraic_win : Cert.algebraic_WinIdeal_WinRefIdeal_pre_finite_win := by
  intro m ρ m' ρ' hpre hagree
  have hf := fun c => Cert.Layer.Win.pre_real (hpre c)
  refine ⟨fun c => Cert.Layer.Win.result m c, ?_, ?_⟩
  · exact (θ_run Cert.WinIdeal.defs _ _).mono (fun r h c => ⟨(h c).1.trans (Cert.Layer.Win.final m c (hf c)), (h c).2⟩)
      (Cert.WinIdeal.Value.run_blocks (F := Ideal) m ρ)
  refine (θ_run Cert.WinRefIdeal.defs _ _).mono
    (fun r h c => ⟨((h c).1.trans (Cert.WinRefIdeal.Read.val_main_v71_eq m' c)).trans ?_, (h c).2⟩) (Cert.WinRefIdeal.Value.run (F := Ideal) m' ρ')
  obtain ⟨e0, e1, e2, e3⟩ := hagree c
  rw [e0, e1, e2, e3]
  exact funext fun i => Cert.Layer.Win.ref_out (hf c) _ _ _ i

/-! ## The NSA heads' gates -/

theorem bodies_gate : Cert.Gate.defs₀ (F := Bits) = Cert.GateIdeal.defs₀ (F := Bits) := by
  unfold Cert.Gate.defs₀ Cert.GateIdeal.defs₀
  refine congrArg Defs.onTc ?_
  funext l x
  match l, x with
  | 0, (t, s) => rfl

theorem defs_gate : Cert.Gate.defs (F := Bits) = Cert.GateIdeal.defs (F := Bits) :=
  congrArg (Pipeline.defs Cert.GateIdeal.pcfgs) bodies_gate

theorem frame_gate : Cert.quiescent_Gate := by
  intro m ρ _
  rw [defs_gate]
  exact Cert.GateIdeal.Gen.frame (F := Bits) m ρ

theorem frame_gate_ideal : Cert.quiescent_GateIdeal := fun m ρ _ => Cert.GateIdeal.Gen.frame (F := Ideal) m ρ

theorem frame_gate_ref : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

theorem preserves_gate : Cert.preserves_Gate_GateIdeal := trivial

theorem algebraic_gate : Cert.algebraic_GateIdeal_GateRefIdeal := by
  intro m ρ m' ρ' _ hagree
  refine ⟨fun c => Cert.Layer.Gate.result m c, ?_, ?_⟩
  · exact (θ_run Cert.GateIdeal.defs _ _).mono (fun r h c => ⟨(h c).1.trans (Cert.Layer.Gate.final m c), (h c).2⟩)
      (Cert.GateIdeal.Value.run_blocks (F := Ideal) m ρ)
  refine (θ_run Cert.GateRefIdeal.defs _ _).mono
    (fun r h c => ⟨((h c).1.trans (Cert.GateRefIdeal.Read.val_main_v6_eq _ _)).trans ?_, (h c).2⟩) (Cert.GateRefIdeal.Value.run (F := Ideal) m' ρ')
  obtain ⟨e0, e1⟩ := hagree c
  rw [e0, e1]
  exact funext fun i => Cert.Layer.Gate.ref_out _ _ i

/-! ## The compression of the NSA heads' keys and values -/

theorem bodies_cmp : Cert.Cmp.defs₀ (F := Bits) = Cert.CmpIdeal.defs₀ (F := Bits) := by
  unfold Cert.Cmp.defs₀ Cert.CmpIdeal.defs₀
  refine congrArg Defs.onTc ?_
  funext l x
  match l, x with
  | 0, (t, s) => rfl

theorem defs_cmp : Cert.Cmp.defs (F := Bits) = Cert.CmpIdeal.defs (F := Bits) :=
  congrArg (Pipeline.defs Cert.CmpIdeal.pcfgs) bodies_cmp

theorem frame_cmp : Cert.quiescent_Cmp := by
  intro m ρ _
  rw [defs_cmp]
  exact Cert.CmpIdeal.Gen.frame (F := Bits) m ρ

theorem frame_cmp_ideal : Cert.quiescent_CmpIdeal := fun m ρ _ => Cert.CmpIdeal.Gen.frame (F := Ideal) m ρ

theorem frame_cmp_ideal_finite : Cert.quiescent_CmpIdeal_pre_finite_cmp := fun m ρ _ => Cert.CmpIdeal.Gen.frame (F := Ideal) m ρ

theorem frame_cmp_ref : Cert.quiescent_CmpRefIdeal := fun m ρ _ =>
  (θ_run Cert.CmpRefIdeal.defs _ _).mono (fun r h => ⟨fun c => (h c).2, sem_eq_zero_of_no_sems (by decide) r.2⟩)
    (Cert.CmpRefIdeal.Value.run (F := Ideal) m ρ)

theorem frame_cmp_ref_finite : Cert.quiescent_CmpRefIdeal_pre_finite_cmp := fun m ρ _ =>
  (θ_run Cert.CmpRefIdeal.defs _ _).mono (fun r h => ⟨fun c => (h c).2, sem_eq_zero_of_no_sems (by decide) r.2⟩)
    (Cert.CmpRefIdeal.Value.run (F := Ideal) m ρ)

theorem preserves_cmp : Cert.preserves_Cmp_CmpIdeal := trivial

theorem algebraic_cmp : Cert.algebraic_CmpIdeal_CmpRefIdeal_pre_finite_cmp := by
  intro m ρ m' ρ' hpre hagree
  have hf := fun c => Cert.Layer.Cmp.pre_real (hpre c)
  refine ⟨fun c => Cert.Layer.Cmp.result m c, ?_, ?_⟩
  · exact (θ_run Cert.CmpIdeal.defs _ _).mono (fun r h c => ⟨(h c).1.trans (Cert.Layer.Cmp.final m c), (h c).2⟩)
      (Cert.CmpIdeal.Value.run_blocks (F := Ideal) m ρ)
  refine (θ_run Cert.CmpRefIdeal.defs _ _).mono
    (fun r h c => ⟨((h c).1.trans (Cert.CmpRefIdeal.Read.val_main_v32_eq m' c)).trans ?_, (h c).2⟩) (Cert.CmpRefIdeal.Value.run (F := Ideal) m' ρ')
  obtain ⟨e0, e1, e2, e3, e4, e5, e6⟩ := hagree c
  rw [e0, e1, e2, e3, e4, e5, e6]
  obtain ⟨h0, h1, h2, h4, h5⟩ := hf c
  funext i
  refine (congrArg _ (Cert.Layer.Cmp.ix4_self i)).trans ?_
  exact Cert.Layer.Cmp.ref_out _ _ h0 h1 h2 h4 h5 (i 0) (i 1) (i 2) (i 3)

/-! ## The block means of the MoBA heads' keys -/

theorem bodies_kmean : Cert.Kmean.defs₀ (F := Bits) = Cert.KmeanIdeal.defs₀ (F := Bits) := by
  unfold Cert.Kmean.defs₀ Cert.KmeanIdeal.defs₀
  refine congrArg Defs.onTc ?_
  funext l x
  match l, x with
  | 0, (t, s) => rfl

theorem defs_kmean : Cert.Kmean.defs (F := Bits) = Cert.KmeanIdeal.defs (F := Bits) :=
  congrArg (Pipeline.defs Cert.KmeanIdeal.pcfgs) bodies_kmean

theorem frame_kmean : Cert.quiescent_Kmean := by
  intro m ρ _
  rw [defs_kmean]
  exact Cert.KmeanIdeal.Gen.frame (F := Bits) m ρ

theorem frame_kmean_ideal : Cert.quiescent_KmeanIdeal := fun m ρ _ => Cert.KmeanIdeal.Gen.frame (F := Ideal) m ρ

theorem frame_kmean_ref : Cert.quiescent_KmeanRefIdeal := fun m ρ _ =>
  (θ_run Cert.KmeanRefIdeal.defs _ _).mono (fun r h => ⟨fun c => (h c).2, sem_eq_zero_of_no_sems (by decide) r.2⟩)
    (Cert.KmeanRefIdeal.Value.run (F := Ideal) m ρ)

theorem preserves_kmean : Cert.preserves_Kmean_KmeanIdeal := trivial

theorem algebraic_kmean : Cert.algebraic_KmeanIdeal_KmeanRefIdeal := by
  intro m ρ m' ρ' _ hagree
  refine ⟨fun c => Cert.Layer.Kmean.result m c, ?_, ?_⟩
  · exact (θ_run Cert.KmeanIdeal.defs _ _).mono (fun r h c => ⟨(h c).1.trans (Cert.Layer.Kmean.final m c), (h c).2⟩)
      (Cert.KmeanIdeal.Value.run_blocks (F := Ideal) m ρ)
  refine (θ_run Cert.KmeanRefIdeal.defs _ _).mono
    (fun r h c => ⟨((h c).1.trans (Cert.KmeanRefIdeal.Read.val_main_v8_eq _)).trans ?_, (h c).2⟩) (Cert.KmeanRefIdeal.Value.run (F := Ideal) m' ρ')
  rw [hagree c]
  exact funext fun i => Cert.Layer.Kmean.ref_out _ i

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Res.Gen.facts, Cert.ResIdeal.Gen.facts, Cert.ResRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.HgrnIn.Gen.facts, Cert.HgrnInIdeal.Gen.facts, Cert.HgrnInRefIdeal.Gen.facts,
  Cert.NsaIn.Gen.facts, Cert.NsaInIdeal.Gen.facts, Cert.NsaInRefIdeal.Gen.facts,
  Cert.Win.Gen.facts, Cert.WinIdeal.Gen.facts, Cert.WinRefIdeal.Gen.facts,
  Cert.Gate.Gen.facts, Cert.GateIdeal.Gen.facts, Cert.GateRefIdeal.Gen.facts,
  Cert.Cmp.Gen.facts, Cert.CmpIdeal.Gen.facts, Cert.CmpRefIdeal.Gen.facts,
  Cert.Kmean.Gen.facts, Cert.KmeanIdeal.Gen.facts, Cert.KmeanRefIdeal.Gen.facts,
  Cert.Pre_finite.Gen.facts, Cert.Pre_finite_win.Gen.facts, Cert.Pre_finite_cmp.Gen.facts,
  frame_p, frame_pi, frame_pi_finite, frame_ri, frame_ri_finite,
  frame_ffn, frame_ffn_ideal, frame_ffn_ref,
  frame_res, frame_res_ideal, frame_res_ref,
  frame_proj, frame_proj_ideal, frame_proj_ref,
  frame_mix, frame_mix_ideal, frame_mix_ref,
  frame_hgrn_in, frame_hgrn_in_ideal, frame_hgrn_in_ref,
  frame_nsa_in, frame_nsa_in_ideal, frame_nsa_in_ref,
  frame_win, frame_win_ideal, frame_win_ideal_finite, frame_win_ref, frame_win_ref_finite,
  frame_gate, frame_gate_ideal, frame_gate_ref,
  frame_cmp, frame_cmp_ideal, frame_cmp_ideal_finite, frame_cmp_ref, frame_cmp_ref_finite,
  frame_kmean, frame_kmean_ideal, frame_kmean_ref,
  preserves, algebraic,
  preserves_ffn, algebraic_ffn, preserves_res, algebraic_res, preserves_proj, algebraic_proj, preserves_mix, algebraic_mix,
  preserves_hgrn_in, algebraic_hgrn_in, preserves_nsa_in, algebraic_nsa_in, preserves_win, algebraic_win,
  preserves_gate, algebraic_gate, preserves_cmp, algebraic_cmp, preserves_kmean, algebraic_kmean⟩

end Cert.Proof

end
